-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastKernelIdeal_finite_rows [hPre_finite_rows : Cert.Pre_finite_rows.Facts] (m : (ℓ : Loc Cert.LastKernelIdeal.nD Cert.LastKernelIdeal.τ Cert.LastKernelIdeal.sig) → Buf (Elt Ideal) ℓ) : Prop :=
  ∀ c : Dev Cert.LastKernelIdeal.nD,
    (Cert.Pre_finite_rows.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4)) (m ((c.tc : Thread Cert.LastKernelIdeal.nD Cert.LastKernelIdeal.τ).loc Cert.LastKernelIdeal.main_arg5)) (m ((c.tc : Thread Cert.LastKernelIdeal.nD Cert.LastKernelIdeal.τ).loc Cert.LastKernelIdeal.main_arg6)) (m ((c.tc : Thread Cert.LastKernelIdeal.nD Cert.LastKernelIdeal.τ).loc Cert.LastKernelIdeal.main_arg7)) (m ((c.tc : Thread Cert.LastKernelIdeal.nD Cert.LastKernelIdeal.τ).loc Cert.LastKernelIdeal.main_arg8)) (m ((c.tc : Thread Cert.LastKernelIdeal.nD Cert.LastKernelIdeal.τ).loc Cert.LastKernelIdeal.main_arg9)) (m ((c.tc : Thread Cert.LastKernelIdeal.nD Cert.LastKernelIdeal.τ).loc Cert.LastKernelIdeal.main_arg10)) (m ((c.tc : Thread Cert.LastKernelIdeal.nD Cert.LastKernelIdeal.τ).loc Cert.LastKernelIdeal.main_arg11)) (m ((c.tc : Thread Cert.LastKernelIdeal.nD Cert.LastKernelIdeal.τ).loc Cert.LastKernelIdeal.main_arg12))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_finite_rows [hPre_finite_rows : Cert.Pre_finite_rows.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_finite_rows.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7)) (m ((c.tc : Thread Cert.LastReferenceIdeal.nD Cert.LastReferenceIdeal.τ).loc Cert.LastReferenceIdeal.main_arg8)) (m ((c.tc : Thread Cert.LastReferenceIdeal.nD Cert.LastReferenceIdeal.τ).loc Cert.LastReferenceIdeal.main_arg9)) (m ((c.tc : Thread Cert.LastReferenceIdeal.nD Cert.LastReferenceIdeal.τ).loc Cert.LastReferenceIdeal.main_arg10)) (m ((c.tc : Thread Cert.LastReferenceIdeal.nD Cert.LastReferenceIdeal.τ).loc Cert.LastReferenceIdeal.main_arg11)) (m ((c.tc : Thread Cert.LastReferenceIdeal.nD Cert.LastReferenceIdeal.τ).loc Cert.LastReferenceIdeal.main_arg12))) = (fun _ => 1#1)

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepKernelIdeal_finite_prep [hPre_finite_prep : Cert.Pre_finite_prep.Facts] (m : (ℓ : Loc Cert.PrepKernelIdeal.nD Cert.PrepKernelIdeal.τ Cert.PrepKernelIdeal.sig) → Buf (Elt Ideal) ℓ) : Prop :=
  ∀ c : Dev Cert.PrepKernelIdeal.nD,
    (Cert.Pre_finite_prep.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_prep [hPre_finite_prep : Cert.Pre_finite_prep.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_prep.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11)
      ∧ r.2.mem ((c.tc : Thread Cert.ProjKernel.nD Cert.ProjKernel.τ).loc Cert.ProjKernel.main_arg12) = m ((c.tc : Thread Cert.ProjKernel.nD Cert.ProjKernel.τ).loc Cert.ProjKernel.main_arg12))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6)
      ∧ r.2.mem ((c.tc : Thread Cert.SampleKernel.nD Cert.SampleKernel.τ).loc Cert.SampleKernel.main_arg7) = m ((c.tc : Thread Cert.SampleKernel.nD Cert.SampleKernel.τ).loc Cert.SampleKernel.main_arg7)
      ∧ r.2.mem ((c.tc : Thread Cert.SampleKernel.nD Cert.SampleKernel.τ).loc Cert.SampleKernel.main_arg8) = m ((c.tc : Thread Cert.SampleKernel.nD Cert.SampleKernel.τ).loc Cert.SampleKernel.main_arg8)
      ∧ r.2.mem ((c.tc : Thread Cert.SampleKernel.nD Cert.SampleKernel.τ).loc Cert.SampleKernel.main_arg9) = m ((c.tc : Thread Cert.SampleKernel.nD Cert.SampleKernel.τ).loc Cert.SampleKernel.main_arg9)
      ∧ r.2.mem ((c.tc : Thread Cert.SampleKernel.nD Cert.SampleKernel.τ).loc Cert.SampleKernel.main_arg10) = m ((c.tc : Thread Cert.SampleKernel.nD Cert.SampleKernel.τ).loc Cert.SampleKernel.main_arg10)
      ∧ r.2.mem ((c.tc : Thread Cert.SampleKernel.nD Cert.SampleKernel.τ).loc Cert.SampleKernel.main_arg11) = m ((c.tc : Thread Cert.SampleKernel.nD Cert.SampleKernel.τ).loc Cert.SampleKernel.main_arg11))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
      ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
      ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
      ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9)
      ∧ r.2.mem ((c.tc : Thread Cert.SampleKernelIdeal.nD Cert.SampleKernelIdeal.τ).loc Cert.SampleKernelIdeal.main_arg10) = m ((c.tc : Thread Cert.SampleKernelIdeal.nD Cert.SampleKernelIdeal.τ).loc Cert.SampleKernelIdeal.main_arg10)
      ∧ r.2.mem ((c.tc : Thread Cert.SampleKernelIdeal.nD Cert.SampleKernelIdeal.τ).loc Cert.SampleKernelIdeal.main_arg11) = m ((c.tc : Thread Cert.SampleKernelIdeal.nD Cert.SampleKernelIdeal.τ).loc Cert.SampleKernelIdeal.main_arg11))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4)
      ∧ r.2.mem ((c.tc : Thread Cert.StepKernel.nD Cert.StepKernel.τ).loc Cert.StepKernel.main_arg5) = m ((c.tc : Thread Cert.StepKernel.nD Cert.StepKernel.τ).loc Cert.StepKernel.main_arg5)
      ∧ r.2.mem ((c.tc : Thread Cert.StepKernel.nD Cert.StepKernel.τ).loc Cert.StepKernel.main_arg6) = m ((c.tc : Thread Cert.StepKernel.nD Cert.StepKernel.τ).loc Cert.StepKernel.main_arg6))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4)
      ∧ r.2.mem ((c.tc : Thread Cert.LastKernel.nD Cert.LastKernel.τ).loc Cert.LastKernel.main_arg5) = m ((c.tc : Thread Cert.LastKernel.nD Cert.LastKernel.τ).loc Cert.LastKernel.main_arg5)
      ∧ r.2.mem ((c.tc : Thread Cert.LastKernel.nD Cert.LastKernel.τ).loc Cert.LastKernel.main_arg6) = m ((c.tc : Thread Cert.LastKernel.nD Cert.LastKernel.τ).loc Cert.LastKernel.main_arg6)
      ∧ r.2.mem ((c.tc : Thread Cert.LastKernel.nD Cert.LastKernel.τ).loc Cert.LastKernel.main_arg7) = m ((c.tc : Thread Cert.LastKernel.nD Cert.LastKernel.τ).loc Cert.LastKernel.main_arg7)
      ∧ r.2.mem ((c.tc : Thread Cert.LastKernel.nD Cert.LastKernel.τ).loc Cert.LastKernel.main_arg8) = m ((c.tc : Thread Cert.LastKernel.nD Cert.LastKernel.τ).loc Cert.LastKernel.main_arg8)
      ∧ r.2.mem ((c.tc : Thread Cert.LastKernel.nD Cert.LastKernel.τ).loc Cert.LastKernel.main_arg9) = m ((c.tc : Thread Cert.LastKernel.nD Cert.LastKernel.τ).loc Cert.LastKernel.main_arg9)
      ∧ r.2.mem ((c.tc : Thread Cert.LastKernel.nD Cert.LastKernel.τ).loc Cert.LastKernel.main_arg10) = m ((c.tc : Thread Cert.LastKernel.nD Cert.LastKernel.τ).loc Cert.LastKernel.main_arg10)
      ∧ r.2.mem ((c.tc : Thread Cert.LastKernel.nD Cert.LastKernel.τ).loc Cert.LastKernel.main_arg11) = m ((c.tc : Thread Cert.LastKernel.nD Cert.LastKernel.τ).loc Cert.LastKernel.main_arg11)
      ∧ r.2.mem ((c.tc : Thread Cert.LastKernel.nD Cert.LastKernel.τ).loc Cert.LastKernel.main_arg12) = m ((c.tc : Thread Cert.LastKernel.nD Cert.LastKernel.τ).loc Cert.LastKernel.main_arg12))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
      ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
      ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7)
      ∧ r.2.mem ((c.tc : Thread Cert.LastKernelIdeal.nD Cert.LastKernelIdeal.τ).loc Cert.LastKernelIdeal.main_arg8) = m ((c.tc : Thread Cert.LastKernelIdeal.nD Cert.LastKernelIdeal.τ).loc Cert.LastKernelIdeal.main_arg8)
      ∧ r.2.mem ((c.tc : Thread Cert.LastKernelIdeal.nD Cert.LastKernelIdeal.τ).loc Cert.LastKernelIdeal.main_arg9) = m ((c.tc : Thread Cert.LastKernelIdeal.nD Cert.LastKernelIdeal.τ).loc Cert.LastKernelIdeal.main_arg9)
      ∧ r.2.mem ((c.tc : Thread Cert.LastKernelIdeal.nD Cert.LastKernelIdeal.τ).loc Cert.LastKernelIdeal.main_arg10) = m ((c.tc : Thread Cert.LastKernelIdeal.nD Cert.LastKernelIdeal.τ).loc Cert.LastKernelIdeal.main_arg10)
      ∧ r.2.mem ((c.tc : Thread Cert.LastKernelIdeal.nD Cert.LastKernelIdeal.τ).loc Cert.LastKernelIdeal.main_arg11) = m ((c.tc : Thread Cert.LastKernelIdeal.nD Cert.LastKernelIdeal.τ).loc Cert.LastKernelIdeal.main_arg11)
      ∧ r.2.mem ((c.tc : Thread Cert.LastKernelIdeal.nD Cert.LastKernelIdeal.τ).loc Cert.LastKernelIdeal.main_arg12) = m ((c.tc : Thread Cert.LastKernelIdeal.nD Cert.LastKernelIdeal.τ).loc Cert.LastKernelIdeal.main_arg12))
      ∧ r.2.sem = fun _ => 0)

def quiescent_LastKernelIdeal_pre_finite_rows [hLastKernelIdeal : Cert.LastKernelIdeal.Facts] [hPre_finite_rows : Cert.Pre_finite_rows.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal_finite_rows m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
      ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
      ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
      ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7)
      ∧ r.2.mem ((c.tc : Thread Cert.LastKernelIdeal.nD Cert.LastKernelIdeal.τ).loc Cert.LastKernelIdeal.main_arg8) = m ((c.tc : Thread Cert.LastKernelIdeal.nD Cert.LastKernelIdeal.τ).loc Cert.LastKernelIdeal.main_arg8)
      ∧ r.2.mem ((c.tc : Thread Cert.LastKernelIdeal.nD Cert.LastKernelIdeal.τ).loc Cert.LastKernelIdeal.main_arg9) = m ((c.tc : Thread Cert.LastKernelIdeal.nD Cert.LastKernelIdeal.τ).loc Cert.LastKernelIdeal.main_arg9)
      ∧ r.2.mem ((c.tc : Thread Cert.LastKernelIdeal.nD Cert.LastKernelIdeal.τ).loc Cert.LastKernelIdeal.main_arg10) = m ((c.tc : Thread Cert.LastKernelIdeal.nD Cert.LastKernelIdeal.τ).loc Cert.LastKernelIdeal.main_arg10)
      ∧ r.2.mem ((c.tc : Thread Cert.LastKernelIdeal.nD Cert.LastKernelIdeal.τ).loc Cert.LastKernelIdeal.main_arg11) = m ((c.tc : Thread Cert.LastKernelIdeal.nD Cert.LastKernelIdeal.τ).loc Cert.LastKernelIdeal.main_arg11)
      ∧ r.2.mem ((c.tc : Thread Cert.LastKernelIdeal.nD Cert.LastKernelIdeal.τ).loc Cert.LastKernelIdeal.main_arg12) = m ((c.tc : Thread Cert.LastKernelIdeal.nD Cert.LastKernelIdeal.τ).loc Cert.LastKernelIdeal.main_arg12))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9)
      ∧ r.2.mem ((c.tc : Thread Cert.LastReferenceIdeal.nD Cert.LastReferenceIdeal.τ).loc Cert.LastReferenceIdeal.main_arg10) = m ((c.tc : Thread Cert.LastReferenceIdeal.nD Cert.LastReferenceIdeal.τ).loc Cert.LastReferenceIdeal.main_arg10)
      ∧ r.2.mem ((c.tc : Thread Cert.LastReferenceIdeal.nD Cert.LastReferenceIdeal.τ).loc Cert.LastReferenceIdeal.main_arg11) = m ((c.tc : Thread Cert.LastReferenceIdeal.nD Cert.LastReferenceIdeal.τ).loc Cert.LastReferenceIdeal.main_arg11)
      ∧ r.2.mem ((c.tc : Thread Cert.LastReferenceIdeal.nD Cert.LastReferenceIdeal.τ).loc Cert.LastReferenceIdeal.main_arg12) = m ((c.tc : Thread Cert.LastReferenceIdeal.nD Cert.LastReferenceIdeal.τ).loc Cert.LastReferenceIdeal.main_arg12))
      ∧ r.2.sem = fun _ => 0)

def quiescent_LastReferenceIdeal_pre_finite_rows [hLastReferenceIdeal : Cert.LastReferenceIdeal.Facts] [hPre_finite_rows : Cert.Pre_finite_rows.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_finite_rows m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9)
      ∧ r.2.mem ((c.tc : Thread Cert.LastReferenceIdeal.nD Cert.LastReferenceIdeal.τ).loc Cert.LastReferenceIdeal.main_arg10) = m ((c.tc : Thread Cert.LastReferenceIdeal.nD Cert.LastReferenceIdeal.τ).loc Cert.LastReferenceIdeal.main_arg10)
      ∧ r.2.mem ((c.tc : Thread Cert.LastReferenceIdeal.nD Cert.LastReferenceIdeal.τ).loc Cert.LastReferenceIdeal.main_arg11) = m ((c.tc : Thread Cert.LastReferenceIdeal.nD Cert.LastReferenceIdeal.τ).loc Cert.LastReferenceIdeal.main_arg11)
      ∧ r.2.mem ((c.tc : Thread Cert.LastReferenceIdeal.nD Cert.LastReferenceIdeal.τ).loc Cert.LastReferenceIdeal.main_arg12) = m ((c.tc : Thread Cert.LastReferenceIdeal.nD Cert.LastReferenceIdeal.τ).loc Cert.LastReferenceIdeal.main_arg12))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8)
      ∧ r.2.mem ((c.tc : Thread Cert.PrepKernel.nD Cert.PrepKernel.τ).loc Cert.PrepKernel.main_arg9) = m ((c.tc : Thread Cert.PrepKernel.nD Cert.PrepKernel.τ).loc Cert.PrepKernel.main_arg9))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ r.2.sem = fun _ => 0)

def quiescent_PrepKernelIdeal_pre_finite_prep [hPrepKernelIdeal : Cert.PrepKernelIdeal.Facts] [hPre_finite_prep : Cert.Pre_finite_prep.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal_finite_prep m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def quiescent_PrepReferenceIdeal_pre_finite_prep [hPrepReferenceIdeal : Cert.PrepReferenceIdeal.Facts] [hPre_finite_prep : Cert.Pre_finite_prep.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_prep m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v25) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)) →
    ∃ (v0 : (c : Dev Cert.ProjKernelIdeal.nD) → Buf (Elt Ideal) ((c.tc : Thread Cert.ProjKernelIdeal.nD Cert.ProjKernelIdeal.τ).loc Cert.ProjKernelIdeal.main_v49_0)) (v1 : (c : Dev Cert.ProjKernelIdeal.nD) → Buf (Elt Ideal) ((c.tc : Thread Cert.ProjKernelIdeal.nD Cert.ProjKernelIdeal.τ).loc Cert.ProjKernelIdeal.main_v49_1)) (v2 : (c : Dev Cert.ProjKernelIdeal.nD) → Buf (Elt Ideal) ((c.tc : Thread Cert.ProjKernelIdeal.nD Cert.ProjKernelIdeal.τ).loc Cert.ProjKernelIdeal.main_v49_2)) (v3 : (c : Dev Cert.ProjKernelIdeal.nD) → Buf (Elt Ideal) ((c.tc : Thread Cert.ProjKernelIdeal.nD Cert.ProjKernelIdeal.τ).loc Cert.ProjKernelIdeal.main_v49_3)) (v4 : (c : Dev Cert.ProjKernelIdeal.nD) → Buf (Elt Ideal) ((c.tc : Thread Cert.ProjKernelIdeal.nD Cert.ProjKernelIdeal.τ).loc Cert.ProjKernelIdeal.main_v49_4)) (v5 : (c : Dev Cert.ProjKernelIdeal.nD) → Buf (Elt Ideal) ((c.tc : Thread Cert.ProjKernelIdeal.nD Cert.ProjKernelIdeal.τ).loc Cert.ProjKernelIdeal.main_v49_5)) (v6 : (c : Dev Cert.ProjKernelIdeal.nD) → Buf (Elt Ideal) ((c.tc : Thread Cert.ProjKernelIdeal.nD Cert.ProjKernelIdeal.τ).loc Cert.ProjKernelIdeal.main_v49_6)) (v7 : (c : Dev Cert.ProjKernelIdeal.nD) → Buf (Elt Ideal) ((c.tc : Thread Cert.ProjKernelIdeal.nD Cert.ProjKernelIdeal.τ).loc Cert.ProjKernelIdeal.main_v49_7)) (v8 : (c : Dev Cert.ProjKernelIdeal.nD) → Buf (Elt Ideal) ((c.tc : Thread Cert.ProjKernelIdeal.nD Cert.ProjKernelIdeal.τ).loc Cert.ProjKernelIdeal.main_v49_8)) (v9 : (c : Dev Cert.ProjKernelIdeal.nD) → Buf (Elt Ideal) ((c.tc : Thread Cert.ProjKernelIdeal.nD Cert.ProjKernelIdeal.τ).loc Cert.ProjKernelIdeal.main_v49_9)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v49_0) = v0 c
          ∧ r.2.mem ((c.tc : Thread Cert.ProjKernelIdeal.nD Cert.ProjKernelIdeal.τ).loc Cert.ProjKernelIdeal.main_v49_1) = v1 c
          ∧ r.2.mem ((c.tc : Thread Cert.ProjKernelIdeal.nD Cert.ProjKernelIdeal.τ).loc Cert.ProjKernelIdeal.main_v49_2) = v2 c
          ∧ r.2.mem ((c.tc : Thread Cert.ProjKernelIdeal.nD Cert.ProjKernelIdeal.τ).loc Cert.ProjKernelIdeal.main_v49_3) = v3 c
          ∧ r.2.mem ((c.tc : Thread Cert.ProjKernelIdeal.nD Cert.ProjKernelIdeal.τ).loc Cert.ProjKernelIdeal.main_v49_4) = v4 c
          ∧ r.2.mem ((c.tc : Thread Cert.ProjKernelIdeal.nD Cert.ProjKernelIdeal.τ).loc Cert.ProjKernelIdeal.main_v49_5) = v5 c
          ∧ r.2.mem ((c.tc : Thread Cert.ProjKernelIdeal.nD Cert.ProjKernelIdeal.τ).loc Cert.ProjKernelIdeal.main_v49_6) = v6 c
          ∧ r.2.mem ((c.tc : Thread Cert.ProjKernelIdeal.nD Cert.ProjKernelIdeal.τ).loc Cert.ProjKernelIdeal.main_v49_7) = v7 c
          ∧ r.2.mem ((c.tc : Thread Cert.ProjKernelIdeal.nD Cert.ProjKernelIdeal.τ).loc Cert.ProjKernelIdeal.main_v49_8) = v8 c
          ∧ r.2.mem ((c.tc : Thread Cert.ProjKernelIdeal.nD Cert.ProjKernelIdeal.τ).loc Cert.ProjKernelIdeal.main_v49_9) = v9 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
          ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v176) = v0 c
          ∧ r.2.mem ((c.tc : Thread Cert.ProjReferenceIdeal.nD Cert.ProjReferenceIdeal.τ).loc Cert.ProjReferenceIdeal.main_v178) = v1 c
          ∧ r.2.mem ((c.tc : Thread Cert.ProjReferenceIdeal.nD Cert.ProjReferenceIdeal.τ).loc Cert.ProjReferenceIdeal.main_v180) = v2 c
          ∧ r.2.mem ((c.tc : Thread Cert.ProjReferenceIdeal.nD Cert.ProjReferenceIdeal.τ).loc Cert.ProjReferenceIdeal.main_v183) = v3 c
          ∧ r.2.mem ((c.tc : Thread Cert.ProjReferenceIdeal.nD Cert.ProjReferenceIdeal.τ).loc Cert.ProjReferenceIdeal.main_v184) = v4 c
          ∧ r.2.mem ((c.tc : Thread Cert.ProjReferenceIdeal.nD Cert.ProjReferenceIdeal.τ).loc Cert.ProjReferenceIdeal.main_v185) = v5 c
          ∧ r.2.mem ((c.tc : Thread Cert.ProjReferenceIdeal.nD Cert.ProjReferenceIdeal.τ).loc Cert.ProjReferenceIdeal.main_v186) = v6 c
          ∧ r.2.mem ((c.tc : Thread Cert.ProjReferenceIdeal.nD Cert.ProjReferenceIdeal.τ).loc Cert.ProjReferenceIdeal.main_v188) = v7 c
          ∧ r.2.mem ((c.tc : Thread Cert.ProjReferenceIdeal.nD Cert.ProjReferenceIdeal.τ).loc Cert.ProjReferenceIdeal.main_v190) = v8 c
          ∧ r.2.mem ((c.tc : Thread Cert.ProjReferenceIdeal.nD Cert.ProjReferenceIdeal.τ).loc Cert.ProjReferenceIdeal.main_v191) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12))

def preserves_SampleKernel_SampleKernelIdeal : Prop :=
  True

def algebraic_SampleKernelIdeal_SampleReferenceIdeal [hSampleKernelIdeal : Cert.SampleKernelIdeal.Facts] [hSampleReferenceIdeal : Cert.SampleReferenceIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)
      ∧ m' ((c.tc : Thread Cert.SampleReferenceIdeal.nD Cert.SampleReferenceIdeal.τ).loc Cert.SampleReferenceIdeal.main_arg7) = m ((c.tc : Thread Cert.SampleKernelIdeal.nD Cert.SampleKernelIdeal.τ).loc Cert.SampleKernelIdeal.main_arg7)
      ∧ m' ((c.tc : Thread Cert.SampleReferenceIdeal.nD Cert.SampleReferenceIdeal.τ).loc Cert.SampleReferenceIdeal.main_arg8) = m ((c.tc : Thread Cert.SampleKernelIdeal.nD Cert.SampleKernelIdeal.τ).loc Cert.SampleKernelIdeal.main_arg8)
      ∧ m' ((c.tc : Thread Cert.SampleReferenceIdeal.nD Cert.SampleReferenceIdeal.τ).loc Cert.SampleReferenceIdeal.main_arg9) = m ((c.tc : Thread Cert.SampleKernelIdeal.nD Cert.SampleKernelIdeal.τ).loc Cert.SampleKernelIdeal.main_arg9)
      ∧ m' ((c.tc : Thread Cert.SampleReferenceIdeal.nD Cert.SampleReferenceIdeal.τ).loc Cert.SampleReferenceIdeal.main_arg10) = m ((c.tc : Thread Cert.SampleKernelIdeal.nD Cert.SampleKernelIdeal.τ).loc Cert.SampleKernelIdeal.main_arg10)
      ∧ m' ((c.tc : Thread Cert.SampleReferenceIdeal.nD Cert.SampleReferenceIdeal.τ).loc Cert.SampleReferenceIdeal.main_arg11) = m ((c.tc : Thread Cert.SampleKernelIdeal.nD Cert.SampleKernelIdeal.τ).loc Cert.SampleKernelIdeal.main_arg11)) →
    ∃ (v0 : (c : Dev Cert.SampleKernelIdeal.nD) → Buf (Elt Ideal) ((c.tc : Thread Cert.SampleKernelIdeal.nD Cert.SampleKernelIdeal.τ).loc Cert.SampleKernelIdeal.main_v53_0)) (v1 : (c : Dev Cert.SampleKernelIdeal.nD) → Buf (Elt Ideal) ((c.tc : Thread Cert.SampleKernelIdeal.nD Cert.SampleKernelIdeal.τ).loc Cert.SampleKernelIdeal.main_v53_1)) (v2 : (c : Dev Cert.SampleKernelIdeal.nD) → Buf (Elt Ideal) ((c.tc : Thread Cert.SampleKernelIdeal.nD Cert.SampleKernelIdeal.τ).loc Cert.SampleKernelIdeal.main_v53_2)) (v3 : (c : Dev Cert.SampleKernelIdeal.nD) → Buf (Elt Ideal) ((c.tc : Thread Cert.SampleKernelIdeal.nD Cert.SampleKernelIdeal.τ).loc Cert.SampleKernelIdeal.main_v53_3)) (v4 : (c : Dev Cert.SampleKernelIdeal.nD) → Buf (Elt Ideal) ((c.tc : Thread Cert.SampleKernelIdeal.nD Cert.SampleKernelIdeal.τ).loc Cert.SampleKernelIdeal.main_v53_4)) (v5 : (c : Dev Cert.SampleKernelIdeal.nD) → Buf (Elt Ideal) ((c.tc : Thread Cert.SampleKernelIdeal.nD Cert.SampleKernelIdeal.τ).loc Cert.SampleKernelIdeal.main_v53_5)) (v6 : (c : Dev Cert.SampleKernelIdeal.nD) → Buf (Elt Ideal) ((c.tc : Thread Cert.SampleKernelIdeal.nD Cert.SampleKernelIdeal.τ).loc Cert.SampleKernelIdeal.main_v53_6)) (v7 : (c : Dev Cert.SampleKernelIdeal.nD) → Buf (Elt Ideal) ((c.tc : Thread Cert.SampleKernelIdeal.nD Cert.SampleKernelIdeal.τ).loc Cert.SampleKernelIdeal.main_v53_7)) (v8 : (c : Dev Cert.SampleKernelIdeal.nD) → Buf (Elt Ideal) ((c.tc : Thread Cert.SampleKernelIdeal.nD Cert.SampleKernelIdeal.τ).loc Cert.SampleKernelIdeal.main_v53_8)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v53_0) = v0 c
          ∧ r.2.mem ((c.tc : Thread Cert.SampleKernelIdeal.nD Cert.SampleKernelIdeal.τ).loc Cert.SampleKernelIdeal.main_v53_1) = v1 c
          ∧ r.2.mem ((c.tc : Thread Cert.SampleKernelIdeal.nD Cert.SampleKernelIdeal.τ).loc Cert.SampleKernelIdeal.main_v53_2) = v2 c
          ∧ r.2.mem ((c.tc : Thread Cert.SampleKernelIdeal.nD Cert.SampleKernelIdeal.τ).loc Cert.SampleKernelIdeal.main_v53_3) = v3 c
          ∧ r.2.mem ((c.tc : Thread Cert.SampleKernelIdeal.nD Cert.SampleKernelIdeal.τ).loc Cert.SampleKernelIdeal.main_v53_4) = v4 c
          ∧ r.2.mem ((c.tc : Thread Cert.SampleKernelIdeal.nD Cert.SampleKernelIdeal.τ).loc Cert.SampleKernelIdeal.main_v53_5) = v5 c
          ∧ r.2.mem ((c.tc : Thread Cert.SampleKernelIdeal.nD Cert.SampleKernelIdeal.τ).loc Cert.SampleKernelIdeal.main_v53_6) = v6 c
          ∧ r.2.mem ((c.tc : Thread Cert.SampleKernelIdeal.nD Cert.SampleKernelIdeal.τ).loc Cert.SampleKernelIdeal.main_v53_7) = v7 c
          ∧ r.2.mem ((c.tc : Thread Cert.SampleKernelIdeal.nD Cert.SampleKernelIdeal.τ).loc Cert.SampleKernelIdeal.main_v53_8) = v8 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6)
          ∧ r.2.mem ((c.tc : Thread Cert.SampleKernelIdeal.nD Cert.SampleKernelIdeal.τ).loc Cert.SampleKernelIdeal.main_arg7) = m ((c.tc : Thread Cert.SampleKernelIdeal.nD Cert.SampleKernelIdeal.τ).loc Cert.SampleKernelIdeal.main_arg7)
          ∧ r.2.mem ((c.tc : Thread Cert.SampleKernelIdeal.nD Cert.SampleKernelIdeal.τ).loc Cert.SampleKernelIdeal.main_arg8) = m ((c.tc : Thread Cert.SampleKernelIdeal.nD Cert.SampleKernelIdeal.τ).loc Cert.SampleKernelIdeal.main_arg8)
          ∧ r.2.mem ((c.tc : Thread Cert.SampleKernelIdeal.nD Cert.SampleKernelIdeal.τ).loc Cert.SampleKernelIdeal.main_arg9) = m ((c.tc : Thread Cert.SampleKernelIdeal.nD Cert.SampleKernelIdeal.τ).loc Cert.SampleKernelIdeal.main_arg9)
          ∧ r.2.mem ((c.tc : Thread Cert.SampleKernelIdeal.nD Cert.SampleKernelIdeal.τ).loc Cert.SampleKernelIdeal.main_arg10) = m ((c.tc : Thread Cert.SampleKernelIdeal.nD Cert.SampleKernelIdeal.τ).loc Cert.SampleKernelIdeal.main_arg10)
          ∧ r.2.mem ((c.tc : Thread Cert.SampleKernelIdeal.nD Cert.SampleKernelIdeal.τ).loc Cert.SampleKernelIdeal.main_arg11) = m ((c.tc : Thread Cert.SampleKernelIdeal.nD Cert.SampleKernelIdeal.τ).loc Cert.SampleKernelIdeal.main_arg11))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v175) = v0 c
          ∧ r.2.mem ((c.tc : Thread Cert.SampleReferenceIdeal.nD Cert.SampleReferenceIdeal.τ).loc Cert.SampleReferenceIdeal.main_v176) = v1 c
          ∧ r.2.mem ((c.tc : Thread Cert.SampleReferenceIdeal.nD Cert.SampleReferenceIdeal.τ).loc Cert.SampleReferenceIdeal.main_v179) = v2 c
          ∧ r.2.mem ((c.tc : Thread Cert.SampleReferenceIdeal.nD Cert.SampleReferenceIdeal.τ).loc Cert.SampleReferenceIdeal.main_v180) = v3 c
          ∧ r.2.mem ((c.tc : Thread Cert.SampleReferenceIdeal.nD Cert.SampleReferenceIdeal.τ).loc Cert.SampleReferenceIdeal.main_v181) = v4 c
          ∧ r.2.mem ((c.tc : Thread Cert.SampleReferenceIdeal.nD Cert.SampleReferenceIdeal.τ).loc Cert.SampleReferenceIdeal.main_v182) = v5 c
          ∧ r.2.mem ((c.tc : Thread Cert.SampleReferenceIdeal.nD Cert.SampleReferenceIdeal.τ).loc Cert.SampleReferenceIdeal.main_v184) = v6 c
          ∧ r.2.mem ((c.tc : Thread Cert.SampleReferenceIdeal.nD Cert.SampleReferenceIdeal.τ).loc Cert.SampleReferenceIdeal.main_v186) = v7 c
          ∧ r.2.mem ((c.tc : Thread Cert.SampleReferenceIdeal.nD Cert.SampleReferenceIdeal.τ).loc Cert.SampleReferenceIdeal.main_v187) = v8 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)
      ∧ m' ((c.tc : Thread Cert.StepReferenceIdeal.nD Cert.StepReferenceIdeal.τ).loc Cert.StepReferenceIdeal.main_arg5) = m ((c.tc : Thread Cert.StepKernelIdeal.nD Cert.StepKernelIdeal.τ).loc Cert.StepKernelIdeal.main_arg5)
      ∧ m' ((c.tc : Thread Cert.StepReferenceIdeal.nD Cert.StepReferenceIdeal.τ).loc Cert.StepReferenceIdeal.main_arg6) = m ((c.tc : Thread Cert.StepKernelIdeal.nD Cert.StepKernelIdeal.τ).loc Cert.StepKernelIdeal.main_arg6)) →
    ∃ (v0 : (c : Dev Cert.StepKernelIdeal.nD) → Buf (Elt Ideal) ((c.tc : Thread Cert.StepKernelIdeal.nD Cert.StepKernelIdeal.τ).loc Cert.StepKernelIdeal.main_v12)) (v1 : (c : Dev Cert.StepKernelIdeal.nD) → Buf (Elt Ideal) ((c.tc : Thread Cert.StepKernelIdeal.nD Cert.StepKernelIdeal.τ).loc Cert.StepKernelIdeal.main_v13)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v12) = v0 c
          ∧ r.2.mem ((c.tc : Thread Cert.StepKernelIdeal.nD Cert.StepKernelIdeal.τ).loc Cert.StepKernelIdeal.main_v13) = v1 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
          ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
          ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v25) = v0 c
          ∧ r.2.mem ((c.tc : Thread Cert.StepReferenceIdeal.nD Cert.StepReferenceIdeal.τ).loc Cert.StepReferenceIdeal.main_v26) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6))

def preserves_LastKernel_LastKernelIdeal : Prop :=
  True

def algebraic_LastKernelIdeal_LastReferenceIdeal_pre_finite_rows [hLastKernelIdeal : Cert.LastKernelIdeal.Facts] [hLastReferenceIdeal : Cert.LastReferenceIdeal.Facts] [hPre_finite_rows : Cert.Pre_finite_rows.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal_finite_rows m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)
      ∧ m' ((c.tc : Thread Cert.LastReferenceIdeal.nD Cert.LastReferenceIdeal.τ).loc Cert.LastReferenceIdeal.main_arg5) = m ((c.tc : Thread Cert.LastKernelIdeal.nD Cert.LastKernelIdeal.τ).loc Cert.LastKernelIdeal.main_arg5)
      ∧ m' ((c.tc : Thread Cert.LastReferenceIdeal.nD Cert.LastReferenceIdeal.τ).loc Cert.LastReferenceIdeal.main_arg6) = m ((c.tc : Thread Cert.LastKernelIdeal.nD Cert.LastKernelIdeal.τ).loc Cert.LastKernelIdeal.main_arg6)
      ∧ m' ((c.tc : Thread Cert.LastReferenceIdeal.nD Cert.LastReferenceIdeal.τ).loc Cert.LastReferenceIdeal.main_arg7) = m ((c.tc : Thread Cert.LastKernelIdeal.nD Cert.LastKernelIdeal.τ).loc Cert.LastKernelIdeal.main_arg7)
      ∧ m' ((c.tc : Thread Cert.LastReferenceIdeal.nD Cert.LastReferenceIdeal.τ).loc Cert.LastReferenceIdeal.main_arg8) = m ((c.tc : Thread Cert.LastKernelIdeal.nD Cert.LastKernelIdeal.τ).loc Cert.LastKernelIdeal.main_arg8)
      ∧ m' ((c.tc : Thread Cert.LastReferenceIdeal.nD Cert.LastReferenceIdeal.τ).loc Cert.LastReferenceIdeal.main_arg9) = m ((c.tc : Thread Cert.LastKernelIdeal.nD Cert.LastKernelIdeal.τ).loc Cert.LastKernelIdeal.main_arg9)
      ∧ m' ((c.tc : Thread Cert.LastReferenceIdeal.nD Cert.LastReferenceIdeal.τ).loc Cert.LastReferenceIdeal.main_arg10) = m ((c.tc : Thread Cert.LastKernelIdeal.nD Cert.LastKernelIdeal.τ).loc Cert.LastKernelIdeal.main_arg10)
      ∧ m' ((c.tc : Thread Cert.LastReferenceIdeal.nD Cert.LastReferenceIdeal.τ).loc Cert.LastReferenceIdeal.main_arg11) = m ((c.tc : Thread Cert.LastKernelIdeal.nD Cert.LastKernelIdeal.τ).loc Cert.LastKernelIdeal.main_arg11)
      ∧ m' ((c.tc : Thread Cert.LastReferenceIdeal.nD Cert.LastReferenceIdeal.τ).loc Cert.LastReferenceIdeal.main_arg12) = m ((c.tc : Thread Cert.LastKernelIdeal.nD Cert.LastKernelIdeal.τ).loc Cert.LastKernelIdeal.main_arg12)) →
    ∃ (v0 : (c : Dev Cert.LastKernelIdeal.nD) → Buf (Elt Ideal) ((c.tc : Thread Cert.LastKernelIdeal.nD Cert.LastKernelIdeal.τ).loc Cert.LastKernelIdeal.main_v7)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v7) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4)
          ∧ r.2.mem ((c.tc : Thread Cert.LastKernelIdeal.nD Cert.LastKernelIdeal.τ).loc Cert.LastKernelIdeal.main_arg5) = m ((c.tc : Thread Cert.LastKernelIdeal.nD Cert.LastKernelIdeal.τ).loc Cert.LastKernelIdeal.main_arg5)
          ∧ r.2.mem ((c.tc : Thread Cert.LastKernelIdeal.nD Cert.LastKernelIdeal.τ).loc Cert.LastKernelIdeal.main_arg6) = m ((c.tc : Thread Cert.LastKernelIdeal.nD Cert.LastKernelIdeal.τ).loc Cert.LastKernelIdeal.main_arg6)
          ∧ r.2.mem ((c.tc : Thread Cert.LastKernelIdeal.nD Cert.LastKernelIdeal.τ).loc Cert.LastKernelIdeal.main_arg7) = m ((c.tc : Thread Cert.LastKernelIdeal.nD Cert.LastKernelIdeal.τ).loc Cert.LastKernelIdeal.main_arg7)
          ∧ r.2.mem ((c.tc : Thread Cert.LastKernelIdeal.nD Cert.LastKernelIdeal.τ).loc Cert.LastKernelIdeal.main_arg8) = m ((c.tc : Thread Cert.LastKernelIdeal.nD Cert.LastKernelIdeal.τ).loc Cert.LastKernelIdeal.main_arg8)
          ∧ r.2.mem ((c.tc : Thread Cert.LastKernelIdeal.nD Cert.LastKernelIdeal.τ).loc Cert.LastKernelIdeal.main_arg9) = m ((c.tc : Thread Cert.LastKernelIdeal.nD Cert.LastKernelIdeal.τ).loc Cert.LastKernelIdeal.main_arg9)
          ∧ r.2.mem ((c.tc : Thread Cert.LastKernelIdeal.nD Cert.LastKernelIdeal.τ).loc Cert.LastKernelIdeal.main_arg10) = m ((c.tc : Thread Cert.LastKernelIdeal.nD Cert.LastKernelIdeal.τ).loc Cert.LastKernelIdeal.main_arg10)
          ∧ r.2.mem ((c.tc : Thread Cert.LastKernelIdeal.nD Cert.LastKernelIdeal.τ).loc Cert.LastKernelIdeal.main_arg11) = m ((c.tc : Thread Cert.LastKernelIdeal.nD Cert.LastKernelIdeal.τ).loc Cert.LastKernelIdeal.main_arg11)
          ∧ r.2.mem ((c.tc : Thread Cert.LastKernelIdeal.nD Cert.LastKernelIdeal.τ).loc Cert.LastKernelIdeal.main_arg12) = m ((c.tc : Thread Cert.LastKernelIdeal.nD Cert.LastKernelIdeal.τ).loc Cert.LastKernelIdeal.main_arg12))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v60) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8)
          ∧ r.2.mem ((c.tc : Thread Cert.LastReferenceIdeal.nD Cert.LastReferenceIdeal.τ).loc Cert.LastReferenceIdeal.main_arg9) = m' ((c.tc : Thread Cert.LastReferenceIdeal.nD Cert.LastReferenceIdeal.τ).loc Cert.LastReferenceIdeal.main_arg9)
          ∧ r.2.mem ((c.tc : Thread Cert.LastReferenceIdeal.nD Cert.LastReferenceIdeal.τ).loc Cert.LastReferenceIdeal.main_arg10) = m' ((c.tc : Thread Cert.LastReferenceIdeal.nD Cert.LastReferenceIdeal.τ).loc Cert.LastReferenceIdeal.main_arg10)
          ∧ r.2.mem ((c.tc : Thread Cert.LastReferenceIdeal.nD Cert.LastReferenceIdeal.τ).loc Cert.LastReferenceIdeal.main_arg11) = m' ((c.tc : Thread Cert.LastReferenceIdeal.nD Cert.LastReferenceIdeal.τ).loc Cert.LastReferenceIdeal.main_arg11)
          ∧ r.2.mem ((c.tc : Thread Cert.LastReferenceIdeal.nD Cert.LastReferenceIdeal.τ).loc Cert.LastReferenceIdeal.main_arg12) = m' ((c.tc : Thread Cert.LastReferenceIdeal.nD Cert.LastReferenceIdeal.τ).loc Cert.LastReferenceIdeal.main_arg12))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)) →
    ∃ (v0 : (c : Dev Cert.AdaKernelIdeal.nD) → Buf (Elt Ideal) ((c.tc : Thread Cert.AdaKernelIdeal.nD Cert.AdaKernelIdeal.τ).loc Cert.AdaKernelIdeal.main_v2)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v2) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v12) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_PrepKernel_PrepKernelIdeal : Prop :=
  True

def algebraic_PrepKernelIdeal_PrepReferenceIdeal_pre_finite_prep [hPrepKernelIdeal : Cert.PrepKernelIdeal.Facts] [hPrepReferenceIdeal : Cert.PrepReferenceIdeal.Facts] [hPre_finite_prep : Cert.Pre_finite_prep.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal_finite_prep m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)
      ∧ m' ((c.tc : Thread Cert.PrepReferenceIdeal.nD Cert.PrepReferenceIdeal.τ).loc Cert.PrepReferenceIdeal.main_arg9) = m ((c.tc : Thread Cert.PrepKernelIdeal.nD Cert.PrepKernelIdeal.τ).loc Cert.PrepKernelIdeal.main_arg9)) →
    ∃ (v0 : (c : Dev Cert.PrepKernelIdeal.nD) → Buf (Elt Ideal) ((c.tc : Thread Cert.PrepKernelIdeal.nD Cert.PrepKernelIdeal.τ).loc Cert.PrepKernelIdeal.main_v11_0)) (v1 : (c : Dev Cert.PrepKernelIdeal.nD) → Buf (Elt Ideal) ((c.tc : Thread Cert.PrepKernelIdeal.nD Cert.PrepKernelIdeal.τ).loc Cert.PrepKernelIdeal.main_v11_1)) (v2 : (c : Dev Cert.PrepKernelIdeal.nD) → Buf (Elt Ideal) ((c.tc : Thread Cert.PrepKernelIdeal.nD Cert.PrepKernelIdeal.τ).loc Cert.PrepKernelIdeal.main_v11_2)) (v3 : (c : Dev Cert.PrepKernelIdeal.nD) → Buf (Elt Ideal) ((c.tc : Thread Cert.PrepKernelIdeal.nD Cert.PrepKernelIdeal.τ).loc Cert.PrepKernelIdeal.main_v11_3)) (v4 : (c : Dev Cert.PrepKernelIdeal.nD) → Buf (Elt Ideal) ((c.tc : Thread Cert.PrepKernelIdeal.nD Cert.PrepKernelIdeal.τ).loc Cert.PrepKernelIdeal.main_v11_4)) (v5 : (c : Dev Cert.PrepKernelIdeal.nD) → Buf (Elt Ideal) ((c.tc : Thread Cert.PrepKernelIdeal.nD Cert.PrepKernelIdeal.τ).loc Cert.PrepKernelIdeal.main_v11_5)) (v6 : (c : Dev Cert.PrepKernelIdeal.nD) → Buf (Elt Ideal) ((c.tc : Thread Cert.PrepKernelIdeal.nD Cert.PrepKernelIdeal.τ).loc Cert.PrepKernelIdeal.main_v11_6)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v11_0) = v0 c
          ∧ r.2.mem ((c.tc : Thread Cert.PrepKernelIdeal.nD Cert.PrepKernelIdeal.τ).loc Cert.PrepKernelIdeal.main_v11_1) = v1 c
          ∧ r.2.mem ((c.tc : Thread Cert.PrepKernelIdeal.nD Cert.PrepKernelIdeal.τ).loc Cert.PrepKernelIdeal.main_v11_2) = v2 c
          ∧ r.2.mem ((c.tc : Thread Cert.PrepKernelIdeal.nD Cert.PrepKernelIdeal.τ).loc Cert.PrepKernelIdeal.main_v11_3) = v3 c
          ∧ r.2.mem ((c.tc : Thread Cert.PrepKernelIdeal.nD Cert.PrepKernelIdeal.τ).loc Cert.PrepKernelIdeal.main_v11_4) = v4 c
          ∧ r.2.mem ((c.tc : Thread Cert.PrepKernelIdeal.nD Cert.PrepKernelIdeal.τ).loc Cert.PrepKernelIdeal.main_v11_5) = v5 c
          ∧ r.2.mem ((c.tc : Thread Cert.PrepKernelIdeal.nD Cert.PrepKernelIdeal.τ).loc Cert.PrepKernelIdeal.main_v11_6) = v6 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
          ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v5) = v0 c
          ∧ r.2.mem ((c.tc : Thread Cert.PrepReferenceIdeal.nD Cert.PrepReferenceIdeal.τ).loc Cert.PrepReferenceIdeal.main_v52) = v1 c
          ∧ r.2.mem ((c.tc : Thread Cert.PrepReferenceIdeal.nD Cert.PrepReferenceIdeal.τ).loc Cert.PrepReferenceIdeal.main_v7) = v2 c
          ∧ r.2.mem ((c.tc : Thread Cert.PrepReferenceIdeal.nD Cert.PrepReferenceIdeal.τ).loc Cert.PrepReferenceIdeal.main_v64) = v3 c
          ∧ r.2.mem ((c.tc : Thread Cert.PrepReferenceIdeal.nD Cert.PrepReferenceIdeal.τ).loc Cert.PrepReferenceIdeal.main_v67) = v4 c
          ∧ r.2.mem ((c.tc : Thread Cert.PrepReferenceIdeal.nD Cert.PrepReferenceIdeal.τ).loc Cert.PrepReferenceIdeal.main_v22) = v5 c
          ∧ r.2.mem ((c.tc : Thread Cert.PrepReferenceIdeal.nD Cert.PrepReferenceIdeal.τ).loc Cert.PrepReferenceIdeal.main_v68) = v6 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hProjKernel : Cert.ProjKernel.Facts) (hProjKernelIdeal : Cert.ProjKernelIdeal.Facts) (hProjReferenceIdeal : Cert.ProjReferenceIdeal.Facts) (hSampleKernel : Cert.SampleKernel.Facts) (hSampleKernelIdeal : Cert.SampleKernelIdeal.Facts) (hSampleReferenceIdeal : Cert.SampleReferenceIdeal.Facts) (hStepKernel : Cert.StepKernel.Facts) (hStepKernelIdeal : Cert.StepKernelIdeal.Facts) (hStepReferenceIdeal : Cert.StepReferenceIdeal.Facts) (hLastKernel : Cert.LastKernel.Facts) (hLastKernelIdeal : Cert.LastKernelIdeal.Facts) (hLastReferenceIdeal : Cert.LastReferenceIdeal.Facts) (hAdaKernel : Cert.AdaKernel.Facts) (hAdaKernelIdeal : Cert.AdaKernelIdeal.Facts) (hAdaReferenceIdeal : Cert.AdaReferenceIdeal.Facts) (hPrepKernel : Cert.PrepKernel.Facts) (hPrepKernelIdeal : Cert.PrepKernelIdeal.Facts) (hPrepReferenceIdeal : Cert.PrepReferenceIdeal.Facts) (hPre_scores_finite : Cert.Pre_scores_finite.Facts) (hPre_finite_rows : Cert.Pre_finite_rows.Facts) (hPre_finite_prep : Cert.Pre_finite_prep.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_SampleKernel (hSampleKernel := hSampleKernel)
    ∧ quiescent_SampleKernelIdeal (hSampleKernelIdeal := hSampleKernelIdeal)
    ∧ quiescent_SampleReferenceIdeal (hSampleReferenceIdeal := hSampleReferenceIdeal)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ quiescent_LastKernel (hLastKernel := hLastKernel)
    ∧ quiescent_LastKernelIdeal (hLastKernelIdeal := hLastKernelIdeal)
    ∧ quiescent_LastKernelIdeal_pre_finite_rows (hLastKernelIdeal := hLastKernelIdeal) (hPre_finite_rows := hPre_finite_rows)
    ∧ quiescent_LastReferenceIdeal (hLastReferenceIdeal := hLastReferenceIdeal)
    ∧ quiescent_LastReferenceIdeal_pre_finite_rows (hLastReferenceIdeal := hLastReferenceIdeal) (hPre_finite_rows := hPre_finite_rows)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_PrepKernel (hPrepKernel := hPrepKernel)
    ∧ quiescent_PrepKernelIdeal (hPrepKernelIdeal := hPrepKernelIdeal)
    ∧ quiescent_PrepKernelIdeal_pre_finite_prep (hPrepKernelIdeal := hPrepKernelIdeal) (hPre_finite_prep := hPre_finite_prep)
    ∧ quiescent_PrepReferenceIdeal (hPrepReferenceIdeal := hPrepReferenceIdeal)
    ∧ quiescent_PrepReferenceIdeal_pre_finite_prep (hPrepReferenceIdeal := hPrepReferenceIdeal) (hPre_finite_prep := hPre_finite_prep)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_OutKernel_OutKernelIdeal
    ∧ algebraic_OutKernelIdeal_OutReferenceIdeal (hOutKernelIdeal := hOutKernelIdeal) (hOutReferenceIdeal := hOutReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_SampleKernel_SampleKernelIdeal
    ∧ algebraic_SampleKernelIdeal_SampleReferenceIdeal (hSampleKernelIdeal := hSampleKernelIdeal) (hSampleReferenceIdeal := hSampleReferenceIdeal)
    ∧ preserves_StepKernel_StepKernelIdeal
    ∧ algebraic_StepKernelIdeal_StepReferenceIdeal (hStepKernelIdeal := hStepKernelIdeal) (hStepReferenceIdeal := hStepReferenceIdeal)
    ∧ preserves_LastKernel_LastKernelIdeal
    ∧ algebraic_LastKernelIdeal_LastReferenceIdeal_pre_finite_rows (hLastKernelIdeal := hLastKernelIdeal) (hLastReferenceIdeal := hLastReferenceIdeal) (hPre_finite_rows := hPre_finite_rows)
    ∧ preserves_AdaKernel_AdaKernelIdeal
    ∧ algebraic_AdaKernelIdeal_AdaReferenceIdeal (hAdaKernelIdeal := hAdaKernelIdeal) (hAdaReferenceIdeal := hAdaReferenceIdeal)
    ∧ preserves_PrepKernel_PrepKernelIdeal
    ∧ algebraic_PrepKernelIdeal_PrepReferenceIdeal_pre_finite_prep (hPrepKernelIdeal := hPrepKernelIdeal) (hPrepReferenceIdeal := hPrepReferenceIdeal) (hPre_finite_prep := hPre_finite_prep)
-- ==== Pre_finite_prep.lean ====
abbrev S128x896 : Shape := ⟨2, ![128, 896]⟩
abbrev S896 : Shape := ⟨1, ![896]⟩
abbrev S256 : Shape := ⟨1, ![256]⟩
abbrev S64x256 : Shape := ⟨2, ![64, 256]⟩
abbrev S4x64 : Shape := ⟨2, ![4, 64]⟩
abbrev S128x512 : Shape := ⟨2, ![128, 512]⟩
abbrev S512 : Shape := ⟨1, ![512]⟩
abbrev S1x512 : Shape := ⟨2, ![1, 512]⟩
abbrev S1x256 : Shape := ⟨2, ![1, 256]⟩
abbrev S128x256 : Shape := ⟨2, ![128, 256]⟩
abbrev S128x2304 : Shape := ⟨2, ![128, 2304]⟩
abbrev S_ : Shape := ⟨0, ![]⟩

class Facts : Prop where
  slices_S128x896_S128x512_0_0 : S128x896.Slices ![0, 0] S128x512
  slices_S896_S512_0 : S896.Slices ![0] S512
  shapeCasts_S512_S1x512 : S512.ShapeCasts S1x512
  bcast_S1x512_S128x512_0_1 : S1x512.BroadcastsInDim S128x512 (![0, 1] : Fin 2 → Fin S128x512.rank)
  shapeCasts_S256_S1x256 : S256.ShapeCasts S1x256
  bcast_S1x256_S128x256_0_1 : S1x256.BroadcastsInDim S128x256 (![0, 1] : Fin 2 → Fin S128x256.rank)
  shapeCasts_S4x64_S1x256 : S4x64.ShapeCasts S1x256
  concatenates_S128x512_S128x512_S128x512_S128x256_S128x256_S128x256_S128x2304_d1 : Shape.Concatenates [S128x512, S128x512, S128x512, S128x256, S128x256, S128x256] S128x2304 1
  bcast_S_S128x2304 : S_.BroadcastsInDim S128x2304 (![] : Fin 0 → Fin S128x2304.rank)

variable [Facts]

def fn {F : FTy → Type} [FloatOps F] (main_arg0 : FVec F S128x896 .f32) (main_arg1 : FVec F S128x896 .f32) (main_arg2 : FVec F S896 .f32) (main_arg3 : FVec F S256 .f32) (main_arg4 : FVec F S64x256 .f32) (main_arg5 : FVec F S256 .f32) (main_arg6 : FVec F S64x256 .f32) (main_arg7 : FVec F S256 .f32) (main_arg8 : FVec F S256 .f32) (main_arg9 : FVec F S4x64 .f32) : IVec S128x2304 1 :=
  let main_v0 : FVec F S128x512 .f32 := (extractStridedSlice S128x512 ![0, 0] · slices_S128x896_S128x512_0_0) main_arg0
  let main_v1 : FVec F S128x512 .f32 := (extractStridedSlice S128x512 ![0, 0] · slices_S128x896_S128x512_0_0) main_arg1
  let main_v2 : FVec F S512 .f32 := (extractStridedSlice S512 ![0] · slices_S896_S512_0) main_arg2
  let main_v3 : FVec F S1x512 .f32 := shapeCast S1x512 main_v2 shapeCasts_S512_S1x512
  let main_v4 : FVec F S128x512 .f32 := broadcastInDim S128x512 ![0, 1] bcast_S1x512_S128x512_0_1 main_v3
  let main_v5 : FVec F S1x256 .f32 := shapeCast S1x256 main_arg7 shapeCasts_S256_S1x256
  let main_v6 : FVec F S128x256 .f32 := broadcastInDim S128x256 ![0, 1] bcast_S1x256_S128x256_0_1 main_v5
  let main_v7 : FVec F S1x256 .f32 := shapeCast S1x256 main_arg8 shapeCasts_S256_S1x256
  let main_v8 : FVec F S128x256 .f32 := broadcastInDim S128x256 ![0, 1] bcast_S1x256_S128x256_0_1 main_v7
  let main_v9 : FVec F S1x256 .f32 := shapeCast S1x256 main_arg9 shapeCasts_S4x64_S1x256
  let main_v10 : FVec F S128x256 .f32 := broadcastInDim S128x256 ![0, 1] bcast_S1x256_S128x256_0_1 main_v9
  let main_v11 : FVec F S128x2304 .f32 := concatenate S128x2304 1 [⟨S128x512, main_v0⟩, ⟨S128x512, main_v1⟩, ⟨S128x512, main_v4⟩, ⟨S128x256, main_v6⟩, ⟨S128x256, main_v8⟩, ⟨S128x256, main_v10⟩] concatenates_S128x512_S128x512_S128x512_S128x256_S128x256_S128x256_S128x2304_d1
  let main_v12 : FVec F S128x2304 .f32 := Host.absf main_v11
  let main_cst : FVec F S_ .f32 := constant S_ .f32 0x7F800000#32
  let main_v13 : FVec F S128x2304 .f32 := broadcastInDim S128x2304 ![] bcast_S_S128x2304 main_cst
  let main_v14 : IVec S128x2304 1 := cmpf .olt main_v12 main_v13
  main_v14
-- ==== Pre_finite_rows.lean ====
abbrev S128x1024 : Shape := ⟨2, ![128, 1024]⟩
abbrev S128x512 : Shape := ⟨2, ![128, 512]⟩
abbrev S128x256 : Shape := ⟨2, ![128, 256]⟩
abbrev S128x1x1024 : Shape := ⟨3, ![128, 1, 1024]⟩
abbrev S128x3072 : Shape := ⟨2, ![128, 3072]⟩
abbrev S1024x1024 : Shape := ⟨2, ![1024, 1024]⟩
abbrev S1024 : Shape := ⟨1, ![1024]⟩
abbrev S256 : Shape := ⟨1, ![256]⟩
abbrev S256x4x128 : Shape := ⟨3, ![256, 4, 128]⟩
abbrev S_ : Shape := ⟨0, ![]⟩

class Facts : Prop where
  bcast_S_S128x256 : S_.BroadcastsInDim S128x256 (![] : Fin 0 → Fin S128x256.rank)

variable [Facts]

def fn {F : FTy → Type} [FloatOps F] (main_arg0 : FVec F S128x1024 .f32) (main_arg1 : FVec F S128x512 .bf16) (main_arg2 : FVec F S128x256 .f32) (main_arg3 : FVec F S128x256 .f32) (main_arg4 : FVec F S128x256 .f32) (main_arg5 : FVec F S128x256 .bf16) (main_arg6 : FVec F S128x1x1024 .f32) (main_arg7 : FVec F S128x3072 .f32) (main_arg8 : FVec F S1024x1024 .f32) (main_arg9 : FVec F S1024 .f32) (main_arg10 : FVec F S256 .f32) (main_arg11 : FVec F S256 .f32) (main_arg12 : FVec F S256x4x128 .f32) : IVec S128x256 1 :=
  let main_v0 : FVec F S128x256 .f32 := Host.absf main_arg2
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  main_v2
-- ==== Pre_scores_finite.lean ====
abbrev S32768x1024 : Shape := ⟨2, ![32768, 1024]⟩
abbrev S32768x512 : Shape := ⟨2, ![32768, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1024 .bf16) (main_arg1 : FVec F S32768x1024 .bf16) (main_arg2 : FVec F S32768x512 .bf16) (main_arg3 : FVec F S32768x512 .bf16) : IVec S32768x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_v8 : IVec S32768x1024 1 := andi main_v3 main_v7
  main_v8
-- ==== Kernel.lean ====
abbrev S32768x1024 : Shape := ⟨2, ![32768, 1024]⟩
abbrev S32768x512 : Shape := ⟨2, ![32768, 512]⟩
abbrev S16x2048x1024 : Shape := ⟨3, ![16, 2048, 1024]⟩
abbrev S16x2048x512 : Shape := ⟨3, ![16, 2048, 512]⟩
abbrev S1x2048x256 : Shape := ⟨3, ![1, 2048, 256]⟩
abbrev S1x2048x128 : Shape := ⟨3, ![1, 2048, 128]⟩
abbrev S256x256 : Shape := ⟨2, ![256, 256]⟩
abbrev S1x256x256 : Shape := ⟨3, ![1, 256, 256]⟩
abbrev S256x1 : Shape := ⟨2, ![256, 1]⟩
abbrev S256x128 : Shape := ⟨2, ![256, 128]⟩
abbrev S256 : Shape := ⟨1, ![256]⟩
abbrev S1x256x128 : Shape := ⟨3, ![1, 256, 128]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S16x2048x1024, .bf16⟩
  | .hbm, ⟨5, _⟩ => ⟨S16x2048x1024, .bf16⟩
  | .hbm, ⟨6, _⟩ => ⟨S16x2048x512, .bf16⟩
  | .hbm, ⟨7, _⟩ => ⟨S16x2048x512, .bf16⟩
  | .hbm, ⟨8, _⟩ => ⟨S16x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S32768x512 : Shape := ⟨2, ![32768, 512]⟩
abbrev S16x2048x4x256 : Shape := ⟨4, ![16, 2048, 4, 256]⟩
abbrev S16x2048x4x128 : Shape := ⟨4, ![16, 2048, 4, 128]⟩
abbrev S16x4x2048x2048 : Shape := ⟨4, ![16, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x512 : Shape := ⟨3, ![16, 2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x512, .bf16⟩
  | .hbm, ⟨4, _⟩ => ⟨S16x2048x4x256, .bf16⟩
  | .hbm, ⟨5, _⟩ => ⟨S16x2048x4x256, .bf16⟩
  | .hbm, ⟨6, _⟩ => ⟨S16x2048x4x128, .bf16⟩
  | .hbm, ⟨7, _⟩ => ⟨S16x4x2048x2048, .f32⟩
  | .hbm, ⟨8, _⟩ => ⟨S_, .f32⟩
  | .hbm, ⟨9, _⟩ => ⟨S_, .f32⟩
  | .hbm, ⟨10, _⟩ => ⟨S16x4x2048x2048, .f32⟩
  | .hbm, ⟨11, _⟩ => ⟨S16x4x2048x2048, .f32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x4x2048x2048, .i1⟩
  | .hbm, ⟨21, _⟩ => ⟨S16x4x2048x2048, .f32⟩
  | .hbm, ⟨22, _⟩ => ⟨S16x4x2048x2048, .f32⟩
  | .hbm, ⟨23, _⟩ => ⟨S_, .f32⟩
  | .hbm, ⟨24, _⟩ => ⟨S16x4x2048, .f32⟩
  | .hbm, ⟨25, _⟩ => ⟨S_, .f32⟩
  | .hbm, ⟨26, _⟩ => ⟨S16x4x2048, .f32⟩
  | .hbm, ⟨27, _⟩ => ⟨S16x4x2048, .f32⟩
  | .hbm, ⟨28, _⟩ => ⟨S16x4x2048x1, .f32⟩
  | .hbm, ⟨29, _⟩ => ⟨S16x4x2048x2048, .f32⟩
  | .hbm, ⟨30, _⟩ => ⟨S16x4x2048x2048, .f32⟩
  | .hbm, ⟨31, _⟩ => ⟨S16x4x2048x2048, .f32⟩
  | .hbm, ⟨32, _⟩ => ⟨S_, .f32⟩
  | .hbm, ⟨33, _⟩ => ⟨S16x4x2048, .f32⟩
  | .hbm, ⟨34, _⟩ => ⟨S16x4x2048x1, .f32⟩
  | .hbm, ⟨35, _⟩ => ⟨S16x4x2048x2048, .f32⟩
  | .hbm, ⟨36, _⟩ => ⟨S16x4x2048x2048, .f32⟩
  | .hbm, ⟨37, _⟩ => ⟨S16x4x2048x2048, .bf16⟩
  | .hbm, ⟨38, _⟩ => ⟨S16x4x128x2048, .f32⟩
  | .hbm, ⟨39, _⟩ => ⟨S16x2048x4x128, .f32⟩
  | .hbm, ⟨40, _⟩ => ⟨S16x2048x4x128, .bf16⟩
  | .hbm, ⟨41, _⟩ => ⟨S16x2048x512, .bf16⟩
  | .hbm, ⟨42, _⟩ => ⟨S16x2048x512, .bf16⟩
  | .hbm, ⟨43, _⟩ => ⟨S16x2048x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== OutKernel.lean ====
abbrev S32768x512 : Shape := ⟨2, ![32768, 512]⟩
abbrev S32768x256 : Shape := ⟨2, ![32768, 256]⟩
abbrev S32768x1024 : Shape := ⟨2, ![32768, 1024]⟩
abbrev S16x3072 : Shape := ⟨2, ![16, 3072]⟩
abbrev S1024x1024 : Shape := ⟨2, ![1024, 1024]⟩
abbrev S1024 : Shape := ⟨1, ![1024]⟩
abbrev S1x1024 : Shape := ⟨2, ![1, 1024]⟩
abbrev S16x1x3072 : Shape := ⟨3, ![16, 1, 3072]⟩
abbrev S1024x512 : Shape := ⟨2, ![1024, 512]⟩
abbrev S1024x256 : Shape := ⟨2, ![1024, 256]⟩
abbrev S1x1x3072 : Shape := ⟨3, ![1, 1, 3072]⟩
abbrev S1x3072 : Shape := ⟨2, ![1, 3072]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S32768x256, .bf16⟩
  | .hbm, ⟨3, _⟩ => ⟨S32768x1024, .f32⟩
  | .hbm, ⟨4, _⟩ => ⟨S16x3072, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S16x1x3072, .f32⟩
  | .hbm, ⟨10, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S32768x512 : Shape := ⟨2, ![32768, 512]⟩
abbrev S32768x256 : Shape := ⟨2, ![32768, 256]⟩
abbrev S32768x1024 : Shape := ⟨2, ![32768, 1024]⟩
abbrev S16x3072 : Shape := ⟨2, ![16, 3072]⟩
abbrev S1024x1024 : Shape := ⟨2, ![1024, 1024]⟩
abbrev S1024 : Shape := ⟨1, ![1024]⟩
abbrev S16x1024 : Shape := ⟨2, ![16, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S32768x256, .bf16⟩
  | .hbm, ⟨3, _⟩ => ⟨S32768x1024, .f32⟩
  | .hbm, ⟨4, _⟩ => ⟨S16x3072, .f32⟩
  | .hbm, ⟨5, _⟩ => ⟨S1024x1024, .f32⟩
  | .hbm, ⟨6, _⟩ => ⟨S1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S32768x1024, .bf16⟩
  | .hbm, ⟨11, _⟩ => ⟨S32768x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ProjKernel.lean ====
abbrev S16x2048x1024 : Shape := ⟨3, ![16, 2048, 1024]⟩
abbrev S16x3072 : Shape := ⟨2, ![16, 3072]⟩
abbrev S1024 : Shape := ⟨1, ![1024]⟩
abbrev S1024x3136 : Shape := ⟨2, ![1024, 3136]⟩
abbrev S384 : Shape := ⟨1, ![384]⟩
abbrev S256 : Shape := ⟨1, ![256]⟩
abbrev S384x4x192 : Shape := ⟨3, ![384, 4, 192]⟩
abbrev S256x4x128 : Shape := ⟨3, ![256, 4, 128]⟩
abbrev S4x128x128 : Shape := ⟨3, ![4, 128, 128]⟩
abbrev S4x128 : Shape := ⟨2, ![4, 128]⟩
abbrev S1024x64 : Shape := ⟨2, ![1024, 64]⟩
abbrev S1024x384 : Shape := ⟨2, ![1024, 384]⟩
abbrev S1024x32 : Shape := ⟨2, ![1024, 32]⟩
abbrev S1024x256 : Shape := ⟨2, ![1024, 256]⟩
abbrev S1024x2432 : Shape := ⟨2, ![1024, 2432]⟩
abbrev S1024x3200 : Shape := ⟨2, ![1024, 3200]⟩
abbrev S384x4x64 : Shape := ⟨3, ![384, 4, 64]⟩
abbrev S384x4x32 : Shape := ⟨3, ![384, 4, 32]⟩
abbrev S384x4x256 : Shape := ⟨3, ![384, 4, 256]⟩
abbrev S384x1024 : Shape := ⟨2, ![384, 1024]⟩
abbrev S1x1024 : Shape := ⟨2, ![1, 1024]⟩
abbrev S1x384 : Shape := ⟨2, ![1, 384]⟩
abbrev S1x256 : Shape := ⟨2, ![1, 256]⟩
abbrev S256x512 : Shape := ⟨2, ![256, 512]⟩
abbrev S128x4 : Shape := ⟨2, ![128, 4]⟩
abbrev S128x4x64 : Shape := ⟨3, ![128, 4, 64]⟩
abbrev S128x256 : Shape := ⟨2, ![128, 256]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S32768x1024 : Shape := ⟨2, ![32768, 1024]⟩
abbrev S16x1x3072 : Shape := ⟨3, ![16, 1, 3072]⟩
abbrev S32768x512 : Shape := ⟨2, ![32768, 512]⟩
abbrev S1x32768x256 : Shape := ⟨3, ![1, 32768, 256]⟩
abbrev S1x32768x64 : Shape := ⟨3, ![1, 32768, 64]⟩
abbrev S32768x896 : Shape := ⟨2, ![32768, 896]⟩
abbrev S32768x256 : Shape := ⟨2, ![32768, 256]⟩
abbrev S16x128x256 : Shape := ⟨3, ![16, 128, 256]⟩
abbrev S512x1024 : Shape := ⟨2, ![512, 1024]⟩
abbrev S1x1x3072 : Shape := ⟨3, ![1, 1, 3072]⟩
abbrev S512x128 : Shape := ⟨2, ![512, 128]⟩
abbrev S512x512 : Shape := ⟨2, ![512, 512]⟩
abbrev S1x512x256 : Shape := ⟨3, ![1, 512, 256]⟩
abbrev S1x512x64 : Shape := ⟨3, ![1, 512, 64]⟩
abbrev S512x896 : Shape := ⟨2, ![512, 896]⟩
abbrev S512x256 : Shape := ⟨2, ![512, 256]⟩
abbrev S1x128x256 : Shape := ⟨3, ![1, 128, 256]⟩
abbrev S1x3072 : Shape := ⟨2, ![1, 3072]⟩
abbrev S512 : Shape := ⟨1, ![512]⟩
abbrev S512x1 : Shape := ⟨2, ![512, 1]⟩
abbrev S1024x512 : Shape := ⟨2, ![1024, 512]⟩
abbrev S512x384 : Shape := ⟨2, ![512, 384]⟩
abbrev S512x64 : Shape := ⟨2, ![512, 64]⟩
abbrev S1024x896 : Shape := ⟨2, ![1024, 896]⟩
abbrev S128x128 : Shape := ⟨2, ![128, 128]⟩
abbrev S1x128x128 : Shape := ⟨3, ![1, 128, 128]⟩
abbrev S128x512 : Shape := ⟨2, ![128, 512]⟩

abbrev nBuf : Space → Nat
  | .hbm => 75
  | .vmem => 39
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1024, .f32⟩
  | .hbm, ⟨3, _⟩ => ⟨S1024x3136, .f32⟩
  | .hbm, ⟨4, _⟩ => ⟨S384, .f32⟩
  | .hbm, ⟨5, _⟩ => ⟨S256, .f32⟩
  | .hbm, ⟨6, _⟩ => ⟨S384x4x192, .f32⟩
  | .hbm, ⟨7, _⟩ => ⟨S256x4x128, .f32⟩
  | .hbm, ⟨8, _⟩ => ⟨S256x4x128, .f32⟩
  | .hbm, ⟨9, _⟩ => ⟨S256, .f32⟩
  | .hbm, ⟨10, _⟩ => ⟨S256, .f32⟩
  | .hbm, ⟨11, _⟩ => ⟨S4x128x128, .f32⟩
  | .hbm, ⟨12, _⟩ => ⟨S4x128, .f32⟩
  | .hbm, ⟨13, _⟩ => ⟨S1024x64, .f32⟩
  | .hbm, ⟨14, _⟩ => ⟨S1024x384, .f32⟩
  | .hbm, ⟨15, _⟩ => ⟨S1024x32, .f32⟩
  | .hbm, ⟨16, _⟩ => ⟨S1024x32, .f32⟩
  | .hbm, ⟨17, _⟩ => ⟨S1024x64, .f32⟩
  | .hbm, ⟨18, _⟩ => ⟨S1024x256, .f32⟩
  | .hbm, ⟨19, _⟩ => ⟨S1024x2432, .f32⟩
  | .hbm, ⟨20, _⟩ => ⟨S1024x3200, .f32⟩
  | .hbm, ⟨21, _⟩ => ⟨S1024x3200, .bf16⟩
  | .hbm, ⟨22, _⟩ => ⟨S384x4x64, .f32⟩
  | .hbm, ⟨23, _⟩ => ⟨S384x4x32, .f32⟩
  | .hbm, ⟨24, _⟩ => ⟨S384x4x32, .f32⟩
  | .hbm, ⟨25, _⟩ => ⟨S384x4x64, .f32⟩
  | .hbm, ⟨26, _⟩ => ⟨S384x4x256, .f32⟩
  | .hbm, ⟨27, _⟩ => ⟨S384x1024, .f32⟩
  | .hbm, ⟨28, _⟩ => ⟨S384x1024, .bf16⟩
  | .hbm, ⟨29, _⟩ => ⟨S1x1024, .f32⟩
  | .hbm, ⟨30, _⟩ => ⟨S1x384, .f32⟩
  | .hbm, ⟨31, _⟩ => ⟨S1x256, .f32⟩
  | .hbm, ⟨32, _⟩ => ⟨S256x512, .f32⟩
  | .hbm, ⟨33, _⟩ => ⟨S256x512, .bf16⟩
  | .hbm, ⟨34, _⟩ => ⟨S256x512, .f32⟩
  | .hbm, ⟨35, _⟩ => ⟨S256x512, .bf16⟩
  | .hbm, ⟨36, _⟩ => ⟨S1x256, .f32⟩
  | .hbm, ⟨37, _⟩ => ⟨S1x256, .f32⟩
  | .hbm, ⟨38, _⟩ => ⟨S128x4, .f32⟩
  | .hbm, ⟨39, _⟩ => ⟨S128x4x64, .f32⟩
  | .hbm, ⟨40, _⟩ => ⟨S128x256, .f32⟩
  | .hbm, ⟨41, _⟩ => ⟨S2048, .i32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S2048, .f32⟩
  | .hbm, ⟨51, _⟩ => ⟨S2048x1, .f32⟩
  | .hbm, ⟨52, _⟩ => ⟨S1x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S_, .f32⟩
  | .hbm, ⟨59, _⟩ => ⟨S2048x64, .f32⟩
  | .hbm, ⟨60, _⟩ => ⟨S2048x128, .f32⟩
  | .hbm, ⟨61, _⟩ => ⟨S2048x32, .f32⟩
  | .hbm, ⟨62, _⟩ => ⟨S2048x128, .f32⟩
  | .hbm, ⟨63, _⟩ => ⟨S32768x1024, .f32⟩
  | .hbm, ⟨64, _⟩ => ⟨S16x1x3072, .f32⟩
  | .hbm, ⟨65, _⟩ => ⟨S32768x1024, .bf16⟩
  | .hbm, ⟨66, _⟩ => ⟨S32768x1024, .bf16⟩
  | .hbm, ⟨67, _⟩ => ⟨S32768x512, .bf16⟩
  | .hbm, ⟨68, _⟩ => ⟨S32768x512, .bf16⟩
  | .hbm, ⟨69, _⟩ => ⟨S1x32768x256, .f32⟩
  | .hbm, ⟨70, _⟩ => ⟨S1x32768x64, .f32⟩
  | .hbm, ⟨71, _⟩ => ⟨S32768x896, .f32⟩
  | .hbm, ⟨72, _⟩ => ⟨S32768x256, .f32⟩
  | .hbm, ⟨73, _⟩ => ⟨S32768x256, .bf16⟩
  | .hbm, ⟨74, _⟩ => ⟨S16x128x256, .f32⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x3200, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x512, .bf16⟩
  | .local _ .vmem, ⟨10, _⟩ => ⟨S256x512, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x256, .f32⟩
  | .local _ .vmem, ⟨16, _⟩ => ⟨S1x256, .f32⟩
  | .local _ .vmem, ⟨17, _⟩ => ⟨S4x128x128, .f32⟩
  | .local _ .vmem, ⟨18, _⟩ => ⟨S128x256, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S1x512x256, .f32⟩
  | .local _ .vmem, ⟨28, _⟩ => ⟨S1x512x256, .f32⟩
  | .local _ .vmem, ⟨29, _⟩ => ⟨S1x512x64, .f32⟩
  | .local _ .vmem, ⟨30, _⟩ => ⟨S1x512x64, .f32⟩
  | .local _ .vmem, ⟨31, _⟩ => ⟨S512x896, .f32⟩
  | .local _ .vmem, ⟨32, _⟩ => ⟨S512x896, .f32⟩
  | .local _ .vmem, ⟨33, _⟩ => ⟨S512x256, .f32⟩
  | .local _ .vmem, ⟨34, _⟩ => ⟨S512x256, .f32⟩
  | .local _ .vmem, ⟨35, _⟩ => ⟨S512x256, .bf16⟩
  | .local _ .vmem, ⟨36, _⟩ => ⟨S512x256, .bf16⟩
  | .local _ .vmem, ⟨37, _⟩ => ⟨S1x128x256, .f32⟩
  | .local _ .vmem, ⟨38, _⟩ => ⟨S1x128x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev main_v49_3 : Ref sig .tc := ⟨.hbm, 68, rfl⟩
abbrev main_v49_4 : Ref sig .tc := ⟨.hbm, 69, rfl⟩
abbrev main_v49_5 : Ref sig .tc := ⟨.hbm, 70, rfl⟩
abbrev main_v49_6 : Ref sig .tc := ⟨.hbm, 71, rfl⟩
abbrev main_v49_7 : Ref sig .tc := ⟨.hbm, 72, rfl⟩
abbrev main_v49_8 : Ref sig .tc := ⟨.hbm, 73, rfl⟩
abbrev main_v49_9 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c4_i32 : BitVec 32 := 4#32
  let c0_i32 : BitVec 32 := 0#32
  let v301 : BitVec 1 := Scalar.cmpi .eq c4_i32 c0_i32
  let c1_i32 : BitVec 32 := 1#32
  let v302 : BitVec 32 := Scalar.select v301 c1_i32 c4_i32
  let v303 : BitVec 32 := Scalar.remsi arg0 v302
  let c0_i32_149 : BitVec 32 := 0#32
  let v305 : BitVec 1 := Scalar.cmpi .slt v303 c0_i32_149
  let c0_i32_150 : BitVec 32 := 0#32
  let v306 : BitVec 1 := Scalar.cmpi .slt v302 c0_i32_150
  let v307 : BitVec 1 := Scalar.xori v305 v306
  let c0_i32_148 : BitVec 32 := 0#32
  let v304 : BitVec 1 := Scalar.cmpi .ne v303 c0_i32_148
  let v308 : BitVec 1 := Scalar.andi v307 v304
  let v309 : BitVec 32 := Scalar.addi v303 v302
  let v310 : BitVec 32 := Scalar.select v308 v309 v303
  let c3_i32 : BitVec 32 := 3#32
  let v311 : BitVec 1 := Scalar.cmpi .eq v310 c3_i32
  let v312 : BitVec 32 := Scalar.extui v311
  let c0_i32_151 : BitVec 32 := 0#32
  let v313 : BitVec 1 := Scalar.cmpi .ne v312 c0_i32_151
  v313

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x896 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjReferenceIdeal.lean ====
abbrev S16x2048x1024 : Shape := ⟨3, ![16, 2048, 1024]⟩
abbrev S16x3072 : Shape := ⟨2, ![16, 3072]⟩
abbrev S1024 : Shape := ⟨1, ![1024]⟩
abbrev S1024x3136 : Shape := ⟨2, ![1024, 3136]⟩
abbrev S384 : Shape := ⟨1, ![384]⟩
abbrev S256 : Shape := ⟨1, ![256]⟩
abbrev S384x4x192 : Shape := ⟨3, ![384, 4, 192]⟩
abbrev S256x4x128 : Shape := ⟨3, ![256, 4, 128]⟩
abbrev S4x128x128 : Shape := ⟨3, ![4, 128, 128]⟩
abbrev S4x128 : Shape := ⟨2, ![4, 128]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3136 : Shape := ⟨3, ![16, 2048, 3136]⟩
abbrev S16x2048x384 : Shape := ⟨3, ![16, 2048, 384]⟩
abbrev S16x2048x256 : Shape := ⟨3, ![16, 2048, 256]⟩
abbrev S16x2048x64 : Shape := ⟨3, ![16, 2048, 64]⟩
abbrev S16x2048x512 : Shape := ⟨3, ![16, 2048, 512]⟩
abbrev S16x2048x896 : Shape := ⟨3, ![16, 2048, 896]⟩
abbrev S1x1x384 : Shape := ⟨3, ![1, 1, 384]⟩
abbrev S16x2048x4x192 : Shape := ⟨4, ![16, 2048, 4, 192]⟩
abbrev S16x2048x4x128 : Shape := ⟨4, ![16, 2048, 4, 128]⟩
abbrev S16x2048x4x64 : Shape := ⟨4, ![16, 2048, 4, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x4x32 : Shape := ⟨4, ![16, 2048, 4, 32]⟩
abbrev S1x1x256 : Shape := ⟨3, ![1, 1, 256]⟩
abbrev S16x2048x1x64 : Shape := ⟨4, ![16, 2048, 1, 64]⟩
abbrev S16x2048x1x32 : Shape := ⟨4, ![16, 2048, 1, 32]⟩
abbrev S16x2048x4x256 : Shape := ⟨4, ![16, 2048, 4, 256]⟩
abbrev S16x16x128x4x64 : Shape := ⟨5, ![16, 16, 128, 4, 64]⟩
abbrev S128x128 : Shape := ⟨2, ![128, 128]⟩
abbrev S1x128x128 : Shape := ⟨3, ![1, 128, 128]⟩
abbrev S4x16x16x64x128 : Shape := ⟨5, ![4, 16, 16, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32768x1024 : Shape := ⟨2, ![32768, 1024]⟩
abbrev S32768x512 : Shape := ⟨2, ![32768, 512]⟩
abbrev S1x32768x256 : Shape := ⟨3, ![1, 32768, 256]⟩
abbrev S1x32768x64 : Shape := ⟨3, ![1, 32768, 64]⟩
abbrev S32768x896 : Shape := ⟨2, ![32768, 896]⟩
abbrev S32768x256 : Shape := ⟨2, ![32768, 256]⟩
abbrev S16x128x256 : Shape := ⟨3, ![16, 128, 256]⟩

abbrev nBuf : Space → Nat
  | .hbm => 259
  | .vmem => 0
  | .smem => 0
  | _ => 0

abbrev hbmTy0_0 (i : Nat) : BufTy := match i % 128 with
  | 0 => ⟨S16x2048x1024, .f32⟩
  | 1 => ⟨S16x3072, .f32⟩
  | 2 => ⟨S1024, .f32⟩
  | 3 => ⟨S1024x3136, .f32⟩
  | 4 => ⟨S384, .f32⟩
  | 5 => ⟨S256, .f32⟩
  | 6 => ⟨S384x4x192, .f32⟩
  | 7 => ⟨S256x4x128, .f32⟩
  | 8 => ⟨S256x4x128, .f32⟩
  | 9 => ⟨S256, .f32⟩
  | 10 => ⟨S256, .f32⟩
  | 11 => ⟨S4x128x128, .f32⟩
  | 12 => ⟨S4x128, .f32⟩
  | 13 => ⟨S16x1024, .f32⟩
  | 14 => ⟨S16x1024, .f32⟩
  | 15 => ⟨S16x1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S16x1x1024, .f32⟩
  | 33 => ⟨S_, .f32⟩
  | 34 => ⟨S16x1x1024, .f32⟩
  | 35 => ⟨S16x1x1024, .f32⟩
  | 36 => ⟨S16x2048x1024, .f32⟩
  | 37 => ⟨S16x2048x1024, .f32⟩
  | 38 => ⟨S16x1x1024, .f32⟩
  | 39 => ⟨S16x2048x1024, .f32⟩
  | 40 => ⟨S16x2048x1024, .f32⟩
  | 41 => ⟨S16x2048x3136, .f32⟩
  | 42 => ⟨S16x2048x384, .f32⟩
  | 43 => ⟨S16x2048x256, .f32⟩
  | 44 => ⟨S16x2048x64, .f32⟩
  | 45 => ⟨S16x2048x512, .f32⟩
  | 46 => ⟨S16x2048x896, .f32⟩
  | 47 => ⟨S16x2048x256, .f32⟩
  | 48 => ⟨S16x2048x256, .f32⟩
  | 49 => ⟨S16x2048x256, .f32⟩
  | 50 => ⟨S16x2048x256, .f32⟩
  | 51 => ⟨S16x2048x384, .f32⟩
  | 52 => ⟨S_, .f32⟩
  | 53 => ⟨S16x2048, .f32⟩
  | 54 => ⟨S16x2048x1, .f32⟩
  | 55 => ⟨S_, .f32⟩
  | 56 => ⟨S16x2048x1, .f32⟩
  | 57 => ⟨S16x2048x1, .f32⟩
  | 58 => ⟨S_, .f32⟩
  | 59 => ⟨S16x2048x1, .f32⟩
  | 60 => ⟨S16x2048x1, .f32⟩
  | 61 => ⟨S16x2048x1, .f32⟩
  | 62 => ⟨S16x2048x384, .f32⟩
  | 63 => ⟨S16x2048x384, .f32⟩
  | 64 => ⟨S1x1x384, .f32⟩
  | 65 => ⟨S16x2048x384, .f32⟩
  | 66 => ⟨S16x2048x384, .f32⟩
  | 67 => ⟨S16x2048x4x192, .f32⟩
  | 68 => ⟨S16x2048x4x128, .f32⟩
  | 69 => ⟨S16x2048x4x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S2048, .i32⟩
  | 79 => ⟨S2048, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S2048x32, .f32⟩
  | 86 => ⟨S1x2048x1x32, .f32⟩
  | 87 => ⟨S2048x32, .f32⟩
  | 88 => ⟨S1x2048x1x32, .f32⟩
  | 89 => ⟨S16x2048x4x32, .f32⟩
  | 90 => ⟨S16x2048x4x32, .f32⟩
  | 91 => ⟨S16x2048x4x32, .f32⟩
  | 92 => ⟨S16x2048x4x32, .f32⟩
  | 93 => ⟨S16x2048x4x32, .f32⟩
  | 94 => ⟨S16x2048x4x32, .f32⟩
  | 95 => ⟨S16x2048x4x32, .f32⟩
  | 96 => ⟨S16x2048x4x32, .f32⟩
  | 97 => ⟨S16x2048x4x32, .f32⟩
  | 98 => ⟨S16x2048x4x32, .f32⟩
  | 99 => ⟨S16x2048x4x32, .f32⟩
  | 100 => ⟨S16x2048x4x32, .f32⟩
  | 101 => ⟨S16x2048x4x64, .f32⟩
  | 102 => ⟨S16x2048x256, .f32⟩
  | 103 => ⟨S_, .f32⟩
  | 104 => ⟨S16x2048, .f32⟩
  | 105 => ⟨S16x2048x1, .f32⟩
  | 106 => ⟨S_, .f32⟩
  | 107 => ⟨S16x2048x1, .f32⟩
  | 108 => ⟨S16x2048x1, .f32⟩
  | 109 => ⟨S_, .f32⟩
  | 110 => ⟨S16x2048x1, .f32⟩
  | 111 => ⟨S16x2048x1, .f32⟩
  | 112 => ⟨S16x2048x1, .f32⟩
  | 113 => ⟨S16x2048x256, .f32⟩
  | 114 => ⟨S16x2048x256, .f32⟩
  | 115 => ⟨S1x1x256, .f32⟩
  | 116 => ⟨S16x2048x256, .f32⟩
  | 117 => ⟨S16x2048x256, .f32⟩
  | 118 => ⟨S16x2048x1x64, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S2048, .i32⟩
  | _ => ⟨S16x2048x1024, .f32⟩

abbrev hbmTy0_1 (i : Nat) : BufTy := match i % 128 with
  | 0 => ⟨S2048, .f32⟩
  | 1 => ⟨S2048x1, .f32⟩
  | 2 => ⟨S1x32, .f32⟩
  | 3 => ⟨S2048x32, .f32⟩
  | 4 => ⟨S2048x32, .f32⟩
  | 5 => ⟨S2048x32, .f32⟩
  | 6 => ⟨S2048x32, .f32⟩
  | 7 => ⟨S1x2048x1x32, .f32⟩
  | 8 => ⟨S2048x32, .f32⟩
  | 9 => ⟨S1x2048x1x32, .f32⟩
  | 10 => ⟨S16x2048x1x32, .f32⟩
  | 11 => ⟨S16x2048x1x32, .f32⟩
  | 12 => ⟨S16x2048x1x32, .f32⟩
  | 13 => ⟨S16x2048x1x32, .f32⟩
  | 14 => ⟨S16x2048x1x32, .f32⟩
  | 15 => ⟨S16x2048x1x32, .f32⟩
  | 16 => ⟨S16x2048x1x32, .f32⟩
  | 17 => ⟨S16x2048x1x32, .f32⟩
  | 18 => ⟨S16x2048x1x32, .f32⟩
  | 19 => ⟨S16x2048x1x32, .f32⟩
  | 20 => ⟨S16x2048x1x32, .f32⟩
  | 21 => ⟨S16x2048x1x32, .f32⟩
  | 22 => ⟨S16x2048x1x64, .f32⟩
  | 23 => ⟨S16x2048x64, .f32⟩
  | 24 => ⟨S16x2048x4x128, .f32⟩
  | 25 => ⟨S16x2048x4x128, .f32⟩
  | 26 => ⟨S_, .f32⟩
  | 27 => ⟨S16x2048x4x64, .f32⟩
  | 28 => ⟨S16x2048x4x256, .f32⟩
  | 29 => ⟨S_, .f32⟩
  | 30 => ⟨S16x2048x4x256, .f32⟩
  | 31 => ⟨S16x2048x4x256, .f32⟩
  | 32 => ⟨S16x2048x1x64, .f32⟩
  | 33 => ⟨S16x2048x4x64, .f32⟩
  | 34 => ⟨S16x2048x4x256, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S16x2048x256, .f32⟩
  | 42 => ⟨S16x2048x256, .f32⟩
  | 43 => ⟨S16x2048x256, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S16x2048x256, .f32⟩
  | 51 => ⟨S16x2048x256, .f32⟩
  | 52 => ⟨S_, .f32⟩
  | 53 => ⟨S16x2048x1, .f32⟩
  | 54 => ⟨S16x2048x1, .f32⟩
  | 55 => ⟨S16x2048x1, .f32⟩
  | 56 => ⟨S16x2048x256, .f32⟩
  | 57 => ⟨S16x2048x256, .f32⟩
  | 58 => ⟨S1x1x256, .f32⟩
  | 59 => ⟨S16x2048x256, .f32⟩
  | 60 => ⟨S16x2048x256, .f32⟩
  | 61 => ⟨S1x1x256, .f32⟩
  | 62 => ⟨S16x2048x256, .f32⟩
  | 63 => ⟨S16x2048x256, .f32⟩
  | 64 => ⟨S16x16x128x4x64, .f32⟩
  | 65 => ⟨S_, .f32⟩
  | 66 => ⟨S128x128, .f32⟩
  | 67 => ⟨S128x128, .i32⟩
  | 68 => ⟨S_, .i32⟩
  | 69 => ⟨S128x128, .i32⟩
  | 70 => ⟨S128x128, .i32⟩
  | 71 => ⟨S128x128, .i32⟩
  | 72 => ⟨S128x128, .i1⟩
  | 73 => ⟨S_, .f32⟩
  | 74 => ⟨S128x128, .f32⟩
  | 75 => ⟨S128x128, .f32⟩
  | 76 => ⟨S1x128x128, .f32⟩
  | 77 => ⟨S4x128x128, .f32⟩
  | 78 => ⟨S4x128x128, .f32⟩
  | 79 => ⟨S4x16x16x64x128, .f32⟩
  | 80 => ⟨S16x16x128x4x64, .f32⟩
  | 81 => ⟨S128x4, .f32⟩
  | 82 => ⟨S128x4x1, .f32⟩
  | 83 => ⟨S1x1x128x4x1, .f32⟩
  | 84 => ⟨S16x16x128x4x64, .f32⟩
  | 85 => ⟨S16x16x128x4x64, .f32⟩
  | 86 => ⟨S16x2048x256, .f32⟩
  | 87 => ⟨S16x2048x256, .f32⟩
  | 88 => ⟨S_, .f32⟩
  | 89 => ⟨S16x2048x256, .f32⟩
  | 90 => ⟨S16x2048x256, .f32⟩
  | 91 => ⟨S_, .f32⟩
  | 92 => ⟨S16x2048x256, .f32⟩
  | 93 => ⟨S16x2048x256, .f32⟩
  | 94 => ⟨S16x2048x256, .f32⟩
  | 95 => ⟨S16x2048x256, .f32⟩
  | 96 => ⟨S16x2048x256, .f32⟩
  | 97 => ⟨S16x2048x256, .f32⟩
  | 98 => ⟨S32768x1024, .f32⟩
  | 99 => ⟨S32768x1024, .bf16⟩
  | 100 => ⟨S32768x1024, .f32⟩
  | 101 => ⟨S32768x1024, .bf16⟩
  | 102 => ⟨S32768x512, .f32⟩
  | 103 => ⟨S32768x512, .bf16⟩
  | 104 => ⟨S16x2048x512, .f32⟩
  | 105 => ⟨S16x2048x512, .f32⟩
  | 106 => ⟨S_, .f32⟩
  | 107 => ⟨S16x2048x512, .f32⟩
  | 108 => ⟨S16x2048x512, .f32⟩
  | 109 => ⟨S_, .f32⟩
  | 110 => ⟨S16x2048x512, .f32⟩
  | 111 => ⟨S16x2048x512, .f32⟩
  | 112 => ⟨S16x2048x512, .f32⟩
  | 113 => ⟨S32768x512, .f32⟩
  | 114 => ⟨S32768x512, .bf16⟩
  | 115 => ⟨S1x32768x256, .f32⟩
  | 116 => ⟨S1x32768x64, .f32⟩
  | 117 => ⟨S32768x896, .f32⟩
  | 118 => ⟨S16x2048x256, .f32⟩
  | 119 => ⟨S16x2048x256, .f32⟩
  | 120 => ⟨S_, .f32⟩
  | 121 => ⟨S16x2048x256, .f32⟩
  | 122 => ⟨S16x2048x256, .f32⟩
  | 123 => ⟨S_, .f32⟩
  | 124 => ⟨S16x2048x256, .f32⟩
  | 125 => ⟨S16x2048x256, .f32⟩
  | 126 => ⟨S16x2048x256, .f32⟩
  | 127 => ⟨S32768x256, .f32⟩
  | _ => ⟨S16x2048x1024, .f32⟩

abbrev hbmTy0_2 (i : Nat) : BufTy := match i % 128 with
  | 0 => ⟨S32768x256, .f32⟩
  | 1 => ⟨S32768x256, .bf16⟩
  | 2 => ⟨S16x128x256, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_cst_9 : Ref sig .tc := ⟨.hbm, 106, rfl⟩
abbrev main_v83 : Ref sig .tc := ⟨.hbm, 107, rfl⟩
abbrev main_v84 : Ref sig .tc := ⟨.hbm, 108, rfl⟩
abbrev main_cst_10 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_11 : Ref sig .tc := ⟨.hbm, 121, rfl⟩
abbrev main_v96 : Ref sig .tc := ⟨.hbm, 122, rfl⟩
abbrev main_v97 : Ref sig .tc := ⟨.hbm, 123, rfl⟩
abbrev main_cst_12 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_13 : Ref sig .tc := ⟨.hbm, 154, rfl⟩
abbrev main_v127 : Ref sig .tc := ⟨.hbm, 155, rfl⟩
abbrev main_v128 : Ref sig .tc := ⟨.hbm, 156, rfl⟩
abbrev main_cst_14 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_15 : Ref sig .tc := ⟨.hbm, 163, rfl⟩
abbrev main_v134 : Ref sig .tc := ⟨.hbm, 164, rfl⟩
abbrev main_v135 : Ref sig .tc := ⟨.hbm, 165, rfl⟩
abbrev main_cst_16 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_17 : Ref sig .tc := ⟨.hbm, 172, rfl⟩
abbrev main_v141 : Ref sig .tc := ⟨.hbm, 173, rfl⟩
abbrev main_v142 : Ref sig .tc := ⟨.hbm, 174, rfl⟩
abbrev main_cst_18 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_19 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_20 : Ref sig .tc := ⟨.hbm, 193, rfl⟩
abbrev main_v159 : Ref sig .tc := ⟨.hbm, 194, rfl⟩
abbrev main_call0_v0 : Ref sig .tc := ⟨.hbm, 195, rfl⟩
abbrev main_call0_c : Ref sig .tc := ⟨.hbm, 196, rfl⟩
abbrev main_call0_v1 : Ref sig .tc := ⟨.hbm, 197, rfl⟩
abbrev main_call0_v2 : Ref sig .tc := ⟨.hbm, 198, rfl⟩
abbrev main_call0_v3 : Ref sig .tc := ⟨.hbm, 199, rfl⟩
abbrev main_call0_v4 : Ref sig .tc := ⟨.hbm, 200, rfl⟩
abbrev main_call0_cst : Ref sig .tc := ⟨.hbm, 201, rfl⟩
abbrev main_call0_v5 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_call1_v0 : Ref sig .tc := ⟨.hbm, 214, rfl⟩
abbrev main_call1_v1 : Ref sig .tc := ⟨.hbm, 215, rfl⟩
abbrev main_call1_cst : Ref sig .tc := ⟨.hbm, 216, rfl⟩
abbrev main_call1_v2 : Ref sig .tc := ⟨.hbm, 217, rfl⟩
abbrev main_call1_v3 : Ref sig .tc := ⟨.hbm, 218, rfl⟩
abbrev main_call1_cst_0 : Ref sig .tc := ⟨.hbm, 219, rfl⟩
abbrev main_call1_v4 : Ref sig .tc := ⟨.hbm, 220, rfl⟩
abbrev main_call1_v5 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_call2_v0 : Ref sig .tc := ⟨.hbm, 232, rfl⟩
abbrev main_call2_v1 : Ref sig .tc := ⟨.hbm, 233, rfl⟩
abbrev main_call2_cst : Ref sig .tc := ⟨.hbm, 234, rfl⟩
abbrev main_call2_v2 : Ref sig .tc := ⟨.hbm, 235, rfl⟩
abbrev main_call2_v3 : Ref sig .tc := ⟨.hbm, 236, rfl⟩
abbrev main_call2_cst_0 : Ref sig .tc := ⟨.hbm, 237, rfl⟩
abbrev main_call2_v4 : Ref sig .tc := ⟨.hbm, 238, rfl⟩
abbrev main_call2_v5 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_call3_v0 : Ref sig .tc := ⟨.hbm, 246, rfl⟩
abbrev main_call3_v1 : Ref sig .tc := ⟨.hbm, 247, rfl⟩
abbrev main_call3_cst : Ref sig .tc := ⟨.hbm, 248, rfl⟩
abbrev main_call3_v2 : Ref sig .tc := ⟨.hbm, 249, rfl⟩
abbrev main_call3_v3 : Ref sig .tc := ⟨.hbm, 250, rfl⟩
abbrev main_call3_cst_0 : Ref sig .tc := ⟨.hbm, 251, rfl⟩
abbrev main_call3_v4 : Ref sig .tc := ⟨.hbm, 252, rfl⟩
abbrev main_call3_v5 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩

abbrev nD : Nat := 1
abbrev τ : Topo := Topo.v7x

variable {F : FTy → Type} [FloatOps F]
-- ==== SampleKernel.lean ====
abbrev S128x1x1024 : Shape := ⟨3, ![128, 1, 1024]⟩
abbrev S128x3072 : Shape := ⟨2, ![128, 3072]⟩
abbrev S1024 : Shape := ⟨1, ![1024]⟩
abbrev S1024x3136 : Shape := ⟨2, ![1024, 3136]⟩
abbrev S384 : Shape := ⟨1, ![384]⟩
abbrev S256 : Shape := ⟨1, ![256]⟩
abbrev S384x4x192 : Shape := ⟨3, ![384, 4, 192]⟩
abbrev S256x4x128 : Shape := ⟨3, ![256, 4, 128]⟩
abbrev S4x128x128 : Shape := ⟨3, ![4, 128, 128]⟩
abbrev S4x128 : Shape := ⟨2, ![4, 128]⟩
abbrev S1024x64 : Shape := ⟨2, ![1024, 64]⟩
abbrev S1024x384 : Shape := ⟨2, ![1024, 384]⟩
abbrev S1024x32 : Shape := ⟨2, ![1024, 32]⟩
abbrev S1024x256 : Shape := ⟨2, ![1024, 256]⟩
abbrev S1024x2432 : Shape := ⟨2, ![1024, 2432]⟩
abbrev S1024x3200 : Shape := ⟨2, ![1024, 3200]⟩
abbrev S384x4x64 : Shape := ⟨3, ![384, 4, 64]⟩
abbrev S384x4x32 : Shape := ⟨3, ![384, 4, 32]⟩
abbrev S384x4x256 : Shape := ⟨3, ![384, 4, 256]⟩
abbrev S384x1024 : Shape := ⟨2, ![384, 1024]⟩
abbrev S1x1024 : Shape := ⟨2, ![1, 1024]⟩
abbrev S1x384 : Shape := ⟨2, ![1, 384]⟩
abbrev S1x256 : Shape := ⟨2, ![1, 256]⟩
abbrev S4x128x256 : Shape := ⟨3, ![4, 128, 256]⟩
abbrev S4x1x1 : Shape := ⟨3, ![4, 1, 1]⟩
abbrev S4 : Shape := ⟨1, ![4]⟩
abbrev S4x64 : Shape := ⟨2, ![4, 64]⟩
abbrev S4x1 : Shape := ⟨2, ![4, 1]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x128 : Shape := ⟨2, ![128, 128]⟩
abbrev S128x1024 : Shape := ⟨2, ![128, 1024]⟩
abbrev S128x512 : Shape := ⟨2, ![128, 512]⟩
abbrev S128x256 : Shape := ⟨2, ![128, 256]⟩
abbrev S128x896 : Shape := ⟨2, ![128, 896]⟩
abbrev S1024x512 : Shape := ⟨2, ![1024, 512]⟩
abbrev S128x384 : Shape := ⟨2, ![128, 384]⟩
abbrev S1x128x256 : Shape := ⟨3, ![1, 128, 256]⟩
abbrev S1024x896 : Shape := ⟨2, ![1024, 896]⟩

abbrev nBuf : Space → Nat
  | .hbm => 78
  | .vmem => 23
  | .smem => 0
  | _ => 0

abbrev bufTy : (tb : Table) → Fin (tcTables nBuf tb) → BufTy
  | .hbm, ⟨0, _⟩ => ⟨S128x1x1024, .f32⟩
  | .hbm, ⟨1, _⟩ => ⟨S128x3072, .f32⟩
  | .hbm, ⟨2, _⟩ => ⟨S1024, .f32⟩
  | .hbm, ⟨3, _⟩ => ⟨S1024x3136, .f32⟩
  | .hbm, ⟨4, _⟩ => ⟨S384, .f32⟩
  | .hbm, ⟨5, _⟩ => ⟨S256, .f32⟩
  | .hbm, ⟨6, _⟩ => ⟨S384x4x192, .f32⟩
  | .hbm, ⟨7, _⟩ => ⟨S256x4x128, .f32⟩
  | .hbm, ⟨8, _⟩ => ⟨S256, .f32⟩
  | .hbm, ⟨9, _⟩ => ⟨S256, .f32⟩
  | .hbm, ⟨10, _⟩ => ⟨S4x128x128, .f32⟩
  | .hbm, ⟨11, _⟩ => ⟨S4x128, .f32⟩
  | .hbm, ⟨12, _⟩ => ⟨S1024x64, .f32⟩
  | .hbm, ⟨13, _⟩ => ⟨S1024x384, .f32⟩
  | .hbm, ⟨14, _⟩ => ⟨S1024x32, .f32⟩
  | .hbm, ⟨15, _⟩ => ⟨S1024x32, .f32⟩
  | .hbm, ⟨16, _⟩ => ⟨S1024x64, .f32⟩
  | .hbm, ⟨17, _⟩ => ⟨S1024x256, .f32⟩
  | .hbm, ⟨18, _⟩ => ⟨S1024x2432, .f32⟩
  | .hbm, ⟨19, _⟩ => ⟨S1024x3200, .f32⟩
  | .hbm, ⟨20, _⟩ => ⟨S1024x3200, .bf16⟩
  | .hbm, ⟨21, _⟩ => ⟨S384x4x64, .f32⟩
  | .hbm, ⟨22, _⟩ => ⟨S384x4x32, .f32⟩
  | .hbm, ⟨23, _⟩ => ⟨S384x4x32, .f32⟩
  | .hbm, ⟨24, _⟩ => ⟨S384x4x64, .f32⟩
  | .hbm, ⟨25, _⟩ => ⟨S384x4x256, .f32⟩
  | .hbm, ⟨26, _⟩ => ⟨S384x1024, .f32⟩
  | .hbm, ⟨27, _⟩ => ⟨S384x1024, .bf16⟩
  | .hbm, ⟨28, _⟩ => ⟨S1x1024, .f32⟩
  | .hbm, ⟨29, _⟩ => ⟨S1x384, .f32⟩
  | .hbm, ⟨30, _⟩ => ⟨S1x256, .f32⟩
  | .hbm, ⟨31, _⟩ => ⟨S4x128x256, .f32⟩
  | .hbm, ⟨32, _⟩ => ⟨S4x128x256, .bf16⟩
  | .hbm, ⟨33, _⟩ => ⟨S1x256, .f32⟩
  | .hbm, ⟨34, _⟩ => ⟨S1x256, .f32⟩
  | .hbm, ⟨35, _⟩ => ⟨S4x1x1, .f32⟩
  | .hbm, ⟨36, _⟩ => ⟨S4, .f32⟩
  | .hbm, ⟨37, _⟩ => ⟨S4x64, .f32⟩
  | .hbm, ⟨38, _⟩ => ⟨S256, .f32⟩
  | .hbm, ⟨39, _⟩ => ⟨S1x256, .f32⟩
  | .hbm, ⟨40, _⟩ => ⟨S4x1, .f32⟩
  | .hbm, ⟨41, _⟩ => ⟨S4, .f32⟩
  | .hbm, ⟨42, _⟩ => ⟨S4x64, .f32⟩
  | .hbm, ⟨43, _⟩ => ⟨S256, .f32⟩
  | .hbm, ⟨44, _⟩ => ⟨S1x256, .f32⟩
  | .hbm, ⟨45, _⟩ => ⟨S_, .i32⟩
  | .hbm, ⟨46, _⟩ => ⟨S128, .i32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S128, .f32⟩
  | .hbm, ⟨56, _⟩ => ⟨S128x1, .f32⟩
  | .hbm, ⟨57, _⟩ => ⟨S1x32, .f32⟩
  | .hbm, ⟨58, _⟩ => ⟨S128x32, .f32⟩
  | .hbm, ⟨59, _⟩ => ⟨S128x32, .f32⟩
  | .hbm, ⟨60, _⟩ => ⟨S128x32, .f32⟩
  | .hbm, ⟨61, _⟩ => ⟨S128x32, .f32⟩
  | .hbm, ⟨62, _⟩ => ⟨S128x32, .f32⟩
  | .hbm, ⟨63, _⟩ => ⟨S_, .f32⟩
  | .hbm, ⟨64, _⟩ => ⟨S128x64, .f32⟩
  | .hbm, ⟨65, _⟩ => ⟨S128x128, .f32⟩
  | .hbm, ⟨66, _⟩ => ⟨S128x32, .f32⟩
  | .hbm, ⟨67, _⟩ => ⟨S128x128, .f32⟩
  | .hbm, ⟨68, _⟩ => ⟨S128x1024, .f32⟩
  | .hbm, ⟨69, _⟩ => ⟨S128x1024, .f32⟩
  | .hbm, ⟨70, _⟩ => ⟨S128x512, .f32⟩
  | .hbm, ⟨71, _⟩ => ⟨S128x512, .bf16⟩
  | .hbm, ⟨72, _⟩ => ⟨S128x256, .f32⟩
  | .hbm, ⟨73, _⟩ => ⟨S128x128, .f32⟩
  | .hbm, ⟨74, _⟩ => ⟨S128x896, .f32⟩
  | .hbm, ⟨75, _⟩ => ⟨S128x256, .f32⟩
  | .hbm, ⟨76, _⟩ => ⟨S128x256, .bf16⟩
  | .hbm, ⟨77, _⟩ => ⟨S128x256, .f32⟩
  | .local _ .vmem, ⟨0, _⟩ => ⟨S128x1024, .f32⟩
  | .local _ .vmem, ⟨1, _⟩ => ⟨S128x3072, .f32⟩
  | .local _ .vmem, ⟨2, _⟩ => ⟨S1x1024, .f32⟩
  | .local _ .vmem, ⟨3, _⟩ => ⟨S1024x3200, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S4x128x256, .bf16⟩
  | .local _ .vmem, ⟨8, _⟩ => ⟨S128x128, .f32⟩
  | .local _ .vmem, ⟨9, _⟩ => ⟨S128x128, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S128x1024, .f32⟩
  | .local _ .vmem, ⟨15, _⟩ => ⟨S128x512, .f32⟩
  | .local _ .vmem, ⟨16, _⟩ => ⟨S128x512, .bf16⟩
  | .local _ .vmem, ⟨17, _⟩ => ⟨S128x256, .f32⟩
  | .local _ .vmem, ⟨18, _⟩ => ⟨S128x128, .f32⟩
  | .local _ .vmem, ⟨19, _⟩ => ⟨S128x896, .f32⟩
  | .local _ .vmem, ⟨20, _⟩ => ⟨S128x256, .f32⟩
  | .local _ .vmem, ⟨21, _⟩ => ⟨S128x256, .bf16⟩
  | .local _ .vmem, ⟨22, _⟩ => ⟨S128x256, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_cst_0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53_0 : Ref sig .tc := ⟨.hbm, 69, rfl⟩
abbrev main_v53_1 : Ref sig .tc := ⟨.hbm, 70, rfl⟩
abbrev main_v53_2 : Ref sig .tc := ⟨.hbm, 71, rfl⟩
abbrev main_v53_3 : Ref sig .tc := ⟨.hbm, 72, rfl⟩
abbrev main_v53_4 : Ref sig .tc := ⟨.hbm, 73, rfl⟩
abbrev main_v53_5 : Ref sig .tc := ⟨.hbm, 74, rfl⟩
abbrev main_v53_6 : Ref sig .tc := ⟨.hbm, 75, rfl⟩
abbrev main_v53_7 : Ref sig .tc := ⟨.hbm, 76, rfl⟩
abbrev main_v53_8 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x896 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== SampleReferenceIdeal.lean ====
abbrev S128x1x1024 : Shape := ⟨3, ![128, 1, 1024]⟩
abbrev S128x3072 : Shape := ⟨2, ![128, 3072]⟩
abbrev S1024 : Shape := ⟨1, ![1024]⟩
abbrev S1024x3136 : Shape := ⟨2, ![1024, 3136]⟩
abbrev S384 : Shape := ⟨1, ![384]⟩
abbrev S256 : Shape := ⟨1, ![256]⟩
abbrev S384x4x192 : Shape := ⟨3, ![384, 4, 192]⟩
abbrev S256x4x128 : Shape := ⟨3, ![256, 4, 128]⟩
abbrev S4x128x128 : Shape := ⟨3, ![4, 128, 128]⟩
abbrev S4x128 : Shape := ⟨2, ![4, 128]⟩
abbrev S1 : Shape := ⟨1, ![1]⟩
abbrev S_ : Shape := ⟨0, ![]⟩
abbrev S128x1024 : Shape := ⟨2, ![128, 1024]⟩
abbrev S128x1 : Shape := ⟨2, ![128, 1]⟩
abbrev S128x1x1 : Shape := ⟨3, ![128, 1, 1]⟩
abbrev S1x1x1024 : Shape := ⟨3, ![1, 1, 1024]⟩
abbrev S128x1x3136 : Shape := ⟨3, ![128, 1, 3136]⟩
abbrev S128x1x384 : Shape := ⟨3, ![128, 1, 384]⟩
abbrev S128x1x256 : Shape := ⟨3, ![128, 1, 256]⟩
abbrev S128x1x64 : Shape := ⟨3, ![128, 1, 64]⟩
abbrev S128x1x512 : Shape := ⟨3, ![128, 1, 512]⟩
abbrev S128x1x896 : Shape := ⟨3, ![128, 1, 896]⟩
abbrev S1x1x384 : Shape := ⟨3, ![1, 1, 384]⟩
abbrev S128x1x4x192 : Shape := ⟨4, ![128, 1, 4, 192]⟩
abbrev S128x1x4x128 : Shape := ⟨4, ![128, 1, 4, 128]⟩
abbrev S128x1x4x64 : Shape := ⟨4, ![128, 1, 4, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S128x1x4x32 : Shape := ⟨4, ![128, 1, 4, 32]⟩
abbrev S1x1x256 : Shape := ⟨3, ![1, 1, 256]⟩
abbrev S128x1x1x64 : Shape := ⟨4, ![128, 1, 1, 64]⟩
abbrev S128x1x1x32 : Shape := ⟨4, ![128, 1, 1, 32]⟩
abbrev S4x256x128x1 : Shape := ⟨4, ![4, 256, 128, 1]⟩
abbrev S128x1x4x256 : Shape := ⟨4, ![128, 1, 4, 256]⟩
abbrev S128x1x128 : Shape := ⟨3, ![128, 1, 128]⟩
abbrev S128x128x256 : Shape := ⟨3, ![128, 128, 256]⟩
abbrev S128x1x128x4x64 : Shape := ⟨5, ![128, 1, 128, 4, 64]⟩
abbrev S128x128 : Shape := ⟨2, ![128, 128]⟩
abbrev S1x128x128 : Shape := ⟨3, ![1, 128, 128]⟩
abbrev S4x128x1x64x128 : Shape := ⟨5, ![4, 128, 1, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S128x512 : Shape := ⟨2, ![128, 512]⟩
abbrev S128x256 : Shape := ⟨2, ![128, 256]⟩
abbrev S128x896 : Shape := ⟨2, ![128, 896]⟩

abbrev nBuf : Space → Nat
  | .hbm => 259
  | .vmem => 0
  | .smem => 0
  | _ => 0

abbrev hbmTy0_0 (i : Nat) : BufTy := match i % 128 with
  | 0 => ⟨S128x1x1024, .f32⟩
  | 1 => ⟨S128x3072, .f32⟩
  | 2 => ⟨S1024, .f32⟩
  | 3 => ⟨S1024x3136, .f32⟩
  | 4 => ⟨S384, .f32⟩
  | 5 => ⟨S256, .f32⟩
  | 6 => ⟨S384x4x192, .f32⟩
  | 7 => ⟨S256x4x128, .f32⟩
  | 8 => ⟨S256, .f32⟩
  | 9 => ⟨S256, .f32⟩
  | 10 => ⟨S4x128x128, .f32⟩
  | 11 => ⟨S4x128, .f32⟩
  | 12 => ⟨S1, .i32⟩
  | 13 => ⟨S_, .i32⟩
  | 14 => ⟨S1, .i32⟩
  | 15 => ⟨S1, .i32⟩
  | 16 => ⟨S128x1024, .f32⟩
  | 17 => ⟨S128x1024, .f32⟩
  | 18 => ⟨S128x1024, .f32⟩
  | 19 => ⟨S128x1x1024, .f32⟩
  | 20 => ⟨S_, .f32⟩
  | 21 => ⟨S128x1, .f32⟩
  | 22 => ⟨S128x1x1, .f32⟩
  | 23 => ⟨S_, .f32⟩
  | 24 => ⟨S128x1x1, .f32⟩
  | 25 => ⟨S128x1x1, .f32⟩
  | 26 => ⟨S_, .f32⟩
  | 27 => ⟨S128x1x1, .f32⟩
  | 28 => ⟨S128x1x1, .f32⟩
  | 29 => ⟨S128x1x1, .f32⟩
  | 30 => ⟨S128x1x1024, .f32⟩
  | 31 => ⟨S128x1x1024, .f32⟩
  | 32 => ⟨S1x1x1024, .f32⟩
  | 33 => ⟨S128x1x1024, .f32⟩
  | 34 => ⟨S128x1x1024, .f32⟩
  | 35 => ⟨S128x1x1024, .f32⟩
  | 36 => ⟨S_, .f32⟩
  | 37 => ⟨S128x1x1024, .f32⟩
  | 38 => ⟨S128x1x1024, .f32⟩
  | 39 => ⟨S128x1x1024, .f32⟩
  | 40 => ⟨S128x1x1024, .f32⟩
  | 41 => ⟨S128x1x1024, .f32⟩
  | 42 => ⟨S128x1x3136, .f32⟩
  | 43 => ⟨S128x1x384, .f32⟩
  | 44 => ⟨S128x1x256, .f32⟩
  | 45 => ⟨S128x1x64, .f32⟩
  | 46 => ⟨S128x1x512, .f32⟩
  | 47 => ⟨S128x1x896, .f32⟩
  | 48 => ⟨S128x1x256, .f32⟩
  | 49 => ⟨S128x1x256, .f32⟩
  | 50 => ⟨S128x1x256, .f32⟩
  | 51 => ⟨S128x1x256, .f32⟩
  | 52 => ⟨S128x1x384, .f32⟩
  | 53 => ⟨S_, .f32⟩
  | 54 => ⟨S128x1, .f32⟩
  | 55 => ⟨S128x1x1, .f32⟩
  | 56 => ⟨S_, .f32⟩
  | 57 => ⟨S128x1x1, .f32⟩
  | 58 => ⟨S128x1x1, .f32⟩
  | 59 => ⟨S_, .f32⟩
  | 60 => ⟨S128x1x1, .f32⟩
  | 61 => ⟨S128x1x1, .f32⟩
  | 62 => ⟨S128x1x1, .f32⟩
  | 63 => ⟨S128x1x384, .f32⟩
  | 64 => ⟨S128x1x384, .f32⟩
  | 65 => ⟨S1x1x384, .f32⟩
  | 66 => ⟨S128x1x384, .f32⟩
  | 67 => ⟨S128x1x384, .f32⟩
  | 68 => ⟨S128x1x4x192, .f32⟩
  | 69 => ⟨S128x1x4x128, .f32⟩
  | 70 => ⟨S128x1x4x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S1, .f32⟩
  | 80 => ⟨S1x1, .f32⟩
  | 81 => ⟨S1x32, .f32⟩
  | 82 => ⟨S1x32, .f32⟩
  | 83 => ⟨S1x32, .f32⟩
  | 84 => ⟨S1x32, .f32⟩
  | 85 => ⟨S1x1x1x32, .f32⟩
  | 86 => ⟨S1x32, .f32⟩
  | 87 => ⟨S1x1x1x32, .f32⟩
  | 88 => ⟨S128x1x4x32, .f32⟩
  | 89 => ⟨S128x1x4x32, .f32⟩
  | 90 => ⟨S128x1x4x32, .f32⟩
  | 91 => ⟨S128x1x4x32, .f32⟩
  | 92 => ⟨S128x1x4x32, .f32⟩
  | 93 => ⟨S128x1x4x32, .f32⟩
  | 94 => ⟨S128x1x4x32, .f32⟩
  | 95 => ⟨S128x1x4x32, .f32⟩
  | 96 => ⟨S128x1x4x32, .f32⟩
  | 97 => ⟨S128x1x4x32, .f32⟩
  | 98 => ⟨S128x1x4x32, .f32⟩
  | 99 => ⟨S128x1x4x32, .f32⟩
  | 100 => ⟨S128x1x4x64, .f32⟩
  | 101 => ⟨S128x1x256, .f32⟩
  | 102 => ⟨S_, .f32⟩
  | 103 => ⟨S128x1, .f32⟩
  | 104 => ⟨S128x1x1, .f32⟩
  | 105 => ⟨S_, .f32⟩
  | 106 => ⟨S128x1x1, .f32⟩
  | 107 => ⟨S128x1x1, .f32⟩
  | 108 => ⟨S_, .f32⟩
  | 109 => ⟨S128x1x1, .f32⟩
  | 110 => ⟨S128x1x1, .f32⟩
  | 111 => ⟨S128x1x1, .f32⟩
  | 112 => ⟨S128x1x256, .f32⟩
  | 113 => ⟨S128x1x256, .f32⟩
  | 114 => ⟨S1x1x256, .f32⟩
  | 115 => ⟨S128x1x256, .f32⟩
  | 116 => ⟨S128x1x256, .f32⟩
  | 117 => ⟨S128x1x1x64, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S1, .f32⟩
  | 127 => ⟨S1x1, .f32⟩
  | _ => ⟨S128x1x1024, .f32⟩

abbrev hbmTy0_1 (i : Nat) : BufTy := match i % 128 with
  | 0 => ⟨S1x32, .f32⟩
  | 1 => ⟨S1x32, .f32⟩
  | 2 => ⟨S1x32, .f32⟩
  | 3 => ⟨S1x32, .f32⟩
  | 4 => ⟨S1x1x1x32, .f32⟩
  | 5 => ⟨S1x32, .f32⟩
  | 6 => ⟨S1x1x1x32, .f32⟩
  | 7 => ⟨S128x1x1x32, .f32⟩
  | 8 => ⟨S128x1x1x32, .f32⟩
  | 9 => ⟨S128x1x1x32, .f32⟩
  | 10 => ⟨S128x1x1x32, .f32⟩
  | 11 => ⟨S128x1x1x32, .f32⟩
  | 12 => ⟨S128x1x1x32, .f32⟩
  | 13 => ⟨S128x1x1x32, .f32⟩
  | 14 => ⟨S128x1x1x32, .f32⟩
  | 15 => ⟨S128x1x1x32, .f32⟩
  | 16 => ⟨S128x1x1x32, .f32⟩
  | 17 => ⟨S128x1x1x32, .f32⟩
  | 18 => ⟨S128x1x1x32, .f32⟩
  | 19 => ⟨S128x1x1x64, .f32⟩
  | 20 => ⟨S128x1x64, .f32⟩
  | 21 => ⟨S_, .f32⟩
  | 22 => ⟨S128x1x4x128, .f32⟩
  | 23 => ⟨S128x1x4x128, .f32⟩
  | 24 => ⟨S4x256x128x1, .f32⟩
  | 25 => ⟨S128x1x4x256, .f32⟩
  | 26 => ⟨S_, .f32⟩
  | 27 => ⟨S128x1x4x64, .f32⟩
  | 28 => ⟨S128x1x4x128, .f32⟩
  | 29 => ⟨S_, .f32⟩
  | 30 => ⟨S128x1x4x128, .f32⟩
  | 31 => ⟨S128x1x4x128, .f32⟩
  | 32 => ⟨S_, .f32⟩
  | 33 => ⟨S128x1x64, .f32⟩
  | 34 => ⟨S128x1x128, .f32⟩
  | 35 => ⟨S_, .f32⟩
  | 36 => ⟨S128x1, .f32⟩
  | 37 => ⟨S128x1x1, .f32⟩
  | 38 => ⟨S_, .f32⟩
  | 39 => ⟨S128x1x1, .f32⟩
  | 40 => ⟨S128x1x1, .f32⟩
  | 41 => ⟨S128x1x256, .f32⟩
  | 42 => ⟨S128x1x256, .f32⟩
  | 43 => ⟨S128x1x256, .f32⟩
  | 44 => ⟨S_, .f32⟩
  | 45 => ⟨S128x1, .f32⟩
  | 46 => ⟨S128x1x1, .f32⟩
  | 47 => ⟨S_, .f32⟩
  | 48 => ⟨S128x1x1, .f32⟩
  | 49 => ⟨S128x1x1, .f32⟩
  | 50 => ⟨S128x1x256, .f32⟩
  | 51 => ⟨S128x1x256, .f32⟩
  | 52 => ⟨S_, .f32⟩
  | 53 => ⟨S128x1x1, .f32⟩
  | 54 => ⟨S128x1x1, .f32⟩
  | 55 => ⟨S128x1x1, .f32⟩
  | 56 => ⟨S128x1x256, .f32⟩
  | 57 => ⟨S128x1x256, .f32⟩
  | 58 => ⟨S1x1x256, .f32⟩
  | 59 => ⟨S128x1x256, .f32⟩
  | 60 => ⟨S128x1x256, .f32⟩
  | 61 => ⟨S1x1x256, .f32⟩
  | 62 => ⟨S128x1x256, .f32⟩
  | 63 => ⟨S128x1x256, .f32⟩
  | 64 => ⟨S_, .i32⟩
  | 65 => ⟨S_, .f32⟩
  | 66 => ⟨S128x128x256, .f32⟩
  | 67 => ⟨S128x1x128x4x64, .f32⟩
  | 68 => ⟨S_, .f32⟩
  | 69 => ⟨S128x128, .f32⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S1x128x128, .f32⟩
  | 80 => ⟨S4x128x128, .f32⟩
  | 81 => ⟨S4x128x128, .f32⟩
  | 82 => ⟨S4x128x1x64x128, .f32⟩
  | 83 => ⟨S128x1x128x4x64, .f32⟩
  | 84 => ⟨S128x4, .f32⟩
  | 85 => ⟨S128x4x1, .f32⟩
  | 86 => ⟨S1x1x128x4x1, .f32⟩
  | 87 => ⟨S128x1x128x4x64, .f32⟩
  | 88 => ⟨S128x1x128x4x64, .f32⟩
  | 89 => ⟨S128x1x256, .f32⟩
  | 90 => ⟨S128x1x256, .f32⟩
  | 91 => ⟨S_, .f32⟩
  | 92 => ⟨S128x1x256, .f32⟩
  | 93 => ⟨S128x1x256, .f32⟩
  | 94 => ⟨S_, .f32⟩
  | 95 => ⟨S128x1x256, .f32⟩
  | 96 => ⟨S128x1x256, .f32⟩
  | 97 => ⟨S128x1x256, .f32⟩
  | 98 => ⟨S128x128x256, .f32⟩
  | 99 => ⟨S128x1x256, .f32⟩
  | 100 => ⟨S128x1x256, .f32⟩
  | 101 => ⟨S128x1x256, .f32⟩
  | 102 => ⟨S128x1024, .f32⟩
  | 103 => ⟨S128x512, .f32⟩
  | 104 => ⟨S128x1x512, .f32⟩
  | 105 => ⟨S128x1x512, .f32⟩
  | 106 => ⟨S_, .f32⟩
  | 107 => ⟨S128x1x512, .f32⟩
  | 108 => ⟨S128x1x512, .f32⟩
  | 109 => ⟨S_, .f32⟩
  | 110 => ⟨S128x1x512, .f32⟩
  | 111 => ⟨S128x1x512, .f32⟩
  | 112 => ⟨S128x1x512, .f32⟩
  | 113 => ⟨S128x512, .f32⟩
  | 114 => ⟨S128x512, .bf16⟩
  | 115 => ⟨S128x256, .f32⟩
  | 116 => ⟨S128x128, .f32⟩
  | 117 => ⟨S128x896, .f32⟩
  | 118 => ⟨S128x1x256, .f32⟩
  | 119 => ⟨S128x1x256, .f32⟩
  | 120 => ⟨S_, .f32⟩
  | 121 => ⟨S128x1x256, .f32⟩
  | 122 => ⟨S128x1x256, .f32⟩
  | 123 => ⟨S_, .f32⟩
  | 124 => ⟨S128x1x256, .f32⟩
  | 125 => ⟨S128x1x256, .f32⟩
  | 126 => ⟨S128x1x256, .f32⟩
  | 127 => ⟨S128x256, .f32⟩
  | _ => ⟨S128x1x1024, .f32⟩

abbrev hbmTy0_2 (i : Nat) : BufTy := match i % 128 with
  | 0 => ⟨S128x256, .f32⟩
  | 1 => ⟨S128x256, .bf16⟩
  | 2 => ⟨S128x256, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_8 : Ref sig .tc := ⟨.hbm, 102, rfl⟩
abbrev main_v80 : Ref sig .tc := ⟨.hbm, 103, rfl⟩
abbrev main_v81 : Ref sig .tc := ⟨.hbm, 104, rfl⟩
abbrev main_cst_9 : Ref sig .tc := ⟨.hbm, 105, rfl⟩
abbrev main_v82 : Ref sig .tc := ⟨.hbm, 106, rfl⟩
abbrev main_v83 : Ref sig .tc := ⟨.hbm, 107, rfl⟩
abbrev main_cst_10 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_11 : Ref sig .tc := ⟨.hbm, 120, rfl⟩
abbrev main_v95 : Ref sig .tc := ⟨.hbm, 121, rfl⟩
abbrev main_v96 : Ref sig .tc := ⟨.hbm, 122, rfl⟩
abbrev main_cst_12 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_13 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_cst_15 : Ref sig .tc := ⟨.hbm, 157, rfl⟩
abbrev main_v128 : Ref sig .tc := ⟨.hbm, 158, rfl⟩
abbrev main_v129 : Ref sig .tc := ⟨.hbm, 159, rfl⟩
abbrev main_cst_16 : Ref sig .tc := ⟨.hbm, 160, rfl⟩
abbrev main_v130 : Ref sig .tc := ⟨.hbm, 161, rfl⟩
abbrev main_v131 : Ref sig .tc := ⟨.hbm, 162, rfl⟩
abbrev main_cst_17 : Ref sig .tc := ⟨.hbm, 163, rfl⟩
abbrev main_v132 : Ref sig .tc := ⟨.hbm, 164, rfl⟩
abbrev main_v133 : Ref sig .tc := ⟨.hbm, 165, rfl⟩
abbrev main_cst_18 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_19 : Ref sig .tc := ⟨.hbm, 172, rfl⟩
abbrev main_v139 : Ref sig .tc := ⟨.hbm, 173, rfl⟩
abbrev main_v140 : Ref sig .tc := ⟨.hbm, 174, rfl⟩
abbrev main_cst_20 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_21 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_c_22 : Ref sig .tc := ⟨.hbm, 192, rfl⟩
abbrev main_call0_v0 : Ref sig .tc := ⟨.hbm, 193, rfl⟩
abbrev main_v156 : Ref sig .tc := ⟨.hbm, 194, rfl⟩
abbrev main_v157 : Ref sig .tc := ⟨.hbm, 195, rfl⟩
abbrev main_cst_23 : Ref sig .tc := ⟨.hbm, 196, rfl⟩
abbrev main_v158 : Ref sig .tc := ⟨.hbm, 197, rfl⟩
abbrev main_call1_v0 : Ref sig .tc := ⟨.hbm, 198, rfl⟩
abbrev main_call1_c : Ref sig .tc := ⟨.hbm, 199, rfl⟩
abbrev main_call1_v1 : Ref sig .tc := ⟨.hbm, 200, rfl⟩
abbrev main_call1_v2 : Ref sig .tc := ⟨.hbm, 201, rfl⟩
abbrev main_call1_v3 : Ref sig .tc := ⟨.hbm, 202, rfl⟩
abbrev main_call1_v4 : Ref sig .tc := ⟨.hbm, 203, rfl⟩
abbrev main_call1_cst : Ref sig .tc := ⟨.hbm, 204, rfl⟩
abbrev main_call1_v5 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_call2_v0 : Ref sig .tc := ⟨.hbm, 217, rfl⟩
abbrev main_call2_v1 : Ref sig .tc := ⟨.hbm, 218, rfl⟩
abbrev main_call2_cst : Ref sig .tc := ⟨.hbm, 219, rfl⟩
abbrev main_call2_v2 : Ref sig .tc := ⟨.hbm, 220, rfl⟩
abbrev main_call2_v3 : Ref sig .tc := ⟨.hbm, 221, rfl⟩
abbrev main_call2_cst_0 : Ref sig .tc := ⟨.hbm, 222, rfl⟩
abbrev main_call2_v4 : Ref sig .tc := ⟨.hbm, 223, rfl⟩
abbrev main_call2_v5 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_call3_v0 : Ref sig .tc := ⟨.hbm, 232, rfl⟩
abbrev main_call3_v1 : Ref sig .tc := ⟨.hbm, 233, rfl⟩
abbrev main_call3_cst : Ref sig .tc := ⟨.hbm, 234, rfl⟩
abbrev main_call3_v2 : Ref sig .tc := ⟨.hbm, 235, rfl⟩
abbrev main_call3_v3 : Ref sig .tc := ⟨.hbm, 236, rfl⟩
abbrev main_call3_cst_0 : Ref sig .tc := ⟨.hbm, 237, rfl⟩
abbrev main_call3_v4 : Ref sig .tc := ⟨.hbm, 238, rfl⟩
abbrev main_call3_v5 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_call4_v0 : Ref sig .tc := ⟨.hbm, 246, rfl⟩
abbrev main_call4_v1 : Ref sig .tc := ⟨.hbm, 247, rfl⟩
abbrev main_call4_cst : Ref sig .tc := ⟨.hbm, 248, rfl⟩
abbrev main_call4_v2 : Ref sig .tc := ⟨.hbm, 249, rfl⟩
abbrev main_call4_v3 : Ref sig .tc := ⟨.hbm, 250, rfl⟩
abbrev main_call4_cst_0 : Ref sig .tc := ⟨.hbm, 251, rfl⟩
abbrev main_call4_v4 : Ref sig .tc := ⟨.hbm, 252, rfl⟩
abbrev main_call4_v5 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩

abbrev nD : Nat := 1
abbrev τ : Topo := Topo.v7x

variable {F : FTy → Type} [FloatOps F]
-- ==== StepKernel.lean ====
abbrev S128x256 : Shape := ⟨2, ![128, 256]⟩
abbrev S2x128x4x64x64 : Shape := ⟨5, ![2, 128, 4, 64, 64]⟩
abbrev S2x4x64x64x128 : Shape := ⟨5, ![2, 4, 64, 64, 128]⟩
abbrev S1x128x256 : Shape := ⟨3, ![1, 128, 256]⟩
abbrev S6x128x256 : Shape := ⟨3, ![6, 128, 256]⟩
abbrev S6x128x4x64 : Shape := ⟨4, ![6, 128, 4, 64]⟩
abbrev S6x4x64x128 : Shape := ⟨4, ![6, 4, 64, 128]⟩
abbrev S4x64x128 : Shape := ⟨3, ![4, 64, 128]⟩
abbrev S1x4x64x64x128 : Shape := ⟨5, ![1, 4, 64, 64, 128]⟩
abbrev S6x1x64x128 : Shape := ⟨4, ![6, 1, 64, 128]⟩
abbrev S1x1x64x64x128 : Shape := ⟨5, ![1, 1, 64, 64, 128]⟩
abbrev S1x64x128 : Shape := ⟨3, ![1, 64, 128]⟩
abbrev S1x1x64x128 : Shape := ⟨4, ![1, 1, 64, 128]⟩
abbrev S64x128 : Shape := ⟨2, ![64, 128]⟩
abbrev S1x1x1x64x128 : Shape := ⟨5, ![1, 1, 1, 64, 128]⟩
abbrev S128 : Shape := ⟨1, ![128]⟩
abbrev S1x128 : Shape := ⟨2, ![1, 128]⟩
abbrev S1x1x1x128 : Shape := ⟨4, ![1, 1, 1, 128]⟩
abbrev S1x1x128 : Shape := ⟨3, ![1, 1, 128]⟩
abbrev S128x4x64 : Shape := ⟨3, ![128, 4, 64]⟩
abbrev S1x128x4x64x64 : Shape := ⟨5, ![1, 128, 4, 64, 64]⟩

abbrev nBuf : Space → Nat
  | .hbm => 22
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S2x128x4x64x64, .f32⟩
  | .hbm, ⟨7, _⟩ => ⟨S2x4x64x64x128, .f32⟩
  | .hbm, ⟨8, _⟩ => ⟨S1x128x256, .f32⟩
  | .hbm, ⟨9, _⟩ => ⟨S1x128x256, .f32⟩
  | .hbm, ⟨10, _⟩ => ⟨S1x128x256, .f32⟩
  | .hbm, ⟨11, _⟩ => ⟨S1x128x256, .f32⟩
  | .hbm, ⟨12, _⟩ => ⟨S1x128x256, .f32⟩
  | .hbm, ⟨13, _⟩ => ⟨S1x128x256, .f32⟩
  | .hbm, ⟨14, _⟩ => ⟨S6x128x256, .f32⟩
  | .hbm, ⟨15, _⟩ => ⟨S6x128x4x64, .f32⟩
  | .hbm, ⟨16, _⟩ => ⟨S6x4x64x128, .f32⟩
  | .hbm, ⟨17, _⟩ => ⟨S4x64x128, .f32⟩
  | .hbm, ⟨18, _⟩ => ⟨S1x4x64x64x128, .f32⟩
  | .hbm, ⟨19, _⟩ => ⟨S128x4x64, .f32⟩
  | .hbm, ⟨20, _⟩ => ⟨S128x256, .f32⟩
  | .hbm, ⟨21, _⟩ => ⟨S1x128x4x64x64, .f32⟩
  | .local _ .vmem, ⟨0, _⟩ => ⟨S6x1x64x128, .f32⟩
  | .local _ .vmem, ⟨1, _⟩ => ⟨S6x1x64x128, .f32⟩
  | .local _ .vmem, ⟨2, _⟩ => ⟨S1x1x64x64x128, .f32⟩
  | .local _ .vmem, ⟨3, _⟩ => ⟨S1x1x64x64x128, .f32⟩
  | .local _ .vmem, ⟨4, _⟩ => ⟨S1x64x128, .f32⟩
  | .local _ .vmem, ⟨5, _⟩ => ⟨S1x64x128, .f32⟩
  | .local _ .vmem, ⟨6, _⟩ => ⟨S1x1x64x64x128, .f32⟩
  | .local _ .vmem, ⟨7, _⟩ => ⟨S1x1x64x64x128, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S6x1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== StepReferenceIdeal.lean ====
abbrev S128x256 : Shape := ⟨2, ![128, 256]⟩
abbrev S2x128x4x64x64 : Shape := ⟨5, ![2, 128, 4, 64, 64]⟩
abbrev S128x4x64 : Shape := ⟨3, ![128, 4, 64]⟩
abbrev S1x128x4x64x64 : Shape := ⟨5, ![1, 128, 4, 64, 64]⟩
abbrev S128x4x64x64 : Shape := ⟨4, ![128, 4, 64, 64]⟩
abbrev S128x4x1x64 : Shape := ⟨4, ![128, 4, 1, 64]⟩
abbrev S128x4x64x1 : Shape := ⟨4, ![128, 4, 64, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S2x128x4x64x64, .f32⟩
  | .hbm, ⟨7, _⟩ => ⟨S128x4x64, .f32⟩
  | .hbm, ⟨8, _⟩ => ⟨S128x4x64, .f32⟩
  | .hbm, ⟨9, _⟩ => ⟨S128x4x64, .f32⟩
  | .hbm, ⟨10, _⟩ => ⟨S128x4x64, .f32⟩
  | .hbm, ⟨11, _⟩ => ⟨S128x4x64, .f32⟩
  | .hbm, ⟨12, _⟩ => ⟨S128x4x64, .f32⟩
  | .hbm, ⟨13, _⟩ => ⟨S1x128x4x64x64, .f32⟩
  | .hbm, ⟨14, _⟩ => ⟨S128x4x64x64, .f32⟩
  | .hbm, ⟨15, _⟩ => ⟨S128x4x64, .f32⟩
  | .hbm, ⟨16, _⟩ => ⟨S128x4x1x64, .f32⟩
  | .hbm, ⟨17, _⟩ => ⟨S128x4x64x64, .f32⟩
  | .hbm, ⟨18, _⟩ => ⟨S128x4x64x64, .f32⟩
  | .hbm, ⟨19, _⟩ => ⟨S128x4x64x1, .f32⟩
  | .hbm, ⟨20, _⟩ => ⟨S128x4x1x64, .f32⟩
  | .hbm, ⟨21, _⟩ => ⟨S128x4x64x64, .f32⟩
  | .hbm, ⟨22, _⟩ => ⟨S128x4x64x64, .f32⟩
  | .hbm, ⟨23, _⟩ => ⟨S128x4x64x64, .f32⟩
  | .hbm, ⟨24, _⟩ => ⟨S128x4x64x64, .f32⟩
  | .hbm, ⟨25, _⟩ => ⟨S128x4x64x1, .f32⟩
  | .hbm, ⟨26, _⟩ => ⟨S128x4x1x64, .f32⟩
  | .hbm, ⟨27, _⟩ => ⟨S128x4x64x64, .f32⟩
  | .hbm, ⟨28, _⟩ => ⟨S128x4x64x64, .f32⟩
  | .hbm, ⟨29, _⟩ => ⟨S128x4x64x64, .f32⟩
  | .hbm, ⟨30, _⟩ => ⟨S128x4x64x64, .f32⟩
  | .hbm, ⟨31, _⟩ => ⟨S128x4x64, .f32⟩
  | .hbm, ⟨32, _⟩ => ⟨S128x256, .f32⟩
  | .hbm, ⟨33, _⟩ => ⟨S1x128x4x64x64, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== LastKernel.lean ====
abbrev S128x1024 : Shape := ⟨2, ![128, 1024]⟩
abbrev S128x512 : Shape := ⟨2, ![128, 512]⟩
abbrev S128x256 : Shape := ⟨2, ![128, 256]⟩
abbrev S128x1x1024 : Shape := ⟨3, ![128, 1, 1024]⟩
abbrev S128x3072 : Shape := ⟨2, ![128, 3072]⟩
abbrev S1024x1024 : Shape := ⟨2, ![1024, 1024]⟩
abbrev S1024 : Shape := ⟨1, ![1024]⟩
abbrev S256 : Shape := ⟨1, ![256]⟩
abbrev S256x4x128 : Shape := ⟨3, ![256, 4, 128]⟩
abbrev S1x1024 : Shape := ⟨2, ![1, 1024]⟩
abbrev S1x256 : Shape := ⟨2, ![1, 256]⟩
abbrev S4x256x128 : Shape := ⟨3, ![4, 256, 128]⟩
abbrev S1x256x128 : Shape := ⟨3, ![1, 256, 128]⟩
abbrev S256x128 : Shape := ⟨2, ![256, 128]⟩
abbrev S128x128 : Shape := ⟨2, ![128, 128]⟩
abbrev S256x256 : Shape := ⟨2, ![256, 256]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .bf16⟩
  | .hbm, ⟨6, _⟩ => ⟨S128x1x1024, .f32⟩
  | .hbm, ⟨7, _⟩ => ⟨S128x3072, .f32⟩
  | .hbm, ⟨8, _⟩ => ⟨S1024x1024, .f32⟩
  | .hbm, ⟨9, _⟩ => ⟨S1024, .f32⟩
  | .hbm, ⟨10, _⟩ => ⟨S256, .f32⟩
  | .hbm, ⟨11, _⟩ => ⟨S256, .f32⟩
  | .hbm, ⟨12, _⟩ => ⟨S256x4x128, .f32⟩
  | .hbm, ⟨13, _⟩ => ⟨S1024x1024, .bf16⟩
  | .hbm, ⟨14, _⟩ => ⟨S1x1024, .f32⟩
  | .hbm, ⟨15, _⟩ => ⟨S1x256, .f32⟩
  | .hbm, ⟨16, _⟩ => ⟨S1x256, .f32⟩
  | .hbm, ⟨17, _⟩ => ⟨S4x256x128, .f32⟩
  | .hbm, ⟨18, _⟩ => ⟨S4x256x128, .bf16⟩
  | .hbm, ⟨19, _⟩ => ⟨S128x1024, .f32⟩
  | .hbm, ⟨20, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .bf16⟩
  | .local _ .vmem, ⟨6, _⟩ => ⟨S128x1024, .f32⟩
  | .local _ .vmem, ⟨7, _⟩ => ⟨S128x3072, .f32⟩
  | .local _ .vmem, ⟨8, _⟩ => ⟨S1024x1024, .bf16⟩
  | .local _ .vmem, ⟨9, _⟩ => ⟨S1x1024, .f32⟩
  | .local _ .vmem, ⟨10, _⟩ => ⟨S1x256, .f32⟩
  | .local _ .vmem, ⟨11, _⟩ => ⟨S1x256, .f32⟩
  | .local _ .vmem, ⟨12, _⟩ => ⟨S4x256x128, .bf16⟩
  | .local _ .vmem, ⟨13, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LastReferenceIdeal.lean ====
abbrev S128x1024 : Shape := ⟨2, ![128, 1024]⟩
abbrev S128x512 : Shape := ⟨2, ![128, 512]⟩
abbrev S128x256 : Shape := ⟨2, ![128, 256]⟩
abbrev S128x1x1024 : Shape := ⟨3, ![128, 1, 1024]⟩
abbrev S128x3072 : Shape := ⟨2, ![128, 3072]⟩
abbrev S1024x1024 : Shape := ⟨2, ![1024, 1024]⟩
abbrev S1024 : Shape := ⟨1, ![1024]⟩
abbrev S256 : Shape := ⟨1, ![256]⟩
abbrev S256x4x128 : Shape := ⟨3, ![256, 4, 128]⟩
abbrev S128x1x4x256 : Shape := ⟨4, ![128, 1, 4, 256]⟩
abbrev S4x128x128x1 : Shape := ⟨4, ![4, 128, 128, 1]⟩
abbrev S128x1x4x128 : Shape := ⟨4, ![128, 1, 4, 128]⟩
abbrev S128x1x512 : Shape := ⟨3, ![128, 1, 512]⟩
abbrev S128x1x4x64 : Shape := ⟨4, ![128, 1, 4, 64]⟩
abbrev S_ : Shape := ⟨0, ![]⟩
abbrev S128x1x4 : Shape := ⟨3, ![128, 1, 4]⟩
abbrev S128x1x4x1 : Shape := ⟨4, ![128, 1, 4, 1]⟩
abbrev S128x1x256 : Shape := ⟨3, ![128, 1, 256]⟩
abbrev S1x1x256 : Shape := ⟨3, ![1, 1, 256]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .bf16⟩
  | .hbm, ⟨6, _⟩ => ⟨S128x1x1024, .f32⟩
  | .hbm, ⟨7, _⟩ => ⟨S128x3072, .f32⟩
  | .hbm, ⟨8, _⟩ => ⟨S1024x1024, .f32⟩
  | .hbm, ⟨9, _⟩ => ⟨S1024, .f32⟩
  | .hbm, ⟨10, _⟩ => ⟨S256, .f32⟩
  | .hbm, ⟨11, _⟩ => ⟨S256, .f32⟩
  | .hbm, ⟨12, _⟩ => ⟨S256x4x128, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1x4x256, .f32⟩
  | .hbm, ⟨17, _⟩ => ⟨S4x128x128x1, .f32⟩
  | .hbm, ⟨18, _⟩ => ⟨S128x1x4x128, .f32⟩
  | .hbm, ⟨19, _⟩ => ⟨S128x1x512, .f32⟩
  | .hbm, ⟨20, _⟩ => ⟨S128x1x4x64, .f32⟩
  | .hbm, ⟨21, _⟩ => ⟨S_, .f32⟩
  | .hbm, ⟨22, _⟩ => ⟨S128x1x4, .f32⟩
  | .hbm, ⟨23, _⟩ => ⟨S128x1x4x1, .f32⟩
  | .hbm, ⟨24, _⟩ => ⟨S_, .f32⟩
  | .hbm, ⟨25, _⟩ => ⟨S128x1x4x1, .f32⟩
  | .hbm, ⟨26, _⟩ => ⟨S128x1x4x1, .f32⟩
  | .hbm, ⟨27, _⟩ => ⟨S128x1x4x64, .f32⟩
  | .hbm, ⟨28, _⟩ => ⟨S128x1x4x64, .f32⟩
  | .hbm, ⟨29, _⟩ => ⟨S128x1x4x64, .f32⟩
  | .hbm, ⟨30, _⟩ => ⟨S_, .f32⟩
  | .hbm, ⟨31, _⟩ => ⟨S128x1x4, .f32⟩
  | .hbm, ⟨32, _⟩ => ⟨S128x1x4x1, .f32⟩
  | .hbm, ⟨33, _⟩ => ⟨S_, .f32⟩
  | .hbm, ⟨34, _⟩ => ⟨S128x1x4x1, .f32⟩
  | .hbm, ⟨35, _⟩ => ⟨S128x1x4x1, .f32⟩
  | .hbm, ⟨36, _⟩ => ⟨S128x1x4x64, .f32⟩
  | .hbm, ⟨37, _⟩ => ⟨S128x1x4x64, .f32⟩
  | .hbm, ⟨38, _⟩ => ⟨S_, .f32⟩
  | .hbm, ⟨39, _⟩ => ⟨S128x1x4x1, .f32⟩
  | .hbm, ⟨40, _⟩ => ⟨S128x1x4x1, .f32⟩
  | .hbm, ⟨41, _⟩ => ⟨S128x1x4x1, .f32⟩
  | .hbm, ⟨42, _⟩ => ⟨S128x1x4x64, .f32⟩
  | .hbm, ⟨43, _⟩ => ⟨S128x1x4x64, .f32⟩
  | .hbm, ⟨44, _⟩ => ⟨S128x1x256, .f32⟩
  | .hbm, ⟨45, _⟩ => ⟨S1x1x256, .f32⟩
  | .hbm, ⟨46, _⟩ => ⟨S128x1x256, .f32⟩
  | .hbm, ⟨47, _⟩ => ⟨S128x1x256, .f32⟩
  | .hbm, ⟨48, _⟩ => ⟨S1x1x256, .f32⟩
  | .hbm, ⟨49, _⟩ => ⟨S128x1x256, .f32⟩
  | .hbm, ⟨50, _⟩ => ⟨S128x1x256, .f32⟩
  | .hbm, ⟨51, _⟩ => ⟨S128x512, .f32⟩
  | .hbm, ⟨52, _⟩ => ⟨S128x1x512, .f32⟩
  | .hbm, ⟨53, _⟩ => ⟨S128x1x512, .f32⟩
  | .hbm, ⟨54, _⟩ => ⟨S128x1x256, .f32⟩
  | .hbm, ⟨55, _⟩ => ⟨S128x1x256, .f32⟩
  | .hbm, ⟨56, _⟩ => ⟨S128x1x256, .f32⟩
  | .hbm, ⟨57, _⟩ => ⟨S128x1x256, .f32⟩
  | .hbm, ⟨58, _⟩ => ⟨S128x256, .f32⟩
  | .hbm, ⟨59, _⟩ => ⟨S128x1x256, .f32⟩
  | .hbm, ⟨60, _⟩ => ⟨S128x1x1024, .f32⟩
  | .hbm, ⟨61, _⟩ => ⟨S128x1x1024, .f32⟩
  | .hbm, ⟨62, _⟩ => ⟨S128x1x1024, .f32⟩
  | .hbm, ⟨63, _⟩ => ⟨S_, .f32⟩
  | .hbm, ⟨64, _⟩ => ⟨S128x1, .f32⟩
  | .hbm, ⟨65, _⟩ => ⟨S128x1x1, .f32⟩
  | .hbm, ⟨66, _⟩ => ⟨S_, .f32⟩
  | .hbm, ⟨67, _⟩ => ⟨S128x1x1, .f32⟩
  | .hbm, ⟨68, _⟩ => ⟨S128x1x1, .f32⟩
  | .hbm, ⟨69, _⟩ => ⟨S_, .f32⟩
  | .hbm, ⟨70, _⟩ => ⟨S128x1x1, .f32⟩
  | .hbm, ⟨71, _⟩ => ⟨S128x1x1, .f32⟩
  | .hbm, ⟨72, _⟩ => ⟨S128x1x1, .f32⟩
  | .hbm, ⟨73, _⟩ => ⟨S128x1x1024, .f32⟩
  | .hbm, ⟨74, _⟩ => ⟨S128x1x1024, .f32⟩
  | .hbm, ⟨75, _⟩ => ⟨S1x1x1024, .f32⟩
  | .hbm, ⟨76, _⟩ => ⟨S128x1x1024, .f32⟩
  | .hbm, ⟨77, _⟩ => ⟨S128x1x1024, .f32⟩
  | .hbm, ⟨78, _⟩ => ⟨S128x1x1024, .f32⟩
  | .hbm, ⟨79, _⟩ => ⟨S128x1x1024, .f32⟩
  | .hbm, ⟨80, _⟩ => ⟨S128x1x1024, .f32⟩
  | .hbm, ⟨81, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== AdaKernel.lean ====
abbrev S16x1024 : Shape := ⟨2, ![16, 1024]⟩
abbrev S128x1024 : Shape := ⟨2, ![128, 1024]⟩
abbrev S2x1024x3072 : Shape := ⟨3, ![2, 1024, 3072]⟩
abbrev S2x3072 : Shape := ⟨2, ![2, 3072]⟩
abbrev S144x1024 : Shape := ⟨2, ![144, 1024]⟩
abbrev S2x1x3072 : Shape := ⟨3, ![2, 1, 3072]⟩
abbrev S2x144x3072 : Shape := ⟨3, ![2, 144, 3072]⟩
abbrev S1x1024x1024 : Shape := ⟨3, ![1, 1024, 1024]⟩
abbrev S1x1x1024 : Shape := ⟨3, ![1, 1, 1024]⟩
abbrev S1x144x1024 : Shape := ⟨3, ![1, 144, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S2x1024x3072, .f32⟩
  | .hbm, ⟨3, _⟩ => ⟨S2x3072, .f32⟩
  | .hbm, ⟨4, _⟩ => ⟨S144x1024, .f32⟩
  | .hbm, ⟨5, _⟩ => ⟨S2x1x3072, .f32⟩
  | .hbm, ⟨6, _⟩ => ⟨S2x144x3072, .f32⟩
  | .local _ .vmem, ⟨0, _⟩ => ⟨S144x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x144x1024, .f32⟩
  | .local _ .vmem, ⟨6, _⟩ => ⟨S1x144x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S16x1024 : Shape := ⟨2, ![16, 1024]⟩
abbrev S128x1024 : Shape := ⟨2, ![128, 1024]⟩
abbrev S2x1024x3072 : Shape := ⟨3, ![2, 1024, 3072]⟩
abbrev S2x3072 : Shape := ⟨2, ![2, 3072]⟩
abbrev S_ : Shape := ⟨0, ![]⟩
abbrev S2x3072x16 : Shape := ⟨3, ![2, 3072, 16]⟩
abbrev S2x16x3072 : Shape := ⟨3, ![2, 16, 3072]⟩
abbrev S2x1x3072 : Shape := ⟨3, ![2, 1, 3072]⟩
abbrev S2x3072x128 : Shape := ⟨3, ![2, 3072, 128]⟩
abbrev S2x128x3072 : Shape := ⟨3, ![2, 128, 3072]⟩
abbrev S2x144x3072 : Shape := ⟨3, ![2, 144, 3072]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S2x1024x3072, .f32⟩
  | .hbm, ⟨3, _⟩ => ⟨S2x3072, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S2x3072x16, .f32⟩
  | .hbm, ⟨14, _⟩ => ⟨S2x16x3072, .f32⟩
  | .hbm, ⟨15, _⟩ => ⟨S2x1x3072, .f32⟩
  | .hbm, ⟨16, _⟩ => ⟨S2x16x3072, .f32⟩
  | .hbm, ⟨17, _⟩ => ⟨S2x16x3072, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S2x3072x128, .f32⟩
  | .hbm, ⟨28, _⟩ => ⟨S2x128x3072, .f32⟩
  | .hbm, ⟨29, _⟩ => ⟨S2x1x3072, .f32⟩
  | .hbm, ⟨30, _⟩ => ⟨S2x128x3072, .f32⟩
  | .hbm, ⟨31, _⟩ => ⟨S2x128x3072, .f32⟩
  | .hbm, ⟨32, _⟩ => ⟨S2x144x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== PrepKernel.lean ====
abbrev S128x896 : Shape := ⟨2, ![128, 896]⟩
abbrev S896 : Shape := ⟨1, ![896]⟩
abbrev S256 : Shape := ⟨1, ![256]⟩
abbrev S64x256 : Shape := ⟨2, ![64, 256]⟩
abbrev S4x64 : Shape := ⟨2, ![4, 64]⟩
abbrev S_ : Shape := ⟨0, ![]⟩
abbrev S1x896 : Shape := ⟨2, ![1, 896]⟩
abbrev S1x256 : Shape := ⟨2, ![1, 256]⟩
abbrev S128x256 : Shape := ⟨2, ![128, 256]⟩
abbrev S128x128 : Shape := ⟨2, ![128, 128]⟩
abbrev S256x256 : Shape := ⟨2, ![256, 256]⟩

abbrev nBuf : Space → Nat
  | .hbm => 29
  | .vmem => 17
  | .smem => 0
  | _ => 0

abbrev bufTy : (tb : Table) → Fin (tcTables nBuf tb) → BufTy
  | .hbm, ⟨0, _⟩ => ⟨S128x896, .f32⟩
  | .hbm, ⟨1, _⟩ => ⟨S128x896, .f32⟩
  | .hbm, ⟨2, _⟩ => ⟨S896, .f32⟩
  | .hbm, ⟨3, _⟩ => ⟨S256, .f32⟩
  | .hbm, ⟨4, _⟩ => ⟨S64x256, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S256, .f32⟩
  | .hbm, ⟨9, _⟩ => ⟨S4x64, .f32⟩
  | .hbm, ⟨10, _⟩ => ⟨S_, .f32⟩
  | .hbm, ⟨11, _⟩ => ⟨S64x256, .f32⟩
  | .hbm, ⟨12, _⟩ => ⟨S1x896, .f32⟩
  | .hbm, ⟨13, _⟩ => ⟨S1x256, .f32⟩
  | .hbm, ⟨14, _⟩ => ⟨S1x256, .f32⟩
  | .hbm, ⟨15, _⟩ => ⟨S128x256, .f32⟩
  | .hbm, ⟨16, _⟩ => ⟨S128x256, .bf16⟩
  | .hbm, ⟨17, _⟩ => ⟨S128x256, .f32⟩
  | .hbm, ⟨18, _⟩ => ⟨S128x256, .bf16⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S128x256, .f32⟩
  | .local _ .vmem, ⟨0, _⟩ => ⟨S128x896, .f32⟩
  | .local _ .vmem, ⟨1, _⟩ => ⟨S128x896, .f32⟩
  | .local _ .vmem, ⟨2, _⟩ => ⟨S1x896, .f32⟩
  | .local _ .vmem, ⟨3, _⟩ => ⟨S1x256, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | _, _ => ⟨S128x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev main_v11_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PrepReferenceIdeal.lean ====
abbrev S128x896 : Shape := ⟨2, ![128, 896]⟩
abbrev S896 : Shape := ⟨1, ![896]⟩
abbrev S256 : Shape := ⟨1, ![256]⟩
abbrev S64x256 : Shape := ⟨2, ![64, 256]⟩
abbrev S4x64 : Shape := ⟨2, ![4, 64]⟩
abbrev S1x896 : Shape := ⟨2, ![1, 896]⟩
abbrev S128x256 : Shape := ⟨2, ![128, 256]⟩
abbrev S128x64 : Shape := ⟨2, ![128, 64]⟩
abbrev S1x256 : Shape := ⟨2, ![1, 256]⟩
abbrev S_ : Shape := ⟨0, ![]⟩
abbrev S128x4x64 : Shape := ⟨3, ![128, 4, 64]⟩
abbrev S128x4 : Shape := ⟨2, ![128, 4]⟩
abbrev S128x4x1 : Shape := ⟨3, ![128, 4, 1]⟩
abbrev S1x4x64 : Shape := ⟨3, ![1, 4, 64]⟩

abbrev nBuf : Space → Nat
  | .hbm => 100
  | .vmem => 0
  | .smem => 0
  | _ => 0

abbrev bufTy : (tb : Table) → Fin (tcTables nBuf tb) → BufTy
  | .hbm, ⟨0, _⟩ => ⟨S128x896, .f32⟩
  | .hbm, ⟨1, _⟩ => ⟨S128x896, .f32⟩
  | .hbm, ⟨2, _⟩ => ⟨S896, .f32⟩
  | .hbm, ⟨3, _⟩ => ⟨S256, .f32⟩
  | .hbm, ⟨4, _⟩ => ⟨S64x256, .f32⟩
  | .hbm, ⟨5, _⟩ => ⟨S256, .f32⟩
  | .hbm, ⟨6, _⟩ => ⟨S64x256, .f32⟩
  | .hbm, ⟨7, _⟩ => ⟨S256, .f32⟩
  | .hbm, ⟨8, _⟩ => ⟨S256, .f32⟩
  | .hbm, ⟨9, _⟩ => ⟨S4x64, .f32⟩
  | .hbm, ⟨10, _⟩ => ⟨S128x896, .f32⟩
  | .hbm, ⟨11, _⟩ => ⟨S1x896, .f32⟩
  | .hbm, ⟨12, _⟩ => ⟨S128x896, .f32⟩
  | .hbm, ⟨13, _⟩ => ⟨S128x896, .f32⟩
  | .hbm, ⟨14, _⟩ => ⟨S128x896, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x256, .f32⟩
  | .hbm, ⟨22, _⟩ => ⟨S1x256, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .i1⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S128x256, .f32⟩
  | .hbm, ⟨41, _⟩ => ⟨S_, .f32⟩
  | .hbm, ⟨42, _⟩ => ⟨S128x256, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S128x256, .f32⟩
  | .hbm, ⟨48, _⟩ => ⟨S1x256, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S128x256, .f32⟩
  | .hbm, ⟨53, _⟩ => ⟨S_, .f32⟩
  | .hbm, ⟨54, _⟩ => ⟨S128x256, .f32⟩
  | .hbm, ⟨55, _⟩ => ⟨S128x256, .f32⟩
  | .hbm, ⟨56, _⟩ => ⟨S_, .f32⟩
  | .hbm, ⟨57, _⟩ => ⟨S128x256, .f32⟩
  | .hbm, ⟨58, _⟩ => ⟨S128x256, .f32⟩
  | .hbm, ⟨59, _⟩ => ⟨S1x256, .f32⟩
  | .hbm, ⟨60, _⟩ => ⟨S128x256, .f32⟩
  | .hbm, ⟨61, _⟩ => ⟨S128x256, .f32⟩
  | .hbm, ⟨62, _⟩ => ⟨S128x4x64, .f32⟩
  | .hbm, ⟨63, _⟩ => ⟨S128x4x64, .f32⟩
  | .hbm, ⟨64, _⟩ => ⟨S_, .f32⟩
  | .hbm, ⟨65, _⟩ => ⟨S128x4, .f32⟩
  | .hbm, ⟨66, _⟩ => ⟨S128x4x1, .f32⟩
  | .hbm, ⟨67, _⟩ => ⟨S128x4x1, .f32⟩
  | .hbm, ⟨68, _⟩ => ⟨S_, .f32⟩
  | .hbm, ⟨69, _⟩ => ⟨S128x4x1, .f32⟩
  | .hbm, ⟨70, _⟩ => ⟨S128x4x1, .f32⟩
  | .hbm, ⟨71, _⟩ => ⟨S128x4x64, .f32⟩
  | .hbm, ⟨72, _⟩ => ⟨S128x4x64, .f32⟩
  | .hbm, ⟨73, _⟩ => ⟨S_, .f32⟩
  | .hbm, ⟨74, _⟩ => ⟨S128x256, .f32⟩
  | .hbm, ⟨75, _⟩ => ⟨S128x256, .f32⟩
  | .hbm, ⟨76, _⟩ => ⟨S1x256, .f32⟩
  | .hbm, ⟨77, _⟩ => ⟨S128x256, .f32⟩
  | .hbm, ⟨78, _⟩ => ⟨S128x256, .f32⟩
  | .hbm, ⟨79, _⟩ => ⟨S_, .f32⟩
  | .hbm, ⟨80, _⟩ => ⟨S128x256, .f32⟩
  | .hbm, ⟨81, _⟩ => ⟨S128x256, .f32⟩
  | .hbm, ⟨82, _⟩ => ⟨S128x256, .f32⟩
  | .hbm, ⟨83, _⟩ => ⟨S128x4x64, .f32⟩
  | .hbm, ⟨84, _⟩ => ⟨S128x4x64, .f32⟩
  | .hbm, ⟨85, _⟩ => ⟨S128x4x64, .f32⟩
  | .hbm, ⟨86, _⟩ => ⟨S1x4x64, .f32⟩
  | .hbm, ⟨87, _⟩ => ⟨S128x4x64, .f32⟩
  | .hbm, ⟨88, _⟩ => ⟨S128x4x64, .f32⟩
  | .hbm, ⟨89, _⟩ => ⟨S_, .f32⟩
  | .hbm, ⟨90, _⟩ => ⟨S128x4, .f32⟩
  | .hbm, ⟨91, _⟩ => ⟨S128x4x1, .f32⟩
  | .hbm, ⟨92, _⟩ => ⟨S128x4x64, .f32⟩
  | .hbm, ⟨93, _⟩ => ⟨S128x4x64, .f32⟩
  | .hbm, ⟨94, _⟩ => ⟨S128x4x64, .f32⟩
  | .hbm, ⟨95, _⟩ => ⟨S128x256, .f32⟩
  | .hbm, ⟨96, _⟩ => ⟨S128x4x64, .f32⟩
  | .hbm, ⟨97, _⟩ => ⟨S128x4x64, .f32⟩
  | .hbm, ⟨98, _⟩ => ⟨S128x256, .f32⟩
  | .hbm, ⟨99, _⟩ => ⟨S128x256, .f32⟩
  | _, _ => ⟨S128x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_6 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Proof.Softmax.lean ====
/-
  The extended-real mathematics of a softmax taken one block of keys at a time.

  A row of scores `x` (in base two) and a column of values `y` are read block by block. After any number of blocks three
  numbers are kept: the greatest score so far, the sum of `2 ^ (x j - greatest)`, and the same sum weighted by `y`.
  A further block rescales the two sums by `2 ^ (old greatest - new greatest)` and adds its own terms. Here: the three
  numbers are at every stage what their closed forms say (`rescale_sum`, `rescale_dot`, at the infinities too), and the
  closed forms give the softmax in base `e` of the scores times `log 2` (`exp_ln2`, `softmax_eq`).
-/
module

public import Idealize.ShloMosaic.Lib.Pipeline.Value
public import Idealize.ShloMosaic.Lib.Pointwise.Tactic

@[expose] public section

noncomputable section

namespace Cert.Flash

open Idealize.ShloMosaic

/-! ### Powers of two -/

theorem exp2_coe (r : ℝ) : Ideal.exp2 (r : EReal) = ((Real.rpow 2 r : ℝ) : EReal) := rfl
theorem exp2_bot : Ideal.exp2 ⊥ = 0 := rfl

theorem exp2_nonneg (x : EReal) : 0 ≤ Ideal.exp2 x := by
  induction x with
  | bot => exact le_refl _
  | top => exact le_top
  | coe r => exact EReal.coe_nonneg.2 (Real.rpow_nonneg (by norm_num) r)

/-- The scale between an older greatest score `m` and a newer one is never `⊤`. -/
theorem exp2_sub_ne_top {m m' : EReal} (h : m ≤ m') : Ideal.exp2 (m - m') ≠ ⊤ := by
  induction m' with
  | bot =>
    obtain rfl := le_bot_iff.1 h
    simp [exp2_bot]
  | top => rw [EReal.sub_top]; simp [exp2_bot]
  | coe b =>
    induction m with
    | bot => rw [EReal.bot_sub]; simp [exp2_bot]
    | top => exact absurd h (by simp)
    | coe a => rw [← EReal.coe_sub, exp2_coe]; exact EReal.coe_ne_top _

/-- Scaling a term from one greatest score to a later one: true of every extended real. -/
theorem exp2_chain {x m m' : EReal} (hx : x ≤ m) (hm : m ≤ m') :
    Ideal.exp2 (m - m') * Ideal.exp2 (x - m) = Ideal.exp2 (x - m') := by
  induction m' with
  | bot =>
    obtain rfl := le_bot_iff.1 hm
    obtain rfl := le_bot_iff.1 hx
    simp [exp2_bot]
  | top => simp [EReal.sub_top, exp2_bot]
  | coe b =>
    induction m with
    | bot =>
      obtain rfl := le_bot_iff.1 hx
      simp [EReal.bot_sub, exp2_bot]
    | top => exact absurd hm (by simp)
    | coe a =>
      induction x with
      | bot => simp [EReal.bot_sub, exp2_bot]
      | top => exact absurd hx (by simp)
      | coe c =>
        rw [← EReal.coe_sub, ← EReal.coe_sub, ← EReal.coe_sub, exp2_coe, exp2_coe, exp2_coe, ← EReal.coe_mul]
        congr 1
        rw [Real.rpow_eq_pow, Real.rpow_eq_pow, Real.rpow_eq_pow, ← Real.rpow_add (by norm_num)]
        congr 1
        ring

theorem mul_sum_of_nonneg {ι : Type} {a : EReal} (h0 : 0 ≤ a) (ht : a ≠ ⊤) (s : Finset ι) (f : ι → EReal) :
    a * ∑ j ∈ s, f j = ∑ j ∈ s, a * f j := by
  classical
  induction s using Finset.induction_on with
  | empty => simp
  | insert i s hi ih =>
    rw [Finset.sum_insert hi, Finset.sum_insert hi, EReal.left_distrib_of_nonneg_of_ne_top h0 ht, ih]

/-- A sum of powers, taken against the older greatest score, rescaled to the newer one. -/
theorem rescale_sum {ι : Type} (s : Finset ι) (x : ι → EReal) {m m' : EReal} (hx : ∀ j ∈ s, x j ≤ m) (hm : m ≤ m') :
    Ideal.exp2 (m - m') * ∑ j ∈ s, Ideal.exp2 (x j - m) = ∑ j ∈ s, Ideal.exp2 (x j - m') := by
  rw [mul_sum_of_nonneg (exp2_nonneg _) (exp2_sub_ne_top hm)]
  exact Finset.sum_congr rfl fun j hj => exp2_chain (hx j hj) hm

/-- The same for the sum weighted by the values. -/
theorem rescale_dot {ι : Type} (s : Finset ι) (x y : ι → EReal) {m m' : EReal} (hx : ∀ j ∈ s, x j ≤ m) (hm : m ≤ m') :
    Ideal.exp2 (m - m') * ∑ j ∈ s, Ideal.exp2 (x j - m) * y j = ∑ j ∈ s, Ideal.exp2 (x j - m') * y j := by
  rw [mul_sum_of_nonneg (exp2_nonneg _) (exp2_sub_ne_top hm)]
  exact Finset.sum_congr rfl fun j hj => by rw [← mul_assoc, exp2_chain (hx j hj) hm]

/-! ### The three numbers after the first `n` keys -/

/-- The greatest of the first `n` scores (`⊥` when there are none). -/
def top (x : ℕ → EReal) (n : ℕ) : EReal := (Finset.range n).sup x
/-- The sum of the powers of the first `n` scores. -/
def den (x : ℕ → EReal) (n : ℕ) : EReal := ∑ j ∈ Finset.range n, Ideal.exp2 (x j - top x n)
/-- The same sum weighted by the values. -/
def num (x y : ℕ → EReal) (n : ℕ) : EReal := ∑ j ∈ Finset.range n, Ideal.exp2 (x j - top x n) * y j

theorem top_zero (x : ℕ → EReal) : top x 0 = ⊥ := rfl
theorem den_zero (x : ℕ → EReal) : den x 0 = 0 := rfl
theorem num_zero (x y : ℕ → EReal) : num x y 0 = 0 := rfl

theorem le_top_of_lt (x : ℕ → EReal) {n j : ℕ} (h : j < n) : x j ≤ top x n := Finset.le_sup (f := x) (Finset.mem_range.2 h)

theorem top_add (x : ℕ → EReal) (n k : ℕ) : top x (n + k) = max (top x n) (Finset.univ.fold max ⊥ fun c : Fin k => x (n + c)) := by
  apply le_antisymm
  · refine Finset.sup_le fun j hj => ?_
    rcases lt_or_ge j n with h | h
    · exact le_max_of_le_left (le_top_of_lt x h)
    · refine le_max_of_le_right ?_
      rw [Finset.le_fold_max]
      have hj' := Finset.mem_range.1 hj
      exact .inr ⟨⟨j - n, by omega⟩, Finset.mem_univ _, le_of_eq (congrArg x (by simp; omega))⟩
  · refine max_le (Finset.sup_mono (Finset.range_mono (Nat.le_add_right n k))) ?_
    rw [Finset.fold_max_le]
    exact ⟨bot_le, fun c _ => le_top_of_lt x (by omega)⟩

theorem top_le_add (x : ℕ → EReal) (n k : ℕ) : top x n ≤ top x (n + k) := Finset.sup_mono (Finset.range_mono (Nat.le_add_right n k))

theorem den_add (x : ℕ → EReal) (n k : ℕ) :
    den x (n + k) = Ideal.exp2 (top x n - top x (n + k)) * den x n + ∑ c : Fin k, Ideal.exp2 (x (n + c) - top x (n + k)) := by
  unfold den
  rw [rescale_sum _ x (fun j hj => le_top_of_lt x (Finset.mem_range.1 hj)) (top_le_add x n k), Finset.sum_range_add]
  congr 1
  exact Finset.sum_range fun j => Ideal.exp2 (x (n + j) - top x (n + k))

theorem num_add (x y : ℕ → EReal) (n k : ℕ) :
    num x y (n + k) = Ideal.exp2 (top x n - top x (n + k)) * num x y n
      + ∑ c : Fin k, Ideal.exp2 (x (n + c) - top x (n + k)) * y (n + c) := by
  unfold num
  rw [rescale_dot _ x y (fun j hj => le_top_of_lt x (Finset.mem_range.1 hj)) (top_le_add x n k), Finset.sum_range_add]
  congr 1
  exact Finset.sum_range fun j => Ideal.exp2 (x (n + j) - top x (n + k)) * y (n + j)

/-! ### Keys that are all masked change nothing -/

theorem top_masked (x : ℕ → EReal) (n k : ℕ) (h : ∀ j, n ≤ j → x j = ⊥) : top x (n + k) = top x n := by
  refine le_antisymm (Finset.sup_le fun j _ => ?_) (top_le_add x n k)
  rcases lt_or_ge j n with hj | hj
  · exact le_top_of_lt x hj
  · rw [h j hj]; exact bot_le

theorem den_masked (x : ℕ → EReal) (n k : ℕ) (h : ∀ j, n ≤ j → x j = ⊥) : den x (n + k) = den x n := by
  unfold den
  rw [top_masked x n k h, Finset.sum_range_add]
  rw [Finset.sum_eq_zero (s := Finset.range k) fun j _ => by rw [h (n + j) (by omega), EReal.bot_sub, exp2_bot], add_zero]

theorem num_masked (x y : ℕ → EReal) (n k : ℕ) (h : ∀ j, n ≤ j → x j = ⊥) : num x y (n + k) = num x y n := by
  unfold num
  rw [top_masked x n k h, Finset.sum_range_add]
  rw [Finset.sum_eq_zero (s := Finset.range k) fun j _ => by rw [h (n + j) (by omega), EReal.bot_sub, exp2_bot, zero_mul],
    add_zero]

/-! ### The softmax in base `e` -/

/-- `log 2`, as the extended real the reference multiplies the scores by. -/
def ln2 : EReal := ((Real.log 2 : ℝ) : EReal)

theorem ln2_pos : (0 : ℝ) < Real.log 2 := Real.log_pos (by norm_num)

theorem bot_mul_ln2 : (⊥ : EReal) * ln2 = ⊥ := EReal.bot_mul_coe_of_pos ln2_pos

theorem mul_ln2_mono : Monotone fun a : EReal => a * ln2 := fun a b h =>
  mul_le_mul_of_nonneg_right h (EReal.coe_nonneg.2 ln2_pos.le)

theorem fold_mul_ln2 {ι : Type} (s : Finset ι) (x : ι → EReal) :
    (s.fold max ⊥ fun c => x c * ln2) = (s.fold max ⊥ x) * ln2 := by
  have h := Finset.fold_hom (op := max) (op' := max) (s := s) (b := ⊥) (f := x) (m := fun a : EReal => a * ln2)
    fun a b => mul_ln2_mono.map_max
  simp only [bot_mul_ln2] at h
  exact h

/-- A power of two of a difference of scores that are real or masked is the exponential of the scaled difference. -/
theorem exp_ln2 {x : EReal} (M : ℝ) (hx : x ≠ ⊤) : Ideal.exp (x * ln2 - (M : EReal) * ln2) = Ideal.exp2 (x - M) := by
  induction x with
  | bot => rw [bot_mul_ln2, EReal.bot_sub, EReal.bot_sub]; rfl
  | top => exact absurd rfl hx
  | coe r =>
    rw [ln2, ← EReal.coe_mul, ← EReal.coe_mul, ← EReal.coe_sub, ← EReal.coe_sub, exp2_coe]
    show ((Real.exp _ : ℝ) : EReal) = _
    congr 1
    rw [Real.rpow_eq_pow, Real.rpow_def_of_pos (by norm_num)]
    congr 1
    ring

/-- The quotient of the two sums is the sum of the quotients: the divisor is a real number, at least one. -/
theorem div_sum {ι : Type} (s : Finset ι) (e y : ι → EReal) {L : ℝ} (hL : 0 < L) :
    Ideal.div (∑ j ∈ s, e j * y j) (L : EReal) = ∑ j ∈ s, y j * Ideal.div (e j) (L : EReal) := by
  rw [Ideal.div_coe hL.ne', mul_comm,
    mul_sum_of_nonneg (EReal.coe_nonneg.2 (by positivity)) (EReal.coe_ne_top _)]
  refine Finset.sum_congr rfl fun j _ => ?_
  rw [Ideal.div_coe hL.ne']
  ac_rfl

/-- The greatest of scores that are none of them `⊤` and one of them real is real. -/
theorem top_real (x : ℕ → EReal) (n i : ℕ) (hi : i < n) (hx : ∀ j, x j ≠ ⊤) (hr : x i ≠ ⊥) : ∃ M : ℝ, top x n = M := by
  have h1 : top x n ≠ ⊥ := fun h => hr (le_bot_iff.1 (h ▸ le_top_of_lt x hi))
  have h2 : top x n < ⊤ := (Finset.sup_lt_iff (by simp)).2 fun j _ => lt_top_iff_ne_top.2 (hx j)
  exact ⟨(top x n).toReal, (EReal.coe_toReal h2.ne h1).symm⟩

/-- Then the sum of the powers is a positive real number. -/
theorem den_real (x : ℕ → EReal) (n i : ℕ) (hi : i < n) (hx : ∀ j, x j ≠ ⊤) (hr : x i ≠ ⊥) : ∃ L : ℝ, 0 < L ∧ den x n = L := by
  obtain ⟨M, hM⟩ := top_real x n i hi hx hr
  have hterm : ∀ j, ∃ r : ℝ, 0 ≤ r ∧ Ideal.exp2 (x j - M) = r := fun j => by
    by_cases hb : x j = ⊥
    · exact ⟨0, le_refl _, by rw [hb, EReal.bot_sub]; rfl⟩
    · exact ⟨Real.rpow 2 ((x j).toReal - M), Real.rpow_nonneg (by norm_num) _, by
        conv_lhs => rw [← EReal.coe_toReal (hx j) hb]
        rfl⟩
  choose f hf0 hf using hterm
  refine ⟨∑ j ∈ Finset.range n, f j, ?_, ?_⟩
  · refine Finset.sum_pos' (fun j _ => hf0 j) ⟨i, Finset.mem_range.2 hi, lt_of_le_of_ne (hf0 i) fun h => ?_⟩
    have h0 := hf i
    rw [← h, ← EReal.coe_toReal (hx i) hr, ← EReal.coe_sub, exp2_coe] at h0
    exact absurd (EReal.coe_injective h0) (Real.rpow_pos_of_pos (by norm_num) _).ne'
  · unfold den
    rw [hM, Finset.sum_congr rfl fun j _ => hf j]
    exact (map_sum (⟨⟨fun r : ℝ => (r : EReal), rfl⟩, EReal.coe_add⟩ : ℝ →+ EReal) f (Finset.range n)).symm

/-- The quotient of the blockwise sums is the softmax in base `e` of the scores times `log 2`, weighted by the values. -/
theorem softmax_eq (x y : ℕ → EReal) (n i : ℕ) (hi : i < n) (hx : ∀ j, x j ≠ ⊤) (hr : x i ≠ ⊥) :
    Ideal.div (num x y n) (den x n)
      = ∑ k : Fin n, y k * Ideal.div (Ideal.exp (x k * ln2 - Finset.univ.fold max ⊥ fun c : Fin n => x c * ln2))
          (∑ k : Fin n, Ideal.exp (x k * ln2 - Finset.univ.fold max ⊥ fun c : Fin n => x c * ln2)) := by
  obtain ⟨M, hM⟩ := top_real x n i hi hx hr
  obtain ⟨L, hL, hd⟩ := den_real x n i hi hx hr
  have ht : (Finset.univ.fold max ⊥ fun c : Fin n => x c) = M := by
    have h := top_add x 0 n
    rw [Nat.zero_add, top_zero, hM, max_eq_right bot_le] at h
    rw [h]; simp only [Nat.zero_add]
  rw [fold_mul_ln2 Finset.univ fun c : Fin n => x c, ht]
  have he : ∀ k : Fin n, Ideal.exp (x k * ln2 - (M : EReal) * ln2) = Ideal.exp2 (x k - M) := fun k => exp_ln2 M (hx k)
  simp only [he]
  have hs : ∑ k : Fin n, Ideal.exp2 (x k - M) = L := by
    rw [← hd, den, hM]; exact (Finset.sum_range fun j => Ideal.exp2 (x j - M)).symm
  rw [hs, hd, num, hM, Finset.sum_range fun j => Ideal.exp2 (x j - M) * y j]
  exact div_sum Finset.univ (fun k : Fin n => Ideal.exp2 (x k - M)) (fun k => y k) hL

end Cert.Flash

end
-- ==== Proof.Steps.lean ====
/-
  The kernel's vector operations, gathered into the steps of its algorithm: the scores of a block of keys, the three
  running arrays (greatest score, sum, weighted sum), the step that takes in one more block, and the quotient at the end.
  Each of the eight tiles of queries is a chain of these steps (`out_eq`).
-/
module

public import proofs.«01_k».proof.Proof.Gen.KernelIdeal.Frame
public import proofs.«01_k».proof.Proof.Softmax

@[expose] public section

set_option maxRecDepth 16384

noncomputable section

namespace Cert.KernelIdeal.Steps

open Cert.KernelIdeal Cert.KernelIdeal.Gen Idealize.ShloMosaic Idealize.ShloMosaic.TcCoe Idealize.SL.Sem

abbrev Blk256 := Vec Ideal S1x256x256 .bf16
abbrev Blk128 := Vec Ideal S1x256x128 .bf16

/-- The scores of 256 queries against 256 keys. -/
def scores (q k : Blk256) : FVec Ideal S256x256 .f32 :=
  matmul dot_S256x256_S256x256_S256x256_1_1_0_0_n_n none (shapeCast S256x256 q shapeCasts_S1x256x256_S256x256 : FVec Ideal S256x256 .bf16)
    (shapeCast S256x256 k shapeCasts_S1x256x256_S256x256 : FVec Ideal S256x256 .bf16) (constant S256x256 .f32 0x00000000#32)

/-- The scores of the block on the diagonal: the keys after the query are masked. -/
def masked (s : FVec Ideal S256x256 .f32) : FVec Ideal S256x256 .f32 :=
  select (cmpi .sge (iota .tc S256x256 32 [0] iota_S256x256_d0_w32) (iota .tc S256x256 32 [1] iota_S256x256_d1_w32)) s
    (broadcast S256x256 (Named.named κ "mask" 0xF149F2CA#32))

/-- What is kept of the blocks taken in so far: greatest score, sum of powers, weighted sum. -/
structure State where
  m : FVec Ideal S256x1 .f32
  l : FVec Ideal S256x1 .f32
  a : FVec Ideal S256x128 .f32

/-- Before any block. -/
def start : State where
  m := broadcast S256x1 (Named.named κ "mask" 0xF149F2CA#32)
  l := broadcast S256x1 (Scalar.ofBits .f32 0x00000000#32)
  a := broadcast S256x128 (Scalar.ofBits .f32 0x00000000#32)

/-- The greatest scores after one more block. -/
def newMax (m : FVec Ideal S256x1 .f32) (s : FVec Ideal S256x256 .f32) : FVec Ideal S256x1 .f32 :=
  maximumf m (shapeCast S256x1 (multiReduction .maximumf [1] S256 s 0xFF800000#32 reduces_S256x256_S256 (.inl rfl) rfl) shapeCasts_S256_S256x1)

/-- The powers of the new block's scores. -/
def powers (m' : FVec Ideal S256x1 .f32) (s : FVec Ideal S256x256 .f32) : FVec Ideal S256x256 .f32 :=
  exp2 (subf s (broadcastTo S256x256 m' broadcasts_S256x1_S256x256))

/-- The scale from the older greatest scores to the new ones. -/
def scale (m m' : FVec Ideal S256x1 .f32) : FVec Ideal S256x1 .f32 := exp2 (subf m m')

def newSum (al l : FVec Ideal S256x1 .f32) (p : FVec Ideal S256x256 .f32) : FVec Ideal S256x1 .f32 :=
  addf (mulf al l) (shapeCast S256x1 (multiReduction .add [1] S256 p 0x00000000#32 reduces_S256x256_S256 (.inl rfl) rfl) shapeCasts_S256_S256x1)

def newDot (al : FVec Ideal S256x1 .f32) (a : FVec Ideal S256x128 .f32) (p : FVec Ideal S256x256 .f32) (v : Blk128) : FVec Ideal S256x128 .f32 :=
  addf (mulf (broadcastTo S256x128 al broadcasts_S256x1_S256x128) a)
    (matmul dot_S256x256_S256x128_S256x128_1_0_0_1_n_n none (truncf .bf16 p bitsLt_bf16_f32)
      (shapeCast S256x128 v shapeCasts_S1x256x128_S256x128 : FVec Ideal S256x128 .bf16) (constant S256x128 .f32 0x00000000#32))

/-- One more block taken in. -/
def step (st : State) (s : FVec Ideal S256x256 .f32) (v : Blk128) : State where
  m := newMax st.m s
  l := newSum (scale st.m (newMax st.m s)) st.l (powers (newMax st.m s) s)
  a := newDot (scale st.m (newMax st.m s)) st.a (powers (newMax st.m s) s) v

/-- The tile's result: the quotient times the gate. -/
def finish (st : State) (g : Blk128) : FVec Ideal S1x256x128 .bf16 :=
  shapeCast S1x256x128 (truncf .bf16 (mulf (divf st.a (broadcastTo S256x128 st.l broadcasts_S256x1_S256x128))
    (extf .f32 (shapeCast S256x128 g shapeCasts_S1x256x128_S256x128 : FVec Ideal S256x128 .bf16) bitsLt_bf16_f32)) bitsLt_bf16_f32 : FVec Ideal S256x128 .bf16) shapeCasts_S256x128_S1x256x128

/-- The blocks before the diagonal, taken in one after the other. -/
def before (q : Blk256) : List (Blk256 × Blk128) → State
  | [] => start
  | kv :: l => step (before q l) (scores q kv.1) kv.2

/-- One tile: the blocks before the diagonal (the last first), then the diagonal's with its mask. -/
def tile (q : Blk256) (l : List (Blk256 × Blk128)) (k : Blk256) (v g : Blk128) : FVec Ideal S1x256x128 .bf16 :=
  finish (step (before q l) (masked (scores q k)) v) g

variable (x0 x1 : Vec Ideal S1x2048x256 .bf16) (x2 x3 : Vec Ideal S1x2048x128 .bf16)

/-- Key block and value block `n`. -/
abbrev kv0 : Blk256 × Blk128 := (View.ld x1 r0_0, View.ld x2 r0_1)
abbrev kv1 : Blk256 × Blk128 := (View.ld x1 r0_2, View.ld x2 r0_3)
abbrev kv2 : Blk256 × Blk128 := (View.ld x1 r0_4, View.ld x2 r0_5)
abbrev kv3 : Blk256 × Blk128 := (View.ld x1 r0_6, View.ld x2 r0_7)
abbrev kv4 : Blk256 × Blk128 := (View.ld x1 r0_8, View.ld x2 r0_9)
abbrev kv5 : Blk256 × Blk128 := (View.ld x1 r0_10, View.ld x2 r0_11)
abbrev kv6 : Blk256 × Blk128 := (View.ld x1 r0_12, View.ld x2 r0_13)

/-- What the body leaves in its output block: eight tiles, each a chain of steps. -/
theorem out_eq : out0_4 x0 x1 x2 x3 = View.canon [
    ⟨r0_15, tile (View.ld x0 r0_14) [kv6 x1 x2, kv5 x1 x2, kv4 x1 x2, kv3 x1 x2, kv2 x1 x2, kv1 x1 x2, kv0 x1 x2] (View.ld x1 r0_14) (View.ld x2 r0_15) (View.ld x3 r0_15)⟩,
    ⟨r0_13, tile (View.ld x0 r0_12) [kv5 x1 x2, kv4 x1 x2, kv3 x1 x2, kv2 x1 x2, kv1 x1 x2, kv0 x1 x2] (View.ld x1 r0_12) (View.ld x2 r0_13) (View.ld x3 r0_13)⟩,
    ⟨r0_11, tile (View.ld x0 r0_10) [kv4 x1 x2, kv3 x1 x2, kv2 x1 x2, kv1 x1 x2, kv0 x1 x2] (View.ld x1 r0_10) (View.ld x2 r0_11) (View.ld x3 r0_11)⟩,
    ⟨r0_9, tile (View.ld x0 r0_8) [kv3 x1 x2, kv2 x1 x2, kv1 x1 x2, kv0 x1 x2] (View.ld x1 r0_8) (View.ld x2 r0_9) (View.ld x3 r0_9)⟩,
    ⟨r0_7, tile (View.ld x0 r0_6) [kv2 x1 x2, kv1 x1 x2, kv0 x1 x2] (View.ld x1 r0_6) (View.ld x2 r0_7) (View.ld x3 r0_7)⟩,
    ⟨r0_5, tile (View.ld x0 r0_4) [kv1 x1 x2, kv0 x1 x2] (View.ld x1 r0_4) (View.ld x2 r0_5) (View.ld x3 r0_5)⟩,
    ⟨r0_3, tile (View.ld x0 r0_2) [kv0 x1 x2] (View.ld x1 r0_2) (View.ld x2 r0_3) (View.ld x3 r0_3)⟩,
    ⟨r0_1, tile (View.ld x0 r0_0) [] (View.ld x1 r0_0) (View.ld x2 r0_1) (View.ld x3 r0_1)⟩] := rfl

end Cert.KernelIdeal.Steps

end
-- ==== Proof.Attn.lean ====
/-
  One element of the attention's result as a function of the four arrays: both programs are shown to leave it.
-/
module

public import proofs.«01_k».proof.Proof.Softmax
public import Idealize.ShloMosaic.Lib.Pointwise

@[expose] public section

noncomputable section

namespace Cert.Flash

open Idealize.ShloMosaic

theorem neg_inf : Ideal.ofBits .f32 0xFF800000#32 = ⊥ := by
  simp [Ideal.ofBits, Ideal.ieee]

/-- The scores of query row `r`: the inner products with the keys up to the query, the later keys masked. -/
def rowScore (Q K : ℕ → Fin 256 → EReal) (r j : ℕ) : EReal := if j ≤ r then ∑ d : Fin 256, Q r d * K j d else ⊥

/-- An array's element by two natural numbers (0 outside the array). -/
def at2 {A B : ℕ} (X : (⟨2, ![A, B]⟩ : Shape).Idx → EReal) (i j : ℕ) : EReal :=
  if h : i < A ∧ j < B then X (ix2 (⟨i, h.1⟩ : Fin A) (⟨j, h.2⟩ : Fin B)) else 0

theorem at2_mk {A B : ℕ} (X : (⟨2, ![A, B]⟩ : Shape).Idx → EReal) (i : Fin A) (j : Fin B) :
    X (ix2 i j) = at2 X i j := by
  unfold at2
  rw [dif_pos ⟨i.isLt, j.isLt⟩]

/-- Head `h`'s columns of sequence `b`'s rows: row `r`, column `d` of `w`. -/
def headRows {A B : ℕ} (w : ℕ) (X : (⟨2, ![A, B]⟩ : Shape).Idx → EReal) (b h r : ℕ) (d : Fin w) : EReal :=
  at2 X (b * 2048 + r) (h * w + d)

variable (q k : (⟨2, ![32768, 1024]⟩ : Shape).Idx → EReal) (v g : (⟨2, ![32768, 512]⟩ : Shape).Idx → EReal)

/-- The scores of query `r` of sequence `b` under head `h`, in base two. -/
def score (b h r j : ℕ) : EReal := rowScore (headRows 256 q b h) (headRows 256 k b h) r j

/-- The attention's result at sequence `b`, query `r`, head `h`, column `d`: the weighted sum over the keys divided by the sum
    of the weights, times the gate. -/
def attn (b h r : ℕ) (d : Fin 128) : EReal :=
  Ideal.div (num (score q k b h r) (fun j => headRows 128 v b h j d) 2048) (den (score q k b h r) 2048) * headRows 128 g b h r d

/-- An entry is a real number. -/
def Finite {s : Shape} (X : s.Idx → EReal) : Prop := ∀ i, X i ≠ ⊥ ∧ X i ≠ ⊤

theorem at2_real {A B : ℕ} {X : (⟨2, ![A, B]⟩ : Shape).Idx → EReal} (h : Finite X) (i j : ℕ) : ∃ r : ℝ, at2 X i j = r := by
  unfold at2
  split
  · exact ⟨_, (EReal.coe_toReal (h _).2 (h _).1).symm⟩
  · exact ⟨0, rfl⟩

theorem dot_real {n : ℕ} (x y : Fin n → EReal) (hx : ∀ d, ∃ r : ℝ, x d = r) (hy : ∀ d, ∃ r : ℝ, y d = r) :
    ∃ r : ℝ, ∑ d, x d * y d = r := by
  choose f hf using hx
  choose g hg using hy
  refine ⟨∑ d, f d * g d, ?_⟩
  rw [Finset.sum_congr rfl fun d _ => by rw [hf d, hg d, ← EReal.coe_mul]]
  exact (map_sum (⟨⟨fun r : ℝ => (r : EReal), rfl⟩, EReal.coe_add⟩ : ℝ →+ EReal) (fun d => f d * g d) Finset.univ).symm

variable {q k}

theorem score_ne_top (hq : Finite q) (hk : Finite k) (b h r j : ℕ) : score q k b h r j ≠ ⊤ := by
  unfold score rowScore
  split
  · obtain ⟨x, hx⟩ := dot_real (headRows 256 q b h r) (headRows 256 k b h j) (fun d => at2_real hq _ _) fun d => at2_real hk _ _
    rw [hx]; exact EReal.coe_ne_top _
  · simp

theorem score_self_ne_bot (hq : Finite q) (hk : Finite k) (b h r : ℕ) : score q k b h r r ≠ ⊥ := by
  obtain ⟨x, hx⟩ := dot_real (headRows 256 q b h r) (headRows 256 k b h r) (fun d => at2_real hq _ _) fun d => at2_real hk _ _
  rw [score, rowScore, if_pos le_rfl, hx]; exact EReal.coe_ne_bot _

end Cert.Flash

end
-- ==== Proof.Rows.lean ====
/-
  The steps of the kernel read at an index, and the three running arrays as the closed forms of the softmax mathematics.
-/
module

public import proofs.«01_k».proof.Proof.Steps
public import proofs.«01_k».proof.Proof.Attn
public import Idealize.ShloMosaic.Lib.Pointwise
public import Idealize.ShloMosaic.Lib.WordCmp

@[expose] public section

set_option maxRecDepth 16384

noncomputable section

namespace Cert.KernelIdeal.Steps

open Cert.KernelIdeal Cert.KernelIdeal.Gen Idealize.ShloMosaic Idealize.ShloMosaic.TcCoe Idealize.SL.Sem
open Cert.Flash

/-- The mask's constant is the least extended real. -/
theorem mask_eq : (Named.named κ "mask" 0xF149F2CA#32 : Ideal .f32) = ⊥ := rfl

theorem scores_apply (q k : Blk256) (a c : Fin 256) :
    scores q k (ix2 a c) = ∑ d : Fin 256, q (ix3 0 a d) * k (ix3 0 c d) := by
  pointwise [scores]

theorem masked_apply (s : FVec Ideal S256x256 .f32) (a c : Fin 256) :
    masked s (ix2 a c) = if c ≤ a then s (ix2 a c) else ⊥ := by
  pointwise [masked]
  rw [Idealize.ShloMosaic.WordCmp.cmpi_sge_ofNat (by have := a.isLt; omega) (by have := c.isLt; omega), mask_eq]
  by_cases h : c ≤ a
  · rw [if_pos h, decide_eq_true (Fin.le_def.1 h)]; rfl
  · rw [if_neg h, decide_eq_false (fun h' => h (Fin.le_def.2 h'))]; rfl

theorem newMax_apply (m : FVec Ideal S256x1 .f32) (s : FVec Ideal S256x256 .f32) (a : Fin 256) :
    newMax m s (ix2 a 0) = max (m (ix2 a 0)) (Finset.univ.fold max ⊥ fun c : Fin 256 => s (ix2 a c)) := by
  pointwise [newMax]
  rw [neg_inf]

theorem powers_apply (m' : FVec Ideal S256x1 .f32) (s : FVec Ideal S256x256 .f32) (a c : Fin 256) :
    powers m' s (ix2 a c) = Ideal.exp2 (s (ix2 a c) - m' (ix2 a 0)) := by
  pointwise [powers]
  rfl

theorem scale_apply (m m' : FVec Ideal S256x1 .f32) (a : Fin 256) :
    scale m m' (ix2 a 0) = Ideal.exp2 (m (ix2 a 0) - m' (ix2 a 0)) := by
  pointwise [scale]
  rfl

theorem newSum_apply (al l : FVec Ideal S256x1 .f32) (p : FVec Ideal S256x256 .f32) (a : Fin 256) :
    newSum al l p (ix2 a 0) = al (ix2 a 0) * l (ix2 a 0) + ∑ c : Fin 256, p (ix2 a c) := by
  pointwise [newSum]

theorem newDot_apply (al : FVec Ideal S256x1 .f32) (acc : FVec Ideal S256x128 .f32) (p : FVec Ideal S256x256 .f32) (v : Blk128)
    (a : Fin 256) (d : Fin 128) :
    newDot al acc p v (ix2 a d) = al (ix2 a 0) * acc (ix2 a d) + ∑ c : Fin 256, p (ix2 a c) * v (ix3 0 c d) := by
  pointwise [newDot]

theorem finish_apply (st : State) (g : Blk128) (a : Fin 256) (d : Fin 128) :
    finish st g (ix3 0 a d) = Ideal.div (st.a (ix2 a d)) (st.l (ix2 a 0)) * g (ix3 0 a d) := by
  pointwise [finish]

/-! ### The running arrays in closed form -/

/-- Row `a` of the three arrays holds the closed forms of the scores `x` and the values' columns `y` after `n` keys. -/
def Holds (st : State) (a : Fin 256) (x : ℕ → EReal) (y : ℕ → Fin 128 → EReal) (n : ℕ) : Prop :=
  st.m (ix2 a 0) = top x n ∧ st.l (ix2 a 0) = den x n ∧ ∀ d, st.a (ix2 a d) = num x (fun j => y j d) n

theorem start_holds (a : Fin 256) (x : ℕ → EReal) (y : ℕ → Fin 128 → EReal) : Holds start a x y 0 :=
  ⟨rfl, (Ideal.ofBits_zero_f32 : _), fun _ => (Ideal.ofBits_zero_f32 : _)⟩

theorem step_holds {st : State} {a : Fin 256} {x : ℕ → EReal} {y : ℕ → Fin 128 → EReal} {n : ℕ} (h : Holds st a x y n)
    (s : FVec Ideal S256x256 .f32) (v : Blk128) (hs : ∀ c : Fin 256, s (ix2 a c) = x (n + c))
    (hv : ∀ (c : Fin 256) d, v (ix3 0 c d) = y (n + c) d) : Holds (step st s v) a x y (n + 256) := by
  obtain ⟨hm, hl, ha⟩ := h
  have hm' : newMax st.m s (ix2 a 0) = top x (n + 256) := by
    rw [newMax_apply, hm, top_add]; simp only [hs]
  refine ⟨hm', ?_, fun d => ?_⟩
  · show newSum _ _ _ _ = _
    rw [newSum_apply, scale_apply, hm', hm, hl, den_add]
    simp only [powers_apply, hs, hm']
  · show newDot _ _ _ _ _ = _
    rw [newDot_apply, scale_apply, hm', hm, ha, num_add]
    simp only [powers_apply, hs, hm', hv]

/-- A loaded block is rows `256 n …` of an array. -/
def IsBlk {w : ℕ} (X : ℕ → Fin w → EReal) (n : ℕ) (b : (⟨3, ![1, 256, w]⟩ : Shape).Idx → EReal) : Prop :=
  ∀ (c : Fin 256) (d : Fin w), b (ix3 0 c d) = X (256 * n + c) d

variable {Q K : ℕ → Fin 256 → EReal} {V G : ℕ → Fin 128 → EReal}

theorem before_cons {i n : ℕ} (hn : n < i) {q : Blk256} (hq : IsBlk Q i q) {l : List (Blk256 × Blk128)} {a : Fin 256}
    (h : Holds (before q l) a (rowScore Q K (256 * i + a)) V (256 * n)) {kv : Blk256 × Blk128} (hk : IsBlk K n kv.1)
    (hv : IsBlk V n kv.2) : Holds (before q (kv :: l)) a (rowScore Q K (256 * i + a)) V (256 * (n + 1)) := by
  refine step_holds h (scores q kv.1) kv.2 (fun c => ?_) hv
  rw [scores_apply, rowScore, if_pos (by have := c.isLt; omega)]
  exact Finset.sum_congr rfl fun d _ => by rw [hq a d, hk c d]

/-- What a tile leaves at row `a`, column `d`: the quotient of the sums over the whole row, times the gate. -/
theorem tile_apply {i : ℕ} {q k : Blk256} {v g : Blk128} {l : List (Blk256 × Blk128)} {a : Fin 256} (hi : i < 8)
    (hq : IsBlk Q i q) (hk : IsBlk K i k) (hv : IsBlk V i v) (hg : IsBlk G i g)
    (h : Holds (before q l) a (rowScore Q K (256 * i + a)) V (256 * i)) (d : Fin 128) :
    tile q l k v g (ix3 0 a d)
      = Ideal.div (num (rowScore Q K (256 * i + a)) (fun j => V j d) 2048) (den (rowScore Q K (256 * i + a)) 2048)
        * G (256 * i + a) d := by
  have hd := step_holds h (masked (scores q k)) v (fun c => by
    rw [masked_apply, scores_apply, rowScore]
    by_cases hc : c ≤ a
    · rw [if_pos hc, if_pos (by have := Fin.le_def.1 hc; omega)]
      exact Finset.sum_congr rfl fun d _ => by rw [hq a d, hk c d]
    · rw [if_neg hc, if_neg (by have := fun h' => hc (Fin.le_def.2 h'); omega)]) hv
  have hb : ∀ j, 256 * i + 256 ≤ j → rowScore Q K (256 * i + a) j = ⊥ := fun j hj =>
    if_neg (by have := a.isLt; omega)
  have e : 2048 = 256 * i + 256 + (2048 - (256 * i + 256)) := by omega
  rw [tile, finish_apply, hd.2.1, hd.2.2 d, hg a d, e, den_masked _ _ _ hb, num_masked _ _ _ _ hb]

end Cert.KernelIdeal.Steps

end
-- ==== Proof.Body.lean ====
/-
  What the kernel's body leaves in its output block, at an index: the eight tiles together are one function of the block's rows.
-/
module

public import proofs.«01_k».proof.Proof.Rows
public import Idealize.ShloMosaic.Lib.Pipeline.ValueKit

@[expose] public section

set_option maxRecDepth 16384

noncomputable section

namespace Cert.KernelIdeal.Steps

open Cert.KernelIdeal Cert.KernelIdeal.Gen Idealize.ShloMosaic Idealize.ShloMosaic.TcCoe Idealize.SL.Sem
open Cert.Flash

abbrev Blk (w n : ℕ) : Shape := ⟨3, ![1, n, w]⟩

/-- A load at rows `256 n …` of a block that holds `X` holds `X`'s rows `256 n …`. -/
theorem ld_isBlk {w : ℕ} {x : Vec Ideal (Blk w 2048) .bf16} {X : ℕ → Fin w → EReal} (hx : ∀ (r : Fin 2048) d, x (ix3 0 r d) = X r d)
    (n : ℕ) (inb) : IsBlk X n (View.ld x (Rect.unit (s := Blk w 2048) ![0, 256 * n, 0] (Blk w 256).size inb)) := by
  intro c d
  have hn : 256 * n + 256 ≤ 2048 := inb 1
  have : (Rect.unit (s := Blk w 2048) ![0, 256 * n, 0] (Blk w 256).size inb).idx (ix3 0 c d)
      = ix3 (0 : Fin 1) (⟨256 * n + c, by have := c.isLt; omega⟩ : Fin 2048) d := by
    funext a
    apply Fin.ext
    rw [Rect.idx_unit_val]
    fin_cases a
    · rfl
    · rfl
    · exact Nat.zero_add _
  rw [View.ld_apply, this, hx]

variable {Q K : ℕ → Fin 256 → EReal} {V G : ℕ → Fin 128 → EReal}

/-- The attention of a block's rows: row `r`, column `d`. -/
def rowsOut (Q K : ℕ → Fin 256 → EReal) (V G : ℕ → Fin 128 → EReal) (r : ℕ) (d : Fin 128) : EReal :=
  Ideal.div (num (rowScore Q K r) (fun j => V j d) 2048) (den (rowScore Q K r) 2048) * G r d

/-- Tile `n`, as a piece of the output block, is `rowsOut` at the piece's rows. -/
theorem tile_piece {n : ℕ} (hn : n < 8) {q k : Blk256} {v g : Blk128} {l : List (Blk256 × Blk128)}
    (hq : IsBlk Q n q) (hk : IsBlk K n k) (hv : IsBlk V n v) (hg : IsBlk G n g)
    (h : ∀ a : Fin 256, Holds (before q l) a (rowScore Q K (256 * n + a)) V (256 * n)) (inb)
    (x : (Rect.unit (s := Blk 128 2048) ![0, 256 * n, 0] (Blk 128 256).size inb).shape.Idx) :
    tile q l k v g x = rowsOut Q K V G
      ((Rect.unit (s := Blk 128 2048) ![0, 256 * n, 0] (Blk 128 256).size inb).emb x 1 : Fin 2048)
      ((Rect.unit (s := Blk 128 2048) ![0, 256 * n, 0] (Blk 128 256).size inb).emb x 2 : Fin 128) := by
  have hx : x = ix3 (0 : Fin 1) (x 1 : Fin 256) (x 2 : Fin 128) := by
    funext a
    fin_cases a
    · exact Subsingleton.elim (α := Fin 1) _ _
    · rfl
    · rfl
  have e1 : (((Rect.unit (s := Blk 128 2048) ![0, 256 * n, 0] (Blk 128 256).size inb).emb x 1 : Fin 2048) : ℕ) = 256 * n + (x 1 : Fin 256) :=
    Rect.idx_unit_val ..
  have e2 : ((Rect.unit (s := Blk 128 2048) ![0, 256 * n, 0] (Blk 128 256).size inb).emb x 2 : Fin 128) = (x 2 : Fin 128) :=
    Fin.ext ((Rect.idx_unit_val ..).trans (Nat.zero_add _))
  rw [e1, e2]
  exact (congrArg (tile q l k v g) hx).trans (tile_apply hn hq hk hv hg (h (x 1 : Fin 256)) (x 2 : Fin 128))

variable {x0 x1 : Vec Ideal S1x2048x256 .bf16} {x2 x3 : Vec Ideal S1x2048x128 .bf16}

theorem out_apply (h0 : ∀ (r : Fin 2048) d, x0 (ix3 0 r d) = Q r d) (h1 : ∀ (r : Fin 2048) d, x1 (ix3 0 r d) = K r d)
    (h2 : ∀ (r : Fin 2048) d, x2 (ix3 0 r d) = V r d) (h3 : ∀ (r : Fin 2048) d, x3 (ix3 0 r d) = G r d) (r : Fin 2048) (d : Fin 128) :
    out0_4 x0 x1 x2 x3 (ix3 0 r d) = rowsOut Q K V G r d := by
  have k0 : IsBlk K 0 (View.ld x1 r0_0) := ld_isBlk h1 0 _
  have k1 : IsBlk K 1 (View.ld x1 r0_2) := ld_isBlk h1 1 _
  have k2 : IsBlk K 2 (View.ld x1 r0_4) := ld_isBlk h1 2 _
  have k3 : IsBlk K 3 (View.ld x1 r0_6) := ld_isBlk h1 3 _
  have k4 : IsBlk K 4 (View.ld x1 r0_8) := ld_isBlk h1 4 _
  have k5 : IsBlk K 5 (View.ld x1 r0_10) := ld_isBlk h1 5 _
  have k6 : IsBlk K 6 (View.ld x1 r0_12) := ld_isBlk h1 6 _
  have v0 : IsBlk V 0 (View.ld x2 r0_1) := ld_isBlk h2 0 _
  have v1 : IsBlk V 1 (View.ld x2 r0_3) := ld_isBlk h2 1 _
  have v2 : IsBlk V 2 (View.ld x2 r0_5) := ld_isBlk h2 2 _
  have v3 : IsBlk V 3 (View.ld x2 r0_7) := ld_isBlk h2 3 _
  have v4 : IsBlk V 4 (View.ld x2 r0_9) := ld_isBlk h2 4 _
  have v5 : IsBlk V 5 (View.ld x2 r0_11) := ld_isBlk h2 5 _
  have v6 : IsBlk V 6 (View.ld x2 r0_13) := ld_isBlk h2 6 _
  have b0 (i : ℕ) (q : Blk256) (a : Fin 256) : Holds (before q []) a (rowScore Q K (256 * i + a)) V (256 * 0) := start_holds ..
  have b1 (i : ℕ) (hi : 0 < i) (q : Blk256) (hq : IsBlk Q i q) (a : Fin 256) := before_cons hi hq (b0 i q a) (kv := kv0 x1 x2) k0 v0
  have b2 (i : ℕ) (hi : 1 < i) (q : Blk256) (hq : IsBlk Q i q) (a : Fin 256) := before_cons hi hq (b1 i (by omega) q hq a) (kv := kv1 x1 x2) k1 v1
  have b3 (i : ℕ) (hi : 2 < i) (q : Blk256) (hq : IsBlk Q i q) (a : Fin 256) := before_cons hi hq (b2 i (by omega) q hq a) (kv := kv2 x1 x2) k2 v2
  have b4 (i : ℕ) (hi : 3 < i) (q : Blk256) (hq : IsBlk Q i q) (a : Fin 256) := before_cons hi hq (b3 i (by omega) q hq a) (kv := kv3 x1 x2) k3 v3
  have b5 (i : ℕ) (hi : 4 < i) (q : Blk256) (hq : IsBlk Q i q) (a : Fin 256) := before_cons hi hq (b4 i (by omega) q hq a) (kv := kv4 x1 x2) k4 v4
  have b6 (i : ℕ) (hi : 5 < i) (q : Blk256) (hq : IsBlk Q i q) (a : Fin 256) := before_cons hi hq (b5 i (by omega) q hq a) (kv := kv5 x1 x2) k5 v5
  have b7 (i : ℕ) (hi : 6 < i) (q : Blk256) (hq : IsBlk Q i q) (a : Fin 256) := before_cons hi hq (b6 i (by omega) q hq a) (kv := kv6 x1 x2) k6 v6
  have q1 : IsBlk Q 1 (View.ld x0 r0_2) := ld_isBlk h0 1 _
  have q2 : IsBlk Q 2 (View.ld x0 r0_4) := ld_isBlk h0 2 _
  have q3 : IsBlk Q 3 (View.ld x0 r0_6) := ld_isBlk h0 3 _
  have q4 : IsBlk Q 4 (View.ld x0 r0_8) := ld_isBlk h0 4 _
  have q5 : IsBlk Q 5 (View.ld x0 r0_10) := ld_isBlk h0 5 _
  have q6 : IsBlk Q 6 (View.ld x0 r0_12) := ld_isBlk h0 6 _
  have q7 : IsBlk Q 7 (View.ld x0 r0_14) := ld_isBlk h0 7 _
  rw [out_eq]
  refine (View.canon_apply_of_pieces (Val := Elt Ideal) (e := .bf16) (fun y : S1x2048x128.Idx => rowsOut Q K V G (y 1 : Fin 2048) (y 2 : Fin 128))
    _ ?_ (ix3 0 r d) ?_)
  · simp only [List.forall_mem_cons]
    refine ⟨?_, ?_, ?_, ?_, ?_, ?_, ?_, ?_, fun p hp => absurd hp (by simp)⟩
    · exact tile_piece (by norm_num) q7 (ld_isBlk h1 7 _) (ld_isBlk h2 7 _) (ld_isBlk h3 7 _) (b7 7 (by norm_num) _ q7) _
    · exact tile_piece (by norm_num) q6 k6 v6 (ld_isBlk h3 6 _) (b6 6 (by norm_num) _ q6) _
    · exact tile_piece (by norm_num) q5 k5 v5 (ld_isBlk h3 5 _) (b5 5 (by norm_num) _ q5) _
    · exact tile_piece (by norm_num) q4 k4 v4 (ld_isBlk h3 4 _) (b4 4 (by norm_num) _ q4) _
    · exact tile_piece (by norm_num) q3 k3 v3 (ld_isBlk h3 3 _) (b3 3 (by norm_num) _ q3) _
    · exact tile_piece (by norm_num) q2 k2 v2 (ld_isBlk h3 2 _) (b2 2 (by norm_num) _ q2) _
    · exact tile_piece (by norm_num) q1 k1 v1 (ld_isBlk h3 1 _) (b1 1 (by norm_num) _ q1) _
    · exact tile_piece (by norm_num) (ld_isBlk h0 0 _) k0 v0 (ld_isBlk h3 0 _) (b0 0 _) _
  · have cov (n : ℕ) (inb) (hn : 256 * n ≤ r ∧ (r : ℕ) < 256 * n + 256) :
        (ix3 (0 : Fin 1) r d : (Blk 128 2048).Idx) ∈ (Rect.unit (s := Blk 128 2048) ![0, 256 * n, 0] (Blk 128 256).size inb).set := by
      rw [Rect.mem_set_unit]
      intro a
      fin_cases a
      · exact ⟨Nat.zero_le _, Nat.one_pos⟩
      · exact hn
      · exact ⟨Nat.zero_le _, (d.isLt.trans_eq (Nat.zero_add _).symm)⟩
    simp only [List.exists_mem_cons_iff]
    have hr := r.isLt
    rcases Nat.lt_or_ge r 256 with h | h
    · exact .inr (.inr (.inr (.inr (.inr (.inr (.inr (.inl (cov 0 _ ⟨by omega, by omega⟩))))))))
    rcases Nat.lt_or_ge r 512 with h | h
    · exact .inr (.inr (.inr (.inr (.inr (.inr (.inl (cov 1 _ ⟨by omega, by omega⟩)))))))
    rcases Nat.lt_or_ge r 768 with h | h
    · exact .inr (.inr (.inr (.inr (.inr (.inl (cov 2 _ ⟨by omega, by omega⟩))))))
    rcases Nat.lt_or_ge r 1024 with h | h
    · exact .inr (.inr (.inr (.inr (.inl (cov 3 _ ⟨by omega, by omega⟩)))))
    rcases Nat.lt_or_ge r 1280 with h | h
    · exact .inr (.inr (.inr (.inl (cov 4 _ ⟨by omega, by omega⟩))))
    rcases Nat.lt_or_ge r 1536 with h | h
    · exact .inr (.inr (.inl (cov 5 _ ⟨by omega, by omega⟩)))
    rcases Nat.lt_or_ge r 1792 with h | h
    · exact .inr (.inl (cov 6 _ ⟨by omega, by omega⟩))
    · exact .inl (cov 7 _ ⟨by omega, by omega⟩)

end Cert.KernelIdeal.Steps

end
-- ==== Proof.Final.lean ====
/-
  The kernel's result array: every block is written once, and holds the attention of its sequence and head.
-/
module

public import proofs.«01_k».proof.Proof.Body
public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Final

open Cert.KernelIdeal Cert.KernelIdeal.Gen Idealize.ShloMosaic Idealize.ShloMosaic.TcCoe Idealize.SL.Sem
open Cert.Flash Cert.KernelIdeal.Steps

variable (m : (ℓ : Loc nD τ sig) → Buf (Elt Ideal) ℓ) (ρ : Dev nD → PrngReg) (c : Dev nD)

abbrev qArg : S32768x1024.Idx → EReal := m ((c.tc : Thread nD τ).loc main_arg0)
abbrev kArg : S32768x1024.Idx → EReal := m ((c.tc : Thread nD τ).loc main_arg1)
abbrev vArg : S32768x512.Idx → EReal := m ((c.tc : Thread nD τ).loc main_arg2)
abbrev gArg : S32768x512.Idx → EReal := m ((c.tc : Thread nD τ).loc main_arg3)

/-- The array of the attention's results. -/
def result (q k : S32768x1024.Idx → EReal) (v g : S32768x512.Idx → EReal) : S16x2048x512.Idx → EReal := fun i =>
  attn q k v g (i 0 : Fin 16) ((i 2 : Fin 512) / 128) (i 1 : Fin 2048) ⟨(i 2 : Fin 512) % 128, Nat.mod_lt _ (by norm_num)⟩

/-- Where the windows' blocks lie. -/
theorem idx : ∀ t : Fin grid0.N, (win0_0.index t = ![t.val / 4, 0, t.val % 4] ∧ win0_1.index t = ![t.val / 4, 0, t.val % 4])
    ∧ (win0_2.index t = ![t.val / 4, 0, t.val % 4] ∧ win0_3.index t = ![t.val / 4, 0, t.val % 4])
    ∧ win0_4.index t = ![t.val / 4, 0, t.val % 4] := by decide +kernel

theorem block0 (t : Fin grid0.N) (r : Fin 2048) (d : Fin 256) :
    iblk m c 0 t (ix3 0 r d) = headRows 256 (qArg m c) (t.val / 4) (t.val % 4) r d := by
  have hN : t.val < 64 := t.isLt
  have hr := r.isLt
  have hd := d.isLt
  have h1 : t.val / 4 * 2048 + r < 32768 := by omega
  have h2 : t.val % 4 * 256 + d < 1024 := by omega
  rw [headRows, ← at2_mk (qArg m c) (⟨_, h1⟩ : Fin 32768) (⟨_, h2⟩ : Fin 1024)]
  have : iblk m c 0 t (ix3 0 r d) = V m c main_v0 (ix3 (⟨t.val / 4, by omega⟩ : Fin 16) r (⟨t.val % 4 * 256 + d, h2⟩ : Fin 1024)) := by
    blk_ext [iblk, (idx t).1.1]
  rw [this]
  entry_read
  pointwise

theorem block1 (t : Fin grid0.N) (r : Fin 2048) (d : Fin 256) :
    iblk m c 1 t (ix3 0 r d) = headRows 256 (kArg m c) (t.val / 4) (t.val % 4) r d := by
  have hN : t.val < 64 := t.isLt
  have hr := r.isLt
  have hd := d.isLt
  have h1 : t.val / 4 * 2048 + r < 32768 := by omega
  have h2 : t.val % 4 * 256 + d < 1024 := by omega
  rw [headRows, ← at2_mk (kArg m c) (⟨_, h1⟩ : Fin 32768) (⟨_, h2⟩ : Fin 1024)]
  have : iblk m c 1 t (ix3 0 r d) = V m c main_v1 (ix3 (⟨t.val / 4, by omega⟩ : Fin 16) r (⟨t.val % 4 * 256 + d, h2⟩ : Fin 1024)) := by
    blk_ext [iblk, (idx t).1.2]
  rw [this]
  entry_read
  pointwise

theorem block2 (t : Fin grid0.N) (r : Fin 2048) (d : Fin 128) :
    iblk m c 2 t (ix3 0 r d) = headRows 128 (vArg m c) (t.val / 4) (t.val % 4) r d := by
  have hN : t.val < 64 := t.isLt
  have hr := r.isLt
  have hd := d.isLt
  have h1 : t.val / 4 * 2048 + r < 32768 := by omega
  have h2 : t.val % 4 * 128 + d < 512 := by omega
  rw [headRows, ← at2_mk (vArg m c) (⟨_, h1⟩ : Fin 32768) (⟨_, h2⟩ : Fin 512)]
  have : iblk m c 2 t (ix3 0 r d) = V m c main_v2 (ix3 (⟨t.val / 4, by omega⟩ : Fin 16) r (⟨t.val % 4 * 128 + d, h2⟩ : Fin 512)) := by
    blk_ext [iblk, (idx t).2.1.1]
  rw [this]
  entry_read
  pointwise

theorem block3 (t : Fin grid0.N) (r : Fin 2048) (d : Fin 128) :
    iblk m c 3 t (ix3 0 r d) = headRows 128 (gArg m c) (t.val / 4) (t.val % 4) r d := by
  have hN : t.val < 64 := t.isLt
  have hr := r.isLt
  have hd := d.isLt
  have h1 : t.val / 4 * 2048 + r < 32768 := by omega
  have h2 : t.val % 4 * 128 + d < 512 := by omega
  rw [headRows, ← at2_mk (gArg m c) (⟨_, h1⟩ : Fin 32768) (⟨_, h2⟩ : Fin 512)]
  have : iblk m c 3 t (ix3 0 r d) = V m c main_v3 (ix3 (⟨t.val / 4, by omega⟩ : Fin 16) r (⟨t.val % 4 * 128 + d, h2⟩ : Fin 512)) := by
    blk_ext [iblk, (idx t).2.1.2]
  rw [this]
  entry_read
  pointwise

/-- The kernel's result array is the attention of the arguments. -/
theorem final : (dats m 0 c).arrAt 4 cfg0.N = result (qArg m c) (kArg m c) (vArg m c) (gArg m c) := by
  refine (dats m 0 c).arrAt_eq_of_covers 4 _ (by decide +kernel) fun t hf y => ?_
  blk_simp
  rw [after0_4]
  have hN : t.val < 64 := t.isLt
  have hy : y = ix3 (0 : Fin 1) (y 1 : Fin 2048) (y 2 : Fin 128) := by
    funext a
    fin_cases a
    · exact Subsingleton.elim (α := Fin 1) _ _
    · rfl
    · rfl
  have hd : (y 2 : Fin 128).val < 128 := (y 2 : Fin 128).isLt
  have he : (win0_4.blk t).view.emb y = ix3 (⟨t.val / 4, by omega⟩ : Fin 16) (y 1 : Fin 2048)
      (⟨t.val % 4 * 128 + (y 2 : Fin 128), by omega⟩ : Fin 512) := by
    blk_ext [(idx t).2.2]
  have hb := out_apply (Q := headRows 256 (qArg m c) (t.val / 4) (t.val % 4)) (K := headRows 256 (kArg m c) (t.val / 4) (t.val % 4))
    (V := headRows 128 (vArg m c) (t.val / 4) (t.val % 4)) (G := headRows 128 (gArg m c) (t.val / 4) (t.val % 4))
    (block0 m c t) (block1 m c t) (block2 m c t) (block3 m c t) (y 1 : Fin 2048) (y 2 : Fin 128)
  rw [he]
  refine (congrArg (out0_4 (iblk m c 0 t) (iblk m c 1 t) (iblk m c 2 t) (iblk m c 3 t)) hy).trans (hb.trans ?_)
  have e1 : (t.val % 4 * 128 + (y 2 : Fin 128).val) / 128 = t.val % 4 := by omega
  have e2 : (⟨(t.val % 4 * 128 + (y 2 : Fin 128).val) % 128, Nat.mod_lt _ (by norm_num)⟩ : Fin 128) = (y 2 : Fin 128) :=
    Fin.ext (by show (t.val % 4 * 128 + (y 2 : Fin 128).val) % 128 = (y 2 : Fin 128).val; omega)
  show attn (qArg m c) (kArg m c) (vArg m c) (gArg m c) (t.val / 4) (t.val % 4) (y 1 : Fin 2048) (y 2 : Fin 128)
    = attn (qArg m c) (kArg m c) (vArg m c) (gArg m c) (t.val / 4) ((t.val % 4 * 128 + (y 2 : Fin 128).val) / 128) (y 1 : Fin 2048)
        ⟨(t.val % 4 * 128 + (y 2 : Fin 128).val) % 128, Nat.mod_lt _ (by norm_num)⟩
  rw [e1, e2]

/-- The run: the result is the attention of the arguments, which end unchanged. -/
theorem run : θ_run defs (onTc (τ := τ) (main (F := Ideal))) ⟨m, fun _ => 0, ρ⟩ fun r => ∀ c : Dev nD,
      r.2.mem ((c.tc : Thread nD τ).loc main_v4) = result (qArg m c) (kArg m c) (vArg m c) (gArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Cert.KernelIdeal.Value.run_blocks m ρ)

end Cert.KernelIdeal.Final

end
-- ==== Proof.RefRow.lean ====
/-
  The reference's result at an index: the softmax of the row's scores times `log 2`, weighted by the values, times the gate.
  The reference's term is cut into stages over plain arrays; each stage is read at an index on its own.
-/
module

public import proofs.«01_k».proof.Proof.Gen.ReferenceIdeal.Run
public import proofs.«01_k».proof.Proof.Attn
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.RefRow

open Cert.ReferenceIdeal Cert.ReferenceIdeal.Gen Idealize.ShloMosaic Idealize.ShloMosaic.TcCoe Idealize.SL.Sem
open Cert.Flash

theorem log_two : Ideal.log (Ideal.ofBits .f32 0x40000000#32) = ln2 := by
  rw [show Ideal.ofBits .f32 0x40000000#32 = ((2 : ℝ) : EReal) by
    simp [Ideal.ofBits, Ideal.ieee]
    rw [← EReal.coe_mul]
    norm_num]
  show (if (2 : ℝ) ≤ 0 then (⊥ : EReal) else _) = _
  rw [if_neg (by norm_num)]
  rfl

abbrev Score : Type := FVec Ideal S16x4x2048x2048 .f32
abbrev Keys : Type := FVec Ideal S32768x1024 .bf16
abbrev Vals : Type := FVec Ideal S32768x512 .bf16

/-- The scores before the causal mask, times `log 2`. -/
def scaled (q k : Keys) : Score :=
  mulf (Host.dotGeneral dot_S16x2048x4x256_S16x2048x4x256_S16x4x2048x2048_3_3_1_1_02_02 none
    (shapeCast S16x2048x4x256 q shapeCasts_S32768x1024_S16x2048x4x256) (shapeCast S16x2048x4x256 k shapeCasts_S32768x1024_S16x2048x4x256))
    (broadcastInDim S16x4x2048x2048 ![] bcast_S_S16x4x2048x2048 (Host.log (constant S_ .f32 0x40000000#32)))

theorem scaled_apply (q k : Keys) (b : Fin 16) (h : Fin 4) (r x : Fin 2048) :
    scaled q k (ix4 b h r x)
      = (∑ d : Fin 256, at2 q (b * 2048 + r) (h * 256 + d) * at2 k (b * 2048 + x) (h * 256 + d)) * ln2 := by
  pointwise [scaled]
  simp only [log_two, at2_mk (A := 32768) (B := 1024)]

/-- The causal mask. -/
def mask : IVec S2048x2048 1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

theorem mask_apply (r x : Fin 2048) : mask (ix2 r x) = BitVec.ofBool (decide ((x : ℕ) ≤ r)) := by
  pointwise [mask]
  rw [WordCmp.cmpi_sge_ofNat (by have := r.isLt; omega) (by have := x.isLt; omega)]

/-- Minus infinity where the mask is off. -/
def where' (p : IVec S2048x2048 1) (s : Score) : Score :=
  select (broadcastInDim S16x4x2048x2048 ![2, 3] bcast_S2048x2048_S16x4x2048x2048_2_3 p) s
    (broadcastInDim S16x4x2048x2048 ![] bcast_S_S16x4x2048x2048 (id (constant S_ .f32 0xFF800000#32)))

theorem where_apply (p : IVec S2048x2048 1) (s : Score) (b : Fin 16) (h : Fin 4) (r x : Fin 2048) :
    where' p s (ix4 b h r x) = Scalar.select (p (ix2 r x)) (s (ix4 b h r x)) (⊥ : EReal) := by
  pointwise [where', id_eq]
  rw [neg_inf]

/-- Each row's largest score. -/
def rowTop (s : Score) : FVec Ideal S16x4x2048 .f32 :=
  Host.reduce FloatOps.maximumf s (constant S_ .f32 0xFF800000#32) reducesTo_S16x4x2048x2048_S16x4x2048_d3 h_S_

theorem rowTop_apply (s : Score) (b : Fin 16) (h : Fin 4) (r : Fin 2048) :
    rowTop s (ix3 b h r) = (Finset.univ.fold max ⊥ fun x : Fin 2048 => s (ix4 b h r x) : EReal) := by
  have hred : S16x4x2048x2048.Reduces [3] S16x4x2048 := by decide
  have hl : ∀ x : Fin 2048, hred.lift (ix3 b h r) x = ix4 b h r x := fun x => by
    funext i; fin_cases i <;> rfl
  refine (Host.reduce_eq_fold_single FloatOps.maximumf s _ _ hred h_S_ (ix3 b h r)).trans ?_
  rw [show (constant (F := Ideal) S_ .f32 0xFF800000#32) (Shape.Idx.first h_S_) = (⊥ : EReal) from neg_inf,
    show s ∘ hred.lift (ix3 b h r) = fun x : Fin 2048 => s (ix4 b h r x) from funext fun x => congrArg s (hl x)]
  exact Finset.fold_congr fun _ _ => Eq.refl _

/-- The larger of each number and minus infinity. -/
def above (a : FVec Ideal S16x4x2048 .f32) : FVec Ideal S16x4x2048 .f32 :=
  maximumf (broadcastInDim S16x4x2048 ![] bcast_S_S16x4x2048 (constant S_ .f32 0xFF800000#32)) a

theorem above_apply (a : FVec Ideal S16x4x2048 .f32) (b : Fin 16) (h : Fin 4) (r : Fin 2048) :
    above a (ix3 b h r) = a (ix3 b h r) := by
  pointwise [above]
  rw [neg_inf, max_eq_right bot_le]

/-- Each row's largest score, again no less than minus infinity. -/
def rowMax (s : Score) : FVec Ideal S16x4x2048 .f32 := above (rowTop s)

theorem rowMax_apply (s : Score) (b : Fin 16) (h : Fin 4) (r : Fin 2048) :
    rowMax s (ix3 b h r) = (Finset.univ.fold max ⊥ fun x : Fin 2048 => s (ix4 b h r x) : EReal) := by
  rw [rowMax, above_apply, rowTop_apply]

/-- A number per row, for each of the row's entries. -/
def wide (a : FVec Ideal S16x4x2048 .f32) : Score :=
  broadcastInDim S16x4x2048x2048 ![0, 1, 2, 3] bcast_S16x4x2048x1_S16x4x2048x2048_0_1_2_3
    (broadcastInDim S16x4x2048x1 ![0, 1, 2] bcast_S16x4x2048_S16x4x2048x1_0_1_2 a)

theorem wide_apply (a : FVec Ideal S16x4x2048 .f32) (b : Fin 16) (h : Fin 4) (r x : Fin 2048) :
    wide a (ix4 b h r x) = a (ix3 b h r) := by
  pointwise [wide]

/-- The powers of a row's scores. -/
def powers (s : Score) : Score := Host.exp (subf s (wide (rowMax s)))

theorem powers_apply (s : Score) (b : Fin 16) (h : Fin 4) (r x : Fin 2048) :
    powers s (ix4 b h r x)
      = Ideal.exp (s (ix4 b h r x) - (Finset.univ.fold max ⊥ fun x : Fin 2048 => s (ix4 b h r x) : EReal)) := by
  pointwise [powers]
  rw [wide_apply, rowMax_apply]

/-- Each row's sum of powers. -/
def rowSum (p : Score) : FVec Ideal S16x4x2048 .f32 :=
  Host.reduceAdd p (constant S_ .f32 0x00000000#32) reducesTo_S16x4x2048x2048_S16x4x2048_d3 h_S_

theorem rowSum_apply (p : Score) (b : Fin 16) (h : Fin 4) (r : Fin 2048) :
    rowSum p (ix3 b h r) = (∑ x : Fin 2048, p (ix4 b h r x) : EReal) := by
  pointwise [rowSum]

/-- The probabilities. -/
def probs (p : Score) : FVec Ideal S16x4x2048x2048 .bf16 :=
  truncf .bf16 (Host.divf p (wide (rowSum p))) bitsLt_bf16_f32

theorem probs_apply (p : Score) (b : Fin 16) (h : Fin 4) (r x : Fin 2048) :
    probs p (ix4 b h r x) = Ideal.div (p (ix4 b h r x)) (∑ x : Fin 2048, p (ix4 b h r x) : EReal) := by
  pointwise [probs]
  rw [wide_apply, rowSum_apply]

/-- The probabilities' products with the values, times the gate. -/
def result (p : FVec Ideal S16x4x2048x2048 .bf16) (v g : Vals) : FVec Ideal S16x2048x512 .bf16 :=
  mulf (shapeCast S16x2048x512 (truncf .bf16 (transpose S16x2048x4x128 [0, 3, 1, 2]
      (Host.dotGeneral dot_S16x2048x4x128_S16x4x2048x2048_S16x4x128x2048_1_3_3_2_02_01 none
        (shapeCast S16x2048x4x128 v shapeCasts_S32768x512_S16x2048x4x128) p)
      transposes_S16x4x128x2048_S16x2048x4x128_0_3_1_2) bitsLt_bf16_f32) shapeCasts_S16x2048x4x128_S16x2048x512)
    (shapeCast S16x2048x512 g shapeCasts_S32768x512_S16x2048x512)

theorem result_apply (p : FVec Ideal S16x4x2048x2048 .bf16) (v g : Vals) (b : Fin 16) (r : Fin 2048) (w : Fin 512) :
    result p v g (ix3 b r w)
      = (∑ x : Fin 2048, at2 v (b * 2048 + x) w * p (ix4 b ⟨w / 128, by omega⟩ r x)) * at2 g (b * 2048 + r) w := by
  pointwise [result]
  simp only [at2_mk (A := 32768) (B := 512)]

/-- The whole reference over plain arrays. -/
def whole (q k : Keys) (v g : Vals) : FVec Ideal S16x2048x512 .bf16 :=
  result (probs (powers (where' mask (scaled q k)))) v g

theorem res_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v31 whole result probs rowSum powers rowMax above rowTop wide where' mask scaled
  rfl

/-- The masked, scaled score is the score times `log 2`. -/
theorem masked_apply (q k : Keys) (b : Fin 16) (h : Fin 4) (r x : Fin 2048) :
    where' mask (scaled q k) (ix4 b h r x) = score q k b h r x * ln2 := by
  rw [where_apply, mask_apply, scaled_apply, score, rowScore]
  by_cases hx : (x : ℕ) ≤ r
  · rw [if_pos hx, decide_eq_true hx]; rfl
  · rw [if_neg hx, decide_eq_false hx, bot_mul_ln2]; rfl

theorem whole_apply (q k : Keys) (v g : Vals) (hq : Finite q) (hk : Finite k) (b : Fin 16) (r : Fin 2048) (w : Fin 512) :
    whole q k v g (ix3 b r w) = attn q k v g b (w / 128) r ⟨w % 128, Nat.mod_lt _ (by norm_num)⟩ := by
  rw [whole, result_apply]
  simp only [probs_apply, powers_apply, masked_apply]
  rw [attn, softmax_eq (score q k b (w / 128) r) _ 2048 r r.isLt (score_ne_top hq hk _ _ _) (score_self_ne_bot hq hk _ _ _)]
  have hw : (w : ℕ) / 128 * 128 + w % 128 = w := Nat.div_add_mod' _ _
  simp only [headRows, hw]

end Cert.ReferenceIdeal.RefRow

end
-- ==== Proof.Attention.lean ====
/-
  The attention's claims: the frames, the named mask constant, and the equality of the two results where no query and no key is
  infinite.
-/
module

public import proofs.«01_k».proof.Defs
public import proofs.«01_k».proof.Proof.Gen.Kernel.Frame
public import proofs.«01_k».proof.Proof.Final
public import proofs.«01_k».proof.Proof.RefRow
public import Idealize.ShloMosaic.Lib.Quiescent

@[expose] public section

set_option maxRecDepth 16384

noncomputable section

namespace Cert.Attention

open Idealize.ShloMosaic Idealize.ShloMosaic.TcCoe Idealize.SL.Sem
open Cert.Flash

/-- The precondition's stated side conditions. -/
instance finiteFacts : Cert.Pre_scores_finite.Facts where
  bitsLt_bf16_f32 := by decide
  bcast_S_S32768x1024 := by decide

theorem inf_f32 : Ideal.ofBits .f32 0x7F800000#32 = ⊤ := by simp [Ideal.ofBits, Ideal.ieee]

theorem of_abs_lt {x : EReal} (h : max x (-x) < ⊤) : x ≠ ⊥ ∧ x ≠ ⊤ := by
  constructor <;> rintro rfl <;> simp at h

theorem fn_apply (q k : FVec Ideal Cert.Pre_scores_finite.S32768x1024 .bf16) (v g : FVec Ideal Cert.Pre_scores_finite.S32768x512 .bf16)
    (i : Fin 32768) (j : Fin 1024) : Cert.Pre_scores_finite.fn q k v g (ix2 i j)
      = IntOp.andi (BitVec.ofBool (decide (max (q (ix2 i j) : EReal) (-q (ix2 i j)) < ⊤)))
          (BitVec.ofBool (decide (max (k (ix2 i j) : EReal) (-k (ix2 i j)) < ⊤))) := by
  pointwise [Cert.Pre_scores_finite.fn]
  rw [inf_f32]
  rfl

/-- What the precondition says: no query and no key entry is infinite. -/
theorem finite_of_pre (q k : FVec Ideal Cert.Pre_scores_finite.S32768x1024 .bf16) (v g : FVec Ideal Cert.Pre_scores_finite.S32768x512 .bf16)
    (h : Cert.Pre_scores_finite.fn q k v g = fun _ => 1#1) :
    Finite (s := ⟨2, ![32768, 1024]⟩) q ∧ Finite (s := ⟨2, ![32768, 1024]⟩) k := by
  have h' (i : Fin 32768) (j : Fin 1024) : (q (ix2 i j) ≠ ⊥ ∧ q (ix2 i j) ≠ ⊤) ∧ (k (ix2 i j) ≠ ⊥ ∧ k (ix2 i j) ≠ ⊤) := by
    have := (fn_apply q k v g i j).symm.trans (congrFun h (ix2 i j))
    by_cases h0 : max (q (ix2 i j) : EReal) (-q (ix2 i j)) < ⊤ <;> by_cases h1 : max (k (ix2 i j) : EReal) (-k (ix2 i j)) < ⊤
    · exact ⟨of_abs_lt h0, of_abs_lt h1⟩
    all_goals simp only [h0, h1, decide_true, decide_false] at this; exact absurd this (by decide)
  have e (i : (⟨2, ![32768, 1024]⟩ : Shape).Idx) : i = ix2 (i 0 : Fin 32768) (i 1 : Fin 1024) := by
    funext a; fin_cases a <;> rfl
  exact ⟨fun i => e i ▸ (h' _ _).1, fun i => e i ▸ (h' _ _).2⟩

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- Where no query and no key is infinite the two results are equal. -/
theorem algebraic : Cert.algebraic_KernelIdeal_ReferenceIdeal_pre_scores_finite := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨hq, hk⟩ := finite_of_pre _ _ _ _ (hpre c)
  refine (Cert.ReferenceIdeal.RefRow.res_eq m' c).trans ?_
  rw [h0, h1, h2, h3]
  funext i
  have hi : i = ix3 (i 0 : Fin 16) (i 1 : Fin 2048) (i 2 : Fin 512) := by funext a; fin_cases a <;> rfl
  rw [hi]
  exact Cert.ReferenceIdeal.RefRow.whole_apply _ _ _ _ hq hk _ _ _

end Cert.Attention

end
-- ==== Proof.OutMath.lean ====
/-
  The layer's output projection, in plain formulas over the extended reals: the three branches' rows side by side,
  their product with the weights, its root-mean-square norm, and the gated residual.
-/
module

public import Idealize.ShloMosaic.Lib.Pointwise

@[expose] public section

noncomputable section

namespace Cert.OutMath

open Idealize.ShloMosaic

/-- Three rows laid side by side. -/
def beside (f : Fin 512 → EReal) (g h : Fin 256 → EReal) (e : Fin 1024) : EReal :=
  if h0 : e.val < 512 then f ⟨e.val, h0⟩
  else if h1 : e.val - 512 < 256 then g ⟨e.val - 512, h1⟩
  else h ⟨e.val - 512 - 256, by have := e.isLt; omega⟩

/-- The root-mean-square norm of a row of `n` entries, with the divisor's bits given, times a gain. -/
def normed {n : ℕ} (bits : BitVec 32) (y : Fin n → EReal) (g : Fin n → EReal) (d : Fin n) : EReal :=
  y d * Ideal.rsqrt (Ideal.div (∑ e, y e * y e) (Ideal.ofBits .f32 bits) + Ideal.ofBits .f32 0x358637BD#32) * g d

/-- A mixed row's products with the columns of the weights. -/
def projected (f : Fin 512 → EReal) (g h : Fin 256 → EReal) (w : Fin 1024 → Fin 1024 → EReal) (d : Fin 1024) : EReal :=
  ∑ e, beside f g h e * w e d

/-- The layer's result in one row: the row that came in, plus the gate times the normed projection. -/
def outRow (f : Fin 512 → EReal) (g h : Fin 256 → EReal) (x gate gain : Fin 1024 → EReal) (w : Fin 1024 → Fin 1024 → EReal)
    (d : Fin 1024) : EReal :=
  x d + gate d * normed 0x44800000#32 (projected f g h w) gain d

end Cert.OutMath

end
-- ==== Proof.OutKer.lean ====
/-
  The output projection's result array: every block of rows is written once, each row the layer's row.
-/
module

public import proofs.«01_k».proof.Proof.Gen.OutKernelIdeal.Value
public import proofs.«01_k».proof.Proof.OutMath
public import Idealize.ShloMosaic.Lib.Pipeline.ValueKit
public import Idealize.ShloMosaic.Lib.Claim

@[expose] public section

set_option maxRecDepth 16384

noncomputable section

namespace Cert.OutKernelIdeal.Final

open Cert.OutKernelIdeal Cert.OutKernelIdeal.Gen Idealize.ShloMosaic Idealize.ShloMosaic.TcCoe Idealize.SL.Sem
open Cert.OutMath

variable (m : (ℓ : Loc nD τ sig) → Buf (Elt Ideal) ℓ) (ρ : Dev nD → PrngReg) (c : Dev nD)

/-- One element of what the body stores. -/
theorem pay_apply (x0 : Vec Ideal S1024x512 .bf16) (x1 x2 : Vec Ideal S1024x256 .bf16) (w : Vec Ideal S1024x1024 .bf16)
    (md : Vec Ideal S1x1x3072 .f32) (x : Vec Ideal S1024x1024 .f32) (g : Vec Ideal S1x1024 .f32) (a : Fin 1024) (d : Fin 1024) :
    k0_pay1 x0 x1 x2 w md x g (ix2 a d)
      = outRow (fun e => x0 (ix2 a e)) (fun e => x1 (ix2 a e)) (fun e => x2 (ix2 a e)) (fun e => x (ix2 a e))
          (fun e => md (ix3 (0 : Fin 1) (0 : Fin 1) (⟨2048 + e.val, by omega⟩ : Fin 3072)))
          (fun e => g (ix2 (0 : Fin 1) e)) (fun e d => w (ix2 e d)) d := by
  pointwise [k0_pay1]
  rfl

/-- One element of the output's block. -/
theorem out_apply (x0 : Vec Ideal S1024x512 .bf16) (x1 x2 : Vec Ideal S1024x256 .bf16) (x : Vec Ideal S1024x1024 .f32)
    (md : Vec Ideal S1x1x3072 .f32) (w : Vec Ideal S1024x1024 .bf16) (g : Vec Ideal S1x1024 .f32) (a : Fin 1024) (d : Fin 1024) :
    out0_7 x0 x1 x2 x md w g (ix2 a d)
      = outRow (fun e => x0 (ix2 a e)) (fun e => x1 (ix2 a e)) (fun e => x2 (ix2 a e)) (fun e => x (ix2 a e))
          (fun e => md (ix3 (0 : Fin 1) (0 : Fin 1) (⟨2048 + e.val, by omega⟩ : Fin 3072)))
          (fun e => g (ix2 (0 : Fin 1) e)) (fun e d => w (ix2 e d)) d := by
  rw [← pay_apply]
  unfold out0_7
  have z2 : (![0, 0] : Fin 2 → ℕ) = fun _ => 0 := by decide
  have z3 : (![0, 0, 0] : Fin 3 → ℕ) = fun _ => 0 := by decide
  rw [View.canon_unit_zero z2, View.ld_unit_zero z2, View.ld_unit_zero z2, View.ld_unit_zero z2, View.ld_unit_zero z2,
    View.ld_unit_zero z3, View.ld_unit_zero z2, View.ld_unit_zero z2]

/-- One element of the layer's rows. -/
def rowAt (x0 : S32768x512.Idx → EReal) (x1 x2 : S32768x256.Idx → EReal) (x : S32768x1024.Idx → EReal) (md : S16x3072.Idx → EReal)
    (w : S1024x1024.Idx → EReal) (g : S1024.Idx → EReal) (i : Fin 32768) (d : Fin 1024) : EReal :=
  outRow (fun e => x0 (ix2 i e)) (fun e => x1 (ix2 i e)) (fun e => x2 (ix2 i e)) (fun e => x (ix2 i e))
    (fun e => md (ix2 (⟨i.val / 2048, by omega⟩ : Fin 16) (⟨2048 + e.val, by omega⟩ : Fin 3072)))
    (fun e => g (ix1 e)) (fun e d => w (ix2 e d)) d

/-- The array of the layer's rows. -/
def result (x0 : S32768x512.Idx → EReal) (x1 x2 : S32768x256.Idx → EReal) (x : S32768x1024.Idx → EReal) (md : S16x3072.Idx → EReal)
    (w : S1024x1024.Idx → EReal) (g : S1024.Idx → EReal) : S32768x1024.Idx → EReal := fun i =>
  rowAt x0 x1 x2 x md w g (i 0 : Fin 32768) (i 1 : Fin 1024)

/-- Where the windows' blocks lie. -/
theorem idx : ∀ t : Fin grid0.N, (win0_0.index t = ![t.val, 0] ∧ win0_1.index t = ![t.val, 0])
    ∧ (win0_2.index t = ![t.val, 0] ∧ win0_3.index t = ![t.val, 0])
    ∧ (win0_4.index t = ![t.val / 2, 0, 0] ∧ win0_5.index t = ![0, 0])
    ∧ (win0_6.index t = ![0, 0] ∧ win0_7.index t = ![t.val, 0]) := by decide +kernel

theorem block0 (t : Fin grid0.N) (r : Fin 1024) (d : Fin 512) :
    iblk m c 0 t (ix2 r d) = m ((c.tc : Thread nD τ).loc main_arg0) (ix2 (⟨t.val * 1024 + r.val, by have : t.val < 32 := t.isLt; omega⟩ : Fin 32768) d) := by
  have hN : t.val < 32 := t.isLt
  rw [← V_main_arg0 m c]
  blk_ext [iblk, (idx t).1.1]

theorem block1 (t : Fin grid0.N) (r : Fin 1024) (d : Fin 256) :
    iblk m c 1 t (ix2 r d) = m ((c.tc : Thread nD τ).loc main_arg1) (ix2 (⟨t.val * 1024 + r.val, by have : t.val < 32 := t.isLt; omega⟩ : Fin 32768) d) := by
  have hN : t.val < 32 := t.isLt
  rw [← V_main_arg1 m c]
  blk_ext [iblk, (idx t).1.2]

theorem block2 (t : Fin grid0.N) (r : Fin 1024) (d : Fin 256) :
    iblk m c 2 t (ix2 r d) = m ((c.tc : Thread nD τ).loc main_arg2) (ix2 (⟨t.val * 1024 + r.val, by have : t.val < 32 := t.isLt; omega⟩ : Fin 32768) d) := by
  have hN : t.val < 32 := t.isLt
  rw [← V_main_arg2 m c]
  blk_ext [iblk, (idx t).2.1.1]

theorem block3 (t : Fin grid0.N) (r : Fin 1024) (d : Fin 1024) :
    iblk m c 3 t (ix2 r d) = m ((c.tc : Thread nD τ).loc main_arg3) (ix2 (⟨t.val * 1024 + r.val, by have : t.val < 32 := t.isLt; omega⟩ : Fin 32768) d) := by
  have hN : t.val < 32 := t.isLt
  rw [← V_main_arg3 m c]
  blk_ext [iblk, (idx t).2.1.2]

theorem block4 (t : Fin grid0.N) (d : Fin 3072) :
    iblk m c 4 t (ix3 (0 : Fin 1) (0 : Fin 1) d)
      = m ((c.tc : Thread nD τ).loc main_arg4) (ix2 (⟨t.val / 2, by have : t.val < 32 := t.isLt; omega⟩ : Fin 16) d) := by
  have hN : t.val < 32 := t.isLt
  have : iblk m c 4 t (ix3 (0 : Fin 1) (0 : Fin 1) d) = V m c main_v2 (ix3 (⟨t.val / 2, by omega⟩ : Fin 16) (0 : Fin 1) d) := by
    blk_ext [iblk, (idx t).2.2.1.1]
  rw [this]
  entry_read
  pointwise

theorem block5 (t : Fin grid0.N) (e d : Fin 1024) :
    iblk m c 5 t (ix2 e d) = m ((c.tc : Thread nD τ).loc main_arg5) (ix2 e d) := by
  have : iblk m c 5 t (ix2 e d) = V m c main_v0 (ix2 e d) := by
    blk_ext [iblk, (idx t).2.2.1.2]
  rw [this]
  entry_read
  pointwise

theorem block6 (t : Fin grid0.N) (d : Fin 1024) :
    iblk m c 6 t (ix2 (0 : Fin 1) d) = m ((c.tc : Thread nD τ).loc main_arg6) (ix1 d) := by
  have : iblk m c 6 t (ix2 (0 : Fin 1) d) = V m c main_v1 (ix2 (0 : Fin 1) d) := by
    blk_ext [iblk, (idx t).2.2.2.1]
  rw [this]
  entry_read
  pointwise

/-- One element of the block a grid point leaves. -/
theorem block_result (t : Fin grid0.N) (r d : Fin 1024) (h : t.val * 1024 + r.val < 32768) :
    out0_7 (iblk m c 0 t) (iblk m c 1 t) (iblk m c 2 t) (iblk m c 3 t) (iblk m c 4 t) (iblk m c 5 t) (iblk m c 6 t) (ix2 r d)
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (ix2 (⟨t.val * 1024 + r.val, h⟩ : Fin 32768) d) := by
  rw [out_apply]
  simp only [block0, block1, block2, block3, block4, block5, block6]
  have e2 : (⟨(t.val * 1024 + r.val) / 2048, by omega⟩ : Fin 16) = ⟨t.val / 2, by omega⟩ := Fin.ext (by simp only; omega)
  show _ = rowAt _ _ _ _ _ _ _ (⟨t.val * 1024 + r.val, h⟩ : Fin 32768) d
  unfold rowAt
  simp only [e2]

/-- The kernel's result array. -/
theorem final : (dats m 0 c).arrAt 7 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  refine (dats m 0 c).arrAt_eq_of_covers 7 _ (by decide +kernel) fun t hf y => ?_
  blk_simp
  rw [after0_7]
  have hN : t.val < 32 := t.isLt
  have hy : y = ix2 (y 0 : Fin 1024) (y 1 : Fin 1024) := by
    funext a
    fin_cases a <;> rfl
  have hr : (y 0 : Fin 1024).val < 1024 := (y 0 : Fin 1024).isLt
  have he : (win0_7.blk t).view.emb y = ix2 (⟨t.val * 1024 + (y 0 : Fin 1024).val, by omega⟩ : Fin 32768) (y 1 : Fin 1024) := by
    blk_ext [(idx t).2.2.2.2]
  rw [he]
  refine (congrArg (out0_7 (iblk m c 0 t) (iblk m c 1 t) (iblk m c 2 t) (iblk m c 3 t) (iblk m c 4 t) (iblk m c 5 t) (iblk m c 6 t)) hy).trans ?_
  exact block_result m c t (y 0 : Fin 1024) (y 1 : Fin 1024) (by omega)

/-- The run: the result array holds the layer's rows of the arguments, which end unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final m c), (h c).2⟩) (Cert.OutKernelIdeal.Value.run_blocks m ρ)

end Cert.OutKernelIdeal.Final

end
-- ==== Proof.OutRef.lean ====
/-
  The reference of the output projection, read element by element.
-/
module

public import proofs.«01_k».proof.Proof.Gen.OutReferenceIdeal.Run
public import proofs.«01_k».proof.Proof.OutMath

@[expose] public section

set_option maxRecDepth 16384

noncomputable section

namespace Cert.OutReferenceIdeal.RefRow

open Cert.OutReferenceIdeal Cert.OutReferenceIdeal.Gen Idealize.ShloMosaic Idealize.ShloMosaic.TcCoe Idealize.SL.Sem
open Cert.OutMath

/-- The mixed rows' products with the weights. -/
def dots (x0 : FVec Ideal S32768x512 .bf16) (x1 x2 : FVec Ideal S32768x256 .bf16) (w : FVec Ideal S1024x1024 .f32) : FVec Ideal S16x2048x1024 .f32 :=
  Host.dotGeneral dot_S16x2048x1024_S1024x1024_S16x2048x1024_2_0_01_1_n_n none
    (shapeCast S16x2048x1024 (extf .f32 (concatenate S32768x1024 1 [⟨S32768x512, x0⟩, ⟨S32768x256, x1⟩, ⟨S32768x256, x2⟩]
      concatenates_S32768x512_S32768x256_S32768x256_S32768x1024_d1) bitsLt_bf16_f32) shapeCasts_S32768x1024_S16x2048x1024) w

/-- The norm's scale of every row. -/
def scale (y : FVec Ideal S16x2048x1024 .f32) : FVec Ideal S16x2048x1 .f32 :=
  Host.rsqrt (addf (Host.divf (broadcastInDim S16x2048x1 ![0, 1] bcast_S16x2048_S16x2048x1_0_1
    (Host.reduceAdd (mulf y y) (constant S_ .f32 0x00000000#32) reducesTo_S16x2048x1024_S16x2048_d2 h_S_))
      (broadcastInDim S16x2048x1 ![] bcast_S_S16x2048x1 (constant S_ .f32 0x44800000#32)))
    (broadcastInDim S16x2048x1 ![] bcast_S_S16x2048x1 (constant S_ .f32 0x358637BD#32)))

/-- The whole term over the products. -/
def whole (y : FVec Ideal S16x2048x1024 .f32) (x : FVec Ideal S32768x1024 .f32) (md : FVec Ideal S16x3072 .f32) (g : FVec Ideal S1024 .f32) :
    FVec Ideal S32768x1024 .f32 :=
  shapeCast S32768x1024 (addf (shapeCast S16x2048x1024 x shapeCasts_S32768x1024_S16x2048x1024)
    (mulf (broadcastInDim S16x2048x1024 ![0, 1, 2] bcast_S16x1x1024_S16x2048x1024_0_1_2
      (broadcastInDim S16x1x1024 ![0, 2] bcast_S16x1024_S16x1x1024_0_2 (extractStridedSlice S16x1024 ![0, 2048] md slices_S16x3072_S16x1024_0_2048)))
      (mulf (mulf y (broadcastInDim S16x2048x1024 ![0, 1, 2] bcast_S16x2048x1_S16x2048x1024_0_1_2 (scale y)))
        (broadcastInDim S16x2048x1024 ![0, 1, 2] bcast_S1x1x1024_S16x2048x1024_0_1_2
          (broadcastInDim S1x1x1024 ![2] bcast_S1024_S1x1x1024_2 g))))) shapeCasts_S16x2048x1024_S32768x1024

theorem dots_apply (x0 : FVec Ideal S32768x512 .bf16) (x1 x2 : FVec Ideal S32768x256 .bf16) (w : FVec Ideal S1024x1024 .f32)
    (b : Fin 16) (r : Fin 2048) (d : Fin 1024) (i : Fin 32768) (hi : ⟨b.val * 2048 + r.val, by omega⟩ = i) :
    dots x0 x1 x2 w (ix3 b r d) = projected (fun e => x0 (ix2 i e)) (fun e => x1 (ix2 i e)) (fun e => x2 (ix2 i e)) (fun e d => w (ix2 e d)) d := by
  subst hi
  pointwise [dots]
  rfl

theorem scale_apply (y : FVec Ideal S16x2048x1024 .f32) (b : Fin 16) (r : Fin 2048) :
    scale y (ix3 b r (0 : Fin 1)) = Ideal.rsqrt (Ideal.div (∑ e, y (ix3 b r e) * y (ix3 b r e)) (Ideal.ofBits .f32 0x44800000#32)
      + Ideal.ofBits .f32 0x358637BD#32) := by
  pointwise [scale]

theorem whole_apply (y : FVec Ideal S16x2048x1024 .f32) (x : FVec Ideal S32768x1024 .f32) (md : FVec Ideal S16x3072 .f32) (g : FVec Ideal S1024 .f32)
    (i : Fin 32768) (d : Fin 1024) :
    whole y x md g (ix2 i d) = x (ix2 i d) + md (ix2 (⟨i.val / 2048, by omega⟩ : Fin 16) (⟨2048 + d.val, by omega⟩ : Fin 3072))
      * normed 0x44800000#32 (fun e => y (ix3 (⟨i.val / 2048, by omega⟩ : Fin 16) (⟨i.val % 2048, by omega⟩ : Fin 2048) e))
        (fun e => g (ix1 e)) d := by
  pointwise [whole]
  rw [scale_apply]
  rfl

/-- The reference's result is the layer's row, whatever the index. -/
theorem res_apply (x0 : FVec Ideal S32768x512 .bf16) (x1 x2 : FVec Ideal S32768x256 .bf16) (x : FVec Ideal S32768x1024 .f32)
    (md : FVec Ideal S16x3072 .f32) (w : FVec Ideal S1024x1024 .f32) (g : FVec Ideal S1024 .f32) (i : Fin 32768) (d : Fin 1024) :
    whole (dots x0 x1 x2 w) x md g (ix2 i d)
      = outRow (fun e => x0 (ix2 i e)) (fun e => x1 (ix2 i e)) (fun e => x2 (ix2 i e)) (fun e => x (ix2 i e))
          (fun e => md (ix2 (⟨i.val / 2048, by omega⟩ : Fin 16) (⟨2048 + e.val, by omega⟩ : Fin 3072)))
          (fun e => g (ix1 e)) (fun e d => w (ix2 e d)) d := by
  rw [whole_apply, outRow]
  simp only [dots_apply x0 x1 x2 w ⟨i.val / 2048, by omega⟩ ⟨i.val % 2048, by omega⟩ _ i (Fin.ext (by simp only; omega))]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = whole (dots (m ((c.tc : Thread nD τ).loc main_arg0)) (m ((c.tc : Thread nD τ).loc main_arg1)) (m ((c.tc : Thread nD τ).loc main_arg2))
            (m ((c.tc : Thread nD τ).loc main_arg5))) (m ((c.tc : Thread nD τ).loc main_arg3)) (m ((c.tc : Thread nD τ).loc main_arg4))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold whole scale dots; rfl), (h c).2⟩) (Cert.OutReferenceIdeal.Value.run (F := Ideal) m ρ)

end Cert.OutReferenceIdeal.RefRow

end
-- ==== Proof.OutClaims.lean ====
/-
  The output projection's claims: the frames, and the equality of the two results.
-/
module

public import proofs.«01_k».proof.Defs
public import proofs.«01_k».proof.Proof.Gen.OutKernel.Frame
public import proofs.«01_k».proof.Proof.OutKer
public import proofs.«01_k».proof.Proof.OutRef
public import Idealize.ShloMosaic.Lib.Quiescent

@[expose] public section

set_option maxRecDepth 16384

noncomputable section

namespace Cert.OutClaims

open Idealize.ShloMosaic Idealize.ShloMosaic.TcCoe Idealize.SL.Sem

theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The two results are equal, whatever the arguments hold. -/
theorem algebraic : Cert.algebraic_OutKernelIdeal_OutReferenceIdeal := by
  intro m ρ m' ρ' _ hagree
  refine ⟨_, Cert.OutKernelIdeal.Final.run m ρ, ?_⟩
  refine (θ_run Cert.OutReferenceIdeal.defs _ _).mono (fun _ h c => ⟨(h c).1.trans ?_, (h c).2⟩)
    (Cert.OutReferenceIdeal.RefRow.run m' ρ')
  obtain ⟨h0, h1, h2, h3, h4, h5, h6⟩ := hagree c
  rw [h0, h1, h2, h3, h4, h5, h6]
  funext i
  have hi : i = ix2 (i 0 : Fin 32768) (i 1 : Fin 1024) := by funext a; fin_cases a <;> rfl
  rw [hi]
  exact Cert.OutReferenceIdeal.RefRow.res_apply _ _ _ _ _ _ _ _ _

end Cert.OutClaims

end
-- ==== Proof.ProjBody.lean ====
module

public import proofs.«01_k».proof.Proof.Gen.ProjKernelIdeal.Frame.Runs

@[expose] public section

set_option maxRecDepth 16384

noncomputable section

/-! What one grid point of the projection's body computes, stage by stage, as functions of the fifteen blocks it
    reads: `x0` the rows, `x1` the modulation row, `x2` the norm's gain, `x3` the input projection, `x4` and `x5` the query norm's
    gain and up-projection, `x6`, `x7`, `x8` the latent norm's gain and the key and value up-projections, `x9` and `x10` the
    rotation tables, `x11` and `x12` the layer norm of the mixing branch, `x13` and `x14` its weights and bias. -/

namespace Cert.ProjKernelIdeal.Run

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 1x1x3072 rectangle at (0, 0, 0) of a block of shape 1x1x3072. -/
abbrev rS1x1x3072 : Rect S1x1x3072 := Rect.unit (s := S1x1x3072) ![0, 0, 0] S1x1x3072.size inb_S1x1x3072_S1x1x3072_0_0_0

/-- The 512x1024 rectangle at (0, 0) of a block of shape 512x1024. -/
abbrev rS512x1024 : Rect S512x1024 := Rect.unit (s := S512x1024) ![0, 0] S512x1024.size inb_S512x1024_S512x1024_0_0

/-- The 1x1024 rectangle at (0, 0) of a block of shape 1x1024. -/
abbrev rS1x1024 : Rect S1x1024 := Rect.unit (s := S1x1024) ![0, 0] S1x1024.size inb_S1x1024_S1x1024_0_0

/-- The 512x128 rectangle at (0, 0) of a block of shape 512x128. -/
abbrev rS512x128 : Rect S512x128 := Rect.unit (s := S512x128) ![0, 0] S512x128.size inb_S512x128_S512x128_0_0

/-- The 1024x512 rectangle at (0, 0) of a block of shape 1024x3200. -/
abbrev rS1024x512_of_S1024x3200 : Rect S1024x3200 := Rect.unit (s := S1024x3200) ![0, 0] S1024x512.size inb_S1024x3200_S1024x512_0_0

/-- The 1x384 rectangle at (0, 0) of a block of shape 1x384. -/
abbrev rS1x384 : Rect S1x384 := Rect.unit (s := S1x384) ![0, 0] S1x384.size inb_S1x384_S1x384_0_0

/-- The 384x1024 rectangle at (0, 0) of a block of shape 384x1024. -/
abbrev rS384x1024 : Rect S384x1024 := Rect.unit (s := S384x1024) ![0, 0] S384x1024.size inb_S384x1024_S384x1024_0_0

/-- The 1024x256 rectangle at (0, 512) of a block of shape 1024x3200. -/
abbrev rS1024x256_512_of_S1024x3200 : Rect S1024x3200 := Rect.unit (s := S1024x3200) ![0, 512] S1024x256.size inb_S1024x3200_S1024x256_0_512

/-- The 1x256 rectangle at (0, 0) of a block of shape 1x256. -/
abbrev rS1x256 : Rect S1x256 := Rect.unit (s := S1x256) ![0, 0] S1x256.size inb_S1x256_S1x256_0_0

/-- The 256x512 rectangle at (0, 0) of a block of shape 256x512. -/
abbrev rS256x512 : Rect S256x512 := Rect.unit (s := S256x512) ![0, 0] S256x512.size inb_S256x512_S256x512_0_0

/-- The 1024x512 rectangle at (0, 768) of a block of shape 1024x3200. -/
abbrev rS1024x512_768_of_S1024x3200 : Rect S1024x3200 := Rect.unit (s := S1024x3200) ![0, 768] S1024x512.size inb_S1024x3200_S1024x512_0_768

/-- The 1024x896 rectangle at (0, 1280) of a block of shape 1024x3200. -/
abbrev rS1024x896_1280_of_S1024x3200 : Rect S1024x3200 := Rect.unit (s := S1024x3200) ![0, 1280] S1024x896.size inb_S1024x3200_S1024x896_0_1280

/-- The 1024x256 rectangle at (0, 2176) of a block of shape 1024x3200. -/
abbrev rS1024x256_2176_of_S1024x3200 : Rect S1024x3200 := Rect.unit (s := S1024x3200) ![0, 2176] S1024x256.size inb_S1024x3200_S1024x256_0_2176

/-- The 1024x256 rectangle at (0, 2688) of a block of shape 1024x3200. -/
abbrev rS1024x256_2688_of_S1024x3200 : Rect S1024x3200 := Rect.unit (s := S1024x3200) ![0, 2688] S1024x256.size inb_S1024x3200_S1024x256_0_2688

/-- The 1024x256 rectangle at (0, 2944) of a block of shape 1024x3200. -/
abbrev rS1024x256_2944_of_S1024x3200 : Rect S1024x3200 := Rect.unit (s := S1024x3200) ![0, 2944] S1024x256.size inb_S1024x3200_S1024x256_0_2944

/-- The 1024x256 rectangle at (0, 2432) of a block of shape 1024x3200. -/
abbrev rS1024x256_2432_of_S1024x3200 : Rect S1024x3200 := Rect.unit (s := S1024x3200) ![0, 2432] S1024x256.size inb_S1024x3200_S1024x256_0_2432

/-- The 1x128x128 rectangle at (0, 0, 0) of a block of shape 4x128x128. -/
abbrev rS1x128x128_of_S4x128x128 : Rect S4x128x128 := Rect.unit (s := S4x128x128) ![0, 0, 0] S1x128x128.size inb_S4x128x128_S1x128x128_0_0_0

/-- The 1x128x128 rectangle at (1, 0, 0) of a block of shape 4x128x128. -/
abbrev rS1x128x128_1_of_S4x128x128 : Rect S4x128x128 := Rect.unit (s := S4x128x128) ![1, 0, 0] S1x128x128.size inb_S4x128x128_S1x128x128_1_0_0

/-- The 1x128x128 rectangle at (2, 0, 0) of a block of shape 4x128x128. -/
abbrev rS1x128x128_2_of_S4x128x128 : Rect S4x128x128 := Rect.unit (s := S4x128x128) ![2, 0, 0] S1x128x128.size inb_S4x128x128_S1x128x128_2_0_0

/-- The 1x128x128 rectangle at (3, 0, 0) of a block of shape 4x128x128. -/
abbrev rS1x128x128_3_of_S4x128x128 : Rect S4x128x128 := Rect.unit (s := S4x128x128) ![3, 0, 0] S1x128x128.size inb_S4x128x128_S1x128x128_3_0_0

/-- The 128x256 rectangle at (0, 0) of a block of shape 128x256. -/
abbrev rS128x256 : Rect S128x256 := Rect.unit (s := S128x256) ![0, 0] S128x256.size inb_S128x256_S128x256_0_0

/-- The 512x128 rectangle at (0, 0) of a block of shape 512x1024. -/
abbrev rS512x128_of_S512x1024 : Rect S512x1024 := Rect.unit (s := S512x1024) ![0, 0] S512x128.size inb_S512x1024_S512x128_0_0

/-- The 512x128 rectangle at (0, 128) of a block of shape 512x1024. -/
abbrev rS512x128_128_of_S512x1024 : Rect S512x1024 := Rect.unit (s := S512x1024) ![0, 128] S512x128.size inb_S512x1024_S512x128_0_128

/-- The 512x128 rectangle at (0, 256) of a block of shape 512x1024. -/
abbrev rS512x128_256_of_S512x1024 : Rect S512x1024 := Rect.unit (s := S512x1024) ![0, 256] S512x128.size inb_S512x1024_S512x128_0_256

/-- The 512x128 rectangle at (0, 384) of a block of shape 512x1024. -/
abbrev rS512x128_384_of_S512x1024 : Rect S512x1024 := Rect.unit (s := S512x1024) ![0, 384] S512x128.size inb_S512x1024_S512x128_0_384

/-- The 512x128 rectangle at (0, 512) of a block of shape 512x1024. -/
abbrev rS512x128_512_of_S512x1024 : Rect S512x1024 := Rect.unit (s := S512x1024) ![0, 512] S512x128.size inb_S512x1024_S512x128_0_512

/-- The 512x128 rectangle at (0, 640) of a block of shape 512x1024. -/
abbrev rS512x128_640_of_S512x1024 : Rect S512x1024 := Rect.unit (s := S512x1024) ![0, 640] S512x128.size inb_S512x1024_S512x128_0_640

/-- The 512x128 rectangle at (0, 768) of a block of shape 512x1024. -/
abbrev rS512x128_768_of_S512x1024 : Rect S512x1024 := Rect.unit (s := S512x1024) ![0, 768] S512x128.size inb_S512x1024_S512x128_0_768

/-- The 512x128 rectangle at (0, 896) of a block of shape 512x1024. -/
abbrev rS512x128_896_of_S512x1024 : Rect S512x1024 := Rect.unit (s := S512x1024) ![0, 896] S512x128.size inb_S512x1024_S512x128_0_896

/-- The 512x512 rectangle at (0, 0) of a block of shape 512x512. -/
abbrev rS512x512 : Rect S512x512 := Rect.unit (s := S512x512) ![0, 0] S512x512.size inb_S512x512_S512x512_0_0

/-- The 1x512x256 rectangle at (0, 0, 0) of a block of shape 1x512x256. -/
abbrev rS1x512x256 : Rect S1x512x256 := Rect.unit (s := S1x512x256) ![0, 0, 0] S1x512x256.size inb_S1x512x256_S1x512x256_0_0_0

/-- The 1x512x64 rectangle at (0, 0, 0) of a block of shape 1x512x64. -/
abbrev rS1x512x64 : Rect S1x512x64 := Rect.unit (s := S1x512x64) ![0, 0, 0] S1x512x64.size inb_S1x512x64_S1x512x64_0_0_0

/-- The 512x896 rectangle at (0, 0) of a block of shape 512x896. -/
abbrev rS512x896 : Rect S512x896 := Rect.unit (s := S512x896) ![0, 0] S512x896.size inb_S512x896_S512x896_0_0

/-- The 512x256 rectangle at (0, 0) of a block of shape 512x256. -/
abbrev rS512x256 : Rect S512x256 := Rect.unit (s := S512x256) ![0, 0] S512x256.size inb_S512x256_S512x256_0_0

/-- The 128x256 rectangle at (0, 0) of a block of shape 512x256. -/
abbrev rS128x256_of_S512x256 : Rect S512x256 := Rect.unit (s := S512x256) ![0, 0] S128x256.size inb_S512x256_S128x256_0_0

/-- The 128x256 rectangle at (128, 0) of a block of shape 512x256. -/
abbrev rS128x256_128_of_S512x256 : Rect S512x256 := Rect.unit (s := S512x256) ![128, 0] S128x256.size inb_S512x256_S128x256_128_0

/-- The 128x256 rectangle at (256, 0) of a block of shape 512x256. -/
abbrev rS128x256_256_of_S512x256 : Rect S512x256 := Rect.unit (s := S512x256) ![256, 0] S128x256.size inb_S512x256_S128x256_256_0

/-- The 128x256 rectangle at (384, 0) of a block of shape 512x256. -/
abbrev rS128x256_384_of_S512x256 : Rect S512x256 := Rect.unit (s := S512x256) ![384, 0] S128x256.size inb_S512x256_S128x256_384_0

/-- The 1x128x256 rectangle at (0, 0, 0) of a block of shape 1x128x256. -/
abbrev rS1x128x256 : Rect S1x128x256 := Rect.unit (s := S1x128x256) ![0, 0, 0] S1x128x256.size inb_S1x128x256_S1x128x256_0_0_0

/-- The normalised, modulated rows of the block. -/
def hB (x0 : Vec F S512x1024 .f32) (x1 : Vec F S1x1x3072 .f32) (x2 : Vec F S1x1024 .f32) : FVec F S512x1024 .bf16 :=
  k0_pay3 (View.ld x1 rS1x1x3072) (View.ld x0 rS512x1024) (View.ld x2 rS1x1024)

/-- The cosines. -/
def cosB (x9 : Vec F S512x128 .f32) : FVec F S512x128 .f32 :=
  k0_pay4 (View.ld x9 rS512x128)

/-- The signed sines. -/
def sinB (x10 : Vec F S512x128 .f32) : FVec F S512x128 .f32 :=
  k0_pay5 (View.ld x10 rS512x128)

/-- The rows against the columns of the query latent and of the rotary key. -/
def qkB (x0 : Vec F S512x1024 .f32) (x1 : Vec F S1x1x3072 .f32) (x2 : Vec F S1x1024 .f32) (x3 : Vec F S1024x3200 .bf16) : FVec F S512x512 .f32 :=
  k0_pay6 (View.ld x1 rS1x1x3072) (View.ld x0 rS512x1024) (View.ld x2 rS1x1024) (View.ld x3 rS1024x512_of_S1024x3200)

/-- The query latent. -/
def qlB (x0 : Vec F S512x1024 .f32) (x1 : Vec F S1x1x3072 .f32) (x2 : Vec F S1x1024 .f32) (x3 : Vec F S1024x3200 .bf16) : FVec F S512x384 .f32 :=
  k0_pay7 (View.ld x1 rS1x1x3072) (View.ld x0 rS512x1024) (View.ld x2 rS1x1024) (View.ld x3 rS1024x512_of_S1024x3200)

/-- The query norm's gain. -/
def gqB (x4 : Vec F S1x384 .f32) : FVec F S1x384 .f32 :=
  k0_pay8 (View.ld x4 rS1x384)

/-- The squared query latent. -/
def qsqB (x0 : Vec F S512x1024 .f32) (x1 : Vec F S1x1x3072 .f32) (x2 : Vec F S1x1024 .f32) (x3 : Vec F S1024x3200 .bf16) : FVec F S512x384 .f32 :=
  k0_pay9 (View.ld x1 rS1x1x3072) (View.ld x0 rS512x1024) (View.ld x2 rS1x1024) (View.ld x3 rS1024x512_of_S1024x3200)

/-- The up-projected queries of all the heads. -/
def quB (x0 : Vec F S512x1024 .f32) (x1 : Vec F S1x1x3072 .f32) (x2 : Vec F S1x1024 .f32) (x3 : Vec F S1024x3200 .bf16) (x4 : Vec F S1x384 .f32) (x5 : Vec F S384x1024 .bf16) : FVec F S512x1024 .f32 :=
  k0_pay10 (qlB x0 x1 x2 x3) (gqB x4) (qsqB x0 x1 x2 x3) (View.ld x5 rS384x1024)

/-- The plain half of head 0. -/
def qn0B (x0 : Vec F S512x1024 .f32) (x1 : Vec F S1x1x3072 .f32) (x2 : Vec F S1x1024 .f32) (x3 : Vec F S1024x3200 .bf16) (x4 : Vec F S1x384 .f32) (x5 : Vec F S384x1024 .bf16) : FVec F S512x128 .f32 :=
  k0_pay11 (qlB x0 x1 x2 x3) (gqB x4) (qsqB x0 x1 x2 x3) (View.ld x5 rS384x1024)

/-- The rotated half of head 0. -/
def qp0B (x0 : Vec F S512x1024 .f32) (x1 : Vec F S1x1x3072 .f32) (x2 : Vec F S1x1024 .f32) (x3 : Vec F S1024x3200 .bf16) (x4 : Vec F S1x384 .f32) (x5 : Vec F S384x1024 .bf16) (x9 : Vec F S512x128 .f32) (x10 : Vec F S512x128 .f32) : FVec F S512x128 .f32 :=
  k0_pay12 (cosB x9) (sinB x10) (qlB x0 x1 x2 x3) (gqB x4) (qsqB x0 x1 x2 x3) (View.ld x5 rS384x1024)

/-- The plain half of head 1. -/
def qn1B (x0 : Vec F S512x1024 .f32) (x1 : Vec F S1x1x3072 .f32) (x2 : Vec F S1x1024 .f32) (x3 : Vec F S1024x3200 .bf16) (x4 : Vec F S1x384 .f32) (x5 : Vec F S384x1024 .bf16) : FVec F S512x128 .f32 :=
  k0_pay13 (qlB x0 x1 x2 x3) (gqB x4) (qsqB x0 x1 x2 x3) (View.ld x5 rS384x1024)

/-- The rotated half of head 1. -/
def qp1B (x0 : Vec F S512x1024 .f32) (x1 : Vec F S1x1x3072 .f32) (x2 : Vec F S1x1024 .f32) (x3 : Vec F S1024x3200 .bf16) (x4 : Vec F S1x384 .f32) (x5 : Vec F S384x1024 .bf16) (x9 : Vec F S512x128 .f32) (x10 : Vec F S512x128 .f32) : FVec F S512x128 .f32 :=
  k0_pay14 (cosB x9) (sinB x10) (qlB x0 x1 x2 x3) (gqB x4) (qsqB x0 x1 x2 x3) (View.ld x5 rS384x1024)

/-- The plain half of head 2. -/
def qn2B (x0 : Vec F S512x1024 .f32) (x1 : Vec F S1x1x3072 .f32) (x2 : Vec F S1x1024 .f32) (x3 : Vec F S1024x3200 .bf16) (x4 : Vec F S1x384 .f32) (x5 : Vec F S384x1024 .bf16) : FVec F S512x128 .f32 :=
  k0_pay15 (qlB x0 x1 x2 x3) (gqB x4) (qsqB x0 x1 x2 x3) (View.ld x5 rS384x1024)

/-- The rotated half of head 2. -/
def qp2B (x0 : Vec F S512x1024 .f32) (x1 : Vec F S1x1x3072 .f32) (x2 : Vec F S1x1024 .f32) (x3 : Vec F S1024x3200 .bf16) (x4 : Vec F S1x384 .f32) (x5 : Vec F S384x1024 .bf16) (x9 : Vec F S512x128 .f32) (x10 : Vec F S512x128 .f32) : FVec F S512x128 .f32 :=
  k0_pay16 (cosB x9) (sinB x10) (qlB x0 x1 x2 x3) (gqB x4) (qsqB x0 x1 x2 x3) (View.ld x5 rS384x1024)

/-- The rotated key. -/
def kpB (x0 : Vec F S512x1024 .f32) (x1 : Vec F S1x1x3072 .f32) (x2 : Vec F S1x1024 .f32) (x3 : Vec F S1024x3200 .bf16) (x9 : Vec F S512x128 .f32) (x10 : Vec F S512x128 .f32) : FVec F S512x128 .f32 :=
  k0_pay17 (cosB x9) (sinB x10) (qkB x0 x1 x2 x3)

/-- The plain keys of all the heads. -/
def knB (x0 : Vec F S512x1024 .f32) (x1 : Vec F S1x1x3072 .f32) (x2 : Vec F S1x1024 .f32) (x3 : Vec F S1024x3200 .bf16) (x6 : Vec F S1x256 .f32) (x7 : Vec F S256x512 .bf16) : FVec F S512x512 .f32 :=
  k0_pay30 (hB x0 x1 x2) (View.ld x3 rS1024x256_512_of_S1024x3200) (View.ld x6 rS1x256) (View.ld x7 rS256x512)

/-- The rotated key, rounded. -/
def kp16B (x0 : Vec F S512x1024 .f32) (x1 : Vec F S1x1x3072 .f32) (x2 : Vec F S1x1024 .f32) (x3 : Vec F S1024x3200 .bf16) (x9 : Vec F S512x128 .f32) (x10 : Vec F S512x128 .f32) : FVec F S512x128 .bf16 :=
  k0_pay32 (kpB x0 x1 x2 x3 x9 x10)

/-- The plain keys of head 0. -/
def kn0B (x0 : Vec F S512x1024 .f32) (x1 : Vec F S1x1x3072 .f32) (x2 : Vec F S1x1024 .f32) (x3 : Vec F S1024x3200 .bf16) (x6 : Vec F S1x256 .f32) (x7 : Vec F S256x512 .bf16) : FVec F S512x128 .bf16 :=
  k0_pay33 (hB x0 x1 x2) (View.ld x3 rS1024x256_512_of_S1024x3200) (View.ld x6 rS1x256) (View.ld x7 rS256x512)

/-- The recurrent branch input. -/
def rwB (x0 : Vec F S512x1024 .f32) (x1 : Vec F S1x1x3072 .f32) (x2 : Vec F S1x1024 .f32) (x3 : Vec F S1024x3200 .bf16) : FVec F S512x896 .f32 :=
  k0_pay38 (hB x0 x1 x2) (View.ld x3 rS1024x896_1280_of_S1024x3200)

/-- The layer-normalised gate half. -/
def vnB (x0 : Vec F S512x1024 .f32) (x1 : Vec F S1x1x3072 .f32) (x2 : Vec F S1x1024 .f32) (x3 : Vec F S1024x3200 .bf16) (x11 : Vec F S1x256 .f32) (x12 : Vec F S1x256 .f32) : FVec F S512x256 .f32 :=
  k0_pay40 (hB x0 x1 x2) (View.ld x3 rS1024x256_2688_of_S1024x3200) (View.ld x11 rS1x256) (View.ld x12 rS1x256)

/-- The gate columns of the mixing branch. -/
def guB (x0 : Vec F S512x1024 .f32) (x1 : Vec F S1x1x3072 .f32) (x2 : Vec F S1x1024 .f32) (x3 : Vec F S1024x3200 .bf16) : FVec F S512x256 .f32 :=
  k0_pay41 (hB x0 x1 x2) (View.ld x3 rS1024x256_2944_of_S1024x3200)

/-- The gated first half. -/
def ugB (x0 : Vec F S512x1024 .f32) (x1 : Vec F S1x1x3072 .f32) (x2 : Vec F S1x1024 .f32) (x3 : Vec F S1024x3200 .bf16) : FVec F S512x256 .f32 :=
  k0_pay42 (hB x0 x1 x2) (guB x0 x1 x2 x3) (View.ld x3 rS1024x256_2432_of_S1024x3200)

/-- The masked mixing weights of the four groups side by side. -/
def wsB (x13 : Vec F S4x128x128 .f32) : FVec F S128x512 .bf16 :=
  k0_pay43 (View.ld x13 rS1x128x128_of_S4x128x128) (View.ld x13 rS1x128x128_1_of_S4x128x128) (View.ld x13 rS1x128x128_2_of_S4x128x128) (View.ld x13 rS1x128x128_3_of_S4x128x128)

/-- Which rows of the stack belong to the group of a column. -/
def ownB : IVec S512x256 1 :=
  k0_pay44

/-- The first chunk stacked four times. -/
def stack0B (x0 : Vec F S512x1024 .f32) (x1 : Vec F S1x1x3072 .f32) (x2 : Vec F S1x1024 .f32) (x3 : Vec F S1024x3200 .bf16) (x11 : Vec F S1x256 .f32) (x12 : Vec F S1x256 .f32) : FVec F S512x256 .f32 :=
  k0_pay45 (vnB x0 x1 x2 x3 x11 x12)

/-- Zeros. -/
def zeroB : FVec F S512x256 .f32 :=
  k0_pay46 (F := F)

/-- The last chunk stacked four times. -/
def stack3B (x0 : Vec F S512x1024 .f32) (x1 : Vec F S1x1x3072 .f32) (x2 : Vec F S1x1024 .f32) (x3 : Vec F S1024x3200 .bf16) (x11 : Vec F S1x256 .f32) (x12 : Vec F S1x256 .f32) : FVec F S512x256 .f32 :=
  k0_pay50 (vnB x0 x1 x2 x3 x11 x12)

/-- Zeros. -/
def zero3B : FVec F S512x256 .f32 :=
  k0_pay51 (F := F)

/-- What the body leaves in the block of the query rows: its pieces, the last one first. -/
def out15 (x0 : Vec F S512x1024 .f32) (x1 : Vec F S1x1x3072 .f32) (x2 : Vec F S1x1024 .f32) (x3 : Vec F S1024x3200 .bf16) (x4 : Vec F S1x384 .f32) (x5 : Vec F S384x1024 .bf16) (x9 : Vec F S512x128 .f32) (x10 : Vec F S512x128 .f32) : Vec F S512x1024 .bf16 :=
  View.canon [⟨rS512x128_896_of_S512x1024, (k0_pay25 (cosB x9) (sinB x10) (quB x0 x1 x2 x3 x4 x5))⟩,
    ⟨rS512x128_768_of_S512x1024, (k0_pay24 (quB x0 x1 x2 x3 x4 x5))⟩,
    ⟨rS512x128_640_of_S512x1024, (k0_pay23 (qp2B x0 x1 x2 x3 x4 x5 x9 x10))⟩,
    ⟨rS512x128_512_of_S512x1024, (k0_pay22 (qn2B x0 x1 x2 x3 x4 x5))⟩,
    ⟨rS512x128_384_of_S512x1024, (k0_pay21 (qp1B x0 x1 x2 x3 x4 x5 x9 x10))⟩,
    ⟨rS512x128_256_of_S512x1024, (k0_pay20 (qn1B x0 x1 x2 x3 x4 x5))⟩,
    ⟨rS512x128_128_of_S512x1024, (k0_pay19 (qp0B x0 x1 x2 x3 x4 x5 x9 x10))⟩,
    ⟨rS512x128_of_S512x1024, (k0_pay18 (qn0B x0 x1 x2 x3 x4 x5))⟩]

/-- What the body leaves in the block of the key rows: its pieces, the last one first. -/
def out16 (x0 : Vec F S512x1024 .f32) (x1 : Vec F S1x1x3072 .f32) (x2 : Vec F S1x1024 .f32) (x3 : Vec F S1024x3200 .bf16) (x6 : Vec F S1x256 .f32) (x7 : Vec F S256x512 .bf16) (x9 : Vec F S512x128 .f32) (x10 : Vec F S512x128 .f32) : Vec F S512x1024 .bf16 :=
  View.canon [⟨rS512x128_896_of_S512x1024, (kp16B x0 x1 x2 x3 x9 x10)⟩,
    ⟨rS512x128_768_of_S512x1024, (k0_pay36 (knB x0 x1 x2 x3 x6 x7))⟩,
    ⟨rS512x128_640_of_S512x1024, (kp16B x0 x1 x2 x3 x9 x10)⟩,
    ⟨rS512x128_512_of_S512x1024, (k0_pay35 (knB x0 x1 x2 x3 x6 x7))⟩,
    ⟨rS512x128_384_of_S512x1024, (kp16B x0 x1 x2 x3 x9 x10)⟩,
    ⟨rS512x128_256_of_S512x1024, (k0_pay34 (knB x0 x1 x2 x3 x6 x7))⟩,
    ⟨rS512x128_128_of_S512x1024, (kp16B x0 x1 x2 x3 x9 x10)⟩,
    ⟨rS512x128_of_S512x1024, (kn0B x0 x1 x2 x3 x6 x7)⟩]

/-- What the body leaves in the block of the values: its pieces, the last one first. -/
def out17 (x0 : Vec F S512x1024 .f32) (x1 : Vec F S1x1x3072 .f32) (x2 : Vec F S1x1024 .f32) (x3 : Vec F S1024x3200 .bf16) (x6 : Vec F S1x256 .f32) (x8 : Vec F S256x512 .bf16) : Vec F S512x512 .bf16 :=
  View.canon [⟨rS512x512, (k0_pay31 (hB x0 x1 x2) (View.ld x3 rS1024x256_512_of_S1024x3200) (View.ld x6 rS1x256) (View.ld x8 rS256x512))⟩]

/-- What the body leaves in the block of the attention gate: its pieces, the last one first. -/
def out18 (x0 : Vec F S512x1024 .f32) (x1 : Vec F S1x1x3072 .f32) (x2 : Vec F S1x1024 .f32) (x3 : Vec F S1024x3200 .bf16) : Vec F S512x512 .bf16 :=
  View.canon [⟨rS512x512, (k0_pay37 (hB x0 x1 x2) (View.ld x3 rS1024x512_768_of_S1024x3200))⟩]

/-- What the body leaves in the block of the latent cache rows: its pieces, the last one first. -/
def out19 (x0 : Vec F S512x1024 .f32) (x1 : Vec F S1x1x3072 .f32) (x2 : Vec F S1x1024 .f32) (x3 : Vec F S1024x3200 .bf16) (x6 : Vec F S1x256 .f32) : Vec F S1x512x256 .f32 :=
  View.canon [⟨rS1x512x256, (k0_pay27 (hB x0 x1 x2) (View.ld x3 rS1024x256_512_of_S1024x3200) (View.ld x6 rS1x256))⟩]

/-- What the body leaves in the block of the rotary key cache rows: its pieces, the last one first. -/
def out20 (x0 : Vec F S512x1024 .f32) (x1 : Vec F S1x1x3072 .f32) (x2 : Vec F S1x1024 .f32) (x3 : Vec F S1024x3200 .bf16) (x9 : Vec F S512x128 .f32) (x10 : Vec F S512x128 .f32) : Vec F S1x512x64 .f32 :=
  View.canon [⟨rS1x512x64, (k0_pay28 (kpB x0 x1 x2 x3 x9 x10))⟩]

/-- What the body leaves in the block of the recurrent branch input: its pieces, the last one first. -/
def out21 (x0 : Vec F S512x1024 .f32) (x1 : Vec F S1x1x3072 .f32) (x2 : Vec F S1x1024 .f32) (x3 : Vec F S1024x3200 .bf16) : Vec F S512x896 .f32 :=
  View.canon [⟨rS512x896, (rwB x0 x1 x2 x3)⟩]

/-- What the body leaves in the block of the recurrent branch gate: its pieces, the last one first. -/
def out22 (x0 : Vec F S512x1024 .f32) (x1 : Vec F S1x1x3072 .f32) (x2 : Vec F S1x1024 .f32) (x3 : Vec F S1024x3200 .bf16) : Vec F S512x256 .f32 :=
  View.canon [⟨rS512x256, (k0_pay39 (hB x0 x1 x2) (View.ld x3 rS1024x256_2176_of_S1024x3200))⟩]

/-- What the body leaves in the block of the mixed chunk rows: its pieces, the last one first. -/
def out23 (x0 : Vec F S512x1024 .f32) (x1 : Vec F S1x1x3072 .f32) (x2 : Vec F S1x1024 .f32) (x3 : Vec F S1024x3200 .bf16) (x11 : Vec F S1x256 .f32) (x12 : Vec F S1x256 .f32) (x13 : Vec F S4x128x128 .f32) (x14 : Vec F S128x256 .f32) : Vec F S512x256 .bf16 :=
  View.canon [⟨rS128x256_384_of_S512x256, (k0_pay1 (ugB x0 x1 x2 x3) (wsB x13) ownB (stack3B x0 x1 x2 x3 x11 x12) (zero3B (F := F)) (View.ld x14 rS128x256))⟩,
    ⟨rS128x256_256_of_S512x256, (k0_pay49 (vnB x0 x1 x2 x3 x11 x12) (ugB x0 x1 x2 x3) (wsB x13) ownB (View.ld x14 rS128x256))⟩,
    ⟨rS128x256_128_of_S512x256, (k0_pay48 (vnB x0 x1 x2 x3 x11 x12) (ugB x0 x1 x2 x3) (wsB x13) ownB (View.ld x14 rS128x256))⟩,
    ⟨rS128x256_of_S512x256, (k0_pay47 (ugB x0 x1 x2 x3) (wsB x13) ownB (stack0B x0 x1 x2 x3 x11 x12) (zeroB (F := F)) (View.ld x14 rS128x256))⟩]

/-- What the body leaves in the block of the last chunk: its pieces, the last one first. -/
def out24 (x0 : Vec F S512x1024 .f32) (x1 : Vec F S1x1x3072 .f32) (x2 : Vec F S1x1024 .f32) (x3 : Vec F S1024x3200 .bf16) (x11 : Vec F S1x256 .f32) (x12 : Vec F S1x256 .f32) : Vec F S1x128x256 .f32 :=
  View.canon [⟨rS1x128x256, (k0_pay2 (vnB x0 x1 x2 x3 x11 x12))⟩]

/-- The pieces of the query rows cover the block. -/
theorem cover15 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨rS512x128_896_of_S512x1024, p7⟩, ⟨rS512x128_768_of_S512x1024, p6⟩, ⟨rS512x128_640_of_S512x1024, p5⟩, ⟨rS512x128_512_of_S512x1024, p4⟩, ⟨rS512x128_384_of_S512x1024, p3⟩, ⟨rS512x128_256_of_S512x1024, p2⟩, ⟨rS512x128_128_of_S512x1024, p1⟩, ⟨rS512x128_of_S512x1024, p0⟩] : List (View.Piece (Elt F) S512x1024 .bf16)), y ∈ pc.1.set :=
  View.cover_of_tiledL [⟨rS512x128_896_of_S512x1024, p7⟩, ⟨rS512x128_768_of_S512x1024, p6⟩, ⟨rS512x128_640_of_S512x1024, p5⟩, ⟨rS512x128_512_of_S512x1024, p4⟩, ⟨rS512x128_384_of_S512x1024, p3⟩, ⟨rS512x128_256_of_S512x1024, p2⟩, ⟨rS512x128_128_of_S512x1024, p1⟩, ⟨rS512x128_of_S512x1024, p0⟩] S512x128.size (by sl_kernel_rfl) y

/-- The pieces of the key rows cover the block. -/
theorem cover16 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨rS512x128_896_of_S512x1024, p7⟩, ⟨rS512x128_768_of_S512x1024, p6⟩, ⟨rS512x128_640_of_S512x1024, p5⟩, ⟨rS512x128_512_of_S512x1024, p4⟩, ⟨rS512x128_384_of_S512x1024, p3⟩, ⟨rS512x128_256_of_S512x1024, p2⟩, ⟨rS512x128_128_of_S512x1024, p1⟩, ⟨rS512x128_of_S512x1024, p0⟩] : List (View.Piece (Elt F) S512x1024 .bf16)), y ∈ pc.1.set :=
  View.cover_of_tiledL [⟨rS512x128_896_of_S512x1024, p7⟩, ⟨rS512x128_768_of_S512x1024, p6⟩, ⟨rS512x128_640_of_S512x1024, p5⟩, ⟨rS512x128_512_of_S512x1024, p4⟩, ⟨rS512x128_384_of_S512x1024, p3⟩, ⟨rS512x128_256_of_S512x1024, p2⟩, ⟨rS512x128_128_of_S512x1024, p1⟩, ⟨rS512x128_of_S512x1024, p0⟩] S512x128.size (by sl_kernel_rfl) y

/-- The pieces of the values cover the block. -/
theorem cover17 (p0 : Vec F S512x512 .bf16) (y : S512x512.Idx) :
    ∃ pc ∈ ([⟨rS512x512, p0⟩] : List (View.Piece (Elt F) S512x512 .bf16)), y ∈ pc.1.set :=
  View.cover_of_tiledL [⟨rS512x512, p0⟩] S512x512.size (by sl_kernel_rfl) y

/-- The pieces of the attention gate cover the block. -/
theorem cover18 (p0 : Vec F S512x512 .bf16) (y : S512x512.Idx) :
    ∃ pc ∈ ([⟨rS512x512, p0⟩] : List (View.Piece (Elt F) S512x512 .bf16)), y ∈ pc.1.set :=
  View.cover_of_tiledL [⟨rS512x512, p0⟩] S512x512.size (by sl_kernel_rfl) y

/-- The pieces of the latent cache rows cover the block. -/
theorem cover19 (p0 : Vec F S1x512x256 .f32) (y : S1x512x256.Idx) :
    ∃ pc ∈ ([⟨rS1x512x256, p0⟩] : List (View.Piece (Elt F) S1x512x256 .f32)), y ∈ pc.1.set :=
  View.cover_of_tiledL [⟨rS1x512x256, p0⟩] S1x512x256.size (by sl_kernel_rfl) y

/-- The pieces of the rotary key cache rows cover the block. -/
theorem cover20 (p0 : Vec F S1x512x64 .f32) (y : S1x512x64.Idx) :
    ∃ pc ∈ ([⟨rS1x512x64, p0⟩] : List (View.Piece (Elt F) S1x512x64 .f32)), y ∈ pc.1.set :=
  View.cover_of_tiledL [⟨rS1x512x64, p0⟩] S1x512x64.size (by sl_kernel_rfl) y

/-- The pieces of the recurrent branch input cover the block. -/
theorem cover21 (p0 : Vec F S512x896 .f32) (y : S512x896.Idx) :
    ∃ pc ∈ ([⟨rS512x896, p0⟩] : List (View.Piece (Elt F) S512x896 .f32)), y ∈ pc.1.set :=
  View.cover_of_tiledL [⟨rS512x896, p0⟩] S512x896.size (by sl_kernel_rfl) y

/-- The pieces of the recurrent branch gate cover the block. -/
theorem cover22 (p0 : Vec F S512x256 .f32) (y : S512x256.Idx) :
    ∃ pc ∈ ([⟨rS512x256, p0⟩] : List (View.Piece (Elt F) S512x256 .f32)), y ∈ pc.1.set :=
  View.cover_of_tiledL [⟨rS512x256, p0⟩] S512x256.size (by sl_kernel_rfl) y

/-- The pieces of the mixed chunk rows cover the block. -/
theorem cover23 (p0 : Vec F S128x256 .bf16) (p1 : Vec F S128x256 .bf16) (p2 : Vec F S128x256 .bf16) (p3 : Vec F S128x256 .bf16) (y : S512x256.Idx) :
    ∃ pc ∈ ([⟨rS128x256_384_of_S512x256, p3⟩, ⟨rS128x256_256_of_S512x256, p2⟩, ⟨rS128x256_128_of_S512x256, p1⟩, ⟨rS128x256_of_S512x256, p0⟩] : List (View.Piece (Elt F) S512x256 .bf16)), y ∈ pc.1.set :=
  View.cover_of_tiledL [⟨rS128x256_384_of_S512x256, p3⟩, ⟨rS128x256_256_of_S512x256, p2⟩, ⟨rS128x256_128_of_S512x256, p1⟩, ⟨rS128x256_of_S512x256, p0⟩] S128x256.size (by sl_kernel_rfl) y

/-- The pieces of the last chunk cover the block. -/
theorem cover24 (p0 : Vec F S1x128x256 .f32) (y : S1x128x256.Idx) :
    ∃ pc ∈ ([⟨rS1x128x256, p0⟩] : List (View.Piece (Elt F) S1x128x256 .f32)), y ∈ pc.1.set :=
  View.cover_of_tiledL [⟨rS1x128x256, p0⟩] S1x128x256.size (by sl_kernel_rfl) y

end Cert.ProjKernelIdeal.Run

end

end
-- ==== Proof.ProjBodyMid.lean ====
module

public import proofs.«01_k».proof.Proof.ProjBody

@[expose] public section

set_option maxRecDepth 16384

noncomputable section

/-! The body's run at one grid point. -/

namespace Cert.ProjKernelIdeal.Run

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid point that is not the last of its sequence: on whole buffers, the inputs at their blocks, the body leaves the inputs as they were
    and every output it stores at the value named above. -/
theorem body_mid (c : Dev nD) (E : Set ℕ) (i : grid0.Coords)
    (arg1 : Memref sig .tc .vmem S512x1024 .f32) (harg1 : arg1.IsWhole)
    (arg2 : Memref sig .tc .vmem S1x1x3072 .f32) (harg2 : arg2.IsWhole)
    (arg3 : Memref sig .tc .vmem S1x1024 .f32) (harg3 : arg3.IsWhole)
    (arg4 : Memref sig .tc .vmem S1024x3200 .bf16) (harg4 : arg4.IsWhole)
    (arg5 : Memref sig .tc .vmem S1x384 .f32) (harg5 : arg5.IsWhole)
    (arg6 : Memref sig .tc .vmem S384x1024 .bf16) (harg6 : arg6.IsWhole)
    (arg7 : Memref sig .tc .vmem S1x256 .f32) (harg7 : arg7.IsWhole)
    (arg8 : Memref sig .tc .vmem S256x512 .bf16) (harg8 : arg8.IsWhole)
    (arg9 : Memref sig .tc .vmem S256x512 .bf16) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S4x128x128 .f32) (harg14 : arg14.IsWhole)
    (arg15 : Memref sig .tc .vmem S128x256 .f32) (harg15 : arg15.IsWhole)
    (arg16 : Memref sig .tc .vmem S512x1024 .bf16) (harg16 : arg16.IsWhole)
    (arg17 : Memref sig .tc .vmem S512x1024 .bf16) (harg17 : arg17.IsWhole)
    (arg18 : Memref sig .tc .vmem S512x512 .bf16) (harg18 : arg18.IsWhole)
    (arg19 : Memref sig .tc .vmem S512x512 .bf16) (harg19 : arg19.IsWhole)
    (arg20 : Memref sig .tc .vmem S1x512x256 .f32) (harg20 : arg20.IsWhole)
    (arg21 : Memref sig .tc .vmem S1x512x64 .f32) (harg21 : arg21.IsWhole)
    (arg22 : Memref sig .tc .vmem S512x896 .f32) (harg22 : arg22.IsWhole)
    (arg23 : Memref sig .tc .vmem S512x256 .f32) (harg23 : arg23.IsWhole)
    (arg24 : Memref sig .tc .vmem S512x256 .bf16) (harg24 : arg24.IsWhole)
    (arg25 : Memref sig .tc .vmem S1x128x256 .f32) (harg25 : arg25.IsWhole)
    (hc : ¬cond0_0 i)
    (x0 : Vec F S512x1024 .f32) (x1 : Vec F S1x1x3072 .f32) (x2 : Vec F S1x1024 .f32) (x3 : Vec F S1024x3200 .bf16) (x4 : Vec F S1x384 .f32) (x5 : Vec F S384x1024 .bf16) (x6 : Vec F S1x256 .f32) (x7 : Vec F S256x512 .bf16) (x8 : Vec F S256x512 .bf16) (x9 : Vec F S512x128 .f32) (x10 : Vec F S512x128 .f32) (x11 : Vec F S1x256 .f32) (x12 : Vec F S1x256 .f32) (x13 : Vec F S4x128x128 .f32) (x14 : Vec F S128x256 .f32) (xi24 : Vec F S1x128x256 .f32) (K : PUnit → sProp 𝕄) :
    iprop(owns (c : Thread nD τ) arg1 fullShare x0 ∗
        owns (c : Thread nD τ) arg2 fullShare x1 ∗
        owns (c : Thread nD τ) arg3 fullShare x2 ∗
        owns (c : Thread nD τ) arg4 fullShare x3 ∗
        owns (c : Thread nD τ) arg5 fullShare x4 ∗
        owns (c : Thread nD τ) arg6 fullShare x5 ∗
        owns (c : Thread nD τ) arg7 fullShare x6 ∗
        owns (c : Thread nD τ) arg8 fullShare x7 ∗
        owns (c : Thread nD τ) arg9 fullShare x8 ∗
        owns (c : Thread nD τ) arg10 fullShare x9 ∗
        owns (c : Thread nD τ) arg11 fullShare x10 ∗
        owns (c : Thread nD τ) arg12 fullShare x11 ∗
        owns (c : Thread nD τ) arg13 fullShare x12 ∗
        owns (c : Thread nD τ) arg14 fullShare x13 ∗
        owns (c : Thread nD τ) arg15 fullShare x14 ∗
        (∃ d, owns (c : Thread nD τ) arg16 fullShare d) ∗
        (∃ d, owns (c : Thread nD τ) arg17 fullShare d) ∗
        (∃ d, owns (c : Thread nD τ) arg18 fullShare d) ∗
        (∃ d, owns (c : Thread nD τ) arg19 fullShare d) ∗
        (∃ d, owns (c : Thread nD τ) arg20 fullShare d) ∗
        (∃ d, owns (c : Thread nD τ) arg21 fullShare d) ∗
        (∃ d, owns (c : Thread nD τ) arg22 fullShare d) ∗
        (∃ d, owns (c : Thread nD τ) arg23 fullShare d) ∗
        (∃ d, owns (c : Thread nD τ) arg24 fullShare d) ∗
        owns (c : Thread nD τ) arg25 fullShare xi24 ∗
        (iprop(owns (c : Thread nD τ) arg1 fullShare x0 ∗
        owns (c : Thread nD τ) arg2 fullShare x1 ∗
        owns (c : Thread nD τ) arg3 fullShare x2 ∗
        owns (c : Thread nD τ) arg4 fullShare x3 ∗
        owns (c : Thread nD τ) arg5 fullShare x4 ∗
        owns (c : Thread nD τ) arg6 fullShare x5 ∗
        owns (c : Thread nD τ) arg7 fullShare x6 ∗
        owns (c : Thread nD τ) arg8 fullShare x7 ∗
        owns (c : Thread nD τ) arg9 fullShare x8 ∗
        owns (c : Thread nD τ) arg10 fullShare x9 ∗
        owns (c : Thread nD τ) arg11 fullShare x10 ∗
        owns (c : Thread nD τ) arg12 fullShare x11 ∗
        owns (c : Thread nD τ) arg13 fullShare x12 ∗
        owns (c : Thread nD τ) arg14 fullShare x13 ∗
        owns (c : Thread nD τ) arg15 fullShare x14 ∗
        owns (c : Thread nD τ) arg16 fullShare (out15 x0 x1 x2 x3 x4 x5 x9 x10) ∗
        owns (c : Thread nD τ) arg17 fullShare (out16 x0 x1 x2 x3 x6 x7 x9 x10) ∗
        owns (c : Thread nD τ) arg18 fullShare (out17 x0 x1 x2 x3 x6 x8) ∗
        owns (c : Thread nD τ) arg19 fullShare (out18 x0 x1 x2 x3) ∗
        owns (c : Thread nD τ) arg20 fullShare (out19 x0 x1 x2 x3 x6) ∗
        owns (c : Thread nD τ) arg21 fullShare (out20 x0 x1 x2 x3 x9 x10) ∗
        owns (c : Thread nD τ) arg22 fullShare (out21 x0 x1 x2 x3) ∗
        owns (c : Thread nD τ) arg23 fullShare (out22 x0 x1 x2 x3) ∗
        owns (c : Thread nD τ) arg24 fullShare (out23 x0 x1 x2 x3 x11 x12 x13 x14) ∗
        owns (c : Thread nD τ) arg25 fullShare xi24) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_proj_prompt_eq_skeleton]; unfold cc0_proj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, Hk⟩
  subst hf0 hf1 hf2 hf3 hf4 hf5 hf6 hf7 hf8 hf9 hf10 hf11 hf12 hf13 hf14
  subst hf24
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro; exact View.read_writes_eq_canon _ _ _ (cover15 _ _ _ _ _ _ _ _)
  isplitl [H16]
  · iexists _; isplitr
    swap; · iexact H16
    ipureintro; exact View.read_writes_eq_canon _ _ _ (cover16 _ _ _ _ _ _ _ _)
  isplitl [H17]
  · iexists _; isplitr
    swap; · iexact H17
    ipureintro; exact View.read_writes_eq_canon _ _ _ (cover17 _)
  isplitl [H18]
  · iexists _; isplitr
    swap; · iexact H18
    ipureintro; exact View.read_writes_eq_canon _ _ _ (cover18 _)
  isplitl [H19]
  · iexists _; isplitr
    swap; · iexact H19
    ipureintro; exact View.read_writes_eq_canon _ _ _ (cover19 _)
  isplitl [H20]
  · iexists _; isplitr
    swap; · iexact H20
    ipureintro; exact View.read_writes_eq_canon _ _ _ (cover20 _)
  isplitl [H21]
  · iexists _; isplitr
    swap; · iexact H21
    ipureintro; exact View.read_writes_eq_canon _ _ _ (cover21 _)
  isplitl [H22]
  · iexists _; isplitr
    swap; · iexact H22
    ipureintro; exact View.read_writes_eq_canon _ _ _ (cover22 _)
  isplitl [H23]
  · iexists _; isplitr
    swap; · iexact H23
    ipureintro; exact View.read_writes_eq_canon _ _ _ (cover23 _ _ _ _)
  iexists f24; isplitr; · ipureintro; rfl
  iexact H24

end Cert.ProjKernelIdeal.Run

end

end
-- ==== Proof.ProjBodyLast.lean ====
module

public import proofs.«01_k».proof.Proof.ProjBody

@[expose] public section

set_option maxRecDepth 16384

noncomputable section

/-! The body's run at one grid point. -/

namespace Cert.ProjKernelIdeal.Run

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid point that is the last of its sequence: on whole buffers, the inputs at their blocks, the body leaves the inputs as they were
    and every output it stores at the value named above. -/
theorem body_last (c : Dev nD) (E : Set ℕ) (i : grid0.Coords)
    (arg1 : Memref sig .tc .vmem S512x1024 .f32) (harg1 : arg1.IsWhole)
    (arg2 : Memref sig .tc .vmem S1x1x3072 .f32) (harg2 : arg2.IsWhole)
    (arg3 : Memref sig .tc .vmem S1x1024 .f32) (harg3 : arg3.IsWhole)
    (arg4 : Memref sig .tc .vmem S1024x3200 .bf16) (harg4 : arg4.IsWhole)
    (arg5 : Memref sig .tc .vmem S1x384 .f32) (harg5 : arg5.IsWhole)
    (arg6 : Memref sig .tc .vmem S384x1024 .bf16) (harg6 : arg6.IsWhole)
    (arg7 : Memref sig .tc .vmem S1x256 .f32) (harg7 : arg7.IsWhole)
    (arg8 : Memref sig .tc .vmem S256x512 .bf16) (harg8 : arg8.IsWhole)
    (arg9 : Memref sig .tc .vmem S256x512 .bf16) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S4x128x128 .f32) (harg14 : arg14.IsWhole)
    (arg15 : Memref sig .tc .vmem S128x256 .f32) (harg15 : arg15.IsWhole)
    (arg16 : Memref sig .tc .vmem S512x1024 .bf16) (harg16 : arg16.IsWhole)
    (arg17 : Memref sig .tc .vmem S512x1024 .bf16) (harg17 : arg17.IsWhole)
    (arg18 : Memref sig .tc .vmem S512x512 .bf16) (harg18 : arg18.IsWhole)
    (arg19 : Memref sig .tc .vmem S512x512 .bf16) (harg19 : arg19.IsWhole)
    (arg20 : Memref sig .tc .vmem S1x512x256 .f32) (harg20 : arg20.IsWhole)
    (arg21 : Memref sig .tc .vmem S1x512x64 .f32) (harg21 : arg21.IsWhole)
    (arg22 : Memref sig .tc .vmem S512x896 .f32) (harg22 : arg22.IsWhole)
    (arg23 : Memref sig .tc .vmem S512x256 .f32) (harg23 : arg23.IsWhole)
    (arg24 : Memref sig .tc .vmem S512x256 .bf16) (harg24 : arg24.IsWhole)
    (arg25 : Memref sig .tc .vmem S1x128x256 .f32) (harg25 : arg25.IsWhole)
    (hc : cond0_0 i)
    (x0 : Vec F S512x1024 .f32) (x1 : Vec F S1x1x3072 .f32) (x2 : Vec F S1x1024 .f32) (x3 : Vec F S1024x3200 .bf16) (x4 : Vec F S1x384 .f32) (x5 : Vec F S384x1024 .bf16) (x6 : Vec F S1x256 .f32) (x7 : Vec F S256x512 .bf16) (x8 : Vec F S256x512 .bf16) (x9 : Vec F S512x128 .f32) (x10 : Vec F S512x128 .f32) (x11 : Vec F S1x256 .f32) (x12 : Vec F S1x256 .f32) (x13 : Vec F S4x128x128 .f32) (x14 : Vec F S128x256 .f32) (K : PUnit → sProp 𝕄) :
    iprop(owns (c : Thread nD τ) arg1 fullShare x0 ∗
        owns (c : Thread nD τ) arg2 fullShare x1 ∗
        owns (c : Thread nD τ) arg3 fullShare x2 ∗
        owns (c : Thread nD τ) arg4 fullShare x3 ∗
        owns (c : Thread nD τ) arg5 fullShare x4 ∗
        owns (c : Thread nD τ) arg6 fullShare x5 ∗
        owns (c : Thread nD τ) arg7 fullShare x6 ∗
        owns (c : Thread nD τ) arg8 fullShare x7 ∗
        owns (c : Thread nD τ) arg9 fullShare x8 ∗
        owns (c : Thread nD τ) arg10 fullShare x9 ∗
        owns (c : Thread nD τ) arg11 fullShare x10 ∗
        owns (c : Thread nD τ) arg12 fullShare x11 ∗
        owns (c : Thread nD τ) arg13 fullShare x12 ∗
        owns (c : Thread nD τ) arg14 fullShare x13 ∗
        owns (c : Thread nD τ) arg15 fullShare x14 ∗
        (∃ d, owns (c : Thread nD τ) arg16 fullShare d) ∗
        (∃ d, owns (c : Thread nD τ) arg17 fullShare d) ∗
        (∃ d, owns (c : Thread nD τ) arg18 fullShare d) ∗
        (∃ d, owns (c : Thread nD τ) arg19 fullShare d) ∗
        (∃ d, owns (c : Thread nD τ) arg20 fullShare d) ∗
        (∃ d, owns (c : Thread nD τ) arg21 fullShare d) ∗
        (∃ d, owns (c : Thread nD τ) arg22 fullShare d) ∗
        (∃ d, owns (c : Thread nD τ) arg23 fullShare d) ∗
        (∃ d, owns (c : Thread nD τ) arg24 fullShare d) ∗
        (∃ d, owns (c : Thread nD τ) arg25 fullShare d) ∗
        (iprop(owns (c : Thread nD τ) arg1 fullShare x0 ∗
        owns (c : Thread nD τ) arg2 fullShare x1 ∗
        owns (c : Thread nD τ) arg3 fullShare x2 ∗
        owns (c : Thread nD τ) arg4 fullShare x3 ∗
        owns (c : Thread nD τ) arg5 fullShare x4 ∗
        owns (c : Thread nD τ) arg6 fullShare x5 ∗
        owns (c : Thread nD τ) arg7 fullShare x6 ∗
        owns (c : Thread nD τ) arg8 fullShare x7 ∗
        owns (c : Thread nD τ) arg9 fullShare x8 ∗
        owns (c : Thread nD τ) arg10 fullShare x9 ∗
        owns (c : Thread nD τ) arg11 fullShare x10 ∗
        owns (c : Thread nD τ) arg12 fullShare x11 ∗
        owns (c : Thread nD τ) arg13 fullShare x12 ∗
        owns (c : Thread nD τ) arg14 fullShare x13 ∗
        owns (c : Thread nD τ) arg15 fullShare x14 ∗
        owns (c : Thread nD τ) arg16 fullShare (out15 x0 x1 x2 x3 x4 x5 x9 x10) ∗
        owns (c : Thread nD τ) arg17 fullShare (out16 x0 x1 x2 x3 x6 x7 x9 x10) ∗
        owns (c : Thread nD τ) arg18 fullShare (out17 x0 x1 x2 x3 x6 x8) ∗
        owns (c : Thread nD τ) arg19 fullShare (out18 x0 x1 x2 x3) ∗
        owns (c : Thread nD τ) arg20 fullShare (out19 x0 x1 x2 x3 x6) ∗
        owns (c : Thread nD τ) arg21 fullShare (out20 x0 x1 x2 x3 x9 x10) ∗
        owns (c : Thread nD τ) arg22 fullShare (out21 x0 x1 x2 x3) ∗
        owns (c : Thread nD τ) arg23 fullShare (out22 x0 x1 x2 x3) ∗
        owns (c : Thread nD τ) arg24 fullShare (out23 x0 x1 x2 x3 x11 x12 x13 x14) ∗
        owns (c : Thread nD τ) arg25 fullShare (out24 x0 x1 x2 x3 x11 x12)) -∗ K ⟨⟩))
      ⊢ wp frame (wpE (defs₀ (F := F)) Variants.none c none) E (cc0_proj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_proj_prompt_eq_skeleton]; unfold cc0_proj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro; exact View.read_writes_eq_canon _ _ _ (cover15 _ _ _ _ _ _ _ _)
  isplitl [H16]
  · iexists _; isplitr
    swap; · iexact H16
    ipureintro; exact View.read_writes_eq_canon _ _ _ (cover16 _ _ _ _ _ _ _ _)
  isplitl [H17]
  · iexists _; isplitr
    swap; · iexact H17
    ipureintro; exact View.read_writes_eq_canon _ _ _ (cover17 _)
  isplitl [H18]
  · iexists _; isplitr
    swap; · iexact H18
    ipureintro; exact View.read_writes_eq_canon _ _ _ (cover18 _)
  isplitl [H19]
  · iexists _; isplitr
    swap; · iexact H19
    ipureintro; exact View.read_writes_eq_canon _ _ _ (cover19 _)
  isplitl [H20]
  · iexists _; isplitr
    swap; · iexact H20
    ipureintro; exact View.read_writes_eq_canon _ _ _ (cover20 _)
  isplitl [H21]
  · iexists _; isplitr
    swap; · iexact H21
    ipureintro; exact View.read_writes_eq_canon _ _ _ (cover21 _)
  isplitl [H22]
  · iexists _; isplitr
    swap; · iexact H22
    ipureintro; exact View.read_writes_eq_canon _ _ _ (cover22 _)
  isplitl [H23]
  · iexists _; isplitr
    swap; · iexact H23
    ipureintro; exact View.read_writes_eq_canon _ _ _ (cover23 _ _ _ _)
  iexists _; isplitr
  swap; · iexact H24
  ipureintro; exact View.read_writes_eq_canon _ _ _ (cover24 _)

end Cert.ProjKernelIdeal.Run

end

end
-- ==== Proof.ProjFrame.lean ====
/-
  The projection's run: at every grid point the body turns the blocks of its arguments into the blocks of its results,
  so the whole program ends with every result array assembled from those blocks and with its arguments unchanged.
-/
module

public import proofs.«01_k».proof.Proof.ProjBodyMid
public import proofs.«01_k».proof.Proof.ProjBodyLast
public import Idealize.ShloMosaic.Lib.Claim

@[expose] public section

set_option maxRecDepth 16384

noncomputable section

namespace Cert.ProjKernelIdeal.Run

open Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline's arrays hold when the region starts, and what the body leaves in every window's buffer: an input's
    block as it was, an output's block as the body's value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 2 t) (iblk m c 3 t) (iblk m c 4 t) (iblk m c 5 t) (iblk m c 9 t) (iblk m c 10 t)
    | ⟨16, _⟩ => out16 (iblk m c 0 t) (iblk m c 1 t) (iblk m c 2 t) (iblk m c 3 t) (iblk m c 6 t) (iblk m c 7 t) (iblk m c 9 t) (iblk m c 10 t)
    | ⟨17, _⟩ => out17 (iblk m c 0 t) (iblk m c 1 t) (iblk m c 2 t) (iblk m c 3 t) (iblk m c 6 t) (iblk m c 8 t)
    | ⟨18, _⟩ => out18 (iblk m c 0 t) (iblk m c 1 t) (iblk m c 2 t) (iblk m c 3 t)
    | ⟨19, _⟩ => out19 (iblk m c 0 t) (iblk m c 1 t) (iblk m c 2 t) (iblk m c 3 t) (iblk m c 6 t)
    | ⟨20, _⟩ => out20 (iblk m c 0 t) (iblk m c 1 t) (iblk m c 2 t) (iblk m c 3 t) (iblk m c 9 t) (iblk m c 10 t)
    | ⟨21, _⟩ => out21 (iblk m c 0 t) (iblk m c 1 t) (iblk m c 2 t) (iblk m c 3 t)
    | ⟨22, _⟩ => out22 (iblk m c 0 t) (iblk m c 1 t) (iblk m c 2 t) (iblk m c 3 t)
    | ⟨23, _⟩ => out23 (iblk m c 0 t) (iblk m c 1 t) (iblk m c 2 t) (iblk m c 3 t) (iblk m c 11 t) (iblk m c 12 t) (iblk m c 13 t) (iblk m c 14 t)
    | ⟨24, _⟩ => out24 (iblk m c 0 t) (iblk m c 1 t) (iblk m c 2 t) (iblk m c 3 t) (iblk m c 11 t) (iblk m c 12 t)
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out15 (iblk m c 0 t) (iblk m c 1 t) (iblk m c 2 t) (iblk m c 3 t) (iblk m c 4 t) (iblk m c 5 t) (iblk m c 9 t) (iblk m c 10 t) := by dsimp only [dats]
theorem after_16 (c : Dev nD) (t : Fin cfg0.N) : (dats m 0 c).after 16 t = out16 (iblk m c 0 t) (iblk m c 1 t) (iblk m c 2 t) (iblk m c 3 t) (iblk m c 6 t) (iblk m c 7 t) (iblk m c 9 t) (iblk m c 10 t) := by dsimp only [dats]
theorem after_17 (c : Dev nD) (t : Fin cfg0.N) : (dats m 0 c).after 17 t = out17 (iblk m c 0 t) (iblk m c 1 t) (iblk m c 2 t) (iblk m c 3 t) (iblk m c 6 t) (iblk m c 8 t) := by dsimp only [dats]
theorem after_18 (c : Dev nD) (t : Fin cfg0.N) : (dats m 0 c).after 18 t = out18 (iblk m c 0 t) (iblk m c 1 t) (iblk m c 2 t) (iblk m c 3 t) := by dsimp only [dats]
theorem after_19 (c : Dev nD) (t : Fin cfg0.N) : (dats m 0 c).after 19 t = out19 (iblk m c 0 t) (iblk m c 1 t) (iblk m c 2 t) (iblk m c 3 t) (iblk m c 6 t) := by dsimp only [dats]
theorem after_20 (c : Dev nD) (t : Fin cfg0.N) : (dats m 0 c).after 20 t = out20 (iblk m c 0 t) (iblk m c 1 t) (iblk m c 2 t) (iblk m c 3 t) (iblk m c 9 t) (iblk m c 10 t) := by dsimp only [dats]
theorem after_21 (c : Dev nD) (t : Fin cfg0.N) : (dats m 0 c).after 21 t = out21 (iblk m c 0 t) (iblk m c 1 t) (iblk m c 2 t) (iblk m c 3 t) := by dsimp only [dats]
theorem after_22 (c : Dev nD) (t : Fin cfg0.N) : (dats m 0 c).after 22 t = out22 (iblk m c 0 t) (iblk m c 1 t) (iblk m c 2 t) (iblk m c 3 t) := by dsimp only [dats]
theorem after_23 (c : Dev nD) (t : Fin cfg0.N) : (dats m 0 c).after 23 t = out23 (iblk m c 0 t) (iblk m c 1 t) (iblk m c 2 t) (iblk m c 3 t) (iblk m c 11 t) (iblk m c 12 t) (iblk m c 13 t) (iblk m c 14 t) := by dsimp only [dats]
theorem after_24 (c : Dev nD) (t : Fin cfg0.N) : (dats m 0 c).after 24 t = out24 (iblk m c 0 t) (iblk m c 1 t) (iblk m c 2 t) (iblk m c 3 t) (iblk m c 11 t) (iblk m c 12 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- What the body finds at a grid point. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What it leaves. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

theorem leaves_0 (c : Dev nD) (t : Fin cfg0.N) : (dats m 0 c).leavesExact 0 t = owns (c : Thread nD τ) (ms0_0 t) fullShare ((dats m 0 c).after 0 t) := by
  unfold Dat.leavesExact; rw [liveAt0_0 t]
theorem leaves_1 (c : Dev nD) (t : Fin cfg0.N) : (dats m 0 c).leavesExact 1 t = owns (c : Thread nD τ) (ms0_1 t) fullShare ((dats m 0 c).after 1 t) := by
  unfold Dat.leavesExact; rw [liveAt0_1 t]
theorem leaves_2 (c : Dev nD) (t : Fin cfg0.N) : (dats m 0 c).leavesExact 2 t = owns (c : Thread nD τ) (ms0_2 t) fullShare ((dats m 0 c).after 2 t) := by
  unfold Dat.leavesExact; rw [liveAt0_2 t]
theorem leaves_3 (c : Dev nD) (t : Fin cfg0.N) : (dats m 0 c).leavesExact 3 t = owns (c : Thread nD τ) (ms0_3 t) fullShare ((dats m 0 c).after 3 t) := by
  unfold Dat.leavesExact; rw [liveAt0_3 t]
theorem leaves_4 (c : Dev nD) (t : Fin cfg0.N) : (dats m 0 c).leavesExact 4 t = owns (c : Thread nD τ) (ms0_4 t) fullShare ((dats m 0 c).after 4 t) := by
  unfold Dat.leavesExact; rw [liveAt0_4 t]
theorem leaves_5 (c : Dev nD) (t : Fin cfg0.N) : (dats m 0 c).leavesExact 5 t = owns (c : Thread nD τ) (ms0_5 t) fullShare ((dats m 0 c).after 5 t) := by
  unfold Dat.leavesExact; rw [liveAt0_5 t]
theorem leaves_6 (c : Dev nD) (t : Fin cfg0.N) : (dats m 0 c).leavesExact 6 t = owns (c : Thread nD τ) (ms0_6 t) fullShare ((dats m 0 c).after 6 t) := by
  unfold Dat.leavesExact; rw [liveAt0_6 t]
theorem leaves_7 (c : Dev nD) (t : Fin cfg0.N) : (dats m 0 c).leavesExact 7 t = owns (c : Thread nD τ) (ms0_7 t) fullShare ((dats m 0 c).after 7 t) := by
  unfold Dat.leavesExact; rw [liveAt0_7 t]
theorem leaves_8 (c : Dev nD) (t : Fin cfg0.N) : (dats m 0 c).leavesExact 8 t = owns (c : Thread nD τ) (ms0_8 t) fullShare ((dats m 0 c).after 8 t) := by
  unfold Dat.leavesExact; rw [liveAt0_8 t]
theorem leaves_9 (c : Dev nD) (t : Fin cfg0.N) : (dats m 0 c).leavesExact 9 t = owns (c : Thread nD τ) (ms0_9 t) fullShare ((dats m 0 c).after 9 t) := by
  unfold Dat.leavesExact; rw [liveAt0_9 t]
theorem leaves_10 (c : Dev nD) (t : Fin cfg0.N) : (dats m 0 c).leavesExact 10 t = owns (c : Thread nD τ) (ms0_10 t) fullShare ((dats m 0 c).after 10 t) := by
  unfold Dat.leavesExact; rw [liveAt0_10 t]
theorem leaves_11 (c : Dev nD) (t : Fin cfg0.N) : (dats m 0 c).leavesExact 11 t = owns (c : Thread nD τ) (ms0_11 t) fullShare ((dats m 0 c).after 11 t) := by
  unfold Dat.leavesExact; rw [liveAt0_11 t]
theorem leaves_12 (c : Dev nD) (t : Fin cfg0.N) : (dats m 0 c).leavesExact 12 t = owns (c : Thread nD τ) (ms0_12 t) fullShare ((dats m 0 c).after 12 t) := by
  unfold Dat.leavesExact; rw [liveAt0_12 t]
theorem leaves_13 (c : Dev nD) (t : Fin cfg0.N) : (dats m 0 c).leavesExact 13 t = owns (c : Thread nD τ) (ms0_13 t) fullShare ((dats m 0 c).after 13 t) := by
  unfold Dat.leavesExact; rw [liveAt0_13 t]
theorem leaves_14 (c : Dev nD) (t : Fin cfg0.N) : (dats m 0 c).leavesExact 14 t = owns (c : Thread nD τ) (ms0_14 t) fullShare ((dats m 0 c).after 14 t) := by
  unfold Dat.leavesExact; rw [liveAt0_14 t]
theorem leaves_15 (c : Dev nD) (t : Fin cfg0.N) : (dats m 0 c).leavesExact 15 t = owns (c : Thread nD τ) (ms0_15 t) fullShare ((dats m 0 c).after 15 t) := by
  unfold Dat.leavesExact; rw [liveAt0_15 t]
theorem leaves_16 (c : Dev nD) (t : Fin cfg0.N) : (dats m 0 c).leavesExact 16 t = owns (c : Thread nD τ) (ms0_16 t) fullShare ((dats m 0 c).after 16 t) := by
  unfold Dat.leavesExact; rw [liveAt0_16 t]
theorem leaves_17 (c : Dev nD) (t : Fin cfg0.N) : (dats m 0 c).leavesExact 17 t = owns (c : Thread nD τ) (ms0_17 t) fullShare ((dats m 0 c).after 17 t) := by
  unfold Dat.leavesExact; rw [liveAt0_17 t]
theorem leaves_18 (c : Dev nD) (t : Fin cfg0.N) : (dats m 0 c).leavesExact 18 t = owns (c : Thread nD τ) (ms0_18 t) fullShare ((dats m 0 c).after 18 t) := by
  unfold Dat.leavesExact; rw [liveAt0_18 t]
theorem leaves_19 (c : Dev nD) (t : Fin cfg0.N) : (dats m 0 c).leavesExact 19 t = owns (c : Thread nD τ) (ms0_19 t) fullShare ((dats m 0 c).after 19 t) := by
  unfold Dat.leavesExact; rw [liveAt0_19 t]
theorem leaves_20 (c : Dev nD) (t : Fin cfg0.N) : (dats m 0 c).leavesExact 20 t = owns (c : Thread nD τ) (ms0_20 t) fullShare ((dats m 0 c).after 20 t) := by
  unfold Dat.leavesExact; rw [liveAt0_20 t]
theorem leaves_21 (c : Dev nD) (t : Fin cfg0.N) : (dats m 0 c).leavesExact 21 t = owns (c : Thread nD τ) (ms0_21 t) fullShare ((dats m 0 c).after 21 t) := by
  unfold Dat.leavesExact; rw [liveAt0_21 t]
theorem leaves_22 (c : Dev nD) (t : Fin cfg0.N) : (dats m 0 c).leavesExact 22 t = owns (c : Thread nD τ) (ms0_22 t) fullShare ((dats m 0 c).after 22 t) := by
  unfold Dat.leavesExact; rw [liveAt0_22 t]
theorem leaves_23 (c : Dev nD) (t : Fin cfg0.N) : (dats m 0 c).leavesExact 23 t = owns (c : Thread nD τ) (ms0_23 t) fullShare ((dats m 0 c).after 23 t) := by
  unfold Dat.leavesExact; rw [liveAt0_23 t]
theorem leaves_24 (c : Dev nD) (t : Fin cfg0.N) (h : cond0_0 (grid0.coords t)) : (dats m 0 c).leavesExact 24 t = owns (c : Thread nD τ) (ms0_24 t) fullShare ((dats m 0 c).after 24 t) := by
  unfold Dat.leavesExact; rw [liveAt0_24_B t h]

set_option maxHeartbeats 4000000 in
/-- One grid point: from the buffers as the pipeline hands them over to the buffers as it takes them back. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23]
  rw [after_0, after_1, after_2, after_3, after_4, after_5, after_6, after_7, after_8, after_9, after_10, after_11, after_12, after_13, after_14, after_15, after_16, after_17, after_18, after_19, after_20, after_21, after_22, after_23]
  by_cases hc : cond0_0 (grid0.coords t)
  · rw [leaves_24 m c t hc, after_24]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_last c Set.univ (grid0.coords t) _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · rw [Dat.leavesExact_idle (dats m 0 c) 24 t (idleAt0_24_A t hc) (noFlush0_24_A t hc)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_mid c Set.univ (grid0.coords t) _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexists _; iexact H24

theorem row (t : Fin cfg0.N) : defs₀ (F := F) .tc cfg0.body (cfg0.bodyArgs t (cfg0.slots t)) = bodyAt0 t := by
  unfold defs₀; rw [Defs.onTc_tc]

set_option maxHeartbeats 4000000 in
/-- The body meets the pipeline's demand at every point. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 800000 in
/-- The whole run, with every semaphore at zero at its end. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiet m ρ)

/-- The frame: the arguments end as they were, and every semaphore at zero. -/
theorem frame_kept : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12))
      ∧ r.2.sem = fun _ => 0) :=
  θ_run_and (frame_of m ρ (dats m) (A_eq m) (run_post m ρ)) ((θ_run defs _ _).mono (fun _ h => h.2) (run_quiet m ρ))

/-- The run with every result array named. -/
theorem run_arrays : θ_run defs (onTc (τ := τ) (main (F := F))) ⟨m, fun _ => 0, ρ⟩ (fun r => ∀ c : Dev nD,
      (∀ w : Fin cfg0.W, r.2.mem ((c : Thread nD τ).loc (Pipeline.arrRef spec0 w)) = (dats m 0 c).arrAt w cfg0.N) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12)) :=
  (θ_run defs _ _).mono (fun _ h c => ⟨(h.1 c).1, h.2 c⟩)
    (θ_run_and (run_post m ρ) (frame_of m ρ (dats m) (A_eq m) (run_post m ρ)))

end Cert.ProjKernelIdeal.Run

end
-- ==== Proof.ProjMath.lean ====
/-
  The layer's input projection, in plain formulas over the extended reals: the normed and modulated rows, their products with
  the columns of the weights, the up-projected queries, keys and values with their rotations, and the mixing of chunks.
-/
module

public import proofs.«01_k».proof.Proof.OutMath

@[expose] public section

noncomputable section

namespace Cert.ProjMath

open Idealize.ShloMosaic Cert.OutMath

/-- A row normed and modulated: the first thousand entries of the modulation row shift, the next scale. -/
def hidden (x : Fin 1024 → EReal) (md : Fin 3072 → EReal) (g : Fin 1024 → EReal) (e : Fin 1024) : EReal :=
  normed 0x44800000#32 x g e * (1 + md ⟨1024 + e.val, by omega⟩) + md ⟨e.val, by omega⟩

/-- The product of two rows. -/
def dot {n : ℕ} (u w : Fin n → EReal) : EReal := ∑ e, u e * w e

/-- The gate function. -/
def silu (y : EReal) : EReal := y * Ideal.logistic y

/-- The mean of a row of 256 entries. -/
def mean (y : Fin 256 → EReal) : EReal := Ideal.div (∑ e, y e) (Ideal.ofBits .f32 0x43800000#32)

/-- The layer norm of a row of 256 entries. -/
def layerNormed (y g b : Fin 256 → EReal) (d : Fin 256) : EReal :=
  (y d - mean y) * Ideal.rsqrt (Ideal.div (∑ e, (y e - mean y) * (y e - mean y)) (Ideal.ofBits .f32 0x43800000#32)
    + Ideal.ofBits .f32 0x3727C5AC#32) * g d + b d

/-- The angle by which position `s` turns the pair `j`. -/
def angle (s : Fin 2048) (j : Fin 32) : EReal :=
  FloatOps.sitofp (F := Ideal) .f32 (BitVec.ofNat 32 s.val) * Ideal.pow (Ideal.ofBits .f32 0x461C4000#32)
    (Ideal.div (-FloatOps.sitofp (F := Ideal) .f32 (BitVec.ofNat 32 j.val)) (Ideal.ofBits .f32 0x42000000#32))

/-- A row of 64 entries turned: entry `j` pairs with entry `j + 32`. -/
def turned (c s : Fin 32 → EReal) (y : Fin 64 → EReal) (j : Fin 64) : EReal :=
  if h : j.val < 32 then y ⟨j.val, by omega⟩ * c ⟨j.val, h⟩ - y ⟨32 + j.val, by omega⟩ * s ⟨j.val, h⟩
  else y ⟨j.val - 32, by omega⟩ * s ⟨j.val - 32, by omega⟩ + y ⟨32 + (j.val - 32), by omega⟩ * c ⟨j.val - 32, by omega⟩

/-- A head's row: 128 plain entries, 64 turned ones, 64 zeros. -/
def headRow (f : Fin 128 → EReal) (g : Fin 64 → EReal) (l : Fin 256) : EReal :=
  if h : l.val < 128 then f ⟨l.val, h⟩ else if h : l.val - 128 < 64 then g ⟨l.val - 128, h⟩ else 0

/-- A value kept where the column is not beyond the row, zero elsewhere. -/
def low (i j : Fin 128) (v : EReal) : EReal :=
  Scalar.select (IntOp.cmpi .sge (BitVec.ofNat 32 i.val) (BitVec.ofNat 32 j.val)) v 0

/-- The arguments of the projection. -/
structure Args where
  /-- The layer's input. -/
  x : Fin 16 → Fin 2048 → Fin 1024 → EReal
  /-- The modulation rows. -/
  md : Fin 16 → Fin 3072 → EReal
  /-- The gain of the first norm. -/
  gp : Fin 1024 → EReal
  /-- The input projection. -/
  wi : Fin 1024 → Fin 3136 → EReal
  /-- The gain of the query norm. -/
  gq : Fin 384 → EReal
  /-- The gain of the latent norm. -/
  gk : Fin 256 → EReal
  /-- The up-projection of the queries. -/
  uq : Fin 384 → Fin 4 → Fin 192 → EReal
  /-- The up-projection of the keys. -/
  uk : Fin 256 → Fin 4 → Fin 128 → EReal
  /-- The up-projection of the values. -/
  uv : Fin 256 → Fin 4 → Fin 128 → EReal
  /-- The gain of the layer norm. -/
  lg : Fin 256 → EReal
  /-- The offset of the layer norm. -/
  lb : Fin 256 → EReal
  /-- The mixing weights. -/
  ws : Fin 4 → Fin 128 → Fin 128 → EReal
  /-- The mixing offsets. -/
  bs : Fin 4 → Fin 128 → EReal

/-- The rows of the sixteen sequences as one list of rows. -/
def rowOf {n : ℕ} (f : Fin 16 → Fin 2048 → Fin n → EReal) (i : Fin 32768) (d : Fin n) : EReal :=
  f ⟨i.val / 2048, by omega⟩ ⟨i.val % 2048, by omega⟩ d

/-- The last 128 rows of a sequence. -/
def tailRow {n : ℕ} (f : Fin 16 → Fin 2048 → Fin n → EReal) (b : Fin 16) (i : Fin 128) (d : Fin n) : EReal :=
  f b ⟨1920 + i.val, by omega⟩ d

namespace Args

variable (A : Args) (b : Fin 16) (s : Fin 2048)

/-- The projected row, one column. -/
def col (k : Fin 3136) : EReal := dot (hidden (A.x b s) (A.md b) A.gp) fun e => A.wi e k

/-- The up-projected query of a head. -/
def qup (h : Fin 4) (d : Fin 192) : EReal :=
  dot (normed 0x43C00000#32 (fun r => A.col b s ⟨r.val, by omega⟩) A.gq) fun r => A.uq r h d

/-- The latent row. -/
def ckv (d : Fin 256) : EReal := normed 0x43800000#32 (fun r => A.col b s ⟨384 + r.val, by omega⟩) A.gk d

/-- The turned key, shared by the heads. -/
def kpe (j : Fin 64) : EReal :=
  turned (fun j => Ideal.cos (angle s j)) (fun j => Ideal.sin (angle s j)) (fun j => A.col b s ⟨640 + j.val, by omega⟩) j

/-- The query row of all the heads. -/
def qrow (d : Fin 1024) : EReal :=
  headRow (fun l => A.qup b s ⟨d.val / 256, by omega⟩ ⟨l.val, by omega⟩)
    (turned (fun j => Ideal.cos (angle s j)) (fun j => Ideal.sin (angle s j))
      fun j => A.qup b s ⟨d.val / 256, by omega⟩ ⟨128 + j.val, by omega⟩) ⟨d.val % 256, by omega⟩ * Ideal.ofBits .f32 0x3DD53B95#32

/-- The key row of all the heads. -/
def krow (d : Fin 1024) : EReal :=
  headRow (fun l => dot (A.ckv b s) fun r => A.uk r ⟨d.val / 256, by omega⟩ l) (A.kpe b s) ⟨d.val % 256, by omega⟩

/-- The value row of all the heads. -/
def vrow (d : Fin 512) : EReal := dot (A.ckv b s) fun r => A.uv r ⟨d.val / 128, by omega⟩ ⟨d.val % 128, by omega⟩

/-- The attention's gate. -/
def mgate (d : Fin 512) : EReal := silu (A.col b s ⟨704 + d.val, by omega⟩)

/-- The recurrent branch's input. -/
def rin (d : Fin 896) : EReal := A.col b s ⟨1216 + d.val, by omega⟩

/-- The recurrent branch's gate. -/
def rgate (d : Fin 256) : EReal := silu (A.col b s ⟨2112 + d.val, by omega⟩)

/-- The normed row of the mixing branch. -/
def vn (d : Fin 256) : EReal := layerNormed (fun d => A.col b s ⟨2624 + d.val, by omega⟩) A.lg A.lb d

/-- The mixing branch's result. -/
def mix (d : Fin 256) : EReal :=
  silu (A.col b s ⟨2880 + d.val, by omega⟩) * (A.col b s ⟨2368 + d.val, by omega⟩
    * ((∑ j : Fin 128, A.vn b ⟨s.val / 128 * 128 + j.val, by omega⟩ d
        * low ⟨s.val % 128, by omega⟩ j (A.ws ⟨d.val / 64, by omega⟩ ⟨s.val % 128, by omega⟩ j))
      + A.bs ⟨d.val / 64, by omega⟩ ⟨s.val % 128, by omega⟩))

end Args

/-- Lanes of the cosines: twice the pairs, then zeros. -/
def cosLanes (c : Fin 32 → EReal) (l : Fin 128) : EReal :=
  if h : l.val < 32 then c ⟨l.val, h⟩ else if h : l.val - 32 < 32 then c ⟨l.val - 32, h⟩ else 0

/-- Lanes of the signed sines: the pairs negated, the pairs, then zeros. -/
def sinLanes (s : Fin 32 → EReal) (l : Fin 128) : EReal :=
  if h : l.val < 32 then -s ⟨l.val, h⟩ else if h : l.val - 32 < 32 then s ⟨l.val - 32, h⟩ else 0

/-- Lanes of a row to be turned: its 64 entries, then its halves swapped. -/
def swapLane (l : Fin 128) : Fin 64 :=
  ⟨if l.val < 64 then l.val else if l.val < 96 then l.val - 32 else l.val - 96, by have := l.isLt; split_ifs <;> omega⟩

/-- One step of lanes turns the row, and leaves zeros in the second half. -/
theorem lanes_turned (c s : Fin 32 → EReal) (y : Fin 64 → EReal) (l : Fin 128) (p : Fin 128 → EReal) (hp : ∀ l, p l = y (swapLane l)) :
    p l * cosLanes c l + p ⟨(l.val + 128 - 64) % 128, by omega⟩ * sinLanes s l
      = if h : l.val < 64 then turned c s y ⟨l.val, h⟩ else 0 := by
  have hl := l.isLt
  rw [hp, hp]
  unfold cosLanes sinLanes turned
  by_cases h : l.val < 32
  · have e1 : swapLane l = ⟨l.val, by omega⟩ := Fin.ext (by simp only [swapLane]; split_ifs <;> omega)
    have e2 : swapLane ⟨(l.val + 128 - 64) % 128, by omega⟩ = ⟨32 + l.val, by omega⟩ :=
      Fin.ext (by simp only [swapLane]; split_ifs <;> omega)
    rw [dif_pos h, dif_pos h, dif_pos (by omega), dif_pos h, e1, e2, mul_neg, sub_eq_add_neg]
  · by_cases h' : l.val < 64
    · have e1 : swapLane l = ⟨32 + (l.val - 32), by omega⟩ := Fin.ext (by simp only [swapLane]; split_ifs <;> omega)
      have e2 : swapLane ⟨(l.val + 128 - 64) % 128, by omega⟩ = ⟨l.val - 32, by omega⟩ :=
        Fin.ext (by simp only [swapLane]; split_ifs <;> omega)
      rw [dif_neg h, dif_neg h, dif_pos (by omega), dif_pos (by omega), dif_pos h', dif_neg h, e1, e2, add_comm]
    · rw [dif_neg h, dif_neg h, dif_neg (by omega), dif_neg (by omega), dif_neg h', mul_zero, mul_zero, add_zero]

/-- A sum over four groups of 128 where one group alone counts. -/
theorem sum_group (f : Fin 512 → EReal) (g : Fin 4) :
    (∑ k : Fin 512, if k.val / 128 = g.val then f k else 0) = ∑ j : Fin 128, f ⟨128 * g.val + j.val, by omega⟩ := by
  rw [← (finProdFinEquiv (m := 4) (n := 128)).sum_comp, Fintype.sum_prod_type]
  rw [Finset.sum_eq_single g]
  · refine Finset.sum_congr rfl fun j _ => ?_
    have hv : (finProdFinEquiv (g, j)).val = j.val + 128 * g.val := rfl
    rw [if_pos (by rw [hv]; omega)]
    exact congrArg f (Fin.ext (by rw [hv]; exact Nat.add_comm _ _))
  · intro g' _ hg
    refine Finset.sum_eq_zero fun j _ => if_neg fun h => hg (Fin.ext ?_)
    have hv : (finProdFinEquiv (g', j)).val = j.val + 128 * g'.val := rfl
    rw [hv] at h
    omega
  · exact fun h => absurd (Finset.mem_univ g) h

/-- Four pieces of 128 side by side, read at one place. -/
theorem ladder (f : Fin 4 → Fin 128 → EReal) (k : Fin 512) :
    (if h : k.val < 128 then f 0 ⟨k.val, h⟩
      else if h : k.val - 128 < 128 then f 1 ⟨k.val - 128, h⟩
        else if h : k.val - 128 - 128 < 128 then f 2 ⟨k.val - 128 - 128, h⟩
          else f 3 ⟨k.val - 128 - 128 - 128, by omega⟩) = f ⟨k.val / 128, by omega⟩ ⟨k.val % 128, by omega⟩ := by
  have at_ : ∀ (g : Fin 4) (j : Fin 128), k.val = 128 * g.val + j.val → f g j = f ⟨k.val / 128, by omega⟩ ⟨k.val % 128, by omega⟩ := by
    intro g j h
    congr 1
    · congr 1
      exact Fin.ext (by simp only; omega)
    · exact Fin.ext (by simp only; omega)
  have hk := k.isLt
  split_ifs
  · exact at_ 0 _ (by simp)
  · exact at_ 1 _ (by simp only [Fin.val_one]; omega)
  · exact at_ 2 _ (by show k.val = 128 * 2 + (k.val - 128 - 128); omega)
  · exact at_ 3 _ (by show k.val = 128 * 3 + (k.val - 128 - 128 - 128); omega)

/-- One group's weights against a chunk stacked four times. -/
theorem sum_chunk (w : Fin 4 → Fin 128 → EReal) (v : Fin 128 → EReal) (g : Fin 4) :
    (∑ k : Fin 512, if k.val / 128 = g.val then w ⟨k.val / 128, by omega⟩ ⟨k.val % 128, by omega⟩ * v ⟨k.val % 128, by omega⟩ else 0)
      = ∑ j : Fin 128, v j * w g j := by
  rw [sum_group (fun k => w ⟨k.val / 128, by omega⟩ ⟨k.val % 128, by omega⟩ * v ⟨k.val % 128, by omega⟩)]
  refine Finset.sum_congr rfl fun j _ => ?_
  have e1 : (⟨(128 * g.val + j.val) / 128, by omega⟩ : Fin 4) = g := Fin.ext (by simp only; omega)
  have e2 : (⟨(128 * g.val + j.val) % 128, by omega⟩ : Fin 128) = j := Fin.ext (by simp only; omega)
  simp only [e1, e2]
  exact mul_comm _ _

namespace Args

variable (A : Args) (b : Fin 16) (s : Fin 2048)

theorem qrow_plain (h : Fin 4) (l : Fin 128) (d : Fin 1024) (hd : d.val = 256 * h.val + l.val) :
    A.qrow b s d = A.qup b s h ⟨l.val, by omega⟩ * Ideal.ofBits .f32 0x3DD53B95#32 := by
  have e1 : (⟨d.val / 256, by omega⟩ : Fin 4) = h := Fin.ext (by simp only; omega)
  have e2 : (⟨d.val % 256, by omega⟩ : Fin 256) = ⟨l.val, by omega⟩ := Fin.ext (by simp only; omega)
  unfold qrow headRow
  rw [e1, e2, dif_pos l.isLt]

theorem qrow_turned (h : Fin 4) (l : Fin 128) (d : Fin 1024) (hd : d.val = 256 * h.val + 128 + l.val) :
    A.qrow b s d = (if h' : l.val < 64 then turned (fun j => Ideal.cos (angle s j)) (fun j => Ideal.sin (angle s j))
      (fun j => A.qup b s h ⟨128 + j.val, by omega⟩) ⟨l.val, h'⟩ else 0) * Ideal.ofBits .f32 0x3DD53B95#32 := by
  have e1 : (⟨d.val / 256, by omega⟩ : Fin 4) = h := Fin.ext (by simp only; omega)
  have e2 : (⟨d.val % 256, by omega⟩ : Fin 256) = ⟨128 + l.val, by omega⟩ := Fin.ext (by simp only; omega)
  unfold qrow headRow
  rw [e1, e2, dif_neg (by simp)]
  simp only [Nat.add_sub_cancel_left]

theorem krow_plain (h : Fin 4) (l : Fin 128) (d : Fin 1024) (hd : d.val = 256 * h.val + l.val) :
    A.krow b s d = dot (A.ckv b s) fun r => A.uk r h l := by
  have e1 : (⟨d.val / 256, by omega⟩ : Fin 4) = h := Fin.ext (by simp only; omega)
  have e2 : (⟨d.val % 256, by omega⟩ : Fin 256) = ⟨l.val, by omega⟩ := Fin.ext (by simp only; omega)
  unfold krow headRow
  rw [e1, e2, dif_pos l.isLt]

theorem krow_turned (h : Fin 4) (l : Fin 128) (d : Fin 1024) (hd : d.val = 256 * h.val + 128 + l.val) :
    A.krow b s d = if h' : l.val < 64 then A.kpe b s ⟨l.val, h'⟩ else 0 := by
  have e2 : (⟨d.val % 256, by omega⟩ : Fin 256) = ⟨128 + l.val, by omega⟩ := Fin.ext (by simp only; omega)
  unfold krow headRow
  rw [e2, dif_neg (by simp)]
  simp only [Nat.add_sub_cancel_left]

end Args

end Cert.ProjMath

end
-- ==== Proof.ProjStage.lean ====
/-
  The stages of the projection's body, read element by element from what the blocks hold.
-/
module

public import proofs.«01_k».proof.Proof.ProjBody
public import proofs.«01_k».proof.Proof.ProjMath
public import Idealize.ShloMosaic.Lib.Pipeline.ValueKit
public import Idealize.ShloMosaic.Lib.Claim
public import Idealize.ShloMosaic.Lib.Pointwise

@[expose] public section

set_option maxRecDepth 16384

noncomputable section

namespace Cert.ProjKernelIdeal.Run

open Cert.ProjKernelIdeal Cert.ProjKernelIdeal.Gen Idealize.ShloMosaic Idealize.ShloMosaic.TcCoe Idealize.SL.Sem
open Cert.ProjMath Cert.OutMath

/-- A row of a quarter of a sequence. -/
def rowIn (q : Fin 4) (a : Fin 512) : Fin 2048 := ⟨q.val * 512 + a.val, by omega⟩

/-- The fifteen blocks hold a quarter of a sequence and the weights, in the order the body expects. -/
structure Blocks (A : Args) (b : Fin 16) (q : Fin 4) (x0 : Vec Ideal S512x1024 .f32) (x1 : Vec Ideal S1x1x3072 .f32)
    (x2 : Vec Ideal S1x1024 .f32) (x3 : Vec Ideal S1024x3200 .bf16) (x4 : Vec Ideal S1x384 .f32) (x5 : Vec Ideal S384x1024 .bf16)
    (x6 : Vec Ideal S1x256 .f32) (x7 x8 : Vec Ideal S256x512 .bf16) (x9 x10 : Vec Ideal S512x128 .f32)
    (x11 x12 : Vec Ideal S1x256 .f32) (x13 : Vec Ideal S4x128x128 .f32) (x14 : Vec Ideal S128x256 .f32) : Prop where
  hx : ∀ (a : Fin 512) (e : Fin 1024), x0 (ix2 a e) = A.x b (rowIn q a) e
  hmd : ∀ e : Fin 3072, x1 (ix3 (0 : Fin 1) (0 : Fin 1) e) = A.md b e
  hgp : ∀ e : Fin 1024, x2 (ix2 (0 : Fin 1) e) = A.gp e
  hwq : ∀ (e : Fin 1024) (k : Fin 384), x3 (ix2 e (⟨k.val, by omega⟩ : Fin 3200)) = A.wi e ⟨k.val, by omega⟩
  hwp : ∀ (e : Fin 1024) (l : Fin 128), x3 (ix2 e (⟨384 + l.val, by omega⟩ : Fin 3200)) = A.wi e ⟨640 + (swapLane l).val, by omega⟩
  hwk : ∀ (e : Fin 1024) (k : Fin 256), x3 (ix2 e (⟨512 + k.val, by omega⟩ : Fin 3200)) = A.wi e ⟨384 + k.val, by omega⟩
  hwm : ∀ (e : Fin 1024) (k : Fin 512), x3 (ix2 e (⟨768 + k.val, by omega⟩ : Fin 3200)) = A.wi e ⟨704 + k.val, by omega⟩
  hwr : ∀ (e : Fin 1024) (k : Fin 896), x3 (ix2 e (⟨1280 + k.val, by omega⟩ : Fin 3200)) = A.wi e ⟨1216 + k.val, by omega⟩
  hwg : ∀ (e : Fin 1024) (k : Fin 256), x3 (ix2 e (⟨2176 + k.val, by omega⟩ : Fin 3200)) = A.wi e ⟨2112 + k.val, by omega⟩
  hwu : ∀ (e : Fin 1024) (k : Fin 256), x3 (ix2 e (⟨2432 + k.val, by omega⟩ : Fin 3200)) = A.wi e ⟨2368 + k.val, by omega⟩
  hwv : ∀ (e : Fin 1024) (k : Fin 256), x3 (ix2 e (⟨2688 + k.val, by omega⟩ : Fin 3200)) = A.wi e ⟨2624 + k.val, by omega⟩
  hws : ∀ (e : Fin 1024) (k : Fin 256), x3 (ix2 e (⟨2944 + k.val, by omega⟩ : Fin 3200)) = A.wi e ⟨2880 + k.val, by omega⟩
  hgq : ∀ r : Fin 384, x4 (ix2 (0 : Fin 1) r) = A.gq r
  huq : ∀ (r : Fin 384) (h : Fin 4) (l : Fin 128),
    x5 (ix2 r (⟨256 * h.val + l.val, by omega⟩ : Fin 1024)) = A.uq r h ⟨l.val, by omega⟩
  hup : ∀ (r : Fin 384) (h : Fin 4) (l : Fin 128),
    x5 (ix2 r (⟨256 * h.val + 128 + l.val, by omega⟩ : Fin 1024)) = A.uq r h ⟨128 + (swapLane l).val, by omega⟩
  hgk : ∀ r : Fin 256, x6 (ix2 (0 : Fin 1) r) = A.gk r
  huk : ∀ (r : Fin 256) (k : Fin 512), x7 (ix2 r k) = A.uk r ⟨k.val / 128, by omega⟩ ⟨k.val % 128, by omega⟩
  huv : ∀ (r : Fin 256) (k : Fin 512), x8 (ix2 r k) = A.uv r ⟨k.val / 128, by omega⟩ ⟨k.val % 128, by omega⟩
  hcs : ∀ (a : Fin 512) (l : Fin 128), x9 (ix2 a l) = cosLanes (fun j => Ideal.cos (angle (rowIn q a) j)) l
  hsn : ∀ (a : Fin 512) (l : Fin 128), x10 (ix2 a l) = sinLanes (fun j => Ideal.sin (angle (rowIn q a) j)) l
  hlg : ∀ d : Fin 256, x11 (ix2 (0 : Fin 1) d) = A.lg d
  hlb : ∀ d : Fin 256, x12 (ix2 (0 : Fin 1) d) = A.lb d
  hmw : ∀ (h : Fin 4) (i j : Fin 128), x13 (ix3 h i j) = A.ws h i j
  hmb : ∀ (i : Fin 128) (d : Fin 256), x14 (ix2 i d) = A.bs ⟨d.val / 64, by omega⟩ i

theorem z2 : (![0, 0] : Fin 2 → ℕ) = fun _ => 0 := by decide

theorem z3 : (![0, 0, 0] : Fin 3 → ℕ) = fun _ => 0 := by decide

variable {A : Args} {b : Fin 16} {q : Fin 4} {x0 : Vec Ideal S512x1024 .f32} {x1 : Vec Ideal S1x1x3072 .f32}
    {x2 : Vec Ideal S1x1024 .f32} {x3 : Vec Ideal S1024x3200 .bf16} {x4 : Vec Ideal S1x384 .f32} {x5 : Vec Ideal S384x1024 .bf16}
    {x6 : Vec Ideal S1x256 .f32} {x7 x8 : Vec Ideal S256x512 .bf16} {x9 x10 : Vec Ideal S512x128 .f32}
    {x11 x12 : Vec Ideal S1x256 .f32} {x13 : Vec Ideal S4x128x128 .f32} {x14 : Vec Ideal S128x256 .f32}
    (H : Blocks A b q x0 x1 x2 x3 x4 x5 x6 x7 x8 x9 x10 x11 x12 x13 x14)

include H

theorem hB_apply (a : Fin 512) (e : Fin 1024) : hB x0 x1 x2 (ix2 a e) = hidden (A.x b (rowIn q a)) (A.md b) A.gp e := by
  unfold hB
  rw [View.ld_unit_zero z3, View.ld_unit_zero z2, View.ld_unit_zero z2]
  pointwise [k0_pay3]
  simp only [H.hx, H.hmd, H.hgp]
  rfl

theorem cosB_apply (a : Fin 512) (l : Fin 128) : cosB x9 (ix2 a l) = cosLanes (fun j => Ideal.cos (angle (rowIn q a) j)) l := by
  unfold cosB
  rw [View.ld_unit_zero z2]
  pointwise [k0_pay4]
  exact H.hcs a l

theorem sinB_apply (a : Fin 512) (l : Fin 128) : sinB x10 (ix2 a l) = sinLanes (fun j => Ideal.sin (angle (rowIn q a) j)) l := by
  unfold sinB
  rw [View.ld_unit_zero z2]
  pointwise [k0_pay5]
  exact H.hsn a l

/-- The first columns, of the query latent and of the rotary key. -/
theorem qkB_apply (a : Fin 512) (k : Fin 512) :
    qkB x0 x1 x2 x3 (ix2 a k) = dot (hidden (A.x b (rowIn q a)) (A.md b) A.gp) fun e => x3 (ix2 e (⟨k.val, by omega⟩ : Fin 3200)) := by
  have hk : qkB x0 x1 x2 x3 (ix2 a k)
      = ∑ e : Fin 1024, hB x0 x1 x2 (ix2 a e) * View.ld x3 rS1024x512_of_S1024x3200 (ix2 e k) := by
    show k0_pay6 (View.ld x1 rS1x1x3072) (View.ld x0 rS512x1024) (View.ld x2 rS1x1024) (View.ld x3 rS1024x512_of_S1024x3200) (ix2 a k) = _
    unfold k0_pay6 hB
    pointwise
  rw [hk, View.ld_unit]
  simp only [hB_apply H]
  pointwise
  rfl

theorem ql_col (a : Fin 512) (k : Fin 384) : qlB x0 x1 x2 x3 (ix2 a k) = A.col b (rowIn q a) ⟨k.val, by omega⟩ := by
  have hk : qlB x0 x1 x2 x3 (ix2 a k) = qkB x0 x1 x2 x3 (ix2 a (⟨k.val, by omega⟩ : Fin 512)) := by
    show k0_pay7 (View.ld x1 rS1x1x3072) (View.ld x0 rS512x1024) (View.ld x2 rS1x1024) (View.ld x3 rS1024x512_of_S1024x3200) (ix2 a k)
      = k0_pay6 (View.ld x1 rS1x1x3072) (View.ld x0 rS512x1024) (View.ld x2 rS1x1024) (View.ld x3 rS1024x512_of_S1024x3200) _
    unfold k0_pay7
    generalize k0_pay6 (View.ld x1 rS1x1x3072) (View.ld x0 rS512x1024) (View.ld x2 rS1x1024) (View.ld x3 rS1024x512_of_S1024x3200) = w
    pointwise
  rw [hk, qkB_apply H]
  simp only [H.hwq]
  rfl

theorem quB_apply (a : Fin 512) (k : Fin 1024) : quB x0 x1 x2 x3 x4 x5 (ix2 a k)
    = dot (normed 0x43C00000#32 (fun r => A.col b (rowIn q a) ⟨r.val, by omega⟩) A.gq) fun r => x5 (ix2 r k) := by
  unfold quB gqB
  rw [View.ld_unit_zero z2, View.ld_unit_zero z2]
  have hs : ∀ r : Fin 384, qsqB x0 x1 x2 x3 (ix2 a r) = A.col b (rowIn q a) ⟨r.val, by omega⟩ * A.col b (rowIn q a) ⟨r.val, by omega⟩ := by
    intro r
    rw [← ql_col H]
    unfold qsqB qlB k0_pay9
    pointwise
  have hg : ∀ r : Fin 384, k0_pay8 x4 (ix2 (0 : Fin 1) r) = A.gq r := by
    intro r
    pointwise [k0_pay8]
    exact H.hgq r
  pointwise [k0_pay10]
  simp only [hs, hg, ql_col H]
  rfl

/-- The plain lanes of a head's query. -/
theorem qplain (a : Fin 512) (h : Fin 4) (l : Fin 128) :
    quB x0 x1 x2 x3 x4 x5 (ix2 a (⟨256 * h.val + l.val, by omega⟩ : Fin 1024)) = A.qup b (rowIn q a) h ⟨l.val, by omega⟩ := by
  rw [quB_apply H]
  simp only [H.huq]
  rfl

/-- The turned lanes of a head's query. -/
theorem qlanes (a : Fin 512) (h : Fin 4) (l : Fin 128) :
    quB x0 x1 x2 x3 x4 x5 (ix2 a (⟨256 * h.val + 128 + l.val, by omega⟩ : Fin 1024))
      = A.qup b (rowIn q a) h ⟨128 + (swapLane l).val, by omega⟩ := by
  rw [quB_apply H]
  simp only [H.hup]
  rfl

/-- A head's turned query. -/
theorem qturned (a : Fin 512) (h : Fin 4) (l : Fin 128) :
    quB x0 x1 x2 x3 x4 x5 (ix2 a (⟨256 * h.val + 128 + l.val, by omega⟩ : Fin 1024)) * cosB x9 (ix2 a l)
        + quB x0 x1 x2 x3 x4 x5 (ix2 a (⟨256 * h.val + 128 + (l.val + 128 - 64) % 128, by omega⟩ : Fin 1024)) * sinB x10 (ix2 a l)
      = if h' : l.val < 64 then turned (fun j => Ideal.cos (angle (rowIn q a) j)) (fun j => Ideal.sin (angle (rowIn q a) j))
          (fun j => A.qup b (rowIn q a) h ⟨128 + j.val, by omega⟩) ⟨l.val, h'⟩ else 0 := by
  rw [cosB_apply H, sinB_apply H]
  exact lanes_turned _ _ (fun j => A.qup b (rowIn q a) h ⟨128 + j.val, by omega⟩) l
    (fun l => quB x0 x1 x2 x3 x4 x5 (ix2 a (⟨256 * h.val + 128 + l.val, by omega⟩ : Fin 1024))) fun l => qlanes H a h l

theorem kpB_apply (a : Fin 512) (l : Fin 128) :
    kpB x0 x1 x2 x3 x9 x10 (ix2 a l) = if h' : l.val < 64 then A.kpe b (rowIn q a) ⟨l.val, h'⟩ else 0 := by
  unfold kpB
  pointwise [k0_pay17]
  rw [cosB_apply H, sinB_apply H]
  refine lanes_turned _ _ (fun j => A.col b (rowIn q a) ⟨640 + j.val, by omega⟩) l
    (fun l => qkB x0 x1 x2 x3 (ix2 a (⟨384 + l.val, by omega⟩ : Fin 512))) fun l => ?_
  rw [qkB_apply H]
  simp only [H.hwp]
  rfl

theorem ckv_apply (a : Fin 512) (d : Fin 256) :
    k0_pay26 (hB x0 x1 x2) (View.ld x3 rS1024x256_512_of_S1024x3200) (View.ld x6 rS1x256) (ix2 a d) = A.ckv b (rowIn q a) d := by
  rw [View.ld_unit_zero z2, View.ld_unit]
  pointwise [k0_pay26]
  simp only [hB_apply H, H.hwk, H.hgk]
  rfl

theorem knB_apply (a : Fin 512) (k : Fin 512) : knB x0 x1 x2 x3 x6 x7 (ix2 a k)
    = dot (A.ckv b (rowIn q a)) fun r => A.uk r ⟨k.val / 128, by omega⟩ ⟨k.val % 128, by omega⟩ := by
  have hk : knB x0 x1 x2 x3 x6 x7 (ix2 a k) = ∑ r : Fin 256,
      k0_pay26 (hB x0 x1 x2) (View.ld x3 rS1024x256_512_of_S1024x3200) (View.ld x6 rS1x256) (ix2 a r) * x7 (ix2 r k) := by
    unfold knB k0_pay30 k0_pay29
    have hl : View.ld x7 rS256x512 = x7 := by rw [View.ld_unit_zero z2]
    rw [hl]
    generalize k0_pay26 (hB x0 x1 x2) (View.ld x3 rS1024x256_512_of_S1024x3200) (View.ld x6 rS1x256) = w
    pointwise
  rw [hk]
  simp only [ckv_apply H, H.huk]
  rfl

theorem v_apply (a : Fin 512) (k : Fin 512) :
    k0_pay31 (hB x0 x1 x2) (View.ld x3 rS1024x256_512_of_S1024x3200) (View.ld x6 rS1x256) (View.ld x8 rS256x512) (ix2 a k)
      = A.vrow b (rowIn q a) k := by
  have hk : k0_pay31 (hB x0 x1 x2) (View.ld x3 rS1024x256_512_of_S1024x3200) (View.ld x6 rS1x256) (View.ld x8 rS256x512) (ix2 a k)
      = ∑ r : Fin 256,
      k0_pay26 (hB x0 x1 x2) (View.ld x3 rS1024x256_512_of_S1024x3200) (View.ld x6 rS1x256) (ix2 a r) * x8 (ix2 r k) := by
    unfold k0_pay31 k0_pay29
    have hl : View.ld x8 rS256x512 = x8 := by rw [View.ld_unit_zero z2]
    rw [hl]
    generalize k0_pay26 (hB x0 x1 x2) (View.ld x3 rS1024x256_512_of_S1024x3200) (View.ld x6 rS1x256) = w
    pointwise
  rw [hk]
  simp only [ckv_apply H, H.huv]
  rfl

theorem mgate_apply (a : Fin 512) (d : Fin 512) :
    k0_pay37 (hB x0 x1 x2) (View.ld x3 rS1024x512_768_of_S1024x3200) (ix2 a d) = A.mgate b (rowIn q a) d := by
  rw [View.ld_unit]
  pointwise [k0_pay37]
  simp only [hB_apply H, H.hwm]
  rfl

theorem rw_apply (a : Fin 512) (d : Fin 896) : rwB x0 x1 x2 x3 (ix2 a d) = A.rin b (rowIn q a) d := by
  unfold rwB
  rw [View.ld_unit]
  pointwise [k0_pay38]
  simp only [hB_apply H, H.hwr]
  rfl

theorem rgate_apply (a : Fin 512) (d : Fin 256) :
    k0_pay39 (hB x0 x1 x2) (View.ld x3 rS1024x256_2176_of_S1024x3200) (ix2 a d) = A.rgate b (rowIn q a) d := by
  rw [View.ld_unit]
  pointwise [k0_pay39]
  simp only [hB_apply H, H.hwg]
  rfl

theorem vnB_apply (a : Fin 512) (d : Fin 256) : vnB x0 x1 x2 x3 x11 x12 (ix2 a d) = A.vn b (rowIn q a) d := by
  unfold vnB
  rw [View.ld_unit_zero z2, View.ld_unit_zero z2, View.ld_unit]
  pointwise [k0_pay40]
  simp only [hB_apply H, H.hwv, H.hlg, H.hlb]
  rfl

theorem ugB_apply (a : Fin 512) (d : Fin 256) : ugB x0 x1 x2 x3 (ix2 a d)
    = silu (A.col b (rowIn q a) ⟨2880 + d.val, by omega⟩) * A.col b (rowIn q a) ⟨2368 + d.val, by omega⟩ := by
  have hg : guB x0 x1 x2 x3 (ix2 a d) = silu (A.col b (rowIn q a) ⟨2880 + d.val, by omega⟩) := by
    unfold guB
    rw [View.ld_unit]
    pointwise [k0_pay41]
    simp only [hB_apply H, H.hws]
    rfl
  unfold ugB
  rw [View.ld_unit]
  pointwise [k0_pay42]
  rw [hg]
  simp only [hB_apply H, H.hwu]
  rfl

end Cert.ProjKernelIdeal.Run

end
-- ==== Proof.ProjBlocks.lean ====
/-
  What the blocks of the projection's arguments hold at a grid point.
-/
module

public import proofs.«01_k».proof.Proof.ProjStage
public import Idealize.ShloMosaic.Lib.StableHlo.RunRead

@[expose] public section

set_option maxRecDepth 16384

noncomputable section

namespace Cert.ProjKernelIdeal.Run

open Cert.ProjKernelIdeal Cert.ProjKernelIdeal.Gen Idealize.ShloMosaic Idealize.ShloMosaic.TcCoe Idealize.SL.Sem
open Cert.ProjMath Cert.OutMath

variable (m : (ℓ : Loc nD τ sig) → Buf (Elt Ideal) ℓ) (c : Dev nD)

/-- The arguments a memory holds. -/
def argsOf : Args where
  x b s e := m ((c.tc : Thread nD τ).loc main_arg0) (ix3 b s e)
  md b e := m ((c.tc : Thread nD τ).loc main_arg1) (ix2 b e)
  gp e := m ((c.tc : Thread nD τ).loc main_arg2) (ix1 e)
  wi e k := m ((c.tc : Thread nD τ).loc main_arg3) (ix2 e k)
  gq r := m ((c.tc : Thread nD τ).loc main_arg4) (ix1 r)
  gk r := m ((c.tc : Thread nD τ).loc main_arg5) (ix1 r)
  uq r h d := m ((c.tc : Thread nD τ).loc main_arg6) (ix3 r h d)
  uk r h d := m ((c.tc : Thread nD τ).loc main_arg7) (ix3 r h d)
  uv r h d := m ((c.tc : Thread nD τ).loc main_arg8) (ix3 r h d)
  lg d := m ((c.tc : Thread nD τ).loc main_arg9) (ix1 d)
  lb d := m ((c.tc : Thread nD τ).loc main_arg10) (ix1 d)
  ws h i j := m ((c.tc : Thread nD τ).loc main_arg11) (ix3 h i j)
  bs h i := m ((c.tc : Thread nD τ).loc main_arg12) (ix2 h i)

/-- The sequence of a grid point. -/
def seqOf (t : Fin grid0.N) : Fin 16 := ⟨t.val / 4, by have : t.val < 64 := t.isLt; omega⟩

/-- The quarter of a grid point. -/
def quarter (t : Fin grid0.N) : Fin 4 := ⟨t.val % 4, by omega⟩

/-- Where the windows' blocks lie. -/
theorem idx_in : ∀ t : Fin grid0.N, (win0_0.index t = ![t.val, 0] ∧ win0_1.index t = ![t.val / 4, 0, 0])
    ∧ (win0_9.index t = ![t.val % 4, 0] ∧ win0_10.index t = ![t.val % 4, 0]) := by decide +kernel

theorem idx_fixed : ∀ t : Fin grid0.N, (win0_2.index t = ![0, 0] ∧ win0_3.index t = ![0, 0] ∧ win0_4.index t = ![0, 0])
    ∧ (win0_5.index t = ![0, 0] ∧ win0_6.index t = ![0, 0] ∧ win0_7.index t = ![0, 0])
    ∧ (win0_8.index t = ![0, 0] ∧ win0_11.index t = ![0, 0] ∧ win0_12.index t = ![0, 0])
    ∧ (win0_13.index t = ![0, 0, 0] ∧ win0_14.index t = ![0, 0]) := by decide +kernel

theorem block0 (t : Fin grid0.N) (a : Fin 512) (e : Fin 1024) :
    iblk m c 0 t (ix2 a e) = (argsOf m c).x (seqOf t) (rowIn (quarter t) a) e := by
  have hN : t.val < 64 := t.isLt
  have : iblk m c 0 t (ix2 a e) = V m c main_v47 (ix2 (⟨t.val * 512 + a.val, by omega⟩ : Fin 32768) e) := by
    blk_ext [iblk, (idx_in t).1.1]
  rw [this]
  entry_read
  pointwise
  have e1 : (⟨(t.val * 512 + a.val) / 2048, by omega⟩ : Fin 16) = seqOf t := Fin.ext (by show (t.val * 512 + a.val) / 2048 = t.val / 4; omega)
  have e2 : (⟨(t.val * 512 + a.val) % 2048, by omega⟩ : Fin 2048) = rowIn (quarter t) a :=
    Fin.ext (by show (t.val * 512 + a.val) % 2048 = t.val % 4 * 512 + a.val; omega)
  rw [e1, e2]
  rfl

theorem block1 (t : Fin grid0.N) (e : Fin 3072) :
    iblk m c 1 t (ix3 (0 : Fin 1) (0 : Fin 1) e) = (argsOf m c).md (seqOf t) e := by
  have hN : t.val < 64 := t.isLt
  have : iblk m c 1 t (ix3 (0 : Fin 1) (0 : Fin 1) e) = V m c main_v48 (ix3 (seqOf t) (0 : Fin 1) e) := by
    blk_ext [iblk, seqOf, (idx_in t).1.2]
  rw [this]
  entry_read
  pointwise
  rfl

theorem block2 (t : Fin grid0.N) (e : Fin 1024) : iblk m c 2 t (ix2 (0 : Fin 1) e) = (argsOf m c).gp e := by
  have : iblk m c 2 t (ix2 (0 : Fin 1) e) = V m c main_v16 (ix2 (0 : Fin 1) e) := by
    blk_ext [iblk, (idx_fixed t).1.1]
  rw [this]
  entry_read
  pointwise
  rfl

theorem block4 (t : Fin grid0.N) (e : Fin 384) : iblk m c 4 t (ix2 (0 : Fin 1) e) = (argsOf m c).gq e := by
  have : iblk m c 4 t (ix2 (0 : Fin 1) e) = V m c main_v17 (ix2 (0 : Fin 1) e) := by
    blk_ext [iblk, (idx_fixed t).1.2.2]
  rw [this]
  entry_read
  pointwise
  rfl

theorem block6 (t : Fin grid0.N) (e : Fin 256) : iblk m c 6 t (ix2 (0 : Fin 1) e) = (argsOf m c).gk e := by
  have : iblk m c 6 t (ix2 (0 : Fin 1) e) = V m c main_v18 (ix2 (0 : Fin 1) e) := by
    blk_ext [iblk, (idx_fixed t).2.1.2.1]
  rw [this]
  entry_read
  pointwise
  rfl

theorem block11 (t : Fin grid0.N) (e : Fin 256) : iblk m c 11 t (ix2 (0 : Fin 1) e) = (argsOf m c).lg e := by
  have : iblk m c 11 t (ix2 (0 : Fin 1) e) = V m c main_v23 (ix2 (0 : Fin 1) e) := by
    blk_ext [iblk, (idx_fixed t).2.2.1.2.1]
  rw [this]
  entry_read
  pointwise
  rfl

theorem block12 (t : Fin grid0.N) (e : Fin 256) : iblk m c 12 t (ix2 (0 : Fin 1) e) = (argsOf m c).lb e := by
  have : iblk m c 12 t (ix2 (0 : Fin 1) e) = V m c main_v24 (ix2 (0 : Fin 1) e) := by
    blk_ext [iblk, (idx_fixed t).2.2.1.2.2]
  rw [this]
  entry_read
  pointwise
  rfl

/-- The columns of the input projection in the order of the weight block: the queries' rank, the turned key, its
    halves swapped, the keys' rank, the rest. -/
def packed (f : Fin 3136 → EReal) (k : Fin 3200) : EReal :=
  if h : k.val < 384 then f ⟨k.val, by omega⟩
  else if h : k.val - 384 < 64 then f ⟨640 + (k.val - 384), by omega⟩
  else if h : k.val - 384 - 64 < 64 then
    if h1 : k.val - 384 - 64 < 32 then f ⟨640 + (32 + (k.val - 384 - 64)), by omega⟩
    else f ⟨640 + (k.val - 384 - 64 - 32), by omega⟩
  else if h : k.val - 384 - 64 - 64 < 256 then f ⟨384 + (k.val - 384 - 64 - 64), by omega⟩
  else f ⟨704 + (k.val - 384 - 64 - 64 - 256), by omega⟩

/-- A head's rows of the queries' upward weights: its columns, then the turned ones with their halves swapped. -/
def packedUp (f : Fin 192 → EReal) (k : Fin 256) : EReal :=
  if h : k.val < 192 then f ⟨k.val, h⟩
  else if h1 : k.val - 192 < 32 then f ⟨128 + (32 + (k.val - 192)), by omega⟩
  else f ⟨128 + (k.val - 192 - 32), by omega⟩

variable (f : Fin 3136 → EReal)

theorem packed_low (k : Fin 384) : packed f ⟨k.val, by omega⟩ = f ⟨k.val, by omega⟩ := by
  have := k.isLt
  unfold packed
  rw [dif_pos k.isLt]

theorem packed_turned (l : Fin 128) : packed f ⟨384 + l.val, by omega⟩ = f ⟨640 + (swapLane l).val, by omega⟩ := by
  have := l.isLt
  unfold packed swapLane
  simp only
  split_ifs <;> first | exact congrArg f (Fin.ext (by simp only <;> omega)) | (exfalso; omega)

theorem packed_keys (k : Fin 256) : packed f ⟨512 + k.val, by omega⟩ = f ⟨384 + k.val, by omega⟩ := by
  have := k.isLt
  unfold packed
  simp only
  split_ifs <;> first | exact congrArg f (Fin.ext (by simp only <;> omega)) | (exfalso; omega)

theorem packed_rest (k : Fin 2432) : packed f ⟨768 + k.val, by omega⟩ = f ⟨704 + k.val, by omega⟩ := by
  have := k.isLt
  unfold packed
  simp only
  split_ifs <;> first | exact congrArg f (Fin.ext (by simp only <;> omega)) | (exfalso; omega)

theorem packed_shift (o k : Nat) (h : o + k < 2432) (i : Fin 3200) (hi : i.val = 768 + o + k) (j : Fin 3136) (hj : j.val = 704 + o + k) :
    packed f i = f j := by
  have ei : i = ⟨768 + (o + k), by omega⟩ := Fin.ext (by show i.val = 768 + (o + k); omega)
  have ej : j = ⟨704 + (o + k), by omega⟩ := Fin.ext (by show j.val = 704 + (o + k); omega)
  exact (congrArg (packed f) ei).trans ((packed_rest f ⟨o + k, h⟩).trans (congrArg f ej.symm))

theorem packedUp_plain (g : Fin 192 → EReal) (l : Fin 128) : packedUp g ⟨l.val, by omega⟩ = g ⟨l.val, by omega⟩ := by
  have := l.isLt
  unfold packedUp
  rw [dif_pos (by have := l.isLt; simp only; omega)]

theorem packedUp_turned (g : Fin 192 → EReal) (l : Fin 128) : packedUp g ⟨128 + l.val, by omega⟩ = g ⟨128 + (swapLane l).val, by omega⟩ := by
  have := l.isLt
  unfold packedUp swapLane
  simp only
  split_ifs <;> first | exact congrArg g (Fin.ext (by simp only <;> omega)) | (exfalso; omega)

theorem block3 (t : Fin grid0.N) (e : Fin 1024) (k : Fin 3200) : iblk m c 3 t (ix2 e k) = packed ((argsOf m c).wi e) k := by
  have : iblk m c 3 t (ix2 e k) = V m c main_v8 (ix2 e k) := by
    blk_ext [iblk, (idx_fixed t).1.2.1]
  rw [this]
  show StableHlo.after hostOps0 (fun b => m (c, b)) (Proc.devRef .tc main_v8) (ix2 e k) = _
  generalize hX : packed ((argsOf m c).wi e) k = X
  after_reads_simp
  pointwise
  after_reads_simp
  pointwise
  rw [← hX]
  rfl

theorem block5 (t : Fin grid0.N) (r : Fin 384) (k : Fin 1024) : iblk m c 5 t (ix2 r k)
    = packedUp (fun d => (argsOf m c).uq r ⟨k.val / 256, by omega⟩ d) ⟨k.val % 256, by omega⟩ := by
  have : iblk m c 5 t (ix2 r k) = V m c main_v15 (ix2 r k) := by
    blk_ext [iblk, (idx_fixed t).2.1.1]
  rw [this]
  generalize hX : packedUp (fun d => (argsOf m c).uq r ⟨k.val / 256, by omega⟩ d) ⟨k.val % 256, by omega⟩ = X
  entry_read
  pointwise
  rw [← hX]
  rfl

theorem block5_at (t : Fin grid0.N) (r : Fin 384) (h : Fin 4) (l : Nat) (hl : l < 256) (k : Fin 1024) (hk : k.val = 256 * h.val + l) :
    iblk m c 5 t (ix2 r k) = packedUp (fun d => (argsOf m c).uq r h d) ⟨l, hl⟩ := by
  rw [block5]
  have e1 : (⟨k.val / 256, by omega⟩ : Fin 4) = h := Fin.ext (by show k.val / 256 = h.val; omega)
  have e2 : (⟨k.val % 256, by omega⟩ : Fin 256) = ⟨l, hl⟩ := Fin.ext (by show k.val % 256 = l; omega)
  rw [e1, e2]

theorem block7 (t : Fin grid0.N) (r : Fin 256) (k : Fin 512) :
    iblk m c 7 t (ix2 r k) = (argsOf m c).uk r ⟨k.val / 128, by omega⟩ ⟨k.val % 128, by omega⟩ := by
  have : iblk m c 7 t (ix2 r k) = V m c main_v20 (ix2 r k) := by
    blk_ext [iblk, (idx_fixed t).2.1.2.2]
  rw [this]
  entry_read
  pointwise
  rfl

theorem block8 (t : Fin grid0.N) (r : Fin 256) (k : Fin 512) :
    iblk m c 8 t (ix2 r k) = (argsOf m c).uv r ⟨k.val / 128, by omega⟩ ⟨k.val % 128, by omega⟩ := by
  have : iblk m c 8 t (ix2 r k) = V m c main_v22 (ix2 r k) := by
    blk_ext [iblk, (idx_fixed t).2.2.1.1]
  rw [this]
  entry_read
  pointwise
  rfl

theorem block9 (t : Fin grid0.N) (a : Fin 512) (l : Fin 128) :
    iblk m c 9 t (ix2 a l) = cosLanes (fun j => Ideal.cos (angle (rowIn (quarter t) a) j)) l := by
  have : iblk m c 9 t (ix2 a l) = V m c main_v44 (ix2 (rowIn (quarter t) a) l) := by
    blk_ext [iblk, rowIn, quarter, (idx_in t).2.1]
  rw [this]
  show StableHlo.after hostOps0 (fun b => m (c, b)) (Proc.devRef .tc main_v44) (ix2 (rowIn (quarter t) a) l) = _
  generalize hX : cosLanes (fun j => Ideal.cos (angle (rowIn (quarter t) a) j)) l = X
  after_reads_simp
  pointwise
  after_reads_simp
  pointwise
  rw [← hX]
  rfl

theorem block10 (t : Fin grid0.N) (a : Fin 512) (l : Fin 128) :
    iblk m c 10 t (ix2 a l) = sinLanes (fun j => Ideal.sin (angle (rowIn (quarter t) a) j)) l := by
  have : iblk m c 10 t (ix2 a l) = V m c main_v46 (ix2 (rowIn (quarter t) a) l) := by
    blk_ext [iblk, rowIn, quarter, (idx_in t).2.2]
  rw [this]
  show StableHlo.after hostOps0 (fun b => m (c, b)) (Proc.devRef .tc main_v46) (ix2 (rowIn (quarter t) a) l) = _
  generalize hX : sinLanes (fun j => Ideal.sin (angle (rowIn (quarter t) a) j)) l = X
  after_reads_simp
  pointwise
  after_reads_simp
  pointwise
  rw [← hX]
  rfl

theorem block13 (t : Fin grid0.N) (h : Fin 4) (i j : Fin 128) : iblk m c 13 t (ix3 h i j) = (argsOf m c).ws h i j := by
  show _ = m ((c.tc : Thread nD τ).loc main_arg11) (ix3 h i j)
  rw [← V_main_arg11 m c]
  blk_ext [iblk, (idx_fixed t).2.2.2.1]

theorem block14 (t : Fin grid0.N) (i : Fin 128) (d : Fin 256) : iblk m c 14 t (ix2 i d) = (argsOf m c).bs ⟨d.val / 64, by omega⟩ i := by
  have : iblk m c 14 t (ix2 i d) = V m c main_v27 (ix2 i d) := by
    blk_ext [iblk, (idx_fixed t).2.2.2.2]
  rw [this]
  entry_read
  pointwise
  rfl

/-- The blocks of a grid point, as the mathematics reads them. -/
theorem blocks (t : Fin grid0.N) : Blocks (argsOf m c) (seqOf t) (quarter t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) where
  hx := block0 m c t
  hmd := block1 m c t
  hgp := block2 m c t
  hwq e k := (block3 m c t e _).trans (packed_low _ k)
  hwp e k := (block3 m c t e _).trans (packed_turned _ k)
  hwk e k := (block3 m c t e _).trans (packed_keys _ k)
  hwm e k := (block3 m c t e _).trans (packed_rest _ ⟨k.val, by omega⟩)
  hwr e k := (block3 m c t e _).trans (packed_shift _ 512 k.val (by omega) _ rfl _ rfl)
  hwg e k := (block3 m c t e _).trans (packed_shift _ 1408 k.val (by omega) _ rfl _ rfl)
  hwu e k := (block3 m c t e _).trans (packed_shift _ 1664 k.val (by omega) _ rfl _ rfl)
  hwv e k := (block3 m c t e _).trans (packed_shift _ 1920 k.val (by omega) _ rfl _ rfl)
  hws e k := (block3 m c t e _).trans (packed_shift _ 2176 k.val (by omega) _ rfl _ rfl)
  hgq := block4 m c t
  huq r h l := (block5_at m c t r h l.val (by omega) _ rfl).trans (packedUp_plain _ l)
  hup r h l := (block5_at m c t r h (128 + l.val) (by omega) _ (Nat.add_assoc _ _ _)).trans (packedUp_turned _ l)
  hgk := block6 m c t
  huk := block7 m c t
  huv := block8 m c t
  hcs := block9 m c t
  hsn := block10 m c t
  hlg := block11 m c t
  hlb := block12 m c t
  hmw := block13 m c t
  hmb := block14 m c t

end Cert.ProjKernelIdeal.Run

end
-- ==== Proof.ProjOut.lean ====
/-
  What the body leaves in the ten output blocks, element by element.
-/
module

public import proofs.«01_k».proof.Proof.ProjStage

@[expose] public section

set_option maxRecDepth 16384

noncomputable section

namespace Cert.ProjKernelIdeal.Run

open Cert.ProjKernelIdeal Cert.ProjKernelIdeal.Gen Idealize.ShloMosaic Idealize.ShloMosaic.TcCoe Idealize.SL.Sem
open Cert.ProjMath Cert.OutMath

/-- A piece of 128 lanes, one element. -/
theorem lanes_at (w : Vec Ideal S512x128 .bf16) (o : ℕ) (a : Fin 512) (d : Fin 1024) (v : EReal)
    (h : ∀ l : Fin 128, d.val = o + l.val → w (ix2 a l) = v) :
    View.TileAt (S := S512x1024) (Val := Elt Ideal) (e := .bf16) (ix2 a d) ![0, o] S512x128.size w v := by
  intro x hx
  have h0 : a.val = 0 + (x 0 : Fin 512).val := hx 0
  have h1 : d.val = o + (x 1 : Fin 128).val := hx 1
  have e : x = ix2 a (x 1 : Fin 128) := by
    funext k
    fin_cases k
    · exact Fin.ext (by show (x 0 : Fin 512).val = a.val; omega)
    · rfl
  rw [e]
  exact h _ h1

/-- A piece of 128 rows, one element. -/
theorem chunk_at (w : Vec Ideal S128x256 .bf16) (o : ℕ) (a : Fin 512) (d : Fin 256) (v : EReal)
    (h : ∀ i : Fin 128, a.val = o + i.val → w (ix2 i d) = v) :
    View.TileAt (S := S512x256) (Val := Elt Ideal) (e := .bf16) (ix2 a d) ![o, 0] S128x256.size w v := by
  intro x hx
  have h0 : a.val = o + (x 0 : Fin 128).val := hx 0
  have h1 : d.val = 0 + (x 1 : Fin 256).val := hx 1
  have e : x = ix2 (x 0 : Fin 128) d := by
    funext k
    fin_cases k
    · rfl
    · exact Fin.ext (by show (x 1 : Fin 256).val = d.val; omega)
  rw [e]
  exact h _ h0

/-- Whether a row of the stack belongs to the group of a column. -/
theorem own_select (k : Fin 512) (d : Fin 256) (u v : EReal) :
    Scalar.select (ownB (ix2 k d)) u v = if k.val / 128 = d.val / 64 then u else v := by
  have e1 : ∀ k : Fin 512, IntOp.shrui .vector (BitVec.ofNat 32 k.val) 7#32 = BitVec.ofNat 32 (k.val / 128) := by decide +kernel
  have e2 : ∀ d : Fin 256, IntOp.shrui .vector (BitVec.ofNat 32 d.val) 6#32 = BitVec.ofNat 32 (d.val / 64) := by decide +kernel
  have e3 : ∀ x y : Fin 4, IntOp.cmpi .eq (BitVec.ofNat 32 x.val) (BitVec.ofNat 32 y.val) = if x.val = y.val then 1#1 else 0#1 := by
    decide +kernel
  have e : ownB (ix2 k d) = if k.val / 128 = d.val / 64 then 1#1 else 0#1 := by
    unfold ownB
    pointwise [k0_pay44]
    rw [e1, e2]
    exact e3 ⟨k.val / 128, by omega⟩ ⟨d.val / 64, by omega⟩
  rw [e]
  unfold Scalar.select
  split <;> rfl

variable {A : Args} {b : Fin 16} {q : Fin 4} {x0 : Vec Ideal S512x1024 .f32} {x1 : Vec Ideal S1x1x3072 .f32}
    {x2 : Vec Ideal S1x1024 .f32} {x3 : Vec Ideal S1024x3200 .bf16} {x4 : Vec Ideal S1x384 .f32} {x5 : Vec Ideal S384x1024 .bf16}
    {x6 : Vec Ideal S1x256 .f32} {x7 x8 : Vec Ideal S256x512 .bf16} {x9 x10 : Vec Ideal S512x128 .f32}
    {x11 x12 : Vec Ideal S1x256 .f32} {x13 : Vec Ideal S4x128x128 .f32} {x14 : Vec Ideal S128x256 .f32}
    (H : Blocks A b q x0 x1 x2 x3 x4 x5 x6 x7 x8 x9 x10 x11 x12 x13 x14)

include H

/-- A piece of plain query lanes. -/
theorem q_plain_at (h : Fin 4) (o : ℕ) (ho : o = 256 * h.val) (a : Fin 512) (d : Fin 1024) (w : Vec Ideal S512x128 .bf16)
    (hw : ∀ l : Fin 128, w (ix2 a l)
      = quB x0 x1 x2 x3 x4 x5 (ix2 a (⟨o + l.val, by omega⟩ : Fin 1024)) * Ideal.ofBits .f32 0x3DD53B95#32) :
    View.TileAt (S := S512x1024) (Val := Elt Ideal) (e := .bf16) (ix2 a d) ![0, o] S512x128.size w (A.qrow b (rowIn q a) d) := by
  subst ho
  refine lanes_at w _ a d _ fun l hl => ?_
  rw [hw l, qplain H, A.qrow_plain b _ h l d hl]

/-- A piece of turned query lanes. -/
theorem q_turned_at (h : Fin 4) (o : ℕ) (ho : o = 256 * h.val + 128) (a : Fin 512) (d : Fin 1024) (w : Vec Ideal S512x128 .bf16)
    (hw : ∀ l : Fin 128, w (ix2 a l)
      = (quB x0 x1 x2 x3 x4 x5 (ix2 a (⟨o + l.val, by omega⟩ : Fin 1024)) * cosB x9 (ix2 a l)
          + quB x0 x1 x2 x3 x4 x5 (ix2 a (⟨o + (l.val + 128 - 64) % 128, by omega⟩ : Fin 1024)) * sinB x10 (ix2 a l))
        * Ideal.ofBits .f32 0x3DD53B95#32) :
    View.TileAt (S := S512x1024) (Val := Elt Ideal) (e := .bf16) (ix2 a d) ![0, o] S512x128.size w (A.qrow b (rowIn q a) d) := by
  subst ho
  refine lanes_at w _ a d _ fun l hl => ?_
  rw [hw l, qturned H, A.qrow_turned b _ h l d hl]

/-- A piece of plain key lanes. -/
theorem k_plain_at (h : Fin 4) (o p : ℕ) (ho : o = 256 * h.val) (hp : p = 128 * h.val) (a : Fin 512) (d : Fin 1024)
    (w : Vec Ideal S512x128 .bf16)
    (hw : ∀ l : Fin 128, w (ix2 a l) = knB x0 x1 x2 x3 x6 x7 (ix2 a (⟨p + l.val, by omega⟩ : Fin 512))) :
    View.TileAt (S := S512x1024) (Val := Elt Ideal) (e := .bf16) (ix2 a d) ![0, o] S512x128.size w (A.krow b (rowIn q a) d) := by
  subst ho
  subst hp
  refine lanes_at w _ a d _ fun l hl => ?_
  have e1 : (⟨(128 * h.val + l.val) / 128, by omega⟩ : Fin 4) = h := Fin.ext (by simp only; omega)
  have e2 : (⟨(128 * h.val + l.val) % 128, by omega⟩ : Fin 128) = l := Fin.ext (by simp only; omega)
  rw [hw l, knB_apply H, A.krow_plain b _ h l d hl]
  simp only [e1, e2]

/-- A piece of turned key lanes. -/
theorem k_turned_at (h : Fin 4) (o : ℕ) (ho : o = 256 * h.val + 128) (a : Fin 512) (d : Fin 1024) :
    View.TileAt (S := S512x1024) (Val := Elt Ideal) (e := .bf16) (ix2 a d) ![0, o] S512x128.size (kp16B x0 x1 x2 x3 x9 x10)
      (A.krow b (rowIn q a) d) := by
  subst ho
  refine lanes_at _ _ a d _ fun l hl => ?_
  have hw : kp16B x0 x1 x2 x3 x9 x10 (ix2 a l) = kpB x0 x1 x2 x3 x9 x10 (ix2 a l) := by
    unfold kp16B
    pointwise [k0_pay32]
  rw [hw, kpB_apply H, A.krow_turned b _ h l d hl]

theorem out15_apply (a : Fin 512) (d : Fin 1024) : out15 x0 x1 x2 x3 x4 x5 x9 x10 (ix2 a d) = A.qrow b (rowIn q a) d := by
  unfold out15
  refine View.canon_eq_of_allAt _ _ _ (cover15 _ _ _ _ _ _ _ _ _) ?_
  refine View.allAt_cons_unit _ _ _ _ _ (q_turned_at H 3 896 rfl a d _ fun l => ?_) ?_
  · pointwise [k0_pay25]
  refine View.allAt_cons_unit _ _ _ _ _ (q_plain_at H 3 768 rfl a d _ fun l => ?_) ?_
  · pointwise [k0_pay24]
  refine View.allAt_cons_unit _ _ _ _ _ (q_turned_at H 2 640 rfl a d _ fun l => ?_) ?_
  · unfold k0_pay23 qp2B quB k0_pay16
    generalize k0_pay10 (F := Ideal) _ _ _ _ = w
    pointwise
  refine View.allAt_cons_unit _ _ _ _ _ (q_plain_at H 2 512 rfl a d _ fun l => ?_) ?_
  · unfold k0_pay22 qn2B quB k0_pay15
    generalize k0_pay10 (F := Ideal) _ _ _ _ = w
    pointwise
  refine View.allAt_cons_unit _ _ _ _ _ (q_turned_at H 1 384 rfl a d _ fun l => ?_) ?_
  · unfold k0_pay21 qp1B quB k0_pay14
    generalize k0_pay10 (F := Ideal) _ _ _ _ = w
    pointwise
  refine View.allAt_cons_unit _ _ _ _ _ (q_plain_at H 1 256 rfl a d _ fun l => ?_) ?_
  · unfold k0_pay20 qn1B quB k0_pay13
    generalize k0_pay10 (F := Ideal) _ _ _ _ = w
    pointwise
  refine View.allAt_cons_unit _ _ _ _ _ (q_turned_at H 0 128 rfl a d _ fun l => ?_) ?_
  · unfold k0_pay19 qp0B quB k0_pay12
    generalize k0_pay10 (F := Ideal) _ _ _ _ = w
    pointwise
  refine View.allAt_cons_unit _ _ _ _ _ (q_plain_at H 0 0 rfl a d _ fun l => ?_) ?_
  · unfold k0_pay18 qn0B quB k0_pay11
    generalize k0_pay10 (F := Ideal) _ _ _ _ = w
    pointwise
  exact View.allAt_nil _ _

theorem out16_apply (a : Fin 512) (d : Fin 1024) : out16 x0 x1 x2 x3 x6 x7 x9 x10 (ix2 a d) = A.krow b (rowIn q a) d := by
  unfold out16
  refine View.canon_eq_of_allAt _ _ _ (cover16 _ _ _ _ _ _ _ _ _) ?_
  refine View.allAt_cons_unit _ _ _ _ _ (k_turned_at H 3 896 rfl a d) ?_
  refine View.allAt_cons_unit _ _ _ _ _ (k_plain_at H 3 768 384 rfl rfl a d _ fun l => ?_) ?_
  · pointwise [k0_pay36]
  refine View.allAt_cons_unit _ _ _ _ _ (k_turned_at H 2 640 rfl a d) ?_
  refine View.allAt_cons_unit _ _ _ _ _ (k_plain_at H 2 512 256 rfl rfl a d _ fun l => ?_) ?_
  · pointwise [k0_pay35]
  refine View.allAt_cons_unit _ _ _ _ _ (k_turned_at H 1 384 rfl a d) ?_
  refine View.allAt_cons_unit _ _ _ _ _ (k_plain_at H 1 256 128 rfl rfl a d _ fun l => ?_) ?_
  · pointwise [k0_pay34]
  refine View.allAt_cons_unit _ _ _ _ _ (k_turned_at H 0 128 rfl a d) ?_
  refine View.allAt_cons_unit _ _ _ _ _ (k_plain_at H 0 0 0 rfl rfl a d _ fun l => ?_) ?_
  · unfold kn0B knB k0_pay33
    generalize k0_pay30 (F := Ideal) _ _ _ _ = w
    pointwise
  exact View.allAt_nil _ _

theorem out17_apply (a d : Fin 512) : out17 x0 x1 x2 x3 x6 x8 (ix2 a d) = A.vrow b (rowIn q a) d := by
  unfold out17
  rw [View.canon_unit_zero z2]
  exact v_apply H a d

theorem out18_apply (a d : Fin 512) : out18 x0 x1 x2 x3 (ix2 a d) = A.mgate b (rowIn q a) d := by
  unfold out18
  rw [View.canon_unit_zero z2]
  exact mgate_apply H a d

theorem out19_apply (a : Fin 512) (d : Fin 256) : out19 x0 x1 x2 x3 x6 (ix3 (0 : Fin 1) a d) = A.ckv b (rowIn q a) d := by
  unfold out19 k0_pay27
  rw [View.canon_unit_zero z3, ← ckv_apply H]
  generalize k0_pay26 (F := Ideal) _ _ _ = w
  pointwise

theorem out20_apply (a : Fin 512) (d : Fin 64) : out20 x0 x1 x2 x3 x9 x10 (ix3 (0 : Fin 1) a d) = A.kpe b (rowIn q a) d := by
  have hk := kpB_apply H a (⟨d.val, by omega⟩ : Fin 128)
  rw [dif_pos d.isLt] at hk
  unfold out20
  rw [View.canon_unit_zero z3]
  pointwise [k0_pay28]
  exact hk

theorem out21_apply (a : Fin 512) (d : Fin 896) : out21 x0 x1 x2 x3 (ix2 a d) = A.rin b (rowIn q a) d := by
  unfold out21
  rw [View.canon_unit_zero z2]
  exact rw_apply H a d

theorem out22_apply (a : Fin 512) (d : Fin 256) : out22 x0 x1 x2 x3 (ix2 a d) = A.rgate b (rowIn q a) d := by
  unfold out22
  rw [View.canon_unit_zero z2]
  exact rgate_apply H a d

theorem out24_apply (i : Fin 128) (d : Fin 256) :
    out24 x0 x1 x2 x3 x11 x12 (ix3 (0 : Fin 1) i d) = A.vn b (rowIn q ⟨384 + i.val, by omega⟩) d := by
  unfold out24
  rw [View.canon_unit_zero z3]
  pointwise [k0_pay2]
  exact vnB_apply H _ d

theorem wsB_apply (i : Fin 128) (k : Fin 512) :
    wsB x13 (ix2 i k) = low i ⟨k.val % 128, by omega⟩ (A.ws ⟨k.val / 128, by omega⟩ i ⟨k.val % 128, by omega⟩) := by
  unfold wsB
  rw [View.ld_unit, View.ld_unit, View.ld_unit, View.ld_unit]
  pointwise [k0_pay43]
  simp only [H.hmw]
  exact ladder (fun g j => low i j (A.ws g i j)) k

/-- The mixing sum of a chunk. -/
theorem mix_sum (g : Fin 4) (i : Fin 128) (d : Fin 256) (a : Fin 512) (ha : a.val = 128 * g.val + i.val) :
    (∑ k : Fin 512, if k.val / 128 = d.val / 64 then
        wsB x13 (ix2 i k) * A.vn b (rowIn q ⟨128 * g.val + k.val % 128, by omega⟩) d else 0)
      = ∑ j : Fin 128, A.vn b ⟨(rowIn q a).val / 128 * 128 + j.val, by omega⟩ d
        * low ⟨(rowIn q a).val % 128, by omega⟩ j (A.ws ⟨d.val / 64, by omega⟩ ⟨(rowIn q a).val % 128, by omega⟩ j) := by
  simp only [wsB_apply H]
  have e1 : (⟨(rowIn q a).val % 128, by omega⟩ : Fin 128) = i :=
    Fin.ext (by show (q.val * 512 + a.val) % 128 = i.val; omega)
  rw [e1]
  refine (sum_chunk (fun g j => low i j (A.ws g i j)) (fun j => A.vn b (rowIn q ⟨128 * g.val + j.val, by omega⟩) d)
    ⟨d.val / 64, by omega⟩).trans ?_
  refine Finset.sum_congr rfl fun j _ => ?_
  have e2 : (⟨(rowIn q a).val / 128 * 128 + j.val, by omega⟩ : Fin 2048) = rowIn q ⟨128 * g.val + j.val, by omega⟩ :=
    Fin.ext (by show (q.val * 512 + a.val) / 128 * 128 + j.val = q.val * 512 + (128 * g.val + j.val); omega)
  rw [e2]

/-- A chunk of mixed rows. -/
theorem mix_at (g : Fin 4) (o : ℕ) (ho : o = 128 * g.val) (a : Fin 512) (d : Fin 256) (w : Vec Ideal S128x256 .bf16)
    (hw : ∀ i : Fin 128, w (ix2 i d) = ugB x0 x1 x2 x3 (ix2 (⟨o + i.val, by omega⟩ : Fin 512) d) * (View.ld x14 rS128x256 (ix2 i d)
      + ∑ k : Fin 512, if k.val / 128 = d.val / 64 then
        wsB x13 (ix2 i k) * vnB x0 x1 x2 x3 x11 x12 (ix2 (⟨o + k.val % 128, by omega⟩ : Fin 512) d) else 0)) :
    View.TileAt (S := S512x256) (Val := Elt Ideal) (e := .bf16) (ix2 a d) ![o, 0] S128x256.size w (A.mix b (rowIn q a) d) := by
  subst ho
  refine chunk_at w _ a d _ fun i hi => ?_
  have hl : View.ld x14 rS128x256 = x14 := by rw [View.ld_unit_zero z2]
  have ea : (⟨128 * g.val + i.val, by omega⟩ : Fin 512) = a := Fin.ext hi.symm
  have e1 : (⟨(rowIn q a).val % 128, by omega⟩ : Fin 128) = i :=
    Fin.ext (by show (q.val * 512 + a.val) % 128 = i.val; omega)
  rw [hw i, hl, ea, ugB_apply H]
  simp only [vnB_apply H]
  rw [mix_sum H g i d a hi, H.hmb]
  unfold Args.mix
  rw [e1, mul_assoc, add_comm (A.bs _ _)]

theorem out23_apply (a : Fin 512) (d : Fin 256) : out23 x0 x1 x2 x3 x11 x12 x13 x14 (ix2 a d) = A.mix b (rowIn q a) d := by
  unfold out23
  refine View.canon_eq_of_allAt _ _ _ (cover23 _ _ _ _ _) ?_
  refine View.allAt_cons_unit _ _ _ _ _ (mix_at H 3 384 rfl a d _ fun i => ?_) ?_
  · unfold stack3B zero3B
    pointwise [k0_pay1, k0_pay50, k0_pay51]
    simp only [own_select, mul_ite, mul_zero]
    simp only [ladder fun _ j => vnB x0 x1 x2 x3 x11 x12 (ix2 (⟨384 + j.val, by omega⟩ : Fin 512) d)]
  refine View.allAt_cons_unit _ _ _ _ _ (mix_at H 2 256 rfl a d _ fun i => ?_) ?_
  · pointwise [k0_pay49]
    simp only [own_select]
    simp only [ladder fun _ j => vnB x0 x1 x2 x3 x11 x12 (ix2 (⟨256 + j.val, by omega⟩ : Fin 512) d)]
  refine View.allAt_cons_unit _ _ _ _ _ (mix_at H 1 128 rfl a d _ fun i => ?_) ?_
  · pointwise [k0_pay48]
    simp only [own_select]
    simp only [ladder fun _ j => vnB x0 x1 x2 x3 x11 x12 (ix2 (⟨128 + j.val, by omega⟩ : Fin 512) d)]
  refine View.allAt_cons_unit _ _ _ _ _ (mix_at H 0 0 rfl a d _ fun i => ?_) ?_
  · unfold stack0B zeroB
    pointwise [k0_pay47, k0_pay45, k0_pay46]
    simp only [own_select, mul_ite, mul_zero]
    refine congrArg₂ HMul.hMul (by simp only [Nat.zero_add]) (congrArg₂ HAdd.hAdd rfl (Finset.sum_congr rfl fun k _ =>
      if_congr Iff.rfl (congrArg (wsB x13 (ix2 i k) * ·)
        ((ladder (fun _ j => vnB x0 x1 x2 x3 x11 x12 (ix2 (⟨j.val, by omega⟩ : Fin 512) d)) k).trans (by simp only [Nat.zero_add]))) rfl))
  exact View.allAt_nil _ _

end Cert.ProjKernelIdeal.Run

end
-- ==== Proof.ProjRef.lean ====
/-
  The reference of the projection, read element by element.
-/
module

public import proofs.«01_k».proof.Proof.Gen.ProjReferenceIdeal.Run
public import proofs.«01_k».proof.Proof.ProjMath
public import Idealize.ShloMosaic.Lib.Claim

@[expose] public section

set_option maxRecDepth 16384

noncomputable section

namespace Cert.ProjReferenceIdeal.RefRow

open Cert.ProjReferenceIdeal Cert.ProjReferenceIdeal.Gen Cert.ProjReferenceIdeal.Value Idealize.ShloMosaic Idealize.ShloMosaic.TcCoe
open Idealize.SL.Sem Idealize.ShloMosaic.StableHlo
open Cert.ProjMath Cert.OutMath

/-- The arguments, entry by entry. -/
def args (a0 : FVec Ideal S16x2048x1024 .f32) (a1 : FVec Ideal S16x3072 .f32) (a2 : FVec Ideal S1024 .f32) (a3 : FVec Ideal S1024x3136 .f32)
    (a4 : FVec Ideal S384 .f32) (a5 : FVec Ideal S256 .f32) (a6 : FVec Ideal S384x4x192 .f32) (a7 a8 : FVec Ideal S256x4x128 .f32)
    (a9 a10 : FVec Ideal S256 .f32) (a11 : FVec Ideal S4x128x128 .f32) (a12 : FVec Ideal S4x128 .f32) : Args where
  x b s e := a0 (ix3 b s e)
  md b e := a1 (ix2 b e)
  gp e := a2 (ix1 e)
  wi e k := a3 (ix2 e k)
  gq r := a4 (ix1 r)
  gk r := a5 (ix1 r)
  uq r h d := a6 (ix3 r h d)
  uk r h d := a7 (ix3 r h d)
  uv r h d := a8 (ix3 r h d)
  lg d := a9 (ix1 d)
  lb d := a10 (ix1 d)
  ws h i j := a11 (ix3 h i j)
  bs h i := a12 (ix2 h i)

variable (V0 : Valuation τ sig (Elt Ideal))

/-- The arguments a valuation holds. -/
abbrev argsAt : Args := args (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg10))
  (V0 (Proc.devRef .tc main_arg11)) (V0 (Proc.devRef .tc main_arg12))

theorem col_apply (b : Fin 16) (s : Fin 2048) (k : Fin 3136) :
    (res_main_v24 V0 : FVec Ideal S16x2048x3136 .f32) (ix3 b s k) = (argsAt V0).col b s k := by
  pointwise [res_main_v24]
  rfl

theorem ql_apply (b : Fin 16) (s : Fin 2048) (k : Fin 384) :
    (res_main_v25 V0 : FVec Ideal S16x2048x384 .f32) (ix3 b s k) = (argsAt V0).col b s ⟨k.val, by omega⟩ := by
  pointwise [res_main_v25]
  exact col_apply V0 b s _

theorem kl_apply (b : Fin 16) (s : Fin 2048) (k : Fin 256) :
    (res_main_v26 V0 : FVec Ideal S16x2048x256 .f32) (ix3 b s k) = (argsAt V0).col b s ⟨384 + k.val, by omega⟩ := by
  pointwise [res_main_v26]
  exact col_apply V0 b s _

theorem mg_apply (b : Fin 16) (s : Fin 2048) (k : Fin 512) :
    (res_main_v28 V0 : FVec Ideal S16x2048x512 .f32) (ix3 b s k) = (argsAt V0).col b s ⟨704 + k.val, by omega⟩ := by
  pointwise [res_main_v28]
  exact col_apply V0 b s _

theorem rg_apply (b : Fin 16) (s : Fin 2048) (k : Fin 256) :
    (res_main_v30 V0 : FVec Ideal S16x2048x256 .f32) (ix3 b s k) = (argsAt V0).col b s ⟨2112 + k.val, by omega⟩ := by
  pointwise [res_main_v30]
  exact col_apply V0 b s _

theorem gv_apply (b : Fin 16) (s : Fin 2048) (k : Fin 256) :
    (res_main_v32 V0 : FVec Ideal S16x2048x256 .f32) (ix3 b s k) = (argsAt V0).col b s ⟨2624 + k.val, by omega⟩ := by
  pointwise [res_main_v32]
  exact col_apply V0 b s _

theorem gg_apply (b : Fin 16) (s : Fin 2048) (k : Fin 256) :
    (res_main_v33 V0 : FVec Ideal S16x2048x256 .f32) (ix3 b s k) = (argsAt V0).col b s ⟨2880 + k.val, by omega⟩ := by
  pointwise [res_main_v33]
  exact col_apply V0 b s _

theorem qup_apply (b : Fin 16) (s : Fin 2048) (h : Fin 4) (d : Fin 192) :
    (res_main_v47 V0 : FVec Ideal S16x2048x4x192 .f32) (ix4 b s h d) = (argsAt V0).qup b s h d := by
  pointwise [res_main_v47]
  simp only [ql_apply]
  rfl

theorem angle_apply (s : Fin 2048) (j : Fin 32) : (res_main_v62 V0 : FVec Ideal S2048x32 .f32) (ix2 s j) = angle s j := by
  pointwise [res_main_v62]
  rfl

theorem angle'_apply (s : Fin 2048) (j : Fin 32) : (res_main_v106 V0 : FVec Ideal S2048x32 .f32) (ix2 s j) = angle s j := by
  pointwise [res_main_v106]
  rfl

theorem cos_apply (s : Fin 2048) (j : Fin 32) :
    (res_main_v64 V0 : FVec Ideal S1x2048x1x32 .f32) (ix4 (0 : Fin 1) s (0 : Fin 1) j) = Ideal.cos (angle s j) := by
  pointwise [res_main_v64]
  rw [angle_apply]

theorem sin_apply (s : Fin 2048) (j : Fin 32) :
    (res_main_v66 V0 : FVec Ideal S1x2048x1x32 .f32) (ix4 (0 : Fin 1) s (0 : Fin 1) j) = Ideal.sin (angle s j) := by
  pointwise [res_main_v66]
  rw [angle_apply]

theorem cos'_apply (s : Fin 2048) (j : Fin 32) :
    (res_main_v108 V0 : FVec Ideal S1x2048x1x32 .f32) (ix4 (0 : Fin 1) s (0 : Fin 1) j) = Ideal.cos (angle s j) := by
  pointwise [res_main_v108]
  rw [angle'_apply]

theorem sin'_apply (s : Fin 2048) (j : Fin 32) :
    (res_main_v110 V0 : FVec Ideal S1x2048x1x32 .f32) (ix4 (0 : Fin 1) s (0 : Fin 1) j) = Ideal.sin (angle s j) := by
  pointwise [res_main_v110]
  rw [angle'_apply]

theorem q1_apply (b : Fin 16) (s : Fin 2048) (h : Fin 4) (j : Fin 32) :
    (res_main_v67 V0 : FVec Ideal S16x2048x4x32 .f32) (ix4 b s h j) = (argsAt V0).qup b s h ⟨128 + j.val, by omega⟩ := by
  pointwise [res_main_v67, res_main_v49]
  exact qup_apply V0 b s h _

theorem q2_apply (b : Fin 16) (s : Fin 2048) (h : Fin 4) (j : Fin 32) :
    (res_main_v68 V0 : FVec Ideal S16x2048x4x32 .f32) (ix4 b s h j) = (argsAt V0).qup b s h ⟨128 + (32 + j.val), by omega⟩ := by
  pointwise [res_main_v68, res_main_v49]
  exact qup_apply V0 b s h _

theorem ckv_apply (b : Fin 16) (s : Fin 2048) (d : Fin 256) :
    (res_main_v92 V0 : FVec Ideal S16x2048x256 .f32) (ix3 b s d) = (argsAt V0).ckv b s d := by
  pointwise [res_main_v92]
  simp only [kl_apply]
  rfl

theorem k1_apply (b : Fin 16) (s : Fin 2048) (j : Fin 32) :
    (res_main_v111 V0 : FVec Ideal S16x2048x1x32 .f32) (ix4 b s (0 : Fin 1) j) = (argsAt V0).col b s ⟨640 + j.val, by omega⟩ := by
  pointwise [res_main_v111, res_main_v93]
  exact col_apply V0 b s _

theorem k2_apply (b : Fin 16) (s : Fin 2048) (j : Fin 32) :
    (res_main_v112 V0 : FVec Ideal S16x2048x1x32 .f32) (ix4 b s (0 : Fin 1) j) = (argsAt V0).col b s ⟨640 + (32 + j.val), by omega⟩ := by
  pointwise [res_main_v112, res_main_v93]
  exact col_apply V0 b s _

theorem kpe_apply (b : Fin 16) (s : Fin 2048) (j : Fin 64) :
    (res_main_v124 V0 : FVec Ideal S16x2048x64 .f32) (ix3 b s j) = (argsAt V0).kpe b s j := by
  pointwise [res_main_v124]
  simp only [k1_apply, k2_apply, cos'_apply, sin'_apply]
  rfl

theorem mean_apply (b : Fin 16) (s : Fin 2048) :
    (res_main_v137 V0 : FVec Ideal S16x2048x1 .f32) (ix3 b s (0 : Fin 1))
      = mean fun d => (argsAt V0).col b s ⟨2624 + d.val, by omega⟩ := by
  pointwise [res_main_v137]
  simp only [gv_apply]
  rfl

theorem vn_apply (b : Fin 16) (s : Fin 2048) (d : Fin 256) :
    (res_main_v157 V0 : FVec Ideal S16x2048x256 .f32) (ix3 b s d) = (argsAt V0).vn b s d := by
  pointwise [res_main_v157, res_main_v139]
  simp only [gv_apply, mean_apply]
  rfl

theorem zero_apply (b : Fin 16) (s : Fin 2048) (h : Fin 4) (d : Fin 64) :
    (res_main_v127 V0 : FVec Ideal S16x2048x4x64 .f32) (ix4 b s h d) = (0 : EReal) := by
  pointwise [res_main_v127]

/-- A list of rows as an array. -/
def rows2 {n : ℕ} (f : Fin 16 → Fin 2048 → Fin n → EReal) : (⟨2, ![32768, n]⟩ : Shape).Idx → EReal :=
  fun i => rowOf f (i 0 : Fin 32768) (i 1 : Fin n)

/-- A list of rows as an array with a leading axis of length one. -/
def rows3 {n : ℕ} (f : Fin 16 → Fin 2048 → Fin n → EReal) : (⟨3, ![1, 32768, n]⟩ : Shape).Idx → EReal :=
  fun i => rowOf f (i 1 : Fin 32768) (i 2 : Fin n)

/-- The last 128 rows of each sequence. -/
def tail {n : ℕ} (f : Fin 16 → Fin 2048 → Fin n → EReal) : (⟨3, ![16, 128, n]⟩ : Shape).Idx → EReal :=
  fun i => tailRow f (i 0 : Fin 16) (i 1 : Fin 128) (i 2 : Fin n)

theorem eta2 {n k : ℕ} (i : (⟨2, ![n, k]⟩ : Shape).Idx) : i = ix2 (i 0 : Fin n) (i 1 : Fin k) := by
  funext a; fin_cases a <;> rfl

theorem eta3 {n k l : ℕ} (i : (⟨3, ![n, k, l]⟩ : Shape).Idx) : i = ix3 (i 0 : Fin n) (i 1 : Fin k) (i 2 : Fin l) := by
  funext a; fin_cases a <;> rfl

theorem ext2 {n k : ℕ} (u v : (⟨2, ![n, k]⟩ : Shape).Idx → EReal) (h : ∀ (i : Fin n) (j : Fin k), u (ix2 i j) = v (ix2 i j)) : u = v := by
  funext i
  rw [eta2 i]
  exact h _ _

theorem ext3 {n k l : ℕ} (u v : (⟨3, ![n, k, l]⟩ : Shape).Idx → EReal)
    (h : ∀ (i : Fin n) (j : Fin k) (d : Fin l), u (ix3 i j d) = v (ix3 i j d)) : u = v := by
  funext i
  rw [eta3 i]
  exact h _ _ _

theorem low_mul (i j : Fin 128) (a v : EReal) : a * low i j v
    = Scalar.select (IntOp.cmpi .sge (IntOp.addi (BitVec.ofNat 32 i.val) 0#32) (BitVec.ofNat 32 j.val)) (a * v) 0 := by
  unfold low Scalar.select IntOp.addi
  rw [BitVec.add_zero]
  split <;> simp

/-- Every run leaves the formulas' rows in the ten results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v176) = rows2 (argsAt (launchContents m c)).qrow
      ∧ r.2.mem ((c.tc : Thread nD τ).loc main_v178) = rows2 (argsAt (launchContents m c)).krow
      ∧ r.2.mem ((c.tc : Thread nD τ).loc main_v180) = rows2 (argsAt (launchContents m c)).vrow
      ∧ r.2.mem ((c.tc : Thread nD τ).loc main_v183) = rows2 (argsAt (launchContents m c)).mgate
      ∧ r.2.mem ((c.tc : Thread nD τ).loc main_v184) = rows3 (argsAt (launchContents m c)).ckv
      ∧ r.2.mem ((c.tc : Thread nD τ).loc main_v185) = rows3 (argsAt (launchContents m c)).kpe
      ∧ r.2.mem ((c.tc : Thread nD τ).loc main_v186) = rows2 (argsAt (launchContents m c)).rin
      ∧ r.2.mem ((c.tc : Thread nD τ).loc main_v188) = rows2 (argsAt (launchContents m c)).rgate
      ∧ r.2.mem ((c.tc : Thread nD τ).loc main_v190) = rows2 (argsAt (launchContents m c)).mix
      ∧ r.2.mem ((c.tc : Thread nD τ).loc main_v191) = tail (argsAt (launchContents m c)).vn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run (F := Ideal) m ρ)
  obtain ⟨h1, h2, h3, h4, h5, h6, h7, h8, h9, h10, hr⟩ := h c
  refine ⟨h1.trans ?_, h2.trans ?_, h3.trans ?_, h4.trans ?_, h5.trans ?_, h6.trans ?_, h7.trans ?_, h8.trans ?_, h9.trans ?_,
    h10.trans ?_, hr⟩
  all_goals clear h h1 h2 h3 h4 h5 h6 h7 h8 h9 h10 hr
  all_goals generalize launchContents m c = V0
  · refine ext2 _ _ fun i d => ?_
    pointwise
    simp only [qup_apply, q1_apply, q2_apply, cos_apply, sin_apply, zero_apply]
    rfl
  · refine ext2 _ _ fun i d => ?_
    pointwise
    simp only [ckv_apply, kpe_apply, zero_apply]
    rfl
  · refine ext2 _ _ fun i d => ?_
    pointwise
    simp only [ckv_apply]
    rfl
  · refine ext2 _ _ fun i d => ?_
    pointwise
    simp only [mg_apply]
    rfl
  · refine ext3 _ _ fun i j d => ?_
    pointwise
    simp only [ckv_apply]
    rfl
  · refine ext3 _ _ fun i j d => ?_
    pointwise
    simp only [kpe_apply]
    rfl
  · refine ext2 _ _ fun i d => ?_
    pointwise
    simp only [col_apply]
    rfl
  · refine ext2 _ _ fun i d => ?_
    pointwise
    simp only [rg_apply]
    rfl
  · refine ext2 _ _ fun i d => ?_
    pointwise
    simp only [gg_apply, col_apply, vn_apply]
    unfold rows2 rowOf Args.mix
    simp only [low_mul]
    rfl
  · refine ext3 _ _ fun i j d => ?_
    pointwise
    rw [vn_apply]
    exact (rfl : _ = tailRow (argsAt V0).vn i j d)

end Cert.ProjReferenceIdeal.RefRow

end
-- ==== Proof.ProjKer.lean ====
/-
  The projection's result arrays: what each holds when the call ends.
-/
module

public import proofs.«01_k».proof.Proof.ProjBlocks
public import proofs.«01_k».proof.Proof.ProjOut
public import proofs.«01_k».proof.Proof.ProjFrame
public import proofs.«01_k».proof.Proof.ProjRef

@[expose] public section

set_option maxRecDepth 16384

noncomputable section

namespace Cert.ProjKernelIdeal.Run

open Cert.ProjKernelIdeal Cert.ProjKernelIdeal.Gen Idealize.ShloMosaic Idealize.ShloMosaic.TcCoe Idealize.SL.Sem
open Cert.ProjMath Cert.OutMath
open Cert.ProjReferenceIdeal.RefRow (rows2 rows3 tail)

variable (m : (ℓ : Loc nD τ sig) → Buf (Elt Ideal) ℓ) (ρ : Dev nD → PrngReg) (c : Dev nD)

/-- A row of a grid point's block among the rows of its sequence. -/
theorem rowOf_block {n : ℕ} (f : Fin 16 → Fin 2048 → Fin n → EReal) (t : Fin grid0.N) (a : Fin 512) (d : Fin n) (i : Fin 32768)
    (hi : i.val = t.val * 512 + a.val) : f (seqOf t) (rowIn (quarter t) a) d = rowOf f i d := by
  unfold rowOf
  have e1 : seqOf t = ⟨i.val / 2048, by omega⟩ := Fin.ext (by show t.val / 4 = i.val / 2048; omega)
  have e2 : rowIn (quarter t) a = ⟨i.val % 2048, by omega⟩ := Fin.ext (by show t.val % 4 * 512 + a.val = i.val % 2048; omega)
  rw [e1, e2]

/-- The last rows of a sequence are in its last quarter. -/
theorem tailRow_block {n : ℕ} (f : Fin 16 → Fin 2048 → Fin n → EReal) (t : Fin grid0.N) (ht : t.val % 4 = 3) (a : Fin 128) (d : Fin n) :
    f (seqOf t) (rowIn (quarter t) ⟨384 + a.val, by omega⟩) d = tailRow f (seqOf t) a d := by
  unfold tailRow
  have e2 : rowIn (quarter t) ⟨384 + a.val, by omega⟩ = ⟨1920 + a.val, by omega⟩ :=
    Fin.ext (by show t.val % 4 * 512 + (384 + a.val) = 1920 + a.val; omega)
  rw [e2]

theorem eta_one {k l : ℕ} (y : (⟨3, ![1, k, l]⟩ : Shape).Idx) : y = ix3 (0 : Fin 1) (y 1 : Fin k) (y 2 : Fin l) := by
  have h0 (z : Fin 1) : z = 0 := Subsingleton.elim _ _
  funext a
  fin_cases a
  · exact h0 _
  · rfl
  · rfl

theorem idx_out : ∀ t : Fin grid0.N, ((win0_15.index t = ![t.val, 0] ∧ win0_16.index t = ![t.val, 0])
      ∧ (win0_17.index t = ![t.val, 0] ∧ win0_18.index t = ![t.val, 0]))
    ∧ ((win0_19.index t = ![0, t.val, 0] ∧ win0_20.index t = ![0, t.val, 0])
      ∧ (win0_21.index t = ![t.val, 0] ∧ win0_22.index t = ![t.val, 0]))
    ∧ (win0_23.index t = ![t.val, 0] ∧ win0_24.index t = ![t.val / 4, 0, 0]) := by decide +kernel

theorem flush24 : ∀ t : Fin grid0.N, win0_24.flush t = true → t.val % 4 = 3 := by decide +kernel

theorem final15 : (dats m 0 c).arrAt 15 cfg0.N = rows2 (argsOf m c).qrow := by
  refine (dats m 0 c).arrAt_eq_of_covers 15 _ (by decide +kernel) fun t hf y => ?_
  blk_simp
  rw [after_15]
  have hN : t.val < 64 := t.isLt
  have hy : y = ix2 (y 0 : Fin 512) (y 1 : Fin 1024) := by
    funext a
    fin_cases a <;> rfl
  have hr : (y 0 : Fin 512).val < 512 := (y 0 : Fin 512).isLt
  have he : (win0_15.blk t).view.emb y = ix2 (⟨t.val * 512 + (y 0 : Fin 512).val, by omega⟩ : Fin 32768) (y 1 : Fin 1024) := by
    blk_ext [(idx_out t).1.1.1]
  rw [he]
  refine (congrArg (out15 (iblk m c 0 t) (iblk m c 1 t) (iblk m c 2 t) (iblk m c 3 t) (iblk m c 4 t) (iblk m c 5 t) (iblk m c 9 t) (iblk m c 10 t)) hy).trans ?_
  refine (out15_apply (blocks m c t) (y 0 : Fin 512) (y 1 : Fin 1024)).trans ?_
  exact rowOf_block _ t (y 0 : Fin 512) (y 1 : Fin 1024) ⟨t.val * 512 + (y 0 : Fin 512).val, by omega⟩ rfl

theorem final16 : (dats m 0 c).arrAt 16 cfg0.N = rows2 (argsOf m c).krow := by
  refine (dats m 0 c).arrAt_eq_of_covers 16 _ (by decide +kernel) fun t hf y => ?_
  blk_simp
  rw [after_16]
  have hN : t.val < 64 := t.isLt
  have hy : y = ix2 (y 0 : Fin 512) (y 1 : Fin 1024) := by
    funext a
    fin_cases a <;> rfl
  have hr : (y 0 : Fin 512).val < 512 := (y 0 : Fin 512).isLt
  have he : (win0_16.blk t).view.emb y = ix2 (⟨t.val * 512 + (y 0 : Fin 512).val, by omega⟩ : Fin 32768) (y 1 : Fin 1024) := by
    blk_ext [(idx_out t).1.1.2]
  rw [he]
  refine (congrArg (out16 (iblk m c 0 t) (iblk m c 1 t) (iblk m c 2 t) (iblk m c 3 t) (iblk m c 6 t) (iblk m c 7 t) (iblk m c 9 t) (iblk m c 10 t)) hy).trans ?_
  refine (out16_apply (blocks m c t) (y 0 : Fin 512) (y 1 : Fin 1024)).trans ?_
  exact rowOf_block _ t (y 0 : Fin 512) (y 1 : Fin 1024) ⟨t.val * 512 + (y 0 : Fin 512).val, by omega⟩ rfl

theorem final17 : (dats m 0 c).arrAt 17 cfg0.N = rows2 (argsOf m c).vrow := by
  refine (dats m 0 c).arrAt_eq_of_covers 17 _ (by decide +kernel) fun t hf y => ?_
  blk_simp
  rw [after_17]
  have hN : t.val < 64 := t.isLt
  have hy : y = ix2 (y 0 : Fin 512) (y 1 : Fin 512) := by
    funext a
    fin_cases a <;> rfl
  have hr : (y 0 : Fin 512).val < 512 := (y 0 : Fin 512).isLt
  have he : (win0_17.blk t).view.emb y = ix2 (⟨t.val * 512 + (y 0 : Fin 512).val, by omega⟩ : Fin 32768) (y 1 : Fin 512) := by
    blk_ext [(idx_out t).1.2.1]
  rw [he]
  refine (congrArg (out17 (iblk m c 0 t) (iblk m c 1 t) (iblk m c 2 t) (iblk m c 3 t) (iblk m c 6 t) (iblk m c 8 t)) hy).trans ?_
  refine (out17_apply (blocks m c t) (y 0 : Fin 512) (y 1 : Fin 512)).trans ?_
  exact rowOf_block _ t (y 0 : Fin 512) (y 1 : Fin 512) ⟨t.val * 512 + (y 0 : Fin 512).val, by omega⟩ rfl

theorem final18 : (dats m 0 c).arrAt 18 cfg0.N = rows2 (argsOf m c).mgate := by
  refine (dats m 0 c).arrAt_eq_of_covers 18 _ (by decide +kernel) fun t hf y => ?_
  blk_simp
  rw [after_18]
  have hN : t.val < 64 := t.isLt
  have hy : y = ix2 (y 0 : Fin 512) (y 1 : Fin 512) := by
    funext a
    fin_cases a <;> rfl
  have hr : (y 0 : Fin 512).val < 512 := (y 0 : Fin 512).isLt
  have he : (win0_18.blk t).view.emb y = ix2 (⟨t.val * 512 + (y 0 : Fin 512).val, by omega⟩ : Fin 32768) (y 1 : Fin 512) := by
    blk_ext [(idx_out t).1.2.2]
  rw [he]
  refine (congrArg (out18 (iblk m c 0 t) (iblk m c 1 t) (iblk m c 2 t) (iblk m c 3 t)) hy).trans ?_
  refine (out18_apply (blocks m c t) (y 0 : Fin 512) (y 1 : Fin 512)).trans ?_
  exact rowOf_block _ t (y 0 : Fin 512) (y 1 : Fin 512) ⟨t.val * 512 + (y 0 : Fin 512).val, by omega⟩ rfl

theorem final19 : (dats m 0 c).arrAt 19 cfg0.N = rows3 (argsOf m c).ckv := by
  refine (dats m 0 c).arrAt_eq_of_covers 19 _ (by decide +kernel) fun t hf y => ?_
  blk_simp
  rw [after_19]
  have hN : t.val < 64 := t.isLt
  have hy : y = ix3 (0 : Fin 1) (y 1 : Fin 512) (y 2 : Fin 256) := eta_one y
  have hr : (y 1 : Fin 512).val < 512 := (y 1 : Fin 512).isLt
  have he : (win0_19.blk t).view.emb y = ix3 (0 : Fin 1) (⟨t.val * 512 + (y 1 : Fin 512).val, by omega⟩ : Fin 32768) (y 2 : Fin 256) := by
    blk_ext [(idx_out t).2.1.1.1]
  rw [he]
  refine (congrArg (out19 (iblk m c 0 t) (iblk m c 1 t) (iblk m c 2 t) (iblk m c 3 t) (iblk m c 6 t)) hy).trans ?_
  refine (out19_apply (blocks m c t) (y 1 : Fin 512) (y 2 : Fin 256)).trans ?_
  exact rowOf_block _ t (y 1 : Fin 512) (y 2 : Fin 256) ⟨t.val * 512 + (y 1 : Fin 512).val, by omega⟩ rfl

theorem final20 : (dats m 0 c).arrAt 20 cfg0.N = rows3 (argsOf m c).kpe := by
  refine (dats m 0 c).arrAt_eq_of_covers 20 _ (by decide +kernel) fun t hf y => ?_
  blk_simp
  rw [after_20]
  have hN : t.val < 64 := t.isLt
  have hy : y = ix3 (0 : Fin 1) (y 1 : Fin 512) (y 2 : Fin 64) := eta_one y
  have hr : (y 1 : Fin 512).val < 512 := (y 1 : Fin 512).isLt
  have he : (win0_20.blk t).view.emb y = ix3 (0 : Fin 1) (⟨t.val * 512 + (y 1 : Fin 512).val, by omega⟩ : Fin 32768) (y 2 : Fin 64) := by
    blk_ext [(idx_out t).2.1.1.2]
  rw [he]
  refine (congrArg (out20 (iblk m c 0 t) (iblk m c 1 t) (iblk m c 2 t) (iblk m c 3 t) (iblk m c 9 t) (iblk m c 10 t)) hy).trans ?_
  refine (out20_apply (blocks m c t) (y 1 : Fin 512) (y 2 : Fin 64)).trans ?_
  exact rowOf_block _ t (y 1 : Fin 512) (y 2 : Fin 64) ⟨t.val * 512 + (y 1 : Fin 512).val, by omega⟩ rfl

theorem final21 : (dats m 0 c).arrAt 21 cfg0.N = rows2 (argsOf m c).rin := by
  refine (dats m 0 c).arrAt_eq_of_covers 21 _ (by decide +kernel) fun t hf y => ?_
  blk_simp
  rw [after_21]
  have hN : t.val < 64 := t.isLt
  have hy : y = ix2 (y 0 : Fin 512) (y 1 : Fin 896) := by
    funext a
    fin_cases a <;> rfl
  have hr : (y 0 : Fin 512).val < 512 := (y 0 : Fin 512).isLt
  have he : (win0_21.blk t).view.emb y = ix2 (⟨t.val * 512 + (y 0 : Fin 512).val, by omega⟩ : Fin 32768) (y 1 : Fin 896) := by
    blk_ext [(idx_out t).2.1.2.1]
  rw [he]
  refine (congrArg (out21 (iblk m c 0 t) (iblk m c 1 t) (iblk m c 2 t) (iblk m c 3 t)) hy).trans ?_
  refine (out21_apply (blocks m c t) (y 0 : Fin 512) (y 1 : Fin 896)).trans ?_
  exact rowOf_block _ t (y 0 : Fin 512) (y 1 : Fin 896) ⟨t.val * 512 + (y 0 : Fin 512).val, by omega⟩ rfl

theorem final22 : (dats m 0 c).arrAt 22 cfg0.N = rows2 (argsOf m c).rgate := by
  refine (dats m 0 c).arrAt_eq_of_covers 22 _ (by decide +kernel) fun t hf y => ?_
  blk_simp
  rw [after_22]
  have hN : t.val < 64 := t.isLt
  have hy : y = ix2 (y 0 : Fin 512) (y 1 : Fin 256) := by
    funext a
    fin_cases a <;> rfl
  have hr : (y 0 : Fin 512).val < 512 := (y 0 : Fin 512).isLt
  have he : (win0_22.blk t).view.emb y = ix2 (⟨t.val * 512 + (y 0 : Fin 512).val, by omega⟩ : Fin 32768) (y 1 : Fin 256) := by
    blk_ext [(idx_out t).2.1.2.2]
  rw [he]
  refine (congrArg (out22 (iblk m c 0 t) (iblk m c 1 t) (iblk m c 2 t) (iblk m c 3 t)) hy).trans ?_
  refine (out22_apply (blocks m c t) (y 0 : Fin 512) (y 1 : Fin 256)).trans ?_
  exact rowOf_block _ t (y 0 : Fin 512) (y 1 : Fin 256) ⟨t.val * 512 + (y 0 : Fin 512).val, by omega⟩ rfl

theorem final23 : (dats m 0 c).arrAt 23 cfg0.N = rows2 (argsOf m c).mix := by
  refine (dats m 0 c).arrAt_eq_of_covers 23 _ (by decide +kernel) fun t hf y => ?_
  blk_simp
  rw [after_23]
  have hN : t.val < 64 := t.isLt
  have hy : y = ix2 (y 0 : Fin 512) (y 1 : Fin 256) := by
    funext a
    fin_cases a <;> rfl
  have hr : (y 0 : Fin 512).val < 512 := (y 0 : Fin 512).isLt
  have he : (win0_23.blk t).view.emb y = ix2 (⟨t.val * 512 + (y 0 : Fin 512).val, by omega⟩ : Fin 32768) (y 1 : Fin 256) := by
    blk_ext [(idx_out t).2.2.1]
  rw [he]
  refine (congrArg (out23 (iblk m c 0 t) (iblk m c 1 t) (iblk m c 2 t) (iblk m c 3 t) (iblk m c 11 t) (iblk m c 12 t) (iblk m c 13 t) (iblk m c 14 t)) hy).trans ?_
  refine (out23_apply (blocks m c t) (y 0 : Fin 512) (y 1 : Fin 256)).trans ?_
  exact rowOf_block _ t (y 0 : Fin 512) (y 1 : Fin 256) ⟨t.val * 512 + (y 0 : Fin 512).val, by omega⟩ rfl

theorem final24 : (dats m 0 c).arrAt 24 cfg0.N = tail (argsOf m c).vn := by
  refine (dats m 0 c).arrAt_eq_of_covers 24 _ (by decide +kernel) fun t hf y => ?_
  blk_simp
  rw [after_24]
  have hN : t.val < 64 := t.isLt
  have hy : y = ix3 (0 : Fin 1) (y 1 : Fin 128) (y 2 : Fin 256) := eta_one y
  have he : (win0_24.blk t).view.emb y = ix3 (seqOf t) (y 1 : Fin 128) (y 2 : Fin 256) := by
    blk_ext [seqOf, (idx_out t).2.2.2]
  rw [he]
  refine (congrArg (out24 (iblk m c 0 t) (iblk m c 1 t) (iblk m c 2 t) (iblk m c 3 t) (iblk m c 11 t) (iblk m c 12 t)) hy).trans ?_
  refine (out24_apply (blocks m c t) (y 1 : Fin 128) (y 2 : Fin 256)).trans ?_
  exact tailRow_block _ t (flush24 t hf) (y 1 : Fin 128) (y 2 : Fin 256)

set_option maxHeartbeats 4000000 in
/-- The run: the result arrays hold the mathematics' rows, the arguments end unchanged. -/
theorem run : θ_run defs (onTc (τ := τ) (main (F := Ideal))) ⟨m, fun _ => 0, ρ⟩ fun r => ∀ c : Dev nD,
      r.2.mem ((c.tc : Thread nD τ).loc main_v49_0) = rows2 (argsOf m c).qrow
      ∧ r.2.mem ((c.tc : Thread nD τ).loc main_v49_1) = rows2 (argsOf m c).krow
      ∧ r.2.mem ((c.tc : Thread nD τ).loc main_v49_2) = rows2 (argsOf m c).vrow
      ∧ r.2.mem ((c.tc : Thread nD τ).loc main_v49_3) = rows2 (argsOf m c).mgate
      ∧ r.2.mem ((c.tc : Thread nD τ).loc main_v49_4) = rows3 (argsOf m c).ckv
      ∧ r.2.mem ((c.tc : Thread nD τ).loc main_v49_5) = rows3 (argsOf m c).kpe
      ∧ r.2.mem ((c.tc : Thread nD τ).loc main_v49_6) = rows2 (argsOf m c).rin
      ∧ r.2.mem ((c.tc : Thread nD τ).loc main_v49_7) = rows2 (argsOf m c).rgate
      ∧ r.2.mem ((c.tc : Thread nD τ).loc main_v49_8) = rows2 (argsOf m c).mix
      ∧ r.2.mem ((c.tc : Thread nD τ).loc main_v49_9) = tail (argsOf m c).vn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).1 15).trans (final15 m c), ((h c).1 16).trans (final16 m c), ((h c).1 17).trans (final17 m c), ((h c).1 18).trans (final18 m c), ((h c).1 19).trans (final19 m c), ((h c).1 20).trans (final20 m c), ((h c).1 21).trans (final21 m c), ((h c).1 22).trans (final22 m c), ((h c).1 23).trans (final23 m c), ((h c).1 24).trans (final24 m c), (h c).2⟩) (run_arrays m ρ)

end Cert.ProjKernelIdeal.Run

end
-- ==== Proof.ProjClaims.lean ====
/-
  The projection's claims: the frames, and its ten results.
-/
module

public import proofs.«01_k».proof.Defs
public import proofs.«01_k».proof.Proof.ProjFrame
public import proofs.«01_k».proof.Proof.ProjKer
public import proofs.«01_k».proof.Proof.ProjRawFrame
public import proofs.«01_k».proof.Proof.Gen.ProjReferenceIdeal.Run
public import Idealize.ShloMosaic.Lib.Quiescent

@[expose] public section

set_option maxRecDepth 16384

noncomputable section

namespace Cert.ProjClaims

open Idealize.ShloMosaic Idealize.ShloMosaic.TcCoe Idealize.SL.Sem

theorem frame_kernel : Cert.quiescent_ProjKernel := fun m ρ _ => Cert.ProjKernel.Run.frame_kept m ρ

theorem frame_ideal : Cert.quiescent_ProjKernelIdeal := fun m ρ _ => Cert.ProjKernelIdeal.Run.frame_kept m ρ

theorem frame_reference : Cert.quiescent_ProjReferenceIdeal := fun m ρ _ =>
  (θ_run Cert.ProjReferenceIdeal.defs _ _).mono (fun r h => ⟨fun c => (h c).2.2.2.2.2.2.2.2.2.2, sem_eq_zero_of_no_sems (by decide) r.2⟩)
    (Cert.ProjReferenceIdeal.Value.run (F := Ideal) m ρ)

/-- Equal arguments hold the same mathematics. -/
theorem args_eq (m : (ℓ : Loc Cert.ProjKernelIdeal.nD Cert.ProjKernelIdeal.τ Cert.ProjKernelIdeal.sig) → Buf (Elt Ideal) ℓ)
    (m' : (ℓ : Loc Cert.ProjReferenceIdeal.nD Cert.ProjReferenceIdeal.τ Cert.ProjReferenceIdeal.sig) → Buf (Elt Ideal) ℓ)
    (c : Dev Cert.ProjKernelIdeal.nD)
    (h0 : m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0))
    (h1 : m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1))
    (h2 : m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2))
    (h3 : m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3))
    (h4 : m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4))
    (h5 : m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5))
    (h6 : m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6))
    (h7 : m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7))
    (h8 : m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8))
    (h9 : m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9))
    (h10 : m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10))
    (h11 : m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11))
    (h12 : m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)) :
    Cert.ProjReferenceIdeal.RefRow.argsAt (StableHlo.launchContents m' c) = Cert.ProjKernelIdeal.Run.argsOf m c := by
  have e : Cert.ProjReferenceIdeal.RefRow.argsAt (StableHlo.launchContents m' c)
      = Cert.ProjReferenceIdeal.RefRow.args
        (m' ((c.tc : Thread Cert.ProjReferenceIdeal.nD Cert.ProjReferenceIdeal.τ).loc Cert.ProjReferenceIdeal.main_arg0))
        (m' ((c.tc : Thread Cert.ProjReferenceIdeal.nD Cert.ProjReferenceIdeal.τ).loc Cert.ProjReferenceIdeal.main_arg1))
        (m' ((c.tc : Thread Cert.ProjReferenceIdeal.nD Cert.ProjReferenceIdeal.τ).loc Cert.ProjReferenceIdeal.main_arg2))
        (m' ((c.tc : Thread Cert.ProjReferenceIdeal.nD Cert.ProjReferenceIdeal.τ).loc Cert.ProjReferenceIdeal.main_arg3))
        (m' ((c.tc : Thread Cert.ProjReferenceIdeal.nD Cert.ProjReferenceIdeal.τ).loc Cert.ProjReferenceIdeal.main_arg4))
        (m' ((c.tc : Thread Cert.ProjReferenceIdeal.nD Cert.ProjReferenceIdeal.τ).loc Cert.ProjReferenceIdeal.main_arg5))
        (m' ((c.tc : Thread Cert.ProjReferenceIdeal.nD Cert.ProjReferenceIdeal.τ).loc Cert.ProjReferenceIdeal.main_arg6))
        (m' ((c.tc : Thread Cert.ProjReferenceIdeal.nD Cert.ProjReferenceIdeal.τ).loc Cert.ProjReferenceIdeal.main_arg7))
        (m' ((c.tc : Thread Cert.ProjReferenceIdeal.nD Cert.ProjReferenceIdeal.τ).loc Cert.ProjReferenceIdeal.main_arg8))
        (m' ((c.tc : Thread Cert.ProjReferenceIdeal.nD Cert.ProjReferenceIdeal.τ).loc Cert.ProjReferenceIdeal.main_arg9))
        (m' ((c.tc : Thread Cert.ProjReferenceIdeal.nD Cert.ProjReferenceIdeal.τ).loc Cert.ProjReferenceIdeal.main_arg10))
        (m' ((c.tc : Thread Cert.ProjReferenceIdeal.nD Cert.ProjReferenceIdeal.τ).loc Cert.ProjReferenceIdeal.main_arg11))
        (m' ((c.tc : Thread Cert.ProjReferenceIdeal.nD Cert.ProjReferenceIdeal.τ).loc Cert.ProjReferenceIdeal.main_arg12)) := rfl
  rw [e, h0, h1, h2, h3, h4, h5, h6, h7, h8, h9, h10, h11, h12]
  rfl

/-- The ten results are equal, whatever the arguments hold. -/
theorem algebraic : Cert.algebraic_ProjKernelIdeal_ProjReferenceIdeal := by
  intro m ρ m' ρ' _ hagree
  refine ⟨_, _, _, _, _, _, _, _, _, _, Cert.ProjKernelIdeal.Run.run m ρ, ?_⟩
  refine (θ_run Cert.ProjReferenceIdeal.defs _ _).mono (fun _ h c => ?_) (Cert.ProjReferenceIdeal.RefRow.run m' ρ')
  obtain ⟨h0, h1, h2, h3, h4, h5, h6, h7, h8, h9, h10, h11, h12⟩ := hagree c
  have e := args_eq m m' c h0 h1 h2 h3 h4 h5 h6 h7 h8 h9 h10 h11 h12
  have hc := h c
  rw [e] at hc
  exact hc

end Cert.ProjClaims

end
-- ==== Proof.SampleMath.lean ====
/-
  The projection of a step's samples, in plain formulas over the extended reals: one row for each sample, at one position.
-/
module

public import proofs.«01_k».proof.Proof.ProjMath

@[expose] public section

noncomputable section

namespace Cert.SampleMath

open Idealize.ShloMosaic Cert.OutMath
open Cert.ProjMath (hidden dot silu layerNormed turned)

/-- The angle by which the samples' position, 8192, turns the pair `j`. -/
def angle (j : Fin 32) : EReal :=
  FloatOps.sitofp (F := Ideal) .f32 8192#32 * Ideal.pow (Ideal.ofBits .f32 0x461C4000#32)
    (Ideal.div (-FloatOps.sitofp (F := Ideal) .f32 (BitVec.ofNat 32 j.val)) (Ideal.ofBits .f32 0x42000000#32))

/-- A row of 64 entries turned to the samples' position, then 64 zeros. -/
def rotated (y : Fin 64 → EReal) (l : Fin 128) : EReal :=
  if h : l.val < 64 then turned (fun j => Ideal.cos (angle j)) (fun j => Ideal.sin (angle j)) y ⟨l.val, h⟩ else 0

/-- The arguments of the samples' projection. -/
structure Args where
  /-- The layer's input. -/
  x : Fin 128 → Fin 1024 → EReal
  /-- The modulation rows. -/
  md : Fin 128 → Fin 3072 → EReal
  /-- The gain of the first norm. -/
  gp : Fin 1024 → EReal
  /-- The input projection. -/
  wi : Fin 1024 → Fin 3136 → EReal
  /-- The gain of the query norm. -/
  gq : Fin 384 → EReal
  /-- The gain of the latent norm. -/
  gk : Fin 256 → EReal
  /-- The up-projection of the queries. -/
  uq : Fin 384 → Fin 4 → Fin 192 → EReal
  /-- The up-projection of the keys. -/
  uk : Fin 256 → Fin 4 → Fin 128 → EReal
  /-- The gain of the layer norm. -/
  lg : Fin 256 → EReal
  /-- The offset of the layer norm. -/
  lb : Fin 256 → EReal
  /-- The mixing weights. -/
  ws : Fin 4 → Fin 128 → Fin 128 → EReal
  /-- The mixing offsets. -/
  bs : Fin 4 → Fin 128 → EReal

namespace Args

variable (A : Args) (i : Fin 128)

/-- The projected row, one column. -/
def col (k : Fin 3136) : EReal := dot (hidden (A.x i) (A.md i) A.gp) fun e => A.wi e k

/-- The up-projected query of a head. -/
def qup (h : Fin 4) (d : Fin 192) : EReal :=
  dot (normed 0x43C00000#32 (fun r => A.col i ⟨r.val, by omega⟩) A.gq) fun r => A.uq r h d

/-- The plain part of a head's query, scaled and carried to the latent space. -/
def qlat (h : Fin 4) (r : Fin 256) : EReal :=
  ∑ j : Fin 128, A.qup i h ⟨j.val, by omega⟩ * Ideal.ofBits .f32 0x3DD53B95#32 * A.uk r h j

/-- The latent queries of all the heads. -/
def qrow (d : Fin 1024) : EReal := A.qlat i ⟨d.val / 256, by omega⟩ ⟨d.val % 256, by omega⟩

/-- The turned part of a head's query, scaled. -/
def qpos (h : Fin 4) (l : Fin 128) : EReal :=
  rotated (fun j => A.qup i h ⟨128 + j.val, by omega⟩) l * Ideal.ofBits .f32 0x3DD53B95#32

/-- The turned queries of all the heads. -/
def prow (d : Fin 512) : EReal := A.qpos i ⟨d.val / 128, by omega⟩ ⟨d.val % 128, by omega⟩

/-- The attention's gate. -/
def mgate (d : Fin 512) : EReal := silu (A.col i ⟨704 + d.val, by omega⟩)

/-- The latent row. -/
def ckv (d : Fin 256) : EReal := normed 0x43800000#32 (fun r => A.col i ⟨384 + r.val, by omega⟩) A.gk d

/-- The turned key, shared by the heads, then zeros. -/
def kpe (l : Fin 128) : EReal := rotated (fun j => A.col i ⟨640 + j.val, by omega⟩) l

/-- The recurrent branch's input. -/
def rin (d : Fin 896) : EReal := A.col i ⟨1216 + d.val, by omega⟩

/-- The recurrent branch's gate. -/
def rgate (d : Fin 256) : EReal := silu (A.col i ⟨2112 + d.val, by omega⟩)

/-- The normed row of the mixing branch. -/
def vn (d : Fin 256) : EReal := layerNormed (fun d => A.col i ⟨2624 + d.val, by omega⟩) A.lg A.lb d

/-- The mixing branch's result: the samples stand first in their chunks. -/
def mix (d : Fin 256) : EReal :=
  silu (A.col i ⟨2880 + d.val, by omega⟩) * (A.col i ⟨2368 + d.val, by omega⟩
    * (A.vn i d * A.ws ⟨d.val / 64, by omega⟩ 0 0 + A.bs ⟨d.val / 64, by omega⟩ 0))

theorem qrow_at (h : Fin 4) (r : Fin 256) (d : Fin 1024) (hd : d.val = 256 * h.val + r.val) : A.qrow i d = A.qlat i h r := by
  have e1 : (⟨d.val / 256, by omega⟩ : Fin 4) = h := Fin.ext (by simp only; omega)
  have e2 : (⟨d.val % 256, by omega⟩ : Fin 256) = r := Fin.ext (by simp only; omega)
  unfold qrow
  rw [e1, e2]

theorem prow_at (h : Fin 4) (l : Fin 128) (d : Fin 512) (hd : d.val = 128 * h.val + l.val) : A.prow i d = A.qpos i h l := by
  have e1 : (⟨d.val / 128, by omega⟩ : Fin 4) = h := Fin.ext (by simp only; omega)
  have e2 : (⟨d.val % 128, by omega⟩ : Fin 128) = l := Fin.ext (by simp only; omega)
  unfold prow
  rw [e1, e2]

end Args

end Cert.SampleMath

end
-- ==== Proof.SampleStage.lean ====
/-
  The stages of the samples' projection, read element by element from what the blocks hold.
-/
module

public import proofs.«01_k».proof.Proof.Gen.SampleKernelIdeal.Frame
public import proofs.«01_k».proof.Proof.SampleMath
public import Idealize.ShloMosaic.Lib.Pipeline.ValueKit
public import Idealize.ShloMosaic.Lib.Claim
public import Idealize.ShloMosaic.Lib.Pointwise

@[expose] public section

set_option maxRecDepth 16384

noncomputable section

namespace Cert.SampleKernelIdeal.Run

open Cert.SampleKernelIdeal Cert.SampleKernelIdeal.Gen Idealize.ShloMosaic Idealize.ShloMosaic.TcCoe Idealize.SL.Sem
open Cert.SampleMath Cert.OutMath
open Cert.ProjMath (hidden dot silu layerNormed turned cosLanes sinLanes swapLane lanes_turned)

/-- The fourteen blocks hold the samples' rows and the weights, in the order the body expects. -/
structure Blocks (A : Args) (x0 : Vec Ideal S128x1024 .f32) (x1 : Vec Ideal S128x3072 .f32)
    (x2 : Vec Ideal S1x1024 .f32) (x3 : Vec Ideal S1024x3200 .bf16) (x4 : Vec Ideal S1x384 .f32) (x5 : Vec Ideal S384x1024 .bf16)
    (x6 : Vec Ideal S1x256 .f32) (x7 : Vec Ideal S4x128x256 .bf16) (x8 x9 : Vec Ideal S128x128 .f32)
    (x10 x11 x12 x13 : Vec Ideal S1x256 .f32) : Prop where
  hx : ∀ (a : Fin 128) (e : Fin 1024), x0 (ix2 a e) = A.x a e
  hmd : ∀ (a : Fin 128) (e : Fin 3072), x1 (ix2 a e) = A.md a e
  hgp : ∀ e : Fin 1024, x2 (ix2 (0 : Fin 1) e) = A.gp e
  hwq : ∀ (e : Fin 1024) (k : Fin 384), x3 (ix2 e (⟨k.val, by omega⟩ : Fin 3200)) = A.wi e ⟨k.val, by omega⟩
  hwp : ∀ (e : Fin 1024) (l : Fin 128), x3 (ix2 e (⟨384 + l.val, by omega⟩ : Fin 3200)) = A.wi e ⟨640 + (swapLane l).val, by omega⟩
  hwk : ∀ (e : Fin 1024) (k : Fin 256), x3 (ix2 e (⟨512 + k.val, by omega⟩ : Fin 3200)) = A.wi e ⟨384 + k.val, by omega⟩
  hwm : ∀ (e : Fin 1024) (k : Fin 512), x3 (ix2 e (⟨768 + k.val, by omega⟩ : Fin 3200)) = A.wi e ⟨704 + k.val, by omega⟩
  hwr : ∀ (e : Fin 1024) (k : Fin 896), x3 (ix2 e (⟨1280 + k.val, by omega⟩ : Fin 3200)) = A.wi e ⟨1216 + k.val, by omega⟩
  hwg : ∀ (e : Fin 1024) (k : Fin 256), x3 (ix2 e (⟨2176 + k.val, by omega⟩ : Fin 3200)) = A.wi e ⟨2112 + k.val, by omega⟩
  hwu : ∀ (e : Fin 1024) (k : Fin 256), x3 (ix2 e (⟨2432 + k.val, by omega⟩ : Fin 3200)) = A.wi e ⟨2368 + k.val, by omega⟩
  hwv : ∀ (e : Fin 1024) (k : Fin 256), x3 (ix2 e (⟨2688 + k.val, by omega⟩ : Fin 3200)) = A.wi e ⟨2624 + k.val, by omega⟩
  hws : ∀ (e : Fin 1024) (k : Fin 256), x3 (ix2 e (⟨2944 + k.val, by omega⟩ : Fin 3200)) = A.wi e ⟨2880 + k.val, by omega⟩
  hgq : ∀ r : Fin 384, x4 (ix2 (0 : Fin 1) r) = A.gq r
  huq : ∀ (r : Fin 384) (h : Fin 4) (l : Fin 128),
    x5 (ix2 r (⟨256 * h.val + l.val, by omega⟩ : Fin 1024)) = A.uq r h ⟨l.val, by omega⟩
  hup : ∀ (r : Fin 384) (h : Fin 4) (l : Fin 128),
    x5 (ix2 r (⟨256 * h.val + 128 + l.val, by omega⟩ : Fin 1024)) = A.uq r h ⟨128 + (swapLane l).val, by omega⟩
  hgk : ∀ r : Fin 256, x6 (ix2 (0 : Fin 1) r) = A.gk r
  huk : ∀ (h : Fin 4) (j : Fin 128) (r : Fin 256), x7 (ix3 h j r) = A.uk r h j
  hcs : ∀ (a l : Fin 128), x8 (ix2 a l) = cosLanes (fun j => Ideal.cos (angle j)) l
  hsn : ∀ (a l : Fin 128), x9 (ix2 a l) = sinLanes (fun j => Ideal.sin (angle j)) l
  hlg : ∀ d : Fin 256, x10 (ix2 (0 : Fin 1) d) = A.lg d
  hlb : ∀ d : Fin 256, x11 (ix2 (0 : Fin 1) d) = A.lb d
  hmw : ∀ d : Fin 256, x12 (ix2 (0 : Fin 1) d) = A.ws ⟨d.val / 64, by omega⟩ 0 0
  hmb : ∀ d : Fin 256, x13 (ix2 (0 : Fin 1) d) = A.bs ⟨d.val / 64, by omega⟩ 0

theorem z2 : (![0, 0] : Fin 2 → ℕ) = fun _ => 0 := by decide

section Stages

variable (x0 : Vec Ideal S128x1024 .f32) (x1 : Vec Ideal S128x3072 .f32) (x2 : Vec Ideal S1x1024 .f32) (x3 : Vec Ideal S1024x3200 .bf16)
    (x4 : Vec Ideal S1x384 .f32) (x5 : Vec Ideal S384x1024 .bf16) (x8 x9 : Vec Ideal S128x128 .f32) (x10 x11 : Vec Ideal S1x256 .f32)

/-- The modulated rows. -/
def hB : FVec Ideal S128x1024 .bf16 := k0_pay3 (View.ld x1 r0_0) (View.ld x0 r0_1) (View.ld x2 r0_2)

/-- The cosines. -/
def cosB : FVec Ideal S128x128 .f32 := k0_pay4 (View.ld x8 r0_3)

/-- The signed sines. -/
def sinB : FVec Ideal S128x128 .f32 := k0_pay5 (View.ld x9 r0_3)

/-- The first columns, of the query latent and of the rotary key. -/
def qkB : FVec Ideal S128x512 .f32 := k0_pay6 (View.ld x1 r0_0) (View.ld x0 r0_1) (View.ld x2 r0_2) (View.ld x3 r0_4)

/-- The query latent. -/
def qlB : FVec Ideal S128x384 .f32 := k0_pay7 (View.ld x1 r0_0) (View.ld x0 r0_1) (View.ld x2 r0_2) (View.ld x3 r0_4)

/-- The sums of its squares. -/
def qssB : FVec Ideal S128x1 .f32 := k0_pay9 (View.ld x1 r0_0) (View.ld x0 r0_1) (View.ld x2 r0_2) (View.ld x3 r0_4)

/-- The up-projected queries. -/
def quB : FVec Ideal S128x1024 .f32 :=
  k0_pay11 (qlB x0 x1 x2 x3) (k0_pay8 (View.ld x4 r0_5)) (qssB x0 x1 x2 x3) (k0_pay10 (F := Ideal)) (View.ld x5 r0_6)

/-- The mixing branch's rows, normed and scaled. -/
def yB : FVec Ideal S128x256 .f32 := k0_pay30 (hB x0 x1 x2) (View.ld x3 r0_27) (View.ld x10 r0_20)

end Stages

variable {A : Args} {x0 : Vec Ideal S128x1024 .f32} {x1 : Vec Ideal S128x3072 .f32}
    {x2 : Vec Ideal S1x1024 .f32} {x3 : Vec Ideal S1024x3200 .bf16} {x4 : Vec Ideal S1x384 .f32} {x5 : Vec Ideal S384x1024 .bf16}
    {x6 : Vec Ideal S1x256 .f32} {x7 : Vec Ideal S4x128x256 .bf16} {x8 x9 : Vec Ideal S128x128 .f32}
    {x10 x11 x12 x13 : Vec Ideal S1x256 .f32}
    (H : Blocks A x0 x1 x2 x3 x4 x5 x6 x7 x8 x9 x10 x11 x12 x13)

include H

theorem hB_apply (a : Fin 128) (e : Fin 1024) : hB x0 x1 x2 (ix2 a e) = hidden (A.x a) (A.md a) A.gp e := by
  unfold hB
  rw [View.ld_unit_zero z2, View.ld_unit_zero z2, View.ld_unit_zero z2]
  pointwise [k0_pay3]
  simp only [H.hx, H.hmd, H.hgp]
  rfl

theorem cosB_apply (a : Fin 128) (l : Fin 128) : cosB x8 (ix2 a l) = cosLanes (fun j => Ideal.cos (angle j)) l := by
  unfold cosB
  rw [View.ld_unit_zero z2]
  pointwise [k0_pay4]
  exact H.hcs a l

theorem sinB_apply (a : Fin 128) (l : Fin 128) : sinB x9 (ix2 a l) = sinLanes (fun j => Ideal.sin (angle j)) l := by
  unfold sinB
  rw [View.ld_unit_zero z2]
  pointwise [k0_pay5]
  exact H.hsn a l

/-- The first columns, of the query latent and of the rotary key. -/
theorem qkB_apply (a : Fin 128) (k : Fin 512) :
    qkB x0 x1 x2 x3 (ix2 a k) = dot (hidden (A.x a) (A.md a) A.gp) fun e => x3 (ix2 e (⟨k.val, by omega⟩ : Fin 3200)) := by
  have hk : qkB x0 x1 x2 x3 (ix2 a k) = ∑ e : Fin 1024, hB x0 x1 x2 (ix2 a e) * View.ld x3 r0_4 (ix2 e k) := by
    unfold qkB k0_pay6 hB
    pointwise
  rw [hk, View.ld_unit]
  simp only [hB_apply H]
  pointwise
  rfl

theorem ql_col (a : Fin 128) (k : Fin 384) : qlB x0 x1 x2 x3 (ix2 a k) = A.col a ⟨k.val, by omega⟩ := by
  have hk : qlB x0 x1 x2 x3 (ix2 a k) = qkB x0 x1 x2 x3 (ix2 a (⟨k.val, by omega⟩ : Fin 512)) := by
    unfold qlB qkB k0_pay7
    generalize k0_pay6 (View.ld x1 r0_0) (View.ld x0 r0_1) (View.ld x2 r0_2) (View.ld x3 r0_4) = w
    pointwise
  rw [hk, qkB_apply H]
  simp only [H.hwq]
  rfl

theorem qss_apply (a : Fin 128) :
    qssB x0 x1 x2 x3 (ix2 a (0 : Fin 1)) = ∑ r : Fin 384, A.col a ⟨r.val, by omega⟩ * A.col a ⟨r.val, by omega⟩ := by
  have hk : qssB x0 x1 x2 x3 (ix2 a (0 : Fin 1)) = ∑ r : Fin 384, qlB x0 x1 x2 x3 (ix2 a r) * qlB x0 x1 x2 x3 (ix2 a r) := by
    unfold qssB qlB k0_pay9
    generalize k0_pay7 (View.ld x1 r0_0) (View.ld x0 r0_1) (View.ld x2 r0_2) (View.ld x3 r0_4) = w
    pointwise
  rw [hk]
  simp only [ql_col H]

theorem quB_apply (a : Fin 128) (k : Fin 1024) : quB x0 x1 x2 x3 x4 x5 (ix2 a k)
    = dot (normed 0x43C00000#32 (fun r => A.col a ⟨r.val, by omega⟩) A.gq) fun r => x5 (ix2 r k) := by
  unfold quB
  rw [View.ld_unit_zero z2, View.ld_unit_zero z2]
  have hg : ∀ r : Fin 384, k0_pay8 x4 (ix2 (0 : Fin 1) r) = A.gq r := by
    intro r
    pointwise [k0_pay8]
    exact H.hgq r
  pointwise [k0_pay11, k0_pay10]
  simp only [qss_apply H, hg, ql_col H]
  rfl

/-- The plain lanes of a head's query. -/
theorem qplain (a : Fin 128) (h : Fin 4) (l : Fin 128) :
    quB x0 x1 x2 x3 x4 x5 (ix2 a (⟨256 * h.val + l.val, by omega⟩ : Fin 1024)) = A.qup a h ⟨l.val, by omega⟩ := by
  rw [quB_apply H]
  simp only [H.huq]
  rfl

/-- The turned lanes of a head's query. -/
theorem qlanes (a : Fin 128) (h : Fin 4) (l : Fin 128) :
    quB x0 x1 x2 x3 x4 x5 (ix2 a (⟨256 * h.val + 128 + l.val, by omega⟩ : Fin 1024))
      = A.qup a h ⟨128 + (swapLane l).val, by omega⟩ := by
  rw [quB_apply H]
  simp only [H.hup]
  rfl

/-- A head's turned query. -/
theorem qturned (a : Fin 128) (h : Fin 4) (l : Fin 128) :
    quB x0 x1 x2 x3 x4 x5 (ix2 a (⟨256 * h.val + 128 + l.val, by omega⟩ : Fin 1024)) * cosB x8 (ix2 a l)
        + quB x0 x1 x2 x3 x4 x5 (ix2 a (⟨256 * h.val + 128 + (l.val + 128 - 64) % 128, by omega⟩ : Fin 1024)) * sinB x9 (ix2 a l)
      = rotated (fun j => A.qup a h ⟨128 + j.val, by omega⟩) l := by
  rw [cosB_apply H, sinB_apply H]
  exact lanes_turned _ _ (fun j => A.qup a h ⟨128 + j.val, by omega⟩) l
    (fun l => quB x0 x1 x2 x3 x4 x5 (ix2 a (⟨256 * h.val + 128 + l.val, by omega⟩ : Fin 1024))) fun l => qlanes H a h l

theorem yB_apply (a : Fin 128) (d : Fin 256) : yB x0 x1 x2 x3 x10 (ix2 a d) + x11 (ix2 (0 : Fin 1) d) = A.vn a d := by
  unfold yB
  rw [View.ld_unit_zero z2, View.ld_unit]
  pointwise [k0_pay30]
  simp only [hB_apply H, H.hwv, H.hlg, H.hlb]
  rfl

end Cert.SampleKernelIdeal.Run

end
-- ==== Proof.SampleOut.lean ====
/-
  What the body leaves in the nine output blocks, element by element.
-/
module

public import proofs.«01_k».proof.Proof.SampleStage

@[expose] public section

set_option maxRecDepth 16384

noncomputable section

namespace Cert.SampleKernelIdeal.Run

open Cert.SampleKernelIdeal Cert.SampleKernelIdeal.Gen Idealize.ShloMosaic Idealize.ShloMosaic.TcCoe Idealize.SL.Sem
open Cert.SampleMath Cert.OutMath
open Cert.ProjMath (hidden dot silu layerNormed turned cosLanes sinLanes swapLane lanes_turned)

/-- A piece of columns, one element. -/
theorem piece_at {n k : ℕ} (w : Vec Ideal ⟨2, ![128, k]⟩ .f32) (o : ℕ) (a : Fin 128) (d : Fin n) (v : EReal)
    (h : ∀ l : Fin k, d.val = o + l.val → w (ix2 a l) = v) :
    View.TileAt (S := ⟨2, ![128, n]⟩) (Val := Elt Ideal) (e := .f32) (ix2 a d) ![0, o] (![128, k] : Fin 2 → ℕ) w v := by
  intro x hx
  have h0 : a.val = 0 + (x 0 : Fin 128).val := hx 0
  have h1 : d.val = o + (x 1 : Fin k).val := hx 1
  have e : x = ix2 a (x 1 : Fin k) := by
    funext j
    fin_cases j
    · exact Fin.ext (by show (x 0 : Fin 128).val = a.val; omega)
    · rfl
  rw [e]
  exact h _ h1

variable {A : Args} {x0 : Vec Ideal S128x1024 .f32} {x1 : Vec Ideal S128x3072 .f32}
    {x2 : Vec Ideal S1x1024 .f32} {x3 : Vec Ideal S1024x3200 .bf16} {x4 : Vec Ideal S1x384 .f32} {x5 : Vec Ideal S384x1024 .bf16}
    {x6 : Vec Ideal S1x256 .f32} {x7 : Vec Ideal S4x128x256 .bf16} {x8 x9 : Vec Ideal S128x128 .f32}
    {x10 x11 x12 x13 : Vec Ideal S1x256 .f32}
    (H : Blocks A x0 x1 x2 x3 x4 x5 x6 x7 x8 x9 x10 x11 x12 x13)

include H

/-- A piece of latent queries. -/
theorem latent_at (h : Fin 4) (o : ℕ) (ho : o = 256 * h.val) (a : Fin 128) (d : Fin 1024) (w : Vec Ideal S128x256 .f32)
    (hw : ∀ r : Fin 256, w (ix2 a r) = ∑ j : Fin 128, quB x0 x1 x2 x3 x4 x5 (ix2 a (⟨o + j.val, by omega⟩ : Fin 1024))
      * Ideal.ofBits .f32 0x3DD53B95#32 * x7 (ix3 h j r)) :
    View.TileAt (S := S128x1024) (Val := Elt Ideal) (e := .f32) (ix2 a d) ![0, o] S128x256.size w (A.qrow a d) := by
  subst ho
  refine piece_at w _ a d _ fun r hr => ?_
  rw [hw r, A.qrow_at a h r d hr]
  simp only [qplain H, H.huk]
  rfl

/-- A piece of turned queries. -/
theorem turned_at (h : Fin 4) (o p : ℕ) (ho : o = 128 * h.val) (hp : p = 256 * h.val + 128) (a : Fin 128) (d : Fin 512)
    (w : Vec Ideal S128x128 .f32)
    (hw : ∀ l : Fin 128, w (ix2 a l)
      = (quB x0 x1 x2 x3 x4 x5 (ix2 a (⟨p + l.val, by omega⟩ : Fin 1024)) * cosB x8 (ix2 a l)
          + quB x0 x1 x2 x3 x4 x5 (ix2 a (⟨p + (l.val + 128 - 64) % 128, by omega⟩ : Fin 1024)) * sinB x9 (ix2 a l))
        * Ideal.ofBits .f32 0x3DD53B95#32) :
    View.TileAt (S := S128x512) (Val := Elt Ideal) (e := .f32) (ix2 a d) ![0, o] S128x128.size w (A.prow a d) := by
  subst ho
  subst hp
  refine piece_at w _ a d _ fun l hl => ?_
  rw [hw l, qturned H, A.prow_at a h l d hl]
  rfl

theorem out14_apply (a : Fin 128) (d : Fin 1024) : out0_14 x0 x1 x2 x3 x4 x5 x6 x7 x8 x9 x10 x11 x12 x13 (ix2 a d) = A.qrow a d := by
  unfold out0_14 k0_pay34 k0_pay35 k0_pay36 k0_pay37
  refine View.canon_eq_of_allAt _ _ _ (cover0_14 _ _ _ _ _) ?_
  refine View.allAt_cons_unit _ _ _ _ _ (latent_at H 3 768 rfl a d _ fun r => ?_) ?_
  · unfold k0_pay25 k0_pay18 quB qlB qssB
    generalize k0_pay11 (F := Ideal) _ _ _ _ _ = w
    rw [View.ld_unit]
    pointwise
  refine View.allAt_cons_unit _ _ _ _ _ (latent_at H 2 512 rfl a d _ fun r => ?_) ?_
  · unfold k0_pay24 k0_pay16 quB qlB qssB
    generalize k0_pay11 (F := Ideal) _ _ _ _ _ = w
    rw [View.ld_unit]
    pointwise
  refine View.allAt_cons_unit _ _ _ _ _ (latent_at H 1 256 rfl a d _ fun r => ?_) ?_
  · unfold k0_pay23 k0_pay14 quB qlB qssB
    generalize k0_pay11 (F := Ideal) _ _ _ _ _ = w
    rw [View.ld_unit]
    pointwise
  refine View.allAt_cons_unit _ _ _ _ _ (latent_at H 0 0 rfl a d _ fun r => ?_) ?_
  · unfold k0_pay22 k0_pay12 quB qlB qssB
    generalize k0_pay11 (F := Ideal) _ _ _ _ _ = w
    rw [View.ld_unit]
    pointwise
  exact View.allAt_nil _ _

theorem out15_apply (a : Fin 128) (d : Fin 512) : out0_15 x0 x1 x2 x3 x4 x5 x6 x7 x8 x9 x10 x11 x12 x13 (ix2 a d) = A.prow a d := by
  unfold out0_15 k0_pay32 k0_pay33 k0_pay34 k0_pay35 k0_pay36 k0_pay37
  refine View.canon_eq_of_allAt _ _ _ (cover0_15 _ _ _ _ _) ?_
  refine View.allAt_cons_unit _ _ _ _ _ (turned_at H 3 384 896 rfl rfl a d _ fun l => ?_) ?_
  · unfold k0_pay20 k0_pay19 quB qlB qssB cosB sinB
    generalize k0_pay11 (F := Ideal) _ _ _ _ _ = w
    generalize k0_pay4 (F := Ideal) _ = u
    generalize k0_pay5 (F := Ideal) _ = v
    pointwise
  refine View.allAt_cons_unit _ _ _ _ _ (turned_at H 2 256 640 rfl rfl a d _ fun l => ?_) ?_
  · unfold k0_pay17 quB qlB qssB cosB sinB
    generalize k0_pay11 (F := Ideal) _ _ _ _ _ = w
    generalize k0_pay4 (F := Ideal) _ = u
    generalize k0_pay5 (F := Ideal) _ = v
    pointwise
  refine View.allAt_cons_unit _ _ _ _ _ (turned_at H 1 128 384 rfl rfl a d _ fun l => ?_) ?_
  · unfold k0_pay15 quB qlB qssB cosB sinB
    generalize k0_pay11 (F := Ideal) _ _ _ _ _ = w
    generalize k0_pay4 (F := Ideal) _ = u
    generalize k0_pay5 (F := Ideal) _ = v
    pointwise
  refine View.allAt_cons_unit _ _ _ _ _ (turned_at H 0 0 128 rfl rfl a d _ fun l => ?_) ?_
  · unfold k0_pay13 quB qlB qssB cosB sinB
    generalize k0_pay11 (F := Ideal) _ _ _ _ _ = w
    generalize k0_pay4 (F := Ideal) _ = u
    generalize k0_pay5 (F := Ideal) _ = v
    pointwise
  exact View.allAt_nil _ _

theorem out16_apply (a : Fin 128) (d : Fin 512) : out0_16 x0 x1 x2 x3 x4 x5 x6 x7 x8 x9 x10 x11 x12 x13 (ix2 a d) = A.mgate a d := by
  unfold out0_16
  rw [View.canon_unit_zero z2]
  show k0_pay27 (hB x0 x1 x2) (View.ld x3 r0_22) (ix2 a d) = _
  rw [View.ld_unit]
  pointwise [k0_pay27]
  simp only [hB_apply H, H.hwm]
  rfl

theorem out17_apply (a : Fin 128) (d : Fin 256) : out0_17 x0 x1 x2 x3 x4 x5 x6 x7 x8 x9 x10 x11 x12 x13 (ix2 a d) = A.ckv a d := by
  unfold out0_17
  rw [View.canon_unit_zero z2]
  show k0_pay26 (hB x0 x1 x2) (View.ld x3 r0_19) (View.ld x6 r0_20) (ix2 a d) = _
  rw [View.ld_unit_zero z2, View.ld_unit]
  pointwise [k0_pay26]
  simp only [hB_apply H, H.hwk, H.hgk]
  rfl

theorem out18_apply (a l : Fin 128) : out0_18 x0 x1 x2 x3 x4 x5 x6 x7 x8 x9 x10 x11 x12 x13 (ix2 a l) = A.kpe a l := by
  unfold out0_18
  rw [View.canon_unit_zero z2]
  show k0_pay21 (cosB x8) (sinB x9) (qkB x0 x1 x2 x3) (ix2 a l) = _
  pointwise [k0_pay21]
  rw [cosB_apply H, sinB_apply H]
  refine lanes_turned _ _ (fun j => A.col a ⟨640 + j.val, by omega⟩) l
    (fun l => qkB x0 x1 x2 x3 (ix2 a (⟨384 + l.val, by omega⟩ : Fin 512))) fun l => ?_
  rw [qkB_apply H]
  simp only [H.hwp]
  rfl

theorem out19_apply (a : Fin 128) (d : Fin 896) : out0_19 x0 x1 x2 x3 x4 x5 x6 x7 x8 x9 x10 x11 x12 x13 (ix2 a d) = A.rin a d := by
  unfold out0_19
  rw [View.canon_unit_zero z2]
  show k0_pay28 (hB x0 x1 x2) (View.ld x3 r0_24) (ix2 a d) = _
  rw [View.ld_unit]
  pointwise [k0_pay28]
  simp only [hB_apply H, H.hwr]
  rfl

theorem out20_apply (a : Fin 128) (d : Fin 256) : out0_20 x0 x1 x2 x3 x4 x5 x6 x7 x8 x9 x10 x11 x12 x13 (ix2 a d) = A.rgate a d := by
  unfold out0_20
  rw [View.canon_unit_zero z2]
  show k0_pay29 (hB x0 x1 x2) (View.ld x3 r0_26) (ix2 a d) = _
  rw [View.ld_unit]
  pointwise [k0_pay29]
  simp only [hB_apply H, H.hwg]
  rfl

theorem vn_at (a : Fin 128) (d : Fin 256) : k0_pay1 (yB x0 x1 x2 x3 x10) x11 (ix2 a d) = A.vn a d := by
  pointwise [k0_pay1]
  exact yB_apply H a d

theorem out22_apply (a : Fin 128) (d : Fin 256) : out0_22 x0 x1 x2 x3 x4 x5 x6 x7 x8 x9 x10 x11 x12 x13 (ix2 a d) = A.vn a d := by
  unfold out0_22
  rw [View.canon_unit_zero z2]
  show k0_pay1 (yB x0 x1 x2 x3 x10) (View.ld x11 r0_20) (ix2 a d) = _
  rw [View.ld_unit_zero z2]
  exact vn_at H a d

theorem out21_apply (a : Fin 128) (d : Fin 256) : out0_21 x0 x1 x2 x3 x4 x5 x6 x7 x8 x9 x10 x11 x12 x13 (ix2 a d) = A.mix a d := by
  unfold out0_21
  rw [View.canon_unit_zero z2]
  show k0_pay2 (hB x0 x1 x2) (yB x0 x1 x2 x3 x10) (View.ld x11 r0_20) (View.ld x12 r0_20) (View.ld x13 r0_20) (View.ld x3 r0_28)
    (View.ld x3 r0_29) (ix2 a d) = _
  rw [View.ld_unit_zero z2, View.ld_unit_zero z2, View.ld_unit_zero z2, View.ld_unit, View.ld_unit]
  have hv := vn_at H a d
  unfold k0_pay2
  generalize k0_pay1 (yB x0 x1 x2 x3 x10) x11 = y at hv ⊢
  pointwise
  rw [hv]
  simp only [hB_apply H, H.hws, H.hwu, H.hmw, H.hmb]
  exact mul_assoc _ _ _

end Cert.SampleKernelIdeal.Run

end
-- ==== Proof.SampleRef.lean ====
/-
  The reference of the samples' projection, read element by element.
-/
module

public import proofs.«01_k».proof.Proof.Gen.SampleReferenceIdeal.Run
public import proofs.«01_k».proof.Proof.SampleMath
public import proofs.«01_k».proof.Proof.ProjRef
public import Idealize.ShloMosaic.Lib.Claim

@[expose] public section

set_option maxRecDepth 16384

noncomputable section

namespace Cert.SampleReferenceIdeal.RefRow

open Cert.SampleReferenceIdeal Cert.SampleReferenceIdeal.Gen Cert.SampleReferenceIdeal.Value Idealize.ShloMosaic Idealize.ShloMosaic.TcCoe
open Idealize.SL.Sem Idealize.ShloMosaic.StableHlo
open Cert.SampleMath Cert.OutMath
open Cert.ProjMath (hidden dot silu layerNormed turned mean)
open Cert.ProjReferenceIdeal.RefRow (ext2)

/-- The arguments, entry by entry. -/
def args (a0 : FVec Ideal S128x1x1024 .f32) (a1 : FVec Ideal S128x3072 .f32) (a2 : FVec Ideal S1024 .f32) (a3 : FVec Ideal S1024x3136 .f32)
    (a4 : FVec Ideal S384 .f32) (a5 : FVec Ideal S256 .f32) (a6 : FVec Ideal S384x4x192 .f32) (a7 : FVec Ideal S256x4x128 .f32)
    (a8 a9 : FVec Ideal S256 .f32) (a10 : FVec Ideal S4x128x128 .f32) (a11 : FVec Ideal S4x128 .f32) : Args where
  x i e := a0 (ix3 i (0 : Fin 1) e)
  md i e := a1 (ix2 i e)
  gp e := a2 (ix1 e)
  wi e k := a3 (ix2 e k)
  gq r := a4 (ix1 r)
  gk r := a5 (ix1 r)
  uq r h d := a6 (ix3 r h d)
  uk r h d := a7 (ix3 r h d)
  lg d := a8 (ix1 d)
  lb d := a9 (ix1 d)
  ws h i j := a10 (ix3 h i j)
  bs h i := a11 (ix2 h i)

variable (V0 : Valuation τ sig (Elt Ideal))

/-- The arguments a valuation holds. -/
abbrev argsAt : Args := args (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg10))
  (V0 (Proc.devRef .tc main_arg11))

theorem col_apply (i : Fin 128) (k : Fin 3136) :
    (res_main_v25 V0 : FVec Ideal S128x1x3136 .f32) (ix3 i (0 : Fin 1) k) = (argsAt V0).col i k := by
  pointwise [res_main_v25]
  rfl

theorem ql_apply (i : Fin 128) (k : Fin 384) :
    (res_main_v26 V0 : FVec Ideal S128x1x384 .f32) (ix3 i (0 : Fin 1) k) = (argsAt V0).col i ⟨k.val, by omega⟩ := by
  pointwise [res_main_v26]
  exact col_apply V0 i _

theorem kl_apply (i : Fin 128) (k : Fin 256) :
    (res_main_v27 V0 : FVec Ideal S128x1x256 .f32) (ix3 i (0 : Fin 1) k) = (argsAt V0).col i ⟨384 + k.val, by omega⟩ := by
  pointwise [res_main_v27]
  exact col_apply V0 i _

theorem mg_apply (i : Fin 128) (k : Fin 512) :
    (res_main_v29 V0 : FVec Ideal S128x1x512 .f32) (ix3 i (0 : Fin 1) k) = (argsAt V0).col i ⟨704 + k.val, by omega⟩ := by
  pointwise [res_main_v29]
  exact col_apply V0 i _

theorem rg_apply (i : Fin 128) (k : Fin 256) :
    (res_main_v31 V0 : FVec Ideal S128x1x256 .f32) (ix3 i (0 : Fin 1) k) = (argsAt V0).col i ⟨2112 + k.val, by omega⟩ := by
  pointwise [res_main_v31]
  exact col_apply V0 i _

theorem gv_apply (i : Fin 128) (k : Fin 256) :
    (res_main_v33 V0 : FVec Ideal S128x1x256 .f32) (ix3 i (0 : Fin 1) k) = (argsAt V0).col i ⟨2624 + k.val, by omega⟩ := by
  pointwise [res_main_v33]
  exact col_apply V0 i _

theorem gg_apply (i : Fin 128) (k : Fin 256) :
    (res_main_v34 V0 : FVec Ideal S128x1x256 .f32) (ix3 i (0 : Fin 1) k) = (argsAt V0).col i ⟨2880 + k.val, by omega⟩ := by
  pointwise [res_main_v34]
  exact col_apply V0 i _

theorem qup_apply (i : Fin 128) (h : Fin 4) (d : Fin 192) :
    (res_main_v48 V0 : FVec Ideal S128x1x4x192 .f32) (ix4 i (0 : Fin 1) h d) = (argsAt V0).qup i h d := by
  pointwise [res_main_v48]
  simp only [ql_apply]
  rfl

theorem pos_apply : (res_main_v2 V0 : IVec S1 32) (ix1 (0 : Fin 1)) = 8192#32 := by
  pointwise [res_main_v2]
  exact BitVec.add_zero _

theorem angle_apply (j : Fin 32) : (res_main_v61 V0 : FVec Ideal S1x32 .f32) (ix2 (0 : Fin 1) j) = angle j := by
  pointwise [res_main_v61]
  rw [pos_apply]
  rfl

theorem cos_apply (j : Fin 32) :
    (res_main_v63 V0 : FVec Ideal S1x1x1x32 .f32) (ix4 (0 : Fin 1) (0 : Fin 1) (0 : Fin 1) j) = Ideal.cos (angle j) := by
  pointwise [res_main_v63]
  rw [angle_apply]

theorem sin_apply (j : Fin 32) :
    (res_main_v65 V0 : FVec Ideal S1x1x1x32 .f32) (ix4 (0 : Fin 1) (0 : Fin 1) (0 : Fin 1) j) = Ideal.sin (angle j) := by
  pointwise [res_main_v65]
  rw [angle_apply]

theorem angle'_apply (j : Fin 32) : (res_main_v103 V0 : FVec Ideal S1x32 .f32) (ix2 (0 : Fin 1) j) = angle j := by
  pointwise [res_main_v103]
  rw [pos_apply]
  rfl

theorem cos'_apply (j : Fin 32) :
    (res_main_v105 V0 : FVec Ideal S1x1x1x32 .f32) (ix4 (0 : Fin 1) (0 : Fin 1) (0 : Fin 1) j) = Ideal.cos (angle j) := by
  pointwise [res_main_v105]
  rw [angle'_apply]

theorem sin'_apply (j : Fin 32) :
    (res_main_v107 V0 : FVec Ideal S1x1x1x32 .f32) (ix4 (0 : Fin 1) (0 : Fin 1) (0 : Fin 1) j) = Ideal.sin (angle j) := by
  pointwise [res_main_v107]
  rw [angle'_apply]

theorem q1_apply (i : Fin 128) (h : Fin 4) (j : Fin 32) :
    (res_main_v66 V0 : FVec Ideal S128x1x4x32 .f32) (ix4 i (0 : Fin 1) h j) = (argsAt V0).qup i h ⟨128 + j.val, by omega⟩ := by
  pointwise [res_main_v66, res_main_v50]
  exact qup_apply V0 i h _

theorem q2_apply (i : Fin 128) (h : Fin 4) (j : Fin 32) :
    (res_main_v67 V0 : FVec Ideal S128x1x4x32 .f32) (ix4 i (0 : Fin 1) h j) = (argsAt V0).qup i h ⟨128 + (32 + j.val), by omega⟩ := by
  pointwise [res_main_v67, res_main_v50]
  exact qup_apply V0 i h _

theorem k1_apply (i : Fin 128) (j : Fin 32) :
    (res_main_v108 V0 : FVec Ideal S128x1x1x32 .f32) (ix4 i (0 : Fin 1) (0 : Fin 1) j) = (argsAt V0).col i ⟨640 + j.val, by omega⟩ := by
  pointwise [res_main_v108, res_main_v92]
  exact col_apply V0 i _

theorem k2_apply (i : Fin 128) (j : Fin 32) :
    (res_main_v109 V0 : FVec Ideal S128x1x1x32 .f32) (ix4 i (0 : Fin 1) (0 : Fin 1) j) = (argsAt V0).col i ⟨640 + (32 + j.val), by omega⟩ := by
  pointwise [res_main_v109, res_main_v92]
  exact col_apply V0 i _

theorem mean_apply (i : Fin 128) :
    (res_main_v135 V0 : FVec Ideal S128x1x1 .f32) (ix3 i (0 : Fin 1) (0 : Fin 1))
      = mean fun d => (argsAt V0).col i ⟨2624 + d.val, by omega⟩ := by
  pointwise [res_main_v135]
  simp only [gv_apply]
  rfl

theorem vn_apply (i : Fin 128) (d : Fin 256) :
    (res_main_v155 V0 : FVec Ideal S128x1x256 .f32) (ix3 i (0 : Fin 1) d) = (argsAt V0).vn i d := by
  pointwise [res_main_v155, res_main_v137]
  simp only [gv_apply, mean_apply]
  rfl

/-- Rows as an array. -/
def rows {n : ℕ} (f : Fin 128 → Fin n → EReal) : (⟨2, ![128, n]⟩ : Shape).Idx → EReal :=
  fun i => f (i 0 : Fin 128) (i 1 : Fin n)

/-- Rows after the first are above the diagonal. -/
theorem above : ∀ x : Fin 128, x ≠ 0 → IntOp.cmpi .sge (IntOp.addi 0#32 0#32) (BitVec.ofNat 32 x.val) = 0#1 := by decide +kernel

/-- The first row is on the diagonal. -/
theorem first : IntOp.cmpi .sge (IntOp.addi 0#32 0#32) (BitVec.ofNat 32 (0 : Fin 128).val) = 1#1 := by decide +kernel

/-- Every run leaves the formulas' rows in the nine results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175) = rows (argsAt (launchContents m c)).qrow
      ∧ r.2.mem ((c.tc : Thread nD τ).loc main_v176) = rows (argsAt (launchContents m c)).prow
      ∧ r.2.mem ((c.tc : Thread nD τ).loc main_v179) = rows (argsAt (launchContents m c)).mgate
      ∧ r.2.mem ((c.tc : Thread nD τ).loc main_v180) = rows (argsAt (launchContents m c)).ckv
      ∧ r.2.mem ((c.tc : Thread nD τ).loc main_v181) = rows (argsAt (launchContents m c)).kpe
      ∧ r.2.mem ((c.tc : Thread nD τ).loc main_v182) = rows (argsAt (launchContents m c)).rin
      ∧ r.2.mem ((c.tc : Thread nD τ).loc main_v184) = rows (argsAt (launchContents m c)).rgate
      ∧ r.2.mem ((c.tc : Thread nD τ).loc main_v186) = rows (argsAt (launchContents m c)).mix
      ∧ r.2.mem ((c.tc : Thread nD τ).loc main_v187) = rows (argsAt (launchContents m c)).vn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (Value.run (F := Ideal) m ρ)
  obtain ⟨h1, h2, h3, h4, h5, h6, h7, h8, h9, hr⟩ := h c
  refine ⟨h1.trans ?_, h2.trans ?_, h3.trans ?_, h4.trans ?_, h5.trans ?_, h6.trans ?_, h7.trans ?_, h8.trans ?_, h9.trans ?_, hr⟩
  all_goals clear h h1 h2 h3 h4 h5 h6 h7 h8 h9 hr
  all_goals generalize launchContents m c = V0
  · refine ext2 _ _ fun i d => ?_
    pointwise
    simp only [qup_apply]
    exact Finset.sum_congr rfl fun j _ => mul_comm _ _
  · refine ext2 _ _ fun i d => ?_
    pointwise
    simp only [q1_apply, q2_apply, cos_apply, sin_apply]
    rfl
  · refine ext2 _ _ fun i d => ?_
    pointwise
    simp only [mg_apply]
    rfl
  · refine ext2 _ _ fun i d => ?_
    pointwise
    simp only [kl_apply]
    rfl
  · refine ext2 _ _ fun i d => ?_
    pointwise
    simp only [k1_apply, k2_apply, cos'_apply, sin'_apply]
    rfl
  · refine ext2 _ _ fun i d => ?_
    pointwise
    simp only [col_apply]
    rfl
  · refine ext2 _ _ fun i d => ?_
    pointwise
    simp only [rg_apply]
    rfl
  · refine ext2 _ _ fun i d => ?_
    pointwise
    simp only [gg_apply, col_apply, vn_apply]
    refine congrArg₂ HMul.hMul rfl (congrArg₂ HMul.hMul rfl (congrArg₂ HAdd.hAdd ?_ rfl))
    refine (Finset.sum_eq_single (0 : Fin 128) (fun x _ hx => ?_) fun h => absurd (Finset.mem_univ _) h).trans ?_
    · rw [above x hx]
      rfl
    · rw [first, dif_pos]
      · exact (congrArg₂ HMul.hMul (vn_apply V0 i d) rfl : _ = (argsAt V0).vn i d * (argsAt V0).ws ⟨d.val / 64, by omega⟩ 0 0)
      · intro a
        have hi := i.isLt
        have hd := d.isLt
        change Fin 3 at a
        fin_cases a
        · exact ⟨Nat.zero_le _, Nat.mod_one _, by show (i.val - 0) / 1 < 128; omega⟩
        · exact ⟨Nat.zero_le _, Nat.mod_one _, by show (0 - 0) / 1 < 1; omega⟩
        · exact ⟨Nat.zero_le _, Nat.mod_one _, by show (d.val - 0) / 1 < 256; omega⟩
  · refine ext2 _ _ fun i d => ?_
    pointwise
    rw [vn_apply]
    rfl

end Cert.SampleReferenceIdeal.RefRow

end
-- ==== Proof.SampleKer.lean ====
/-
  The samples' projection: what the blocks of its arguments hold, and what its result arrays hold when the call ends.
-/
module

public import proofs.«01_k».proof.Proof.SampleOut
public import proofs.«01_k».proof.Proof.SampleRef
public import proofs.«01_k».proof.Proof.ProjBlocks
public import proofs.«01_k».proof.Proof.Gen.SampleKernelIdeal.Value
public import Idealize.ShloMosaic.Lib.StableHlo.RunRead

@[expose] public section

set_option maxRecDepth 16384

noncomputable section

namespace Cert.SampleKernelIdeal.Run

open Cert.SampleKernelIdeal Cert.SampleKernelIdeal.Gen Idealize.ShloMosaic Idealize.ShloMosaic.TcCoe Idealize.SL.Sem
open Cert.SampleMath Cert.OutMath
open Cert.ProjMath (cosLanes sinLanes swapLane)
open Cert.ProjKernelIdeal.Run (packed packedUp packed_low packed_turned packed_keys packed_rest packed_shift packedUp_plain packedUp_turned)
open Cert.SampleReferenceIdeal.RefRow (rows)

variable (m : (ℓ : Loc nD τ sig) → Buf (Elt Ideal) ℓ) (ρ : Dev nD → PrngReg) (c : Dev nD)

/-- The arguments a memory holds. -/
def argsOf : Args where
  x i e := m ((c.tc : Thread nD τ).loc main_arg0) (ix3 i (0 : Fin 1) e)
  md i e := m ((c.tc : Thread nD τ).loc main_arg1) (ix2 i e)
  gp e := m ((c.tc : Thread nD τ).loc main_arg2) (ix1 e)
  wi e k := m ((c.tc : Thread nD τ).loc main_arg3) (ix2 e k)
  gq r := m ((c.tc : Thread nD τ).loc main_arg4) (ix1 r)
  gk r := m ((c.tc : Thread nD τ).loc main_arg5) (ix1 r)
  uq r h d := m ((c.tc : Thread nD τ).loc main_arg6) (ix3 r h d)
  uk r h d := m ((c.tc : Thread nD τ).loc main_arg7) (ix3 r h d)
  lg d := m ((c.tc : Thread nD τ).loc main_arg8) (ix1 d)
  lb d := m ((c.tc : Thread nD τ).loc main_arg9) (ix1 d)
  ws h i j := m ((c.tc : Thread nD τ).loc main_arg10) (ix3 h i j)
  bs h i := m ((c.tc : Thread nD τ).loc main_arg11) (ix2 h i)

theorem idx0 : ∀ t : Fin grid0.N, win0_0.index t = ![0, 0] := by decide +kernel

theorem idx1 : ∀ t : Fin grid0.N, win0_1.index t = ![0, 0] := by decide +kernel

theorem idx2 : ∀ t : Fin grid0.N, win0_2.index t = ![0, 0] := by decide +kernel

theorem idx3 : ∀ t : Fin grid0.N, win0_3.index t = ![0, 0] := by decide +kernel

theorem idx4 : ∀ t : Fin grid0.N, win0_4.index t = ![0, 0] := by decide +kernel

theorem idx5 : ∀ t : Fin grid0.N, win0_5.index t = ![0, 0] := by decide +kernel

theorem idx6 : ∀ t : Fin grid0.N, win0_6.index t = ![0, 0] := by decide +kernel

theorem idx7 : ∀ t : Fin grid0.N, win0_7.index t = ![0, 0, 0] := by decide +kernel

theorem idx8 : ∀ t : Fin grid0.N, win0_8.index t = ![0, 0] := by decide +kernel

theorem idx9 : ∀ t : Fin grid0.N, win0_9.index t = ![0, 0] := by decide +kernel

theorem idx10 : ∀ t : Fin grid0.N, win0_10.index t = ![0, 0] := by decide +kernel

theorem idx11 : ∀ t : Fin grid0.N, win0_11.index t = ![0, 0] := by decide +kernel

theorem idx12 : ∀ t : Fin grid0.N, win0_12.index t = ![0, 0] := by decide +kernel

theorem idx13 : ∀ t : Fin grid0.N, win0_13.index t = ![0, 0] := by decide +kernel

theorem idx14 : ∀ t : Fin grid0.N, win0_14.index t = ![0, 0] := by decide +kernel

theorem idx15 : ∀ t : Fin grid0.N, win0_15.index t = ![0, 0] := by decide +kernel

theorem idx16 : ∀ t : Fin grid0.N, win0_16.index t = ![0, 0] := by decide +kernel

theorem idx17 : ∀ t : Fin grid0.N, win0_17.index t = ![0, 0] := by decide +kernel

theorem idx18 : ∀ t : Fin grid0.N, win0_18.index t = ![0, 0] := by decide +kernel

theorem idx19 : ∀ t : Fin grid0.N, win0_19.index t = ![0, 0] := by decide +kernel

theorem idx20 : ∀ t : Fin grid0.N, win0_20.index t = ![0, 0] := by decide +kernel

theorem idx21 : ∀ t : Fin grid0.N, win0_21.index t = ![0, 0] := by decide +kernel

theorem idx22 : ∀ t : Fin grid0.N, win0_22.index t = ![0, 0] := by decide +kernel

theorem block0 (t : Fin grid0.N) (a : Fin 128) (e : Fin 1024) : iblk m c 0 t (ix2 a e) = (argsOf m c).x a e := by
  have : iblk m c 0 t (ix2 a e) = V m c main_v52 (ix2 a e) := by
    blk_ext [iblk, idx0 t]
  rw [this]
  entry_read
  pointwise
  rfl

theorem block1 (t : Fin grid0.N) (a : Fin 128) (e : Fin 3072) : iblk m c 1 t (ix2 a e) = (argsOf m c).md a e := by
  show _ = m ((c.tc : Thread nD τ).loc main_arg1) (ix2 a e)
  rw [← V_main_arg1 m c]
  blk_ext [iblk, idx1 t]

theorem block2 (t : Fin grid0.N) (e : Fin 1024) : iblk m c 2 t (ix2 (0 : Fin 1) e) = (argsOf m c).gp e := by
  have : iblk m c 2 t (ix2 (0 : Fin 1) e) = V m c main_v16 (ix2 (0 : Fin 1) e) := by
    blk_ext [iblk, idx2 t]
  rw [this]
  entry_read
  pointwise
  rfl

theorem block3 (t : Fin grid0.N) (e : Fin 1024) (k : Fin 3200) : iblk m c 3 t (ix2 e k) = packed ((argsOf m c).wi e) k := by
  have : iblk m c 3 t (ix2 e k) = V m c main_v8 (ix2 e k) := by
    blk_ext [iblk, idx3 t]
  rw [this]
  show StableHlo.after hostOps0 (fun b => m (c, b)) (Proc.devRef .tc main_v8) (ix2 e k) = _
  generalize hX : packed ((argsOf m c).wi e) k = X
  after_reads_simp
  pointwise
  after_reads_simp
  pointwise
  rw [← hX]
  rfl

theorem block4 (t : Fin grid0.N) (e : Fin 384) : iblk m c 4 t (ix2 (0 : Fin 1) e) = (argsOf m c).gq e := by
  have : iblk m c 4 t (ix2 (0 : Fin 1) e) = V m c main_v17 (ix2 (0 : Fin 1) e) := by
    blk_ext [iblk, idx4 t]
  rw [this]
  entry_read
  pointwise
  rfl

theorem block5 (t : Fin grid0.N) (r : Fin 384) (k : Fin 1024) : iblk m c 5 t (ix2 r k)
    = packedUp (fun d => (argsOf m c).uq r ⟨k.val / 256, by omega⟩ d) ⟨k.val % 256, by omega⟩ := by
  have : iblk m c 5 t (ix2 r k) = V m c main_v15 (ix2 r k) := by
    blk_ext [iblk, idx5 t]
  rw [this]
  generalize hX : packedUp (fun d => (argsOf m c).uq r ⟨k.val / 256, by omega⟩ d) ⟨k.val % 256, by omega⟩ = X
  entry_read
  pointwise
  rw [← hX]
  rfl

theorem block5_at (t : Fin grid0.N) (r : Fin 384) (h : Fin 4) (l : Nat) (hl : l < 256) (k : Fin 1024) (hk : k.val = 256 * h.val + l) :
    iblk m c 5 t (ix2 r k) = packedUp (fun d => (argsOf m c).uq r h d) ⟨l, hl⟩ := by
  rw [block5]
  have e1 : (⟨k.val / 256, by omega⟩ : Fin 4) = h := Fin.ext (by show k.val / 256 = h.val; omega)
  have e2 : (⟨k.val % 256, by omega⟩ : Fin 256) = ⟨l, hl⟩ := Fin.ext (by show k.val % 256 = l; omega)
  rw [e1, e2]

theorem block6 (t : Fin grid0.N) (e : Fin 256) : iblk m c 6 t (ix2 (0 : Fin 1) e) = (argsOf m c).gk e := by
  have : iblk m c 6 t (ix2 (0 : Fin 1) e) = V m c main_v18 (ix2 (0 : Fin 1) e) := by
    blk_ext [iblk, idx6 t]
  rw [this]
  entry_read
  pointwise
  rfl

theorem block7 (t : Fin grid0.N) (h : Fin 4) (j : Fin 128) (r : Fin 256) : iblk m c 7 t (ix3 h j r) = (argsOf m c).uk r h j := by
  have : iblk m c 7 t (ix3 h j r) = V m c main_v20 (ix3 h j r) := by
    blk_ext [iblk, idx7 t]
  rw [this]
  entry_read
  pointwise
  rfl

theorem block8 (t : Fin grid0.N) (a l : Fin 128) : iblk m c 8 t (ix2 a l) = cosLanes (fun j => Ideal.cos (angle j)) l := by
  have : iblk m c 8 t (ix2 a l) = V m c main_v49 (ix2 a l) := by
    blk_ext [iblk, idx8 t]
  rw [this]
  show StableHlo.after hostOps0 (fun b => m (c, b)) (Proc.devRef .tc main_v49) (ix2 a l) = _
  generalize hX : cosLanes (fun j => Ideal.cos (angle j)) l = X
  after_reads_simp
  pointwise
  after_reads_simp
  pointwise
  rw [← hX]
  rfl

theorem block9 (t : Fin grid0.N) (a l : Fin 128) : iblk m c 9 t (ix2 a l) = sinLanes (fun j => Ideal.sin (angle j)) l := by
  have : iblk m c 9 t (ix2 a l) = V m c main_v51 (ix2 a l) := by
    blk_ext [iblk, idx9 t]
  rw [this]
  show StableHlo.after hostOps0 (fun b => m (c, b)) (Proc.devRef .tc main_v51) (ix2 a l) = _
  generalize hX : sinLanes (fun j => Ideal.sin (angle j)) l = X
  after_reads_simp
  pointwise
  after_reads_simp
  pointwise
  rw [← hX]
  rfl

theorem block10 (t : Fin grid0.N) (e : Fin 256) : iblk m c 10 t (ix2 (0 : Fin 1) e) = (argsOf m c).lg e := by
  have : iblk m c 10 t (ix2 (0 : Fin 1) e) = V m c main_v21 (ix2 (0 : Fin 1) e) := by
    blk_ext [iblk, idx10 t]
  rw [this]
  entry_read
  pointwise
  rfl

theorem block11 (t : Fin grid0.N) (e : Fin 256) : iblk m c 11 t (ix2 (0 : Fin 1) e) = (argsOf m c).lb e := by
  have : iblk m c 11 t (ix2 (0 : Fin 1) e) = V m c main_v22 (ix2 (0 : Fin 1) e) := by
    blk_ext [iblk, idx11 t]
  rw [this]
  entry_read
  pointwise
  rfl

theorem block12 (t : Fin grid0.N) (e : Fin 256) : iblk m c 12 t (ix2 (0 : Fin 1) e) = (argsOf m c).ws ⟨e.val / 64, by omega⟩ 0 0 := by
  have : iblk m c 12 t (ix2 (0 : Fin 1) e) = V m c main_v27 (ix2 (0 : Fin 1) e) := by
    blk_ext [iblk, idx12 t]
  rw [this]
  entry_read
  pointwise
  rfl

theorem block13 (t : Fin grid0.N) (e : Fin 256) : iblk m c 13 t (ix2 (0 : Fin 1) e) = (argsOf m c).bs ⟨e.val / 64, by omega⟩ 0 := by
  have : iblk m c 13 t (ix2 (0 : Fin 1) e) = V m c main_v32 (ix2 (0 : Fin 1) e) := by
    blk_ext [iblk, idx13 t]
  rw [this]
  entry_read
  pointwise
  rfl

/-- The blocks, as the mathematics reads them. -/
theorem blocks (t : Fin grid0.N) : Blocks (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  hx := block0 m c t
  hmd := block1 m c t
  hgp := block2 m c t
  hwq e k := (block3 m c t e _).trans (packed_low _ k)
  hwp e k := (block3 m c t e _).trans (packed_turned _ k)
  hwk e k := (block3 m c t e _).trans (packed_keys _ k)
  hwm e k := (block3 m c t e _).trans (packed_rest _ ⟨k.val, by omega⟩)
  hwr e k := (block3 m c t e _).trans (packed_shift _ 512 k.val (by omega) _ rfl _ rfl)
  hwg e k := (block3 m c t e _).trans (packed_shift _ 1408 k.val (by omega) _ rfl _ rfl)
  hwu e k := (block3 m c t e _).trans (packed_shift _ 1664 k.val (by omega) _ rfl _ rfl)
  hwv e k := (block3 m c t e _).trans (packed_shift _ 1920 k.val (by omega) _ rfl _ rfl)
  hws e k := (block3 m c t e _).trans (packed_shift _ 2176 k.val (by omega) _ rfl _ rfl)
  hgq := block4 m c t
  huq r h l := (block5_at m c t r h l.val (by omega) _ rfl).trans (packedUp_plain _ l)
  hup r h l := (block5_at m c t r h (128 + l.val) (by omega) _ (Nat.add_assoc _ _ _)).trans (packedUp_turned _ l)
  hgk := block6 m c t
  huk := block7 m c t
  hcs := block8 m c t
  hsn := block9 m c t
  hlg := block10 m c t
  hlb := block11 m c t
  hmw := block12 m c t
  hmb := block13 m c t

theorem final14 : (dats m 0 c).arrAt 14 cfg0.N = rows (argsOf m c).qrow := by
  refine (dats m 0 c).arrAt_eq_of_covers 14 _ (by decide +kernel) fun t hf y => ?_
  blk_simp
  rw [after0_14]
  have hy : y = ix2 (y 0 : Fin 128) (y 1 : Fin 1024) := by
    funext a
    fin_cases a <;> rfl
  have he : (win0_14.blk t).view.emb y = ix2 (y 0 : Fin 128) (y 1 : Fin 1024) := by
    blk_ext [idx14 t]
  rw [he]
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out14_apply (blocks m c t) (y 0 : Fin 128) (y 1 : Fin 1024)

theorem final15 : (dats m 0 c).arrAt 15 cfg0.N = rows (argsOf m c).prow := by
  refine (dats m 0 c).arrAt_eq_of_covers 15 _ (by decide +kernel) fun t hf y => ?_
  blk_simp
  rw [after0_15]
  have hy : y = ix2 (y 0 : Fin 128) (y 1 : Fin 512) := by
    funext a
    fin_cases a <;> rfl
  have he : (win0_15.blk t).view.emb y = ix2 (y 0 : Fin 128) (y 1 : Fin 512) := by
    blk_ext [idx15 t]
  rw [he]
  refine (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out15_apply (blocks m c t) (y 0 : Fin 128) (y 1 : Fin 512)

theorem final16 : (dats m 0 c).arrAt 16 cfg0.N = rows (argsOf m c).mgate := by
  refine (dats m 0 c).arrAt_eq_of_covers 16 _ (by decide +kernel) fun t hf y => ?_
  blk_simp
  rw [after0_16]
  have hy : y = ix2 (y 0 : Fin 128) (y 1 : Fin 512) := by
    funext a
    fin_cases a <;> rfl
  have he : (win0_16.blk t).view.emb y = ix2 (y 0 : Fin 128) (y 1 : Fin 512) := by
    blk_ext [idx16 t]
  rw [he]
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out16_apply (blocks m c t) (y 0 : Fin 128) (y 1 : Fin 512)

theorem final17 : (dats m 0 c).arrAt 17 cfg0.N = rows (argsOf m c).ckv := by
  refine (dats m 0 c).arrAt_eq_of_covers 17 _ (by decide +kernel) fun t hf y => ?_
  blk_simp
  rw [after0_17]
  have hy : y = ix2 (y 0 : Fin 128) (y 1 : Fin 256) := by
    funext a
    fin_cases a <;> rfl
  have he : (win0_17.blk t).view.emb y = ix2 (y 0 : Fin 128) (y 1 : Fin 256) := by
    blk_ext [idx17 t]
  rw [he]
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out17_apply (blocks m c t) (y 0 : Fin 128) (y 1 : Fin 256)

theorem final18 : (dats m 0 c).arrAt 18 cfg0.N = rows (argsOf m c).kpe := by
  refine (dats m 0 c).arrAt_eq_of_covers 18 _ (by decide +kernel) fun t hf y => ?_
  blk_simp
  rw [after0_18]
  have hy : y = ix2 (y 0 : Fin 128) (y 1 : Fin 128) := by
    funext a
    fin_cases a <;> rfl
  have he : (win0_18.blk t).view.emb y = ix2 (y 0 : Fin 128) (y 1 : Fin 128) := by
    blk_ext [idx18 t]
  rw [he]
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out18_apply (blocks m c t) (y 0 : Fin 128) (y 1 : Fin 128)

theorem final19 : (dats m 0 c).arrAt 19 cfg0.N = rows (argsOf m c).rin := by
  refine (dats m 0 c).arrAt_eq_of_covers 19 _ (by decide +kernel) fun t hf y => ?_
  blk_simp
  rw [after0_19]
  have hy : y = ix2 (y 0 : Fin 128) (y 1 : Fin 896) := by
    funext a
    fin_cases a <;> rfl
  have he : (win0_19.blk t).view.emb y = ix2 (y 0 : Fin 128) (y 1 : Fin 896) := by
    blk_ext [idx19 t]
  rw [he]
  refine (congrArg (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out19_apply (blocks m c t) (y 0 : Fin 128) (y 1 : Fin 896)

theorem final20 : (dats m 0 c).arrAt 20 cfg0.N = rows (argsOf m c).rgate := by
  refine (dats m 0 c).arrAt_eq_of_covers 20 _ (by decide +kernel) fun t hf y => ?_
  blk_simp
  rw [after0_20]
  have hy : y = ix2 (y 0 : Fin 128) (y 1 : Fin 256) := by
    funext a
    fin_cases a <;> rfl
  have he : (win0_20.blk t).view.emb y = ix2 (y 0 : Fin 128) (y 1 : Fin 256) := by
    blk_ext [idx20 t]
  rw [he]
  refine (congrArg (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out20_apply (blocks m c t) (y 0 : Fin 128) (y 1 : Fin 256)

theorem final21 : (dats m 0 c).arrAt 21 cfg0.N = rows (argsOf m c).mix := by
  refine (dats m 0 c).arrAt_eq_of_covers 21 _ (by decide +kernel) fun t hf y => ?_
  blk_simp
  rw [after0_21]
  have hy : y = ix2 (y 0 : Fin 128) (y 1 : Fin 256) := by
    funext a
    fin_cases a <;> rfl
  have he : (win0_21.blk t).view.emb y = ix2 (y 0 : Fin 128) (y 1 : Fin 256) := by
    blk_ext [idx21 t]
  rw [he]
  refine (congrArg (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out21_apply (blocks m c t) (y 0 : Fin 128) (y 1 : Fin 256)

theorem final22 : (dats m 0 c).arrAt 22 cfg0.N = rows (argsOf m c).vn := by
  refine (dats m 0 c).arrAt_eq_of_covers 22 _ (by decide +kernel) fun t hf y => ?_
  blk_simp
  rw [after0_22]
  have hy : y = ix2 (y 0 : Fin 128) (y 1 : Fin 256) := by
    funext a
    fin_cases a <;> rfl
  have he : (win0_22.blk t).view.emb y = ix2 (y 0 : Fin 128) (y 1 : Fin 256) := by
    blk_ext [idx22 t]
  rw [he]
  refine (congrArg (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  exact out22_apply (blocks m c t) (y 0 : Fin 128) (y 1 : Fin 256)

/-- The run: the result arrays hold the mathematics' rows, the arguments end unchanged. -/
theorem run : θ_run defs (onTc (τ := τ) (main (F := Ideal))) ⟨m, fun _ => 0, ρ⟩ fun r => ∀ c : Dev nD,
      r.2.mem ((c.tc : Thread nD τ).loc main_v53_0) = rows (argsOf m c).qrow
      ∧ r.2.mem ((c.tc : Thread nD τ).loc main_v53_1) = rows (argsOf m c).prow
      ∧ r.2.mem ((c.tc : Thread nD τ).loc main_v53_2) = rows (argsOf m c).mgate
      ∧ r.2.mem ((c.tc : Thread nD τ).loc main_v53_3) = rows (argsOf m c).ckv
      ∧ r.2.mem ((c.tc : Thread nD τ).loc main_v53_4) = rows (argsOf m c).kpe
      ∧ r.2.mem ((c.tc : Thread nD τ).loc main_v53_5) = rows (argsOf m c).rin
      ∧ r.2.mem ((c.tc : Thread nD τ).loc main_v53_6) = rows (argsOf m c).rgate
      ∧ r.2.mem ((c.tc : Thread nD τ).loc main_v53_7) = rows (argsOf m c).mix
      ∧ r.2.mem ((c.tc : Thread nD τ).loc main_v53_8) = rows (argsOf m c).vn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (Value.run_blocks (F := Ideal) m ρ)
  obtain ⟨h1, h2, h3, h4, h5, h6, h7, h8, h9, hr⟩ := h c
  exact ⟨h1.trans (final14 m c), h2.trans (final15 m c), h3.trans (final16 m c), h4.trans (final17 m c), h5.trans (final18 m c), h6.trans (final19 m c), h7.trans (final20 m c), h8.trans (final21 m c), h9.trans (final22 m c), hr⟩

end Cert.SampleKernelIdeal.Run

end
-- ==== Proof.SampleClaims.lean ====
/-
  The claims of the samples' projection: the frames, and its nine results.
-/
module

public import proofs.«01_k».proof.Defs
public import proofs.«01_k».proof.Proof.Gen.SampleKernel.Frame
public import proofs.«01_k».proof.Proof.SampleKer
public import proofs.«01_k».proof.Proof.Gen.SampleReferenceIdeal.Run
public import Idealize.ShloMosaic.Lib.Quiescent

@[expose] public section

set_option maxRecDepth 16384

noncomputable section

namespace Cert.SampleClaims

open Idealize.ShloMosaic Idealize.ShloMosaic.TcCoe Idealize.SL.Sem

theorem frame_kernel : Cert.quiescent_SampleKernel := fun m ρ _ => Cert.SampleKernel.Gen.frame m ρ

theorem frame_ideal : Cert.quiescent_SampleKernelIdeal := fun m ρ _ => Cert.SampleKernelIdeal.Gen.frame m ρ

theorem frame_reference : Cert.quiescent_SampleReferenceIdeal := fun m ρ _ =>
  (θ_run Cert.SampleReferenceIdeal.defs _ _).mono (fun r h => ⟨fun c => (h c).2.2.2.2.2.2.2.2.2, sem_eq_zero_of_no_sems (by decide) r.2⟩)
    (Cert.SampleReferenceIdeal.Value.run (F := Ideal) m ρ)

/-- Equal arguments hold the same mathematics. -/
theorem args_eq (m : (ℓ : Loc Cert.SampleKernelIdeal.nD Cert.SampleKernelIdeal.τ Cert.SampleKernelIdeal.sig) → Buf (Elt Ideal) ℓ)
    (m' : (ℓ : Loc Cert.SampleReferenceIdeal.nD Cert.SampleReferenceIdeal.τ Cert.SampleReferenceIdeal.sig) → Buf (Elt Ideal) ℓ)
    (c : Dev Cert.SampleKernelIdeal.nD)
    (h0 : m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0))
    (h1 : m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1))
    (h2 : m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2))
    (h3 : m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3))
    (h4 : m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4))
    (h5 : m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5))
    (h6 : m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6))
    (h7 : m' ((c.tc : Thread Cert.SampleReferenceIdeal.nD Cert.SampleReferenceIdeal.τ).loc Cert.SampleReferenceIdeal.main_arg7) = m ((c.tc : Thread Cert.SampleKernelIdeal.nD Cert.SampleKernelIdeal.τ).loc Cert.SampleKernelIdeal.main_arg7))
    (h8 : m' ((c.tc : Thread Cert.SampleReferenceIdeal.nD Cert.SampleReferenceIdeal.τ).loc Cert.SampleReferenceIdeal.main_arg8) = m ((c.tc : Thread Cert.SampleKernelIdeal.nD Cert.SampleKernelIdeal.τ).loc Cert.SampleKernelIdeal.main_arg8))
    (h9 : m' ((c.tc : Thread Cert.SampleReferenceIdeal.nD Cert.SampleReferenceIdeal.τ).loc Cert.SampleReferenceIdeal.main_arg9) = m ((c.tc : Thread Cert.SampleKernelIdeal.nD Cert.SampleKernelIdeal.τ).loc Cert.SampleKernelIdeal.main_arg9))
    (h10 : m' ((c.tc : Thread Cert.SampleReferenceIdeal.nD Cert.SampleReferenceIdeal.τ).loc Cert.SampleReferenceIdeal.main_arg10) = m ((c.tc : Thread Cert.SampleKernelIdeal.nD Cert.SampleKernelIdeal.τ).loc Cert.SampleKernelIdeal.main_arg10))
    (h11 : m' ((c.tc : Thread Cert.SampleReferenceIdeal.nD Cert.SampleReferenceIdeal.τ).loc Cert.SampleReferenceIdeal.main_arg11) = m ((c.tc : Thread Cert.SampleKernelIdeal.nD Cert.SampleKernelIdeal.τ).loc Cert.SampleKernelIdeal.main_arg11)) :
    Cert.SampleReferenceIdeal.RefRow.argsAt (StableHlo.launchContents m' c) = Cert.SampleKernelIdeal.Run.argsOf m c := by
  have e : Cert.SampleReferenceIdeal.RefRow.argsAt (StableHlo.launchContents m' c)
      = Cert.SampleReferenceIdeal.RefRow.args
        (m' ((c.tc : Thread Cert.SampleReferenceIdeal.nD Cert.SampleReferenceIdeal.τ).loc Cert.SampleReferenceIdeal.main_arg0))
        (m' ((c.tc : Thread Cert.SampleReferenceIdeal.nD Cert.SampleReferenceIdeal.τ).loc Cert.SampleReferenceIdeal.main_arg1))
        (m' ((c.tc : Thread Cert.SampleReferenceIdeal.nD Cert.SampleReferenceIdeal.τ).loc Cert.SampleReferenceIdeal.main_arg2))
        (m' ((c.tc : Thread Cert.SampleReferenceIdeal.nD Cert.SampleReferenceIdeal.τ).loc Cert.SampleReferenceIdeal.main_arg3))
        (m' ((c.tc : Thread Cert.SampleReferenceIdeal.nD Cert.SampleReferenceIdeal.τ).loc Cert.SampleReferenceIdeal.main_arg4))
        (m' ((c.tc : Thread Cert.SampleReferenceIdeal.nD Cert.SampleReferenceIdeal.τ).loc Cert.SampleReferenceIdeal.main_arg5))
        (m' ((c.tc : Thread Cert.SampleReferenceIdeal.nD Cert.SampleReferenceIdeal.τ).loc Cert.SampleReferenceIdeal.main_arg6))
        (m' ((c.tc : Thread Cert.SampleReferenceIdeal.nD Cert.SampleReferenceIdeal.τ).loc Cert.SampleReferenceIdeal.main_arg7))
        (m' ((c.tc : Thread Cert.SampleReferenceIdeal.nD Cert.SampleReferenceIdeal.τ).loc Cert.SampleReferenceIdeal.main_arg8))
        (m' ((c.tc : Thread Cert.SampleReferenceIdeal.nD Cert.SampleReferenceIdeal.τ).loc Cert.SampleReferenceIdeal.main_arg9))
        (m' ((c.tc : Thread Cert.SampleReferenceIdeal.nD Cert.SampleReferenceIdeal.τ).loc Cert.SampleReferenceIdeal.main_arg10))
        (m' ((c.tc : Thread Cert.SampleReferenceIdeal.nD Cert.SampleReferenceIdeal.τ).loc Cert.SampleReferenceIdeal.main_arg11)) := rfl
  rw [e, h0, h1, h2, h3, h4, h5, h6, h7, h8, h9, h10, h11]
  rfl

/-- The nine results are equal, whatever the arguments hold. -/
theorem algebraic : Cert.algebraic_SampleKernelIdeal_SampleReferenceIdeal := by
  intro m ρ m' ρ' _ hagree
  refine ⟨_, _, _, _, _, _, _, _, _, Cert.SampleKernelIdeal.Run.run m ρ, ?_⟩
  refine (θ_run Cert.SampleReferenceIdeal.defs _ _).mono (fun _ h c => ?_) (Cert.SampleReferenceIdeal.RefRow.run m' ρ')
  obtain ⟨h0, h1, h2, h3, h4, h5, h6, h7, h8, h9, h10, h11⟩ := hagree c
  have e := args_eq m m' c h0 h1 h2 h3 h4 h5 h6 h7 h8 h9 h10 h11
  have hc := h c
  rw [e] at hc
  exact hc

end Cert.SampleClaims

end
-- ==== Proof.StepMath.lean ====
/-
  One step of the recurrent branch, in plain formulas over the extended reals: a state's row is decayed, its product with
  the removal key is taken off along the removal direction, the value times the key is added, and the row is read out.
-/
module

public import Idealize.ShloMosaic.Lib.Pointwise

@[expose] public section

noncomputable section

namespace Cert.StepMath

open Idealize.ShloMosaic

/-- A new row of the state: the old row `s`, the removal key `kk`, the removal direction `b`, the decay `d`, the key `k`,
    and the row's own value `v`. -/
def newRow (s kk b d k : Fin 64 → EReal) (v : EReal) (j : Fin 64) : EReal :=
  s j * d j - (∑ i, s i * kk i) * b j + v * k j

/-- What a step takes: per sample and channel the receptance, the key, the value, the removal key, the removal direction
    and the decay; per sample and head the state. -/
structure Args where
  r : Fin 128 → Fin 256 → EReal
  k : Fin 128 → Fin 256 → EReal
  v : Fin 128 → Fin 256 → EReal
  kk : Fin 128 → Fin 256 → EReal
  b : Fin 128 → Fin 256 → EReal
  d : Fin 128 → Fin 256 → EReal
  s : Fin 128 → Fin 4 → Fin 64 → Fin 64 → EReal

/-- Channel `j` of head `h`. -/
def chan (h : Fin 4) (j : Fin 64) : Fin 256 := ⟨h.val * 64 + j.val, by omega⟩

/-- The new state. -/
def Args.state (A : Args) (n : Fin 128) (h : Fin 4) (v k : Fin 64) : EReal :=
  newRow (A.s n h v) (fun j => A.kk n (chan h j)) (fun j => A.b n (chan h j)) (fun j => A.d n (chan h j))
    (fun j => A.k n (chan h j)) (A.v n (chan h v)) k

/-- What a head reads out of its new state. -/
def Args.read (A : Args) (n : Fin 128) (h : Fin 4) (v : Fin 64) : EReal :=
  ∑ k, A.state n h v k * A.r n (chan h k)

end Cert.StepMath

end
-- ==== Proof.StepCell.lean ====
/-
  The recurrent step's body: each of a head's 64 state rows is stored by its own piece, and read out by another.
-/
module

public import proofs.«01_k».proof.Proof.Gen.StepKernelIdeal.Frame
public import proofs.«01_k».proof.Proof.StepMath
public import Idealize.ShloMosaic.Lib.Pipeline.ValueKit
public import Idealize.ShloMosaic.Lib.Claim

@[expose] public section

set_option maxRecDepth 16384

noncomputable section

namespace Cert.StepKernelIdeal.Cell

open Cert.StepKernelIdeal Cert.StepKernelIdeal.Gen Idealize.ShloMosaic Idealize.ShloMosaic.TcCoe
open Cert.StepMath

variable (x0 : Vec Ideal S6x1x64x128 .f32) (x1 : Vec Ideal S1x1x64x64x128 .f32)

/-- One of the six blocks of channels, for one sample. -/
def lane (q : Fin 6) (n : Fin 128) (j : Fin 64) : EReal := x0 (ix4 q (0 : Fin 1) j n)

/-- A new state entry from the blocks. -/
def newAt (v k : Fin 64) (n : Fin 128) : EReal :=
  newRow (fun j => x1 (ix5 (0 : Fin 1) (0 : Fin 1) v j n)) (lane x0 0 n) (lane x0 1 n) (lane x0 2 n) (lane x0 3 n) (lane x0 5 n v) k

/-- The rows every piece uses. -/
theorem kk_apply (k : Fin 64) (n : Fin 128) : k0_pay239 x0 x1 (ix2 k n) = lane x0 0 n k := by
  unfold k0_pay239 k0_pay3
  rw [View.ld_unit]
  pointwise
  rfl

theorem b_apply (k : Fin 64) (n : Fin 128) : k0_pay240 x0 x1 (ix2 k n) = lane x0 1 n k := by
  unfold k0_pay240 k0_pay4
  rw [View.ld_unit]
  pointwise
  rfl

theorem d_apply (k : Fin 64) (n : Fin 128) : k0_pay241 x0 x1 (ix2 k n) = lane x0 2 n k := by
  unfold k0_pay241 k0_pay5
  rw [View.ld_unit]
  pointwise
  rfl

theorem k_apply (k : Fin 64) (n : Fin 128) : k0_pay242 x0 x1 (ix2 k n) = lane x0 3 n k := by
  unfold k0_pay242 k0_pay6
  rw [View.ld_unit]
  pointwise
  rfl

theorem r_apply (k : Fin 64) (n : Fin 128) : k0_pay243 x0 x1 (ix2 k n) = lane x0 4 n k := by
  unfold k0_pay243 k0_pay7
  rw [View.ld_unit]
  pointwise
  rfl

/-- One piece's new row, from the rows it uses. -/
theorem row_apply (a b d kx : FVec Ideal S64x128 .f32) (sv : Vec Ideal S1x1x1x64x128 .f32) (vv : Vec Ideal S1x1x1x128 .f32) (k : Fin 64) (n : Fin 128) :
    k0_pay234 a b d kx sv vv (ix2 k n)
      = newRow (fun j => sv (ix5 (0 : Fin 1) (0 : Fin 1) (0 : Fin 1) j n)) (fun j => a (ix2 j n)) (fun j => b (ix2 j n)) (fun j => d (ix2 j n))
          (fun j => kx (ix2 j n)) (vv (ix4 (0 : Fin 1) (0 : Fin 1) (0 : Fin 1) n)) k := by
  pointwise [k0_pay234]
  rfl

/-- One piece's new row. -/
theorem piece_apply (v : Fin 64) (i1 : ∀ a, (![0, 0, v.val, 0, 0] : Fin 5 → ℕ) a + S1x1x1x64x128.size a ≤ S1x1x64x64x128.size a)
    (i0 : ∀ a, (![5, 0, v.val, 0] : Fin 4 → ℕ) a + S1x1x1x128.size a ≤ S6x1x64x128.size a) (k : Fin 64) (n : Fin 128) :
    k0_pay234 (k0_pay239 x0 x1) (k0_pay240 x0 x1) (k0_pay241 x0 x1) (k0_pay242 x0 x1)
        (View.ld x1 (Rect.unit (s := S1x1x64x64x128) ![0, 0, v.val, 0, 0] S1x1x1x64x128.size i1))
        (View.ld x0 (Rect.unit (s := S6x1x64x128) ![5, 0, v.val, 0] S1x1x1x128.size i0)) (ix2 k n)
      = newAt x0 x1 v k n := by
  rw [row_apply]
  simp only [kk_apply, b_apply, d_apply, k_apply]
  unfold newAt
  congr 1
  · funext j
    rw [View.ld_unit]
    exact congrArg x1 (by funext a; fin_cases a <;> refine Fin.ext ?_ <;> simp [ix5])
  · rw [View.ld_unit]
    exact congrArg x0 (by funext a; fin_cases a <;> refine Fin.ext ?_ <;> simp [ix4])

/-- The piece that stores row `r` of the state. -/
theorem state_at (r : ℕ) (hr : r < 64) (i1 : ∀ a, (![0, 0, r, 0, 0] : Fin 5 → ℕ) a + S1x1x1x64x128.size a ≤ S1x1x64x64x128.size a)
    (i0 : ∀ a, (![5, 0, r, 0] : Fin 4 → ℕ) a + S1x1x1x128.size a ≤ S6x1x64x128.size a) (v k : Fin 64) (n : Fin 128) :
    View.TileAt (Val := Elt Ideal) (S := S1x1x64x64x128) (e := .f32) (ix5 (0 : Fin 1) (0 : Fin 1) v k n) ![0, 0, r, 0, 0] S1x1x1x64x128.size
      (k0_pay235 (k0_pay239 x0 x1) (k0_pay240 x0 x1) (k0_pay241 x0 x1) (k0_pay242 x0 x1)
        (View.ld x1 (Rect.unit (s := S1x1x64x64x128) ![0, 0, r, 0, 0] S1x1x1x64x128.size i1))
        (View.ld x0 (Rect.unit (s := S6x1x64x128) ![5, 0, r, 0] S1x1x1x128.size i0)))
      (newAt x0 x1 v k n) := by
  intro x hx
  have h2 : v.val = r + (x 2).val := hx 2
  have h3 : k.val = 0 + (x 3).val := hx 3
  have h4 : n.val = 0 + (x 4).val := hx 4
  have b0 : (x 0).val < 1 := (x 0).isLt
  have b1 : (x 1).val < 1 := (x 1).isLt
  have b2 : (x 2).val < 1 := (x 2).isLt
  have hv : v = ⟨r, hr⟩ := Fin.ext (by show v.val = r; omega)
  have e : x = ix5 (0 : Fin 1) (0 : Fin 1) (0 : Fin 1) k n := by
    funext a
    fin_cases a <;> refine Fin.ext ?_
    · show (x 0).val = 0; omega
    · show (x 1).val = 0; omega
    · show (x 2).val = 0; omega
    · show (x 3).val = k.val; omega
    · show (x 4).val = n.val; omega
  subst hv
  rw [e, ← piece_apply x0 x1 ⟨r, hr⟩ i1 i0]
  unfold k0_pay235
  generalize k0_pay234 (F := Ideal) _ _ _ _ _ _ = w
  pointwise

/-- The piece that stores what row `r` of the state reads out. -/
theorem read_at (r : ℕ) (hr : r < 64) (i1 : ∀ a, (![0, 0, r, 0, 0] : Fin 5 → ℕ) a + S1x1x1x64x128.size a ≤ S1x1x64x64x128.size a)
    (i0 : ∀ a, (![5, 0, r, 0] : Fin 4 → ℕ) a + S1x1x1x128.size a ≤ S6x1x64x128.size a) (v : Fin 64) (n : Fin 128) :
    View.TileAt (Val := Elt Ideal) (S := S1x64x128) (e := .f32) (ix3 (0 : Fin 1) v n) ![0, r, 0] S1x1x128.size
      (k0_pay236 (k0_pay239 x0 x1) (k0_pay240 x0 x1) (k0_pay241 x0 x1) (k0_pay242 x0 x1) (k0_pay243 x0 x1)
        (View.ld x1 (Rect.unit (s := S1x1x64x64x128) ![0, 0, r, 0, 0] S1x1x1x64x128.size i1))
        (View.ld x0 (Rect.unit (s := S6x1x64x128) ![5, 0, r, 0] S1x1x1x128.size i0)))
      (∑ k, newAt x0 x1 v k n * lane x0 4 n k) := by
  intro x hx
  have h1 : v.val = r + (x 1).val := hx 1
  have h2 : n.val = 0 + (x 2).val := hx 2
  have b0 : (x 0).val < 1 := (x 0).isLt
  have b1 : (x 1).val < 1 := (x 1).isLt
  have hv : v = ⟨r, hr⟩ := Fin.ext (by show v.val = r; omega)
  have e : x = ix3 (0 : Fin 1) (0 : Fin 1) n := by
    funext a
    fin_cases a <;> refine Fin.ext ?_
    · show (x 0).val = 0; omega
    · show (x 1).val = 0; omega
    · show (x 2).val = n.val; omega
  subst hv
  rw [e]
  simp only [← piece_apply x0 x1 ⟨r, hr⟩ i1 i0, ← r_apply x0 x1]
  unfold k0_pay236
  generalize k0_pay234 (F := Ideal) _ _ _ _ _ _ = w
  generalize k0_pay243 (F := Ideal) _ _ = u
  pointwise

/-- The block of new states a grid point leaves. -/
theorem state_block (v k : Fin 64) (n : Fin 128) : out0_3 x0 x1 (ix5 (0 : Fin 1) (0 : Fin 1) v k n) = newAt x0 x1 v k n := by
  unfold out0_3
  refine View.canon_eq_of_allAt _ _ _ (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  refine View.allAt_cons_unit _ _ _ _ _ (state_at x0 x1 63 (by omega) inb_S1x1x64x64x128_S1x1x1x64x128_0_0_63_0_0 inb_S6x1x64x128_S1x1x1x128_5_0_63_0 v k n) ?_
  refine View.allAt_cons_unit _ _ _ _ _ (state_at x0 x1 62 (by omega) inb_S1x1x64x64x128_S1x1x1x64x128_0_0_62_0_0 inb_S6x1x64x128_S1x1x1x128_5_0_62_0 v k n) ?_
  refine View.allAt_cons_unit _ _ _ _ _ (state_at x0 x1 61 (by omega) inb_S1x1x64x64x128_S1x1x1x64x128_0_0_61_0_0 inb_S6x1x64x128_S1x1x1x128_5_0_61_0 v k n) ?_
  refine View.allAt_cons_unit _ _ _ _ _ (state_at x0 x1 60 (by omega) inb_S1x1x64x64x128_S1x1x1x64x128_0_0_60_0_0 inb_S6x1x64x128_S1x1x1x128_5_0_60_0 v k n) ?_
  refine View.allAt_cons_unit _ _ _ _ _ (state_at x0 x1 59 (by omega) inb_S1x1x64x64x128_S1x1x1x64x128_0_0_59_0_0 inb_S6x1x64x128_S1x1x1x128_5_0_59_0 v k n) ?_
  refine View.allAt_cons_unit _ _ _ _ _ (state_at x0 x1 58 (by omega) inb_S1x1x64x64x128_S1x1x1x64x128_0_0_58_0_0 inb_S6x1x64x128_S1x1x1x128_5_0_58_0 v k n) ?_
  refine View.allAt_cons_unit _ _ _ _ _ (state_at x0 x1 57 (by omega) inb_S1x1x64x64x128_S1x1x1x64x128_0_0_57_0_0 inb_S6x1x64x128_S1x1x1x128_5_0_57_0 v k n) ?_
  refine View.allAt_cons_unit _ _ _ _ _ (state_at x0 x1 56 (by omega) inb_S1x1x64x64x128_S1x1x1x64x128_0_0_56_0_0 inb_S6x1x64x128_S1x1x1x128_5_0_56_0 v k n) ?_
  refine View.allAt_cons_unit _ _ _ _ _ (state_at x0 x1 55 (by omega) inb_S1x1x64x64x128_S1x1x1x64x128_0_0_55_0_0 inb_S6x1x64x128_S1x1x1x128_5_0_55_0 v k n) ?_
  refine View.allAt_cons_unit _ _ _ _ _ (state_at x0 x1 54 (by omega) inb_S1x1x64x64x128_S1x1x1x64x128_0_0_54_0_0 inb_S6x1x64x128_S1x1x1x128_5_0_54_0 v k n) ?_
  refine View.allAt_cons_unit _ _ _ _ _ (state_at x0 x1 53 (by omega) inb_S1x1x64x64x128_S1x1x1x64x128_0_0_53_0_0 inb_S6x1x64x128_S1x1x1x128_5_0_53_0 v k n) ?_
  refine View.allAt_cons_unit _ _ _ _ _ (state_at x0 x1 52 (by omega) inb_S1x1x64x64x128_S1x1x1x64x128_0_0_52_0_0 inb_S6x1x64x128_S1x1x1x128_5_0_52_0 v k n) ?_
  refine View.allAt_cons_unit _ _ _ _ _ (state_at x0 x1 51 (by omega) inb_S1x1x64x64x128_S1x1x1x64x128_0_0_51_0_0 inb_S6x1x64x128_S1x1x1x128_5_0_51_0 v k n) ?_
  refine View.allAt_cons_unit _ _ _ _ _ (state_at x0 x1 50 (by omega) inb_S1x1x64x64x128_S1x1x1x64x128_0_0_50_0_0 inb_S6x1x64x128_S1x1x1x128_5_0_50_0 v k n) ?_
  refine View.allAt_cons_unit _ _ _ _ _ (state_at x0 x1 49 (by omega) inb_S1x1x64x64x128_S1x1x1x64x128_0_0_49_0_0 inb_S6x1x64x128_S1x1x1x128_5_0_49_0 v k n) ?_
  refine View.allAt_cons_unit _ _ _ _ _ (state_at x0 x1 48 (by omega) inb_S1x1x64x64x128_S1x1x1x64x128_0_0_48_0_0 inb_S6x1x64x128_S1x1x1x128_5_0_48_0 v k n) ?_
  refine View.allAt_cons_unit _ _ _ _ _ (state_at x0 x1 47 (by omega) inb_S1x1x64x64x128_S1x1x1x64x128_0_0_47_0_0 inb_S6x1x64x128_S1x1x1x128_5_0_47_0 v k n) ?_
  refine View.allAt_cons_unit _ _ _ _ _ (state_at x0 x1 46 (by omega) inb_S1x1x64x64x128_S1x1x1x64x128_0_0_46_0_0 inb_S6x1x64x128_S1x1x1x128_5_0_46_0 v k n) ?_
  refine View.allAt_cons_unit _ _ _ _ _ (state_at x0 x1 45 (by omega) inb_S1x1x64x64x128_S1x1x1x64x128_0_0_45_0_0 inb_S6x1x64x128_S1x1x1x128_5_0_45_0 v k n) ?_
  refine View.allAt_cons_unit _ _ _ _ _ (state_at x0 x1 44 (by omega) inb_S1x1x64x64x128_S1x1x1x64x128_0_0_44_0_0 inb_S6x1x64x128_S1x1x1x128_5_0_44_0 v k n) ?_
  refine View.allAt_cons_unit _ _ _ _ _ (state_at x0 x1 43 (by omega) inb_S1x1x64x64x128_S1x1x1x64x128_0_0_43_0_0 inb_S6x1x64x128_S1x1x1x128_5_0_43_0 v k n) ?_
  refine View.allAt_cons_unit _ _ _ _ _ (state_at x0 x1 42 (by omega) inb_S1x1x64x64x128_S1x1x1x64x128_0_0_42_0_0 inb_S6x1x64x128_S1x1x1x128_5_0_42_0 v k n) ?_
  refine View.allAt_cons_unit _ _ _ _ _ (state_at x0 x1 41 (by omega) inb_S1x1x64x64x128_S1x1x1x64x128_0_0_41_0_0 inb_S6x1x64x128_S1x1x1x128_5_0_41_0 v k n) ?_
  refine View.allAt_cons_unit _ _ _ _ _ (state_at x0 x1 40 (by omega) inb_S1x1x64x64x128_S1x1x1x64x128_0_0_40_0_0 inb_S6x1x64x128_S1x1x1x128_5_0_40_0 v k n) ?_
  refine View.allAt_cons_unit _ _ _ _ _ (state_at x0 x1 39 (by omega) inb_S1x1x64x64x128_S1x1x1x64x128_0_0_39_0_0 inb_S6x1x64x128_S1x1x1x128_5_0_39_0 v k n) ?_
  refine View.allAt_cons_unit _ _ _ _ _ (state_at x0 x1 38 (by omega) inb_S1x1x64x64x128_S1x1x1x64x128_0_0_38_0_0 inb_S6x1x64x128_S1x1x1x128_5_0_38_0 v k n) ?_
  refine View.allAt_cons_unit _ _ _ _ _ (state_at x0 x1 37 (by omega) inb_S1x1x64x64x128_S1x1x1x64x128_0_0_37_0_0 inb_S6x1x64x128_S1x1x1x128_5_0_37_0 v k n) ?_
  refine View.allAt_cons_unit _ _ _ _ _ (state_at x0 x1 36 (by omega) inb_S1x1x64x64x128_S1x1x1x64x128_0_0_36_0_0 inb_S6x1x64x128_S1x1x1x128_5_0_36_0 v k n) ?_
  refine View.allAt_cons_unit _ _ _ _ _ (state_at x0 x1 35 (by omega) inb_S1x1x64x64x128_S1x1x1x64x128_0_0_35_0_0 inb_S6x1x64x128_S1x1x1x128_5_0_35_0 v k n) ?_
  refine View.allAt_cons_unit _ _ _ _ _ (state_at x0 x1 34 (by omega) inb_S1x1x64x64x128_S1x1x1x64x128_0_0_34_0_0 inb_S6x1x64x128_S1x1x1x128_5_0_34_0 v k n) ?_
  refine View.allAt_cons_unit _ _ _ _ _ (state_at x0 x1 33 (by omega) inb_S1x1x64x64x128_S1x1x1x64x128_0_0_33_0_0 inb_S6x1x64x128_S1x1x1x128_5_0_33_0 v k n) ?_
  refine View.allAt_cons_unit _ _ _ _ _ (state_at x0 x1 32 (by omega) inb_S1x1x64x64x128_S1x1x1x64x128_0_0_32_0_0 inb_S6x1x64x128_S1x1x1x128_5_0_32_0 v k n) ?_
  refine View.allAt_cons_unit _ _ _ _ _ (state_at x0 x1 31 (by omega) inb_S1x1x64x64x128_S1x1x1x64x128_0_0_31_0_0 inb_S6x1x64x128_S1x1x1x128_5_0_31_0 v k n) ?_
  refine View.allAt_cons_unit _ _ _ _ _ (state_at x0 x1 30 (by omega) inb_S1x1x64x64x128_S1x1x1x64x128_0_0_30_0_0 inb_S6x1x64x128_S1x1x1x128_5_0_30_0 v k n) ?_
  refine View.allAt_cons_unit _ _ _ _ _ (state_at x0 x1 29 (by omega) inb_S1x1x64x64x128_S1x1x1x64x128_0_0_29_0_0 inb_S6x1x64x128_S1x1x1x128_5_0_29_0 v k n) ?_
  refine View.allAt_cons_unit _ _ _ _ _ (state_at x0 x1 28 (by omega) inb_S1x1x64x64x128_S1x1x1x64x128_0_0_28_0_0 inb_S6x1x64x128_S1x1x1x128_5_0_28_0 v k n) ?_
  refine View.allAt_cons_unit _ _ _ _ _ (state_at x0 x1 27 (by omega) inb_S1x1x64x64x128_S1x1x1x64x128_0_0_27_0_0 inb_S6x1x64x128_S1x1x1x128_5_0_27_0 v k n) ?_
  refine View.allAt_cons_unit _ _ _ _ _ (state_at x0 x1 26 (by omega) inb_S1x1x64x64x128_S1x1x1x64x128_0_0_26_0_0 inb_S6x1x64x128_S1x1x1x128_5_0_26_0 v k n) ?_
  refine View.allAt_cons_unit _ _ _ _ _ (state_at x0 x1 25 (by omega) inb_S1x1x64x64x128_S1x1x1x64x128_0_0_25_0_0 inb_S6x1x64x128_S1x1x1x128_5_0_25_0 v k n) ?_
  refine View.allAt_cons_unit _ _ _ _ _ (state_at x0 x1 24 (by omega) inb_S1x1x64x64x128_S1x1x1x64x128_0_0_24_0_0 inb_S6x1x64x128_S1x1x1x128_5_0_24_0 v k n) ?_
  refine View.allAt_cons_unit _ _ _ _ _ (state_at x0 x1 23 (by omega) inb_S1x1x64x64x128_S1x1x1x64x128_0_0_23_0_0 inb_S6x1x64x128_S1x1x1x128_5_0_23_0 v k n) ?_
  refine View.allAt_cons_unit _ _ _ _ _ (state_at x0 x1 22 (by omega) inb_S1x1x64x64x128_S1x1x1x64x128_0_0_22_0_0 inb_S6x1x64x128_S1x1x1x128_5_0_22_0 v k n) ?_
  refine View.allAt_cons_unit _ _ _ _ _ (state_at x0 x1 21 (by omega) inb_S1x1x64x64x128_S1x1x1x64x128_0_0_21_0_0 inb_S6x1x64x128_S1x1x1x128_5_0_21_0 v k n) ?_
  refine View.allAt_cons_unit _ _ _ _ _ (state_at x0 x1 20 (by omega) inb_S1x1x64x64x128_S1x1x1x64x128_0_0_20_0_0 inb_S6x1x64x128_S1x1x1x128_5_0_20_0 v k n) ?_
  refine View.allAt_cons_unit _ _ _ _ _ (state_at x0 x1 19 (by omega) inb_S1x1x64x64x128_S1x1x1x64x128_0_0_19_0_0 inb_S6x1x64x128_S1x1x1x128_5_0_19_0 v k n) ?_
  refine View.allAt_cons_unit _ _ _ _ _ (state_at x0 x1 18 (by omega) inb_S1x1x64x64x128_S1x1x1x64x128_0_0_18_0_0 inb_S6x1x64x128_S1x1x1x128_5_0_18_0 v k n) ?_
  refine View.allAt_cons_unit _ _ _ _ _ (state_at x0 x1 17 (by omega) inb_S1x1x64x64x128_S1x1x1x64x128_0_0_17_0_0 inb_S6x1x64x128_S1x1x1x128_5_0_17_0 v k n) ?_
  refine View.allAt_cons_unit _ _ _ _ _ (state_at x0 x1 16 (by omega) inb_S1x1x64x64x128_S1x1x1x64x128_0_0_16_0_0 inb_S6x1x64x128_S1x1x1x128_5_0_16_0 v k n) ?_
  refine View.allAt_cons_unit _ _ _ _ _ (state_at x0 x1 15 (by omega) inb_S1x1x64x64x128_S1x1x1x64x128_0_0_15_0_0 inb_S6x1x64x128_S1x1x1x128_5_0_15_0 v k n) ?_
  refine View.allAt_cons_unit _ _ _ _ _ (state_at x0 x1 14 (by omega) inb_S1x1x64x64x128_S1x1x1x64x128_0_0_14_0_0 inb_S6x1x64x128_S1x1x1x128_5_0_14_0 v k n) ?_
  refine View.allAt_cons_unit _ _ _ _ _ (state_at x0 x1 13 (by omega) inb_S1x1x64x64x128_S1x1x1x64x128_0_0_13_0_0 inb_S6x1x64x128_S1x1x1x128_5_0_13_0 v k n) ?_
  refine View.allAt_cons_unit _ _ _ _ _ (state_at x0 x1 12 (by omega) inb_S1x1x64x64x128_S1x1x1x64x128_0_0_12_0_0 inb_S6x1x64x128_S1x1x1x128_5_0_12_0 v k n) ?_
  refine View.allAt_cons_unit _ _ _ _ _ (state_at x0 x1 11 (by omega) inb_S1x1x64x64x128_S1x1x1x64x128_0_0_11_0_0 inb_S6x1x64x128_S1x1x1x128_5_0_11_0 v k n) ?_
  refine View.allAt_cons_unit _ _ _ _ _ (state_at x0 x1 10 (by omega) inb_S1x1x64x64x128_S1x1x1x64x128_0_0_10_0_0 inb_S6x1x64x128_S1x1x1x128_5_0_10_0 v k n) ?_
  refine View.allAt_cons_unit _ _ _ _ _ (state_at x0 x1 9 (by omega) inb_S1x1x64x64x128_S1x1x1x64x128_0_0_9_0_0 inb_S6x1x64x128_S1x1x1x128_5_0_9_0 v k n) ?_
  refine View.allAt_cons_unit _ _ _ _ _ (state_at x0 x1 8 (by omega) inb_S1x1x64x64x128_S1x1x1x64x128_0_0_8_0_0 inb_S6x1x64x128_S1x1x1x128_5_0_8_0 v k n) ?_
  refine View.allAt_cons_unit _ _ _ _ _ (state_at x0 x1 7 (by omega) inb_S1x1x64x64x128_S1x1x1x64x128_0_0_7_0_0 inb_S6x1x64x128_S1x1x1x128_5_0_7_0 v k n) ?_
  refine View.allAt_cons_unit _ _ _ _ _ (state_at x0 x1 6 (by omega) inb_S1x1x64x64x128_S1x1x1x64x128_0_0_6_0_0 inb_S6x1x64x128_S1x1x1x128_5_0_6_0 v k n) ?_
  refine View.allAt_cons_unit _ _ _ _ _ (state_at x0 x1 5 (by omega) inb_S1x1x64x64x128_S1x1x1x64x128_0_0_5_0_0 inb_S6x1x64x128_S1x1x1x128_5_0_5_0 v k n) ?_
  refine View.allAt_cons_unit _ _ _ _ _ (state_at x0 x1 4 (by omega) inb_S1x1x64x64x128_S1x1x1x64x128_0_0_4_0_0 inb_S6x1x64x128_S1x1x1x128_5_0_4_0 v k n) ?_
  refine View.allAt_cons_unit _ _ _ _ _ (state_at x0 x1 3 (by omega) inb_S1x1x64x64x128_S1x1x1x64x128_0_0_3_0_0 inb_S6x1x64x128_S1x1x1x128_5_0_3_0 v k n) ?_
  refine View.allAt_cons_unit _ _ _ _ _ (state_at x0 x1 2 (by omega) inb_S1x1x64x64x128_S1x1x1x64x128_0_0_2_0_0 inb_S6x1x64x128_S1x1x1x128_5_0_2_0 v k n) ?_
  refine View.allAt_cons_unit _ _ _ _ _ (state_at x0 x1 1 (by omega) inb_S1x1x64x64x128_S1x1x1x64x128_0_0_1_0_0 inb_S6x1x64x128_S1x1x1x128_5_0_1_0 v k n) ?_
  refine View.allAt_cons_unit _ _ _ _ _ (state_at x0 x1 0 (by omega) inb_S1x1x64x64x128_S1x1x1x64x128_0_0_0_0_0 inb_S6x1x64x128_S1x1x1x128_5_0_0_0 v k n) ?_
  exact View.allAt_nil _ _

/-- The block of read-outs a grid point leaves. -/
theorem read_block (v : Fin 64) (n : Fin 128) : out0_2 x0 x1 (ix3 (0 : Fin 1) v n) = ∑ k, newAt x0 x1 v k n * lane x0 4 n k := by
  unfold out0_2
  refine View.canon_eq_of_allAt _ _ _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  refine View.allAt_cons_unit _ _ _ _ _ (read_at x0 x1 63 (by omega) inb_S1x1x64x64x128_S1x1x1x64x128_0_0_63_0_0 inb_S6x1x64x128_S1x1x1x128_5_0_63_0 v n) ?_
  refine View.allAt_cons_unit _ _ _ _ _ (read_at x0 x1 62 (by omega) inb_S1x1x64x64x128_S1x1x1x64x128_0_0_62_0_0 inb_S6x1x64x128_S1x1x1x128_5_0_62_0 v n) ?_
  refine View.allAt_cons_unit _ _ _ _ _ (read_at x0 x1 61 (by omega) inb_S1x1x64x64x128_S1x1x1x64x128_0_0_61_0_0 inb_S6x1x64x128_S1x1x1x128_5_0_61_0 v n) ?_
  refine View.allAt_cons_unit _ _ _ _ _ (read_at x0 x1 60 (by omega) inb_S1x1x64x64x128_S1x1x1x64x128_0_0_60_0_0 inb_S6x1x64x128_S1x1x1x128_5_0_60_0 v n) ?_
  refine View.allAt_cons_unit _ _ _ _ _ (read_at x0 x1 59 (by omega) inb_S1x1x64x64x128_S1x1x1x64x128_0_0_59_0_0 inb_S6x1x64x128_S1x1x1x128_5_0_59_0 v n) ?_
  refine View.allAt_cons_unit _ _ _ _ _ (read_at x0 x1 58 (by omega) inb_S1x1x64x64x128_S1x1x1x64x128_0_0_58_0_0 inb_S6x1x64x128_S1x1x1x128_5_0_58_0 v n) ?_
  refine View.allAt_cons_unit _ _ _ _ _ (read_at x0 x1 57 (by omega) inb_S1x1x64x64x128_S1x1x1x64x128_0_0_57_0_0 inb_S6x1x64x128_S1x1x1x128_5_0_57_0 v n) ?_
  refine View.allAt_cons_unit _ _ _ _ _ (read_at x0 x1 56 (by omega) inb_S1x1x64x64x128_S1x1x1x64x128_0_0_56_0_0 inb_S6x1x64x128_S1x1x1x128_5_0_56_0 v n) ?_
  refine View.allAt_cons_unit _ _ _ _ _ (read_at x0 x1 55 (by omega) inb_S1x1x64x64x128_S1x1x1x64x128_0_0_55_0_0 inb_S6x1x64x128_S1x1x1x128_5_0_55_0 v n) ?_
  refine View.allAt_cons_unit _ _ _ _ _ (read_at x0 x1 54 (by omega) inb_S1x1x64x64x128_S1x1x1x64x128_0_0_54_0_0 inb_S6x1x64x128_S1x1x1x128_5_0_54_0 v n) ?_
  refine View.allAt_cons_unit _ _ _ _ _ (read_at x0 x1 53 (by omega) inb_S1x1x64x64x128_S1x1x1x64x128_0_0_53_0_0 inb_S6x1x64x128_S1x1x1x128_5_0_53_0 v n) ?_
  refine View.allAt_cons_unit _ _ _ _ _ (read_at x0 x1 52 (by omega) inb_S1x1x64x64x128_S1x1x1x64x128_0_0_52_0_0 inb_S6x1x64x128_S1x1x1x128_5_0_52_0 v n) ?_
  refine View.allAt_cons_unit _ _ _ _ _ (read_at x0 x1 51 (by omega) inb_S1x1x64x64x128_S1x1x1x64x128_0_0_51_0_0 inb_S6x1x64x128_S1x1x1x128_5_0_51_0 v n) ?_
  refine View.allAt_cons_unit _ _ _ _ _ (read_at x0 x1 50 (by omega) inb_S1x1x64x64x128_S1x1x1x64x128_0_0_50_0_0 inb_S6x1x64x128_S1x1x1x128_5_0_50_0 v n) ?_
  refine View.allAt_cons_unit _ _ _ _ _ (read_at x0 x1 49 (by omega) inb_S1x1x64x64x128_S1x1x1x64x128_0_0_49_0_0 inb_S6x1x64x128_S1x1x1x128_5_0_49_0 v n) ?_
  refine View.allAt_cons_unit _ _ _ _ _ (read_at x0 x1 48 (by omega) inb_S1x1x64x64x128_S1x1x1x64x128_0_0_48_0_0 inb_S6x1x64x128_S1x1x1x128_5_0_48_0 v n) ?_
  refine View.allAt_cons_unit _ _ _ _ _ (read_at x0 x1 47 (by omega) inb_S1x1x64x64x128_S1x1x1x64x128_0_0_47_0_0 inb_S6x1x64x128_S1x1x1x128_5_0_47_0 v n) ?_
  refine View.allAt_cons_unit _ _ _ _ _ (read_at x0 x1 46 (by omega) inb_S1x1x64x64x128_S1x1x1x64x128_0_0_46_0_0 inb_S6x1x64x128_S1x1x1x128_5_0_46_0 v n) ?_
  refine View.allAt_cons_unit _ _ _ _ _ (read_at x0 x1 45 (by omega) inb_S1x1x64x64x128_S1x1x1x64x128_0_0_45_0_0 inb_S6x1x64x128_S1x1x1x128_5_0_45_0 v n) ?_
  refine View.allAt_cons_unit _ _ _ _ _ (read_at x0 x1 44 (by omega) inb_S1x1x64x64x128_S1x1x1x64x128_0_0_44_0_0 inb_S6x1x64x128_S1x1x1x128_5_0_44_0 v n) ?_
  refine View.allAt_cons_unit _ _ _ _ _ (read_at x0 x1 43 (by omega) inb_S1x1x64x64x128_S1x1x1x64x128_0_0_43_0_0 inb_S6x1x64x128_S1x1x1x128_5_0_43_0 v n) ?_
  refine View.allAt_cons_unit _ _ _ _ _ (read_at x0 x1 42 (by omega) inb_S1x1x64x64x128_S1x1x1x64x128_0_0_42_0_0 inb_S6x1x64x128_S1x1x1x128_5_0_42_0 v n) ?_
  refine View.allAt_cons_unit _ _ _ _ _ (read_at x0 x1 41 (by omega) inb_S1x1x64x64x128_S1x1x1x64x128_0_0_41_0_0 inb_S6x1x64x128_S1x1x1x128_5_0_41_0 v n) ?_
  refine View.allAt_cons_unit _ _ _ _ _ (read_at x0 x1 40 (by omega) inb_S1x1x64x64x128_S1x1x1x64x128_0_0_40_0_0 inb_S6x1x64x128_S1x1x1x128_5_0_40_0 v n) ?_
  refine View.allAt_cons_unit _ _ _ _ _ (read_at x0 x1 39 (by omega) inb_S1x1x64x64x128_S1x1x1x64x128_0_0_39_0_0 inb_S6x1x64x128_S1x1x1x128_5_0_39_0 v n) ?_
  refine View.allAt_cons_unit _ _ _ _ _ (read_at x0 x1 38 (by omega) inb_S1x1x64x64x128_S1x1x1x64x128_0_0_38_0_0 inb_S6x1x64x128_S1x1x1x128_5_0_38_0 v n) ?_
  refine View.allAt_cons_unit _ _ _ _ _ (read_at x0 x1 37 (by omega) inb_S1x1x64x64x128_S1x1x1x64x128_0_0_37_0_0 inb_S6x1x64x128_S1x1x1x128_5_0_37_0 v n) ?_
  refine View.allAt_cons_unit _ _ _ _ _ (read_at x0 x1 36 (by omega) inb_S1x1x64x64x128_S1x1x1x64x128_0_0_36_0_0 inb_S6x1x64x128_S1x1x1x128_5_0_36_0 v n) ?_
  refine View.allAt_cons_unit _ _ _ _ _ (read_at x0 x1 35 (by omega) inb_S1x1x64x64x128_S1x1x1x64x128_0_0_35_0_0 inb_S6x1x64x128_S1x1x1x128_5_0_35_0 v n) ?_
  refine View.allAt_cons_unit _ _ _ _ _ (read_at x0 x1 34 (by omega) inb_S1x1x64x64x128_S1x1x1x64x128_0_0_34_0_0 inb_S6x1x64x128_S1x1x1x128_5_0_34_0 v n) ?_
  refine View.allAt_cons_unit _ _ _ _ _ (read_at x0 x1 33 (by omega) inb_S1x1x64x64x128_S1x1x1x64x128_0_0_33_0_0 inb_S6x1x64x128_S1x1x1x128_5_0_33_0 v n) ?_
  refine View.allAt_cons_unit _ _ _ _ _ (read_at x0 x1 32 (by omega) inb_S1x1x64x64x128_S1x1x1x64x128_0_0_32_0_0 inb_S6x1x64x128_S1x1x1x128_5_0_32_0 v n) ?_
  refine View.allAt_cons_unit _ _ _ _ _ (read_at x0 x1 31 (by omega) inb_S1x1x64x64x128_S1x1x1x64x128_0_0_31_0_0 inb_S6x1x64x128_S1x1x1x128_5_0_31_0 v n) ?_
  refine View.allAt_cons_unit _ _ _ _ _ (read_at x0 x1 30 (by omega) inb_S1x1x64x64x128_S1x1x1x64x128_0_0_30_0_0 inb_S6x1x64x128_S1x1x1x128_5_0_30_0 v n) ?_
  refine View.allAt_cons_unit _ _ _ _ _ (read_at x0 x1 29 (by omega) inb_S1x1x64x64x128_S1x1x1x64x128_0_0_29_0_0 inb_S6x1x64x128_S1x1x1x128_5_0_29_0 v n) ?_
  refine View.allAt_cons_unit _ _ _ _ _ (read_at x0 x1 28 (by omega) inb_S1x1x64x64x128_S1x1x1x64x128_0_0_28_0_0 inb_S6x1x64x128_S1x1x1x128_5_0_28_0 v n) ?_
  refine View.allAt_cons_unit _ _ _ _ _ (read_at x0 x1 27 (by omega) inb_S1x1x64x64x128_S1x1x1x64x128_0_0_27_0_0 inb_S6x1x64x128_S1x1x1x128_5_0_27_0 v n) ?_
  refine View.allAt_cons_unit _ _ _ _ _ (read_at x0 x1 26 (by omega) inb_S1x1x64x64x128_S1x1x1x64x128_0_0_26_0_0 inb_S6x1x64x128_S1x1x1x128_5_0_26_0 v n) ?_
  refine View.allAt_cons_unit _ _ _ _ _ (read_at x0 x1 25 (by omega) inb_S1x1x64x64x128_S1x1x1x64x128_0_0_25_0_0 inb_S6x1x64x128_S1x1x1x128_5_0_25_0 v n) ?_
  refine View.allAt_cons_unit _ _ _ _ _ (read_at x0 x1 24 (by omega) inb_S1x1x64x64x128_S1x1x1x64x128_0_0_24_0_0 inb_S6x1x64x128_S1x1x1x128_5_0_24_0 v n) ?_
  refine View.allAt_cons_unit _ _ _ _ _ (read_at x0 x1 23 (by omega) inb_S1x1x64x64x128_S1x1x1x64x128_0_0_23_0_0 inb_S6x1x64x128_S1x1x1x128_5_0_23_0 v n) ?_
  refine View.allAt_cons_unit _ _ _ _ _ (read_at x0 x1 22 (by omega) inb_S1x1x64x64x128_S1x1x1x64x128_0_0_22_0_0 inb_S6x1x64x128_S1x1x1x128_5_0_22_0 v n) ?_
  refine View.allAt_cons_unit _ _ _ _ _ (read_at x0 x1 21 (by omega) inb_S1x1x64x64x128_S1x1x1x64x128_0_0_21_0_0 inb_S6x1x64x128_S1x1x1x128_5_0_21_0 v n) ?_
  refine View.allAt_cons_unit _ _ _ _ _ (read_at x0 x1 20 (by omega) inb_S1x1x64x64x128_S1x1x1x64x128_0_0_20_0_0 inb_S6x1x64x128_S1x1x1x128_5_0_20_0 v n) ?_
  refine View.allAt_cons_unit _ _ _ _ _ (read_at x0 x1 19 (by omega) inb_S1x1x64x64x128_S1x1x1x64x128_0_0_19_0_0 inb_S6x1x64x128_S1x1x1x128_5_0_19_0 v n) ?_
  refine View.allAt_cons_unit _ _ _ _ _ (read_at x0 x1 18 (by omega) inb_S1x1x64x64x128_S1x1x1x64x128_0_0_18_0_0 inb_S6x1x64x128_S1x1x1x128_5_0_18_0 v n) ?_
  refine View.allAt_cons_unit _ _ _ _ _ (read_at x0 x1 17 (by omega) inb_S1x1x64x64x128_S1x1x1x64x128_0_0_17_0_0 inb_S6x1x64x128_S1x1x1x128_5_0_17_0 v n) ?_
  refine View.allAt_cons_unit _ _ _ _ _ (read_at x0 x1 16 (by omega) inb_S1x1x64x64x128_S1x1x1x64x128_0_0_16_0_0 inb_S6x1x64x128_S1x1x1x128_5_0_16_0 v n) ?_
  refine View.allAt_cons_unit _ _ _ _ _ (read_at x0 x1 15 (by omega) inb_S1x1x64x64x128_S1x1x1x64x128_0_0_15_0_0 inb_S6x1x64x128_S1x1x1x128_5_0_15_0 v n) ?_
  refine View.allAt_cons_unit _ _ _ _ _ (read_at x0 x1 14 (by omega) inb_S1x1x64x64x128_S1x1x1x64x128_0_0_14_0_0 inb_S6x1x64x128_S1x1x1x128_5_0_14_0 v n) ?_
  refine View.allAt_cons_unit _ _ _ _ _ (read_at x0 x1 13 (by omega) inb_S1x1x64x64x128_S1x1x1x64x128_0_0_13_0_0 inb_S6x1x64x128_S1x1x1x128_5_0_13_0 v n) ?_
  refine View.allAt_cons_unit _ _ _ _ _ (read_at x0 x1 12 (by omega) inb_S1x1x64x64x128_S1x1x1x64x128_0_0_12_0_0 inb_S6x1x64x128_S1x1x1x128_5_0_12_0 v n) ?_
  refine View.allAt_cons_unit _ _ _ _ _ (read_at x0 x1 11 (by omega) inb_S1x1x64x64x128_S1x1x1x64x128_0_0_11_0_0 inb_S6x1x64x128_S1x1x1x128_5_0_11_0 v n) ?_
  refine View.allAt_cons_unit _ _ _ _ _ (read_at x0 x1 10 (by omega) inb_S1x1x64x64x128_S1x1x1x64x128_0_0_10_0_0 inb_S6x1x64x128_S1x1x1x128_5_0_10_0 v n) ?_
  refine View.allAt_cons_unit _ _ _ _ _ (read_at x0 x1 9 (by omega) inb_S1x1x64x64x128_S1x1x1x64x128_0_0_9_0_0 inb_S6x1x64x128_S1x1x1x128_5_0_9_0 v n) ?_
  refine View.allAt_cons_unit _ _ _ _ _ (read_at x0 x1 8 (by omega) inb_S1x1x64x64x128_S1x1x1x64x128_0_0_8_0_0 inb_S6x1x64x128_S1x1x1x128_5_0_8_0 v n) ?_
  refine View.allAt_cons_unit _ _ _ _ _ (read_at x0 x1 7 (by omega) inb_S1x1x64x64x128_S1x1x1x64x128_0_0_7_0_0 inb_S6x1x64x128_S1x1x1x128_5_0_7_0 v n) ?_
  refine View.allAt_cons_unit _ _ _ _ _ (read_at x0 x1 6 (by omega) inb_S1x1x64x64x128_S1x1x1x64x128_0_0_6_0_0 inb_S6x1x64x128_S1x1x1x128_5_0_6_0 v n) ?_
  refine View.allAt_cons_unit _ _ _ _ _ (read_at x0 x1 5 (by omega) inb_S1x1x64x64x128_S1x1x1x64x128_0_0_5_0_0 inb_S6x1x64x128_S1x1x1x128_5_0_5_0 v n) ?_
  refine View.allAt_cons_unit _ _ _ _ _ (read_at x0 x1 4 (by omega) inb_S1x1x64x64x128_S1x1x1x64x128_0_0_4_0_0 inb_S6x1x64x128_S1x1x1x128_5_0_4_0 v n) ?_
  refine View.allAt_cons_unit _ _ _ _ _ (read_at x0 x1 3 (by omega) inb_S1x1x64x64x128_S1x1x1x64x128_0_0_3_0_0 inb_S6x1x64x128_S1x1x1x128_5_0_3_0 v n) ?_
  refine View.allAt_cons_unit _ _ _ _ _ (read_at x0 x1 2 (by omega) inb_S1x1x64x64x128_S1x1x1x64x128_0_0_2_0_0 inb_S6x1x64x128_S1x1x1x128_5_0_2_0 v n) ?_
  refine View.allAt_cons_unit _ _ _ _ _ (read_at x0 x1 1 (by omega) inb_S1x1x64x64x128_S1x1x1x64x128_0_0_1_0_0 inb_S6x1x64x128_S1x1x1x128_5_0_1_0 v n) ?_
  refine View.allAt_cons_unit _ _ _ _ _ (read_at x0 x1 0 (by omega) inb_S1x1x64x64x128_S1x1x1x64x128_0_0_0_0_0 inb_S6x1x64x128_S1x1x1x128_5_0_0_0 v n) ?_
  exact View.allAt_nil _ _

end Cert.StepKernelIdeal.Cell

end
-- ==== Proof.StepKer.lean ====
/-
  The recurrent step's two results: every head's block is written once, and the host turns the arrays to samples first.
-/
module

public import proofs.«01_k».proof.Proof.StepCell
public import Idealize.ShloMosaic.Lib.StableHlo.RunRead

@[expose] public section

set_option maxRecDepth 16384

noncomputable section

namespace Cert.StepKernelIdeal.Final

open Cert.StepKernelIdeal Cert.StepKernelIdeal.Gen Cert.StepKernelIdeal.Cell Idealize.ShloMosaic Idealize.ShloMosaic.TcCoe Idealize.SL.Sem
open Cert.StepMath

variable (m : (ℓ : Loc nD τ sig) → Buf (Elt Ideal) ℓ) (ρ : Dev nD → PrngReg) (c : Dev nD)

/-- The mathematics' arguments, from the argument arrays. -/
def argsOf : Args where
  r n e := m ((c.tc : Thread nD τ).loc main_arg0) (ix2 n e)
  k n e := m ((c.tc : Thread nD τ).loc main_arg1) (ix2 n e)
  v n e := m ((c.tc : Thread nD τ).loc main_arg2) (ix2 n e)
  kk n e := m ((c.tc : Thread nD τ).loc main_arg3) (ix2 n e)
  b n e := m ((c.tc : Thread nD τ).loc main_arg4) (ix2 n e)
  d n e := m ((c.tc : Thread nD τ).loc main_arg5) (ix2 n e)
  s n h v k := m ((c.tc : Thread nD τ).loc main_arg6) (ix5 (0 : Fin 2) n h v k)

/-- Where the windows' blocks lie. -/
theorem idx : ∀ t : Fin grid0.N, (win0_0.index t = ![0, t.val, 0, 0] ∧ win0_1.index t = ![0, t.val, 0, 0, 0])
    ∧ (win0_2.index t = ![t.val, 0, 0] ∧ win0_3.index t = ![0, t.val, 0, 0, 0]) := by decide +kernel

/-- A grid point's head. -/
def head (t : Fin grid0.N) : Fin 4 := ⟨t.val, t.isLt⟩

theorem stacked0 (h : Fin 4) (j : Fin 64) (n : Fin 128) :
    V m c main_v9 (ix4 (0 : Fin 6) h j n) = m ((c.tc : Thread nD τ).loc main_arg3) (ix2 n (chan h j)) := by
  show StableHlo.after hostOps0 (fun b => m (c, b)) (Proc.devRef .tc main_v9) (ix4 (0 : Fin 6) h j n) = _
  generalize hX : m ((c.tc : Thread nD τ).loc main_arg3) (ix2 n (chan h j)) = X
  after_reads_simp
  pointwise
  after_reads_simp
  pointwise
  rw [← hX]
  rfl

theorem stacked1 (h : Fin 4) (j : Fin 64) (n : Fin 128) :
    V m c main_v9 (ix4 (1 : Fin 6) h j n) = m ((c.tc : Thread nD τ).loc main_arg4) (ix2 n (chan h j)) := by
  show StableHlo.after hostOps0 (fun b => m (c, b)) (Proc.devRef .tc main_v9) (ix4 (1 : Fin 6) h j n) = _
  generalize hX : m ((c.tc : Thread nD τ).loc main_arg4) (ix2 n (chan h j)) = X
  after_reads_simp
  pointwise
  after_reads_simp
  pointwise
  rw [← hX]
  rfl

theorem stacked2 (h : Fin 4) (j : Fin 64) (n : Fin 128) :
    V m c main_v9 (ix4 (2 : Fin 6) h j n) = m ((c.tc : Thread nD τ).loc main_arg5) (ix2 n (chan h j)) := by
  show StableHlo.after hostOps0 (fun b => m (c, b)) (Proc.devRef .tc main_v9) (ix4 (2 : Fin 6) h j n) = _
  generalize hX : m ((c.tc : Thread nD τ).loc main_arg5) (ix2 n (chan h j)) = X
  after_reads_simp
  pointwise
  after_reads_simp
  pointwise
  rw [← hX]
  rfl

theorem stacked3 (h : Fin 4) (j : Fin 64) (n : Fin 128) :
    V m c main_v9 (ix4 (3 : Fin 6) h j n) = m ((c.tc : Thread nD τ).loc main_arg1) (ix2 n (chan h j)) := by
  show StableHlo.after hostOps0 (fun b => m (c, b)) (Proc.devRef .tc main_v9) (ix4 (3 : Fin 6) h j n) = _
  generalize hX : m ((c.tc : Thread nD τ).loc main_arg1) (ix2 n (chan h j)) = X
  after_reads_simp
  pointwise
  after_reads_simp
  pointwise
  rw [← hX]
  rfl

theorem stacked4 (h : Fin 4) (j : Fin 64) (n : Fin 128) :
    V m c main_v9 (ix4 (4 : Fin 6) h j n) = m ((c.tc : Thread nD τ).loc main_arg0) (ix2 n (chan h j)) := by
  show StableHlo.after hostOps0 (fun b => m (c, b)) (Proc.devRef .tc main_v9) (ix4 (4 : Fin 6) h j n) = _
  generalize hX : m ((c.tc : Thread nD τ).loc main_arg0) (ix2 n (chan h j)) = X
  after_reads_simp
  pointwise
  after_reads_simp
  pointwise
  rw [← hX]
  rfl

theorem stacked5 (h : Fin 4) (j : Fin 64) (n : Fin 128) :
    V m c main_v9 (ix4 (5 : Fin 6) h j n) = m ((c.tc : Thread nD τ).loc main_arg2) (ix2 n (chan h j)) := by
  show StableHlo.after hostOps0 (fun b => m (c, b)) (Proc.devRef .tc main_v9) (ix4 (5 : Fin 6) h j n) = _
  generalize hX : m ((c.tc : Thread nD τ).loc main_arg2) (ix2 n (chan h j)) = X
  after_reads_simp
  pointwise
  after_reads_simp
  pointwise
  rw [← hX]
  rfl

theorem block0 (t : Fin grid0.N) (q : Fin 6) (j : Fin 64) (n : Fin 128) :
    iblk m c 0 t (ix4 q (0 : Fin 1) j n) = V m c main_v9 (ix4 q (head t) j n) := by
  have hN : t.val < 4 := t.isLt
  blk_ext [iblk, (idx t).1.1, head]

/-- The state's array, samples last. -/
theorem turned (h : Fin 4) (v k : Fin 64) (n : Fin 128) :
    V m c main_v0 (ix5 (0 : Fin 2) h v k n) = m ((c.tc : Thread nD τ).loc main_arg6) (ix5 (0 : Fin 2) n h v k) := by
  show StableHlo.after hostOps0 (fun b => m (c, b)) (Proc.devRef .tc main_v0) (ix5 (0 : Fin 2) h v k n) = _
  generalize hX : m ((c.tc : Thread nD τ).loc main_arg6) (ix5 (0 : Fin 2) n h v k) = X
  after_reads_simp
  pointwise
  rw [← hX]

theorem block1 (t : Fin grid0.N) (v k : Fin 64) (n : Fin 128) :
    iblk m c 1 t (ix5 (0 : Fin 1) (0 : Fin 1) v k n) = (argsOf m c).s n (head t) v k := by
  have hN : t.val < 4 := t.isLt
  have : iblk m c 1 t (ix5 (0 : Fin 1) (0 : Fin 1) v k n) = V m c main_v0 (ix5 (0 : Fin 2) (head t) v k n) := by
    blk_ext [iblk, (idx t).1.2, head]
  exact this.trans (turned m c (head t) v k n)

theorem lane0 (t : Fin grid0.N) (n : Fin 128) : lane (iblk m c 0 t) 0 n = fun j => (argsOf m c).kk n (chan (head t) j) :=
  funext fun j => (block0 m c t 0 j n).trans (stacked0 m c (head t) j n)

theorem lane1 (t : Fin grid0.N) (n : Fin 128) : lane (iblk m c 0 t) 1 n = fun j => (argsOf m c).b n (chan (head t) j) :=
  funext fun j => (block0 m c t 1 j n).trans (stacked1 m c (head t) j n)

theorem lane2 (t : Fin grid0.N) (n : Fin 128) : lane (iblk m c 0 t) 2 n = fun j => (argsOf m c).d n (chan (head t) j) :=
  funext fun j => (block0 m c t 2 j n).trans (stacked2 m c (head t) j n)

theorem lane3 (t : Fin grid0.N) (n : Fin 128) : lane (iblk m c 0 t) 3 n = fun j => (argsOf m c).k n (chan (head t) j) :=
  funext fun j => (block0 m c t 3 j n).trans (stacked3 m c (head t) j n)

theorem lane4 (t : Fin grid0.N) (n : Fin 128) : lane (iblk m c 0 t) 4 n = fun j => (argsOf m c).r n (chan (head t) j) :=
  funext fun j => (block0 m c t 4 j n).trans (stacked4 m c (head t) j n)

theorem lane5 (t : Fin grid0.N) (n : Fin 128) : lane (iblk m c 0 t) 5 n = fun j => (argsOf m c).v n (chan (head t) j) :=
  funext fun j => (block0 m c t 5 j n).trans (stacked5 m c (head t) j n)

/-- A new state entry of a grid point. -/
theorem newAt_eq (t : Fin grid0.N) (v k : Fin 64) (n : Fin 128) :
    newAt (iblk m c 0 t) (iblk m c 1 t) v k n = (argsOf m c).state n (head t) v k := by
  unfold newAt
  simp only [block1, lane0, lane1, lane2, lane3, lane5]
  rfl

/-- A read-out of a grid point. -/
theorem read_eq (t : Fin grid0.N) (v : Fin 64) (n : Fin 128) :
    out0_2 (iblk m c 0 t) (iblk m c 1 t) (ix3 (0 : Fin 1) v n) = (argsOf m c).read n (head t) v := by
  refine (read_block (iblk m c 0 t) (iblk m c 1 t) v n).trans ?_
  simp only [newAt_eq, lane4]
  rfl

/-- The array of new states, heads first. -/
def states (A : Args) : S1x4x64x64x128.Idx → EReal := fun i => A.state (i 4 : Fin 128) (i 1 : Fin 4) (i 2 : Fin 64) (i 3 : Fin 64)

/-- The array of read-outs, heads first. -/
def reads (A : Args) : S4x64x128.Idx → EReal := fun i => A.read (i 2 : Fin 128) (i 0 : Fin 4) (i 1 : Fin 64)

theorem final_states : (dats m 0 c).arrAt 3 cfg0.N = states (argsOf m c) := by
  refine (dats m 0 c).arrAt_eq_of_covers 3 _ (by decide +kernel) fun t hf y => ?_
  blk_simp
  rw [after0_3]
  have hN : t.val < 4 := t.isLt
  have b0 : (y 0).val < 1 := (y 0).isLt
  have b1 : (y 1).val < 1 := (y 1).isLt
  have hy : y = ix5 (0 : Fin 1) (0 : Fin 1) (y 2 : Fin 64) (y 3 : Fin 64) (y 4 : Fin 128) := by
    funext a
    fin_cases a <;> refine Fin.ext ?_
    · show (y 0).val = 0; omega
    · show (y 1).val = 0; omega
    · rfl
    · rfl
    · rfl
  have he : (win0_3.blk t).view.emb y = ix5 (0 : Fin 1) (head t) (y 2 : Fin 64) (y 3 : Fin 64) (y 4 : Fin 128) := by
    rw [hy]
    blk_ext [(idx t).2.2, head]
  rw [he]
  refine (congrArg (out0_3 (iblk m c 0 t) (iblk m c 1 t)) hy).trans ?_
  exact (state_block (iblk m c 0 t) (iblk m c 1 t) (y 2 : Fin 64) (y 3 : Fin 64) (y 4 : Fin 128)).trans (newAt_eq m c t _ _ _)

theorem final_reads : (dats m 0 c).arrAt 2 cfg0.N = reads (argsOf m c) := by
  refine (dats m 0 c).arrAt_eq_of_covers 2 _ (by decide +kernel) fun t hf y => ?_
  blk_simp
  rw [after0_2]
  have hN : t.val < 4 := t.isLt
  have b0 : (y 0).val < 1 := (y 0).isLt
  have hy : y = ix3 (0 : Fin 1) (y 1 : Fin 64) (y 2 : Fin 128) := by
    funext a
    fin_cases a <;> refine Fin.ext ?_
    · show (y 0).val = 0; omega
    · rfl
    · rfl
  have he : (win0_2.blk t).view.emb y = ix3 (head t) (y 1 : Fin 64) (y 2 : Fin 128) := by
    rw [hy]
    blk_ext [(idx t).2.1, head]
  rw [he]
  refine (congrArg (out0_2 (iblk m c 0 t) (iblk m c 1 t)) hy).trans ?_
  exact read_eq m c t (y 1 : Fin 64) (y 2 : Fin 128)

/-- The results, samples first. -/
def stateOut (A : Args) : S1x128x4x64x64.Idx → EReal := fun i => A.state (i 1 : Fin 128) (i 2 : Fin 4) (i 3 : Fin 64) (i 4 : Fin 64)

def readOut (A : Args) : S128x256.Idx → EReal := fun i =>
  A.read (i 0 : Fin 128) (⟨(i 1 : Fin 256).val / 64, by have : (i 1 : Fin 256).val < 256 := (i 1 : Fin 256).isLt; omega⟩ : Fin 4)
    (⟨(i 1 : Fin 256).val % 64, Nat.mod_lt _ (by omega)⟩ : Fin 64)

theorem readOut_eq (A : Args) : shapeCast S128x256 (transpose S128x4x64 [2, 0, 1] (reads A) transposes_S4x64x128_S128x4x64_2_0_1) shapeCasts_S128x4x64_S128x256 = readOut A := by
  funext i
  have hi : i = ix2 (i 0 : Fin 128) (i 1 : Fin 256) := by funext a; fin_cases a <;> rfl
  rw [hi]
  pointwise
  rfl

theorem stateOut_eq (A : Args) : transpose S1x128x4x64x64 [0, 4, 1, 2, 3] (states A) transposes_S1x4x64x64x128_S1x128x4x64x64_0_4_1_2_3 = stateOut A := by
  funext i
  have hi : i = ix5 (i 0 : Fin 1) (i 1 : Fin 128) (i 2 : Fin 4) (i 3 : Fin 64) (i 4 : Fin 64) := by funext a; fin_cases a <;> rfl
  rw [hi]
  pointwise
  rfl

/-- What the host makes of the read-outs. -/
theorem tail_reads : Pipeline.afterTail₀ cfgs (dats m) 0 (V0 m) [hostOps1] c main_v12 = readOut (argsOf m c) := by
  unfold Pipeline.afterTail₀
  rw [← readOut_eq, ← final_reads]
  generalize hW : Pipeline.withArrays _ _ _ _ = W
  have hv : W (Proc.devRef .tc main_v10_0) = (dats m 0 c).arrAt 2 cfg0.N := by
    rw [← hW]
    exact Pipeline.withArrays_arr (cfgs 0).spec (by decide) c _ _ 2
  rw [← hv]
  clear hv hW
  show StableHlo.after hostOps1 W (Proc.devRef .tc main_v12) = _
  after_reads_simp
  rfl

/-- What the host makes of the new states. -/
theorem tail_states : Pipeline.afterTail₀ cfgs (dats m) 0 (V0 m) [hostOps1] c main_v13 = stateOut (argsOf m c) := by
  unfold Pipeline.afterTail₀
  rw [← stateOut_eq, ← final_states]
  generalize hW : Pipeline.withArrays _ _ _ _ = W
  have hv : W (Proc.devRef .tc main_v10_1) = (dats m 0 c).arrAt 3 cfg0.N := by
    rw [← hW]
    exact Pipeline.withArrays_arr (cfgs 0).spec (by decide) c _ _ 3
  rw [← hv]
  clear hv hW
  show StableHlo.after hostOps1 W (Proc.devRef .tc main_v13) = _
  after_reads_simp

/-- The run: the two results hold the step of the arguments, which end unchanged. -/
theorem run : θ_run defs (onTc (τ := τ) (main (F := Ideal))) ⟨m, fun _ => 0, ρ⟩ fun r => ∀ c : Dev nD,
      r.2.mem ((c.tc : Thread nD τ).loc main_v12) = readOut (argsOf m c)
      ∧ r.2.mem ((c.tc : Thread nD τ).loc main_v13) = stateOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨((h.1 c).2 main_v12 (by decide)).trans (tail_reads m c),
    ((h.1 c).2 main_v13 (by decide)).trans (tail_states m c), h.2 c⟩) (θ_run_and (Gen.run_main m ρ) (Gen.unchanged m ρ))

end Cert.StepKernelIdeal.Final

end
-- ==== Proof.StepRef.lean ====
/-
  The reference of the recurrent step, read element by element.
-/
module

public import proofs.«01_k».proof.Proof.Gen.StepReferenceIdeal.Run
public import proofs.«01_k».proof.Proof.StepMath

@[expose] public section

set_option maxRecDepth 16384

noncomputable section

namespace Cert.StepReferenceIdeal.RefRow

open Cert.StepReferenceIdeal Cert.StepReferenceIdeal.Gen Idealize.ShloMosaic Idealize.ShloMosaic.TcCoe Idealize.SL.Sem
open Cert.StepMath

/-- The mathematics' arguments, from the argument arrays. -/
def args (a0 a1 a2 a3 a4 a5 : S128x256.Idx → EReal) (a6 : S2x128x4x64x64.Idx → EReal) : Args where
  r n e := a0 (ix2 n e)
  k n e := a1 (ix2 n e)
  v n e := a2 (ix2 n e)
  kk n e := a3 (ix2 n e)
  b n e := a4 (ix2 n e)
  d n e := a5 (ix2 n e)
  s n h v k := a6 (ix5 (0 : Fin 2) n h v k)

variable (a0 a1 a2 a3 a4 a5 : FVec Ideal S128x256 .f32) (a6 : FVec Ideal S2x128x4x64x64 .f32)

/-- The old state. -/
def old : FVec Ideal S128x4x64x64 .f32 :=
  shapeCast _ (extractStridedSlice S1x128x4x64x64 ![0, 0, 0, 0, 0] a6 slices_S2x128x4x64x64_S1x128x4x64x64_0_0_0_0_0) shapeCasts_S1x128x4x64x64_S128x4x64x64

/-- One number per state row, along the row. -/
def rows (x : FVec Ideal S128x4x64 .f32) : FVec Ideal S128x4x64x64 .f32 :=
  broadcastInDim S128x4x64x64 ![0, 1, 2, 3] bcast_S128x4x64x1_S128x4x64x64_0_1_2_3 (broadcastInDim S128x4x64x1 ![0, 1, 2] bcast_S128x4x64_S128x4x64x1_0_1_2 x)

/-- One number per state column, along the column. -/
def cols (x : FVec Ideal S128x4x64 .f32) : FVec Ideal S128x4x64x64 .f32 :=
  broadcastInDim S128x4x64x64 ![0, 1, 2, 3] bcast_S128x4x1x64_S128x4x64x64_0_1_2_3 (broadcastInDim S128x4x1x64 ![0, 1, 3] bcast_S128x4x64_S128x4x1x64_0_1_3 x)

/-- A row of channels, by heads. -/
def heads (x : FVec Ideal S128x256 .f32) : FVec Ideal S128x4x64 .f32 := shapeCast _ x shapeCasts_S128x256_S128x4x64

/-- The products of the state's rows with one row per head. -/
def dots (s : FVec Ideal S128x4x64x64 .f32) (x : FVec Ideal S128x4x64 .f32) : FVec Ideal S128x4x64 .f32 :=
  Host.dotGeneral dot_S128x4x64x64_S128x4x64_S128x4x64_3_2_2_n_01_01 none s x

/-- The new state. -/
def new : FVec Ideal S128x4x64x64 .f32 :=
  addf (subf (mulf (old a6) (cols (heads a5))) (mulf (rows (dots (old a6) (heads a3))) (cols (heads a4))))
    (mulf (rows (heads a2)) (cols (heads a1)))

theorem dots_apply (s : FVec Ideal S128x4x64x64 .f32) (x : FVec Ideal S128x4x64 .f32) (n : Fin 128) (h : Fin 4) (v : Fin 64) :
    dots s x (ix3 n h v) = ∑ k, s (ix4 n h v k) * x (ix3 n h k) := by
  pointwise [dots]

theorem heads_apply (x : FVec Ideal S128x256 .f32) (n : Fin 128) (h : Fin 4) (v : Fin 64) : heads x (ix3 n h v) = x (ix2 n (chan h v)) := by
  pointwise [heads]
  rfl

theorem old_apply (n : Fin 128) (h : Fin 4) (v k : Fin 64) : old a6 (ix4 n h v k) = a6 (ix5 (0 : Fin 2) n h v k) := by
  pointwise [old]

theorem rows_apply (x : FVec Ideal S128x4x64 .f32) (n : Fin 128) (h : Fin 4) (v k : Fin 64) : rows x (ix4 n h v k) = x (ix3 n h v) := by
  pointwise [rows]

theorem cols_apply (x : FVec Ideal S128x4x64 .f32) (n : Fin 128) (h : Fin 4) (v k : Fin 64) : cols x (ix4 n h v k) = x (ix3 n h k) := by
  pointwise [cols]

theorem new_apply (n : Fin 128) (h : Fin 4) (v k : Fin 64) :
    new a1 a2 a3 a4 a5 a6 (ix4 n h v k) = (args a0 a1 a2 a3 a4 a5 a6).state n h v k := by
  show old a6 (ix4 n h v k) * cols (heads a5) (ix4 n h v k) - rows (dots (old a6) (heads a3)) (ix4 n h v k) * cols (heads a4) (ix4 n h v k)
    + rows (heads a2) (ix4 n h v k) * cols (heads a1) (ix4 n h v k) = _
  simp only [rows_apply, cols_apply, dots_apply, heads_apply, old_apply]
  rfl

/-- The state's result. -/
def stateOut : FVec Ideal S1x128x4x64x64 .f32 :=
  broadcastInDim S1x128x4x64x64 ![1, 2, 3, 4] bcast_S128x4x64x64_S1x128x4x64x64_1_2_3_4 (new a1 a2 a3 a4 a5 a6)

/-- The read-out's result. -/
def readOut : FVec Ideal S128x256 .f32 := shapeCast _ (dots (new a1 a2 a3 a4 a5 a6) (heads a0)) shapeCasts_S128x4x64_S128x256

theorem stateOut_apply (z : Fin 1) (n : Fin 128) (h : Fin 4) (v k : Fin 64) :
    stateOut a1 a2 a3 a4 a5 a6 (ix5 z n h v k) = (args a0 a1 a2 a3 a4 a5 a6).state n h v k := by
  rw [← new_apply]
  pointwise [stateOut]

theorem readOut_apply (n : Fin 128) (e : Fin 256) :
    readOut a0 a1 a2 a3 a4 a5 a6 (ix2 n e)
      = (args a0 a1 a2 a3 a4 a5 a6).read n (⟨e.val / 64, by omega⟩ : Fin 4) (⟨e.val % 64, by omega⟩ : Fin 64) := by
  pointwise [readOut]
  rw [dots_apply]
  simp only [new_apply a0, heads_apply]
  rfl

/-- The run: the two results hold the step of the arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = readOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_v26)
        = stateOut (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold readOut new dots heads rows cols old; rfl),
    (h c).2.1.trans (by unfold stateOut new dots heads rows cols old; rfl), (h c).2.2⟩) (Cert.StepReferenceIdeal.Value.run (F := Ideal) m ρ)

end Cert.StepReferenceIdeal.RefRow

end
-- ==== Proof.StepClaims.lean ====
/-
  The recurrent step's claims: the frame of the reference, and the equality of the two results.
-/
module

public import proofs.«01_k».proof.Defs
public import proofs.«01_k».proof.Proof.Gen.StepKernel.Frame
public import proofs.«01_k».proof.Proof.StepKer
public import proofs.«01_k».proof.Proof.StepRef
public import Idealize.ShloMosaic.Lib.Quiescent

@[expose] public section

set_option maxRecDepth 16384

noncomputable section

namespace Cert.StepClaims

open Idealize.ShloMosaic Idealize.ShloMosaic.TcCoe Idealize.SL.Sem

theorem frame_reference : Cert.quiescent_StepReferenceIdeal := fun m ρ _ =>
  (θ_run Cert.StepReferenceIdeal.defs _ _).mono (fun r h => ⟨fun c => (h c).2.2, sem_eq_zero_of_no_sems (by decide) r.2⟩)
    (Cert.StepReferenceIdeal.RefRow.run m ρ)

/-- The two results are equal, whatever the arguments hold. -/
theorem algebraic : Cert.algebraic_StepKernelIdeal_StepReferenceIdeal := by
  intro m ρ m' ρ' _ hagree
  refine ⟨_, _, Cert.StepKernelIdeal.Final.run m ρ, ?_⟩
  refine (θ_run Cert.StepReferenceIdeal.defs _ _).mono (fun _ h c => ⟨(h c).1.trans ?_, (h c).2.1.trans ?_, (h c).2.2⟩)
    (Cert.StepReferenceIdeal.RefRow.run m' ρ')
  · obtain ⟨h0, h1, h2, h3, h4, h5, h6⟩ := hagree c
    rw [h0, h1, h2, h3, h4, h5, h6]
    funext i
    have hi : i = ix2 (i 0 : Fin 128) (i 1 : Fin 256) := by funext a; fin_cases a <;> rfl
    rw [hi]
    exact (Cert.StepReferenceIdeal.RefRow.readOut_apply _ _ _ _ _ _ _ _ _).trans rfl
  · obtain ⟨h0, h1, h2, h3, h4, h5, h6⟩ := hagree c
    rw [h1, h2, h3, h4, h5, h6]
    funext i
    have hi : i = ix5 (i 0 : Fin 1) (i 1 : Fin 128) (i 2 : Fin 4) (i 3 : Fin 64) (i 4 : Fin 64) := by funext a; fin_cases a <;> rfl
    rw [hi]
    exact (Cert.StepReferenceIdeal.RefRow.stateOut_apply (m ((c.tc : Thread Cert.StepKernelIdeal.nD Cert.StepKernelIdeal.τ).loc Cert.StepKernelIdeal.main_arg0)) _ _ _ _ _ _ _ _ _ _ _).trans rfl

end Cert.StepClaims

end
-- ==== Proof.LastMath.lean ====
/-
  The samples' output projection, in plain formulas: the attention's latent rows taken through the value weights, the recurrent
  rows normed head by head, and the heads' sums written as a product with a block-diagonal matrix of ones.
-/
module

public import proofs.«01_k».proof.Proof.OutMath
public import proofs.«01_k».proof.Proof.StepMath

@[expose] public section

noncomputable section

namespace Cert.LastMath

open Idealize.ShloMosaic Cert.OutMath Cert.StepMath

/-- A head's latent entry. -/
def latent (h : Fin 4) (r : Fin 256) : Fin 1024 := ⟨h.val * 256 + r.val, by omega⟩

/-- A head's latent row times the value weights. -/
def valueAt (lat : Fin 1024 → EReal) (w : Fin 256 → Fin 4 → Fin 128 → EReal) (h : Fin 4) (d : Fin 128) : EReal :=
  ∑ r, w r h d * lat (latent h r)

/-- The gated attention row, heads side by side. -/
def mlaRow (lat : Fin 1024 → EReal) (w : Fin 256 → Fin 4 → Fin 128 → EReal) (g : Fin 512 → EReal) (e : Fin 512) : EReal :=
  g e * valueAt lat w ⟨e.val / 128, by omega⟩ ⟨e.val % 128, by omega⟩

/-- A head's mean. -/
def mean (x : Fin 256 → EReal) (h : Fin 4) : EReal := Ideal.div (∑ j, x (chan h j)) (Ideal.ofBits .f32 0x42800000#32)

/-- An entry's head. -/
def headOf (e : Fin 256) : Fin 4 := ⟨e.val / 64, by omega⟩

/-- A row less its heads' means. -/
def centred (x : Fin 256 → EReal) (e : Fin 256) : EReal := x e - mean x (headOf e)

/-- A row of squares. -/
def squares (x : Fin 256 → EReal) (e : Fin 256) : EReal := x e * x e

/-- The recurrent branch's row: normed head by head, with gain, bias and bonus, and gated. -/
def recRow (o g b bonus gate : Fin 256 → EReal) (e : Fin 256) : EReal :=
  gate e * (centred o e * Ideal.rsqrt (mean (squares (centred o)) (headOf e) + Ideal.ofBits .f32 0x3A27C5AC#32) * g e + b e + bonus e)

/-- The layer's result in one row. -/
def lastRow (lat : Fin 1024 → EReal) (w : Fin 256 → Fin 4 → Fin 128 → EReal) (mg : Fin 512 → EReal)
    (o g b bonus gate gm : Fin 256 → EReal) (x md gain : Fin 1024 → EReal) (wo : Fin 1024 → Fin 1024 → EReal) : Fin 1024 → EReal :=
  outRow (mlaRow lat w mg) (recRow o g b bonus gate) gm x md gain wo

/-- No entry of a row is infinite. -/
def RealRow (x : Fin 256 → EReal) : Prop := ∀ e, ∃ r : ℝ, x e = r

theorem real_of_ne {x : EReal} (h : x ≠ ⊥ ∧ x ≠ ⊤) : ∃ r : ℝ, x = r := ⟨x.toReal, (EReal.coe_toReal h.2 h.1).symm⟩

theorem sub_self_of_real {x : EReal} (h : ∃ r : ℝ, x = r) : x - x = 0 := by
  obtain ⟨r, rfl⟩ := h
  rw [← EReal.coe_sub, sub_self, EReal.coe_zero]

theorem sixty_four : Ideal.ofBits .f32 0x42800000#32 = ((64 : ℝ) : EReal) := by
  simp [Ideal.ofBits, Ideal.ieee]
  rw [← EReal.coe_mul]
  norm_num

theorem sixty_fourth : Ideal.ofBits .f32 0x3C800000#32 = ((1 / 64 : ℝ) : EReal) := by
  simp [Ideal.ofBits, Ideal.ieee]
  rw [← EReal.coe_mul]
  norm_num

/-- The mean is the sum times a power of two. -/
theorem mean_eq (x : Fin 256 → EReal) (h : Fin 4) : mean x h = (∑ j, x (chan h j)) * Ideal.ofBits .f32 0x3C800000#32 := by
  unfold mean
  rw [sixty_four, sixty_fourth, Ideal.div_coe (by norm_num)]

theorem mean_real {x : Fin 256 → EReal} (hx : RealRow x) (h : Fin 4) : ∃ r : ℝ, mean x h = r := by
  have hs : ∃ r : ℝ, ∑ j, x (chan h j) = r :=
    Finset.sum_induction (fun j => x (chan h j)) (fun y => ∃ r : ℝ, y = r)
      (fun _ _ ⟨a, ha⟩ ⟨b, hb⟩ => ⟨a + b, by rw [ha, hb, EReal.coe_add]⟩) ⟨0, EReal.coe_zero.symm⟩ (fun j _ => hx (chan h j))
  obtain ⟨r, hr⟩ := hs
  exact ⟨r * (1 / 64), by rw [mean_eq, hr, sixty_fourth, EReal.coe_mul]⟩

theorem centred_real {x : Fin 256 → EReal} (hx : RealRow x) : RealRow (centred x) := fun e => by
  obtain ⟨a, ha⟩ := hx e
  obtain ⟨b, hb⟩ := mean_real hx (headOf e)
  exact ⟨a - b, by unfold centred; rw [ha, hb, EReal.coe_sub]⟩

theorem squares_real {x : Fin 256 → EReal} (hx : RealRow x) : RealRow (squares x) := fun e => by
  obtain ⟨a, ha⟩ := hx e
  exact ⟨a * a, by unfold squares; rw [ha, EReal.coe_mul]⟩

/-- A row's product with the matrix that is one inside the heads' blocks and zero elsewhere is the sum over the head. -/
theorem sum_block (x : Fin 256 → EReal) (e : Fin 256) :
    ∑ e' : Fin 256, x e' * (if e'.val / 64 = e.val / 64 then 1 else 0) = ∑ j, x (chan (headOf e) j) := by
  have hs : ∀ f : Fin 256 → EReal, ∑ e', f e' = ∑ p : Fin 4 × Fin 64, f (chan p.1 p.2) := fun f => by
    refine (Fintype.sum_equiv (finProdFinEquiv (m := 4) (n := 64)) (fun p => f (chan p.1 p.2)) f fun p => congrArg f (Fin.ext ?_)).symm
    show p.1.val * 64 + p.2.val = p.2.val + 64 * p.1.val
    omega
  rw [hs, Fintype.sum_prod_type]
  have hd (h : Fin 4) (j : Fin 64) : (chan h j).val / 64 = h.val := by
    show (h.val * 64 + j.val) / 64 = h.val
    omega
  simp only [hd]
  rw [Finset.sum_eq_single (headOf e)]
  · exact Finset.sum_congr rfl fun j _ => by rw [if_pos (show (headOf e).val = e.val / 64 from rfl), mul_one]
  · intro h _ hne
    refine Finset.sum_eq_zero fun j _ => ?_
    rw [if_neg (show ¬ h.val = e.val / 64 from fun he => hne (Fin.ext he)), mul_zero]
  · intro h
    exact absurd (Finset.mem_univ _) h

end Cert.LastMath

end
-- ==== Proof.LastCell.lean ====
/-
  One element of what the samples' output projection stores.
-/
module

public import proofs.«01_k».proof.Proof.Gen.LastKernelIdeal.Value
public import proofs.«01_k».proof.Proof.LastMath
public import Idealize.ShloMosaic.Lib.Pipeline.ValueKit

@[expose] public section

set_option maxRecDepth 16384

noncomputable section

namespace Cert.LastKernelIdeal.Cell

open Cert.LastKernelIdeal Cert.LastKernelIdeal.Gen Idealize.ShloMosaic Idealize.ShloMosaic.TcCoe Idealize.SL.Sem
open Cert.OutMath Cert.StepMath Cert.LastMath

/-- The block-diagonal matrix of ones. -/
def ones : FVec Ideal S256x256 .bf16 := truncf .bf16 (select k0_pay3 (k0_pay4 (F := Ideal)) (k0_pay5 (F := Ideal))) bitsLt_bf16_f32

theorem ones_apply (a b : Fin 256) : ones (ix2 a b) = (if a.val / 64 = b.val / 64 then 1 else 0 : EReal) := by
  have e2 : ∀ d : Fin 256, IntOp.shrui .vector (BitVec.ofNat 32 d.val) 6#32 = BitVec.ofNat 32 (d.val / 64) := by decide +kernel
  have e3 : ∀ x y : Fin 4, IntOp.cmpi .eq (BitVec.ofNat 32 x.val) (BitVec.ofNat 32 y.val) = if x.val = y.val then 1#1 else 0#1 := by
    decide +kernel
  have e : k0_pay3 (ix2 a b) = if a.val / 64 = b.val / 64 then 1#1 else 0#1 := by
    pointwise [k0_pay3]
    rw [e2, e2]
    exact e3 ⟨a.val / 64, by omega⟩ ⟨b.val / 64, by omega⟩
  have h : ones (ix2 a b) = Scalar.select (k0_pay3 (ix2 a b)) (1 : EReal) 0 := by
    unfold ones
    pointwise [k0_pay4, k0_pay5]
  rw [h, e]
  unfold Scalar.select
  split <;> rfl

/-- A row's sums over heads, the row split into its rounded part and the rest. -/
def headSum (x : FVec Ideal S128x256 .f32) : FVec Ideal S128x256 .f32 :=
  addf (matmul dot_S128x256_S256x256_S128x256_1_0_0_1_n_n none (truncf .bf16 x bitsLt_bf16_f32) ones (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32) ones (constant S128x256 .f32 0x00000000#32))

theorem headSum_apply (x : FVec Ideal S128x256 .f32) (n : Fin 128) (hx : RealRow fun e => x (ix2 n e)) (e : Fin 256) :
    headSum x (ix2 n e) = ∑ j, x (ix2 n (chan (headOf e) j)) := by
  have h : headSum x (ix2 n e) = ∑ e', x (ix2 n e') * ones (ix2 e' e) + ∑ e', (x (ix2 n e') - x (ix2 n e')) * ones (ix2 e' e) := by
    pointwise [headSum]
  rw [h]
  simp only [sub_self_of_real (hx _), zero_mul, Finset.sum_const_zero, add_zero, ones_apply]
  exact sum_block (fun e => x (ix2 n e)) e

/-- The heads' means. -/
def means (x : FVec Ideal S128x256 .f32) : FVec Ideal S128x256 .f32 :=
  mulf (headSum x) (broadcast S128x256 (Scalar.ofBits .f32 0x3C800000#32))

theorem means_apply (x : FVec Ideal S128x256 .f32) (n : Fin 128) (hx : RealRow fun e => x (ix2 n e)) (e : Fin 256) :
    means x (ix2 n e) = mean (fun e => x (ix2 n e)) (headOf e) := by
  rw [mean_eq, ← headSum_apply x n hx]
  rfl

/-- The rows less their heads' means. -/
def centre (x : FVec Ideal S128x256 .f32) : FVec Ideal S128x256 .f32 := subf x (means x)

theorem centre_apply (x : FVec Ideal S128x256 .f32) (n : Fin 128) (hx : RealRow fun e => x (ix2 n e)) (e : Fin 256) :
    centre x (ix2 n e) = centred (fun e => x (ix2 n e)) e := by
  show x (ix2 n e) - means x (ix2 n e) = _
  rw [means_apply x n hx]
  rfl

/-- The recurrent branch's rows. -/
def recRows (o : FVec Ideal S128x256 .f32) (g b : FVec Ideal S1x256 .f32) (bonus gate : FVec Ideal S128x256 .f32) : FVec Ideal S128x256 .bf16 :=
  truncf .bf16 (mulf (addf (addf (mulf (mulf (centre o)
    (rsqrt (addf (means (mulf (centre o) (centre o))) (broadcast S128x256 (Scalar.ofBits .f32 0x3A27C5AC#32)))))
    (broadcastTo S128x256 (shapeCast S1x256 g shapeCasts_S1x256_S1x256) broadcasts_S1x256_S128x256))
    (broadcastTo S128x256 (shapeCast S1x256 b shapeCasts_S1x256_S1x256) broadcasts_S1x256_S128x256)) bonus) gate) bitsLt_bf16_f32

theorem pay6_eq (o : FVec Ideal S128x256 .f32) (g b : FVec Ideal S1x256 .f32) (bonus gate : FVec Ideal S128x256 .f32) :
    k0_pay6 k0_pay3 (k0_pay4 (F := Ideal)) (k0_pay5 (F := Ideal)) o g b bonus gate = recRows o g b bonus gate := rfl

theorem recRows_apply (o : FVec Ideal S128x256 .f32) (g b : FVec Ideal S1x256 .f32) (bonus gate : FVec Ideal S128x256 .f32)
    (n : Fin 128) (ho : RealRow fun e => o (ix2 n e)) (e : Fin 256) :
    recRows o g b bonus gate (ix2 n e) = recRow (fun e => o (ix2 n e)) (fun e => g (ix2 (0 : Fin 1) e)) (fun e => b (ix2 (0 : Fin 1) e))
      (fun e => bonus (ix2 n e)) (fun e => gate (ix2 n e)) e := by
  have hc : (fun e => (mulf (centre o) (centre o) : FVec Ideal S128x256 .f32) (ix2 n e)) = squares (centred fun e => o (ix2 n e)) := funext fun e => by
    show centre o (ix2 n e) * centre o (ix2 n e) = _
    rw [centre_apply o n ho]
    rfl
  have hm : means (mulf (centre o) (centre o)) (ix2 n e) = mean (squares (centred fun e => o (ix2 n e))) (headOf e) := by
    rw [means_apply _ n (by rw [hc]; exact squares_real (centred_real ho)), hc]
  have h : recRows o g b bonus gate (ix2 n e) = (centre o (ix2 n e) * Ideal.rsqrt (means (mulf (centre o) (centre o)) (ix2 n e)
      + Ideal.ofBits .f32 0x3A27C5AC#32) * g (ix2 (0 : Fin 1) e) + b (ix2 (0 : Fin 1) e) + bonus (ix2 n e)) * gate (ix2 n e) := by
    pointwise [recRows]
  rw [h, hm, centre_apply o n ho, mul_comm]
  rfl

/-- The gated attention rows. -/
theorem pay2_apply (v0 : Vec Ideal S128x1024 .f32) (v3 v8 v13 v18 : Vec Ideal S1x256x128 .bf16) (v22 : Vec Ideal S128x512 .bf16)
    (w : Fin 256 → Fin 4 → Fin 128 → EReal) (h0 : ∀ r d, v3 (ix3 (0 : Fin 1) r d) = w r 0 d) (h1 : ∀ r d, v8 (ix3 (0 : Fin 1) r d) = w r 1 d)
    (h2 : ∀ r d, v13 (ix3 (0 : Fin 1) r d) = w r 2 d) (h3 : ∀ r d, v18 (ix3 (0 : Fin 1) r d) = w r 3 d) (n : Fin 128) (e : Fin 512) :
    k0_pay2 v0 v3 v8 v13 v18 v22 (ix2 n e) = mlaRow (fun i => v0 (ix2 n i)) w (fun e => v22 (ix2 n e)) e := by
  have key : ∀ (h : Fin 4) (d : Fin 128) (y : EReal), e.val = h.val * 128 + d.val →
      y = (∑ r, v0 (ix2 n (latent h r)) * w r h d) * v22 (ix2 n e) → y = mlaRow (fun i => v0 (ix2 n i)) w (fun e => v22 (ix2 n e)) e := by
    intro h d y he hy
    have e0 : (⟨e.val / 128, by omega⟩ : Fin 4) = h := Fin.ext (by show e.val / 128 = h.val; omega)
    have e1 : (⟨e.val % 128, by omega⟩ : Fin 128) = d := Fin.ext (by show e.val % 128 = d.val; omega)
    rw [hy, mlaRow, e0, e1, mul_comm]
    unfold valueAt
    exact congrArg _ (Finset.sum_congr rfl fun r _ => mul_comm _ _)
  pointwise [k0_pay2]
  split
  next hA =>
    refine key 0 ⟨e.val, hA⟩ _ (by show e.val = 0 * 128 + e.val; omega) ?_
    simp only [h0]
    refine congrArg (· * _) (Finset.sum_congr rfl fun r _ => congrArg (· * _) (congrArg v0 (congrArg (ix2 n) (Fin.ext ?_))))
    show _ = 0 * 256 + r.val
    simp
  next hA =>
  split
  next hB =>
    refine key 1 ⟨e.val - 128, hB⟩ _ (by show e.val = 1 * 128 + (e.val - 128); omega) ?_
    simp only [h1]
    refine congrArg (· * _) (Finset.sum_congr rfl fun r _ => congrArg (· * _) (congrArg v0 (congrArg (ix2 n) (Fin.ext ?_))))
    show _ = 1 * 256 + r.val
    simp
  next hB =>
  split
  next hC =>
    refine key 2 ⟨e.val - 128 - 128, hC⟩ _ (by show e.val = 2 * 128 + (e.val - 128 - 128); omega) ?_
    simp only [h2]
    refine congrArg (· * _) (Finset.sum_congr rfl fun r _ => congrArg (· * _) (congrArg v0 (congrArg (ix2 n) (Fin.ext ?_))))
    show _ = 2 * 256 + r.val
    simp
  next hC =>
    have hD : e.val - 128 - 128 - 128 < 128 := by omega
    refine key 3 ⟨e.val - 128 - 128 - 128, hD⟩ _ (by show e.val = 3 * 128 + (e.val - 128 - 128 - 128); omega) ?_
    simp only [h3]
    refine congrArg (· * _) (Finset.sum_congr rfl fun r _ => congrArg (· * _) (congrArg v0 (congrArg (ix2 n) (Fin.ext ?_))))
    show _ = 3 * 256 + r.val
    simp

/-- One element of what the body stores, over the two branches' rows. -/
theorem pay1_apply (x0 : FVec Ideal S128x512 .bf16) (x1 : FVec Ideal S128x256 .bf16) (x2 : Vec Ideal S128x256 .bf16) (w : Vec Ideal S1024x1024 .bf16)
    (md : Vec Ideal S128x3072 .f32) (x : Vec Ideal S128x1024 .f32) (g : Vec Ideal S1x1024 .f32) (a : Fin 128) (d : Fin 1024) :
    k0_pay1 x0 x1 x2 w md x g (ix2 a d)
      = outRow (fun e => x0 (ix2 a e)) (fun e => x1 (ix2 a e)) (fun e => x2 (ix2 a e)) (fun e => x (ix2 a e))
          (fun e => md (ix2 a (⟨2048 + e.val, by omega⟩ : Fin 3072)))
          (fun e => g (ix2 (0 : Fin 1) e)) (fun e d => w (ix2 e d)) d := by
  pointwise [k0_pay1]
  rfl

theorem load0 (x : Vec Ideal S4x256x128 .bf16) (r : Fin 256) (d : Fin 128) : View.ld x r0_1 (ix3 (0 : Fin 1) r d) = x (ix3 (0 : Fin 4) r d) := by
  rw [View.ld_unit]
  pointwise

theorem load1 (x : Vec Ideal S4x256x128 .bf16) (r : Fin 256) (d : Fin 128) : View.ld x r0_2 (ix3 (0 : Fin 1) r d) = x (ix3 (1 : Fin 4) r d) := by
  rw [View.ld_unit]
  pointwise

theorem load2 (x : Vec Ideal S4x256x128 .bf16) (r : Fin 256) (d : Fin 128) : View.ld x r0_3 (ix3 (0 : Fin 1) r d) = x (ix3 (2 : Fin 4) r d) := by
  rw [View.ld_unit]
  pointwise

theorem load3 (x : Vec Ideal S4x256x128 .bf16) (r : Fin 256) (d : Fin 128) : View.ld x r0_4 (ix3 (0 : Fin 1) r d) = x (ix3 (3 : Fin 4) r d) := by
  rw [View.ld_unit]
  pointwise

/-- One element of the output's block. -/
theorem out_apply (x0 : Vec Ideal S128x1024 .f32) (x1 : Vec Ideal S128x512 .bf16) (x2 x3 x4 : Vec Ideal S128x256 .f32) (x5 : Vec Ideal S128x256 .bf16)
    (x6 : Vec Ideal S128x1024 .f32) (x7 : Vec Ideal S128x3072 .f32) (x8 : Vec Ideal S1024x1024 .bf16) (x9 : Vec Ideal S1x1024 .f32)
    (x10 x11 : Vec Ideal S1x256 .f32) (x12 : Vec Ideal S4x256x128 .bf16) (a : Fin 128) (ho : RealRow fun e => x2 (ix2 a e)) (d : Fin 1024) :
    out0_13 x0 x1 x2 x3 x4 x5 x6 x7 x8 x9 x10 x11 x12 (ix2 a d)
      = lastRow (fun i => x0 (ix2 a i)) (fun r h d => x12 (ix3 h r d)) (fun e => x1 (ix2 a e)) (fun e => x2 (ix2 a e))
          (fun e => x10 (ix2 (0 : Fin 1) e)) (fun e => x11 (ix2 (0 : Fin 1) e)) (fun e => x3 (ix2 a e)) (fun e => x4 (ix2 a e))
          (fun e => x5 (ix2 a e)) (fun e => x6 (ix2 a e)) (fun e => x7 (ix2 a (⟨2048 + e.val, by omega⟩ : Fin 3072)))
          (fun e => x9 (ix2 (0 : Fin 1) e)) (fun e d => x8 (ix2 e d)) d := by
  unfold out0_13
  have z2 : (![0, 0] : Fin 2 → ℕ) = fun _ => 0 := by decide
  rw [View.canon_unit_zero z2, View.ld_unit_zero z2, View.ld_unit_zero z2, View.ld_unit_zero z2, View.ld_unit_zero z2, View.ld_unit_zero z2,
    View.ld_unit_zero z2, View.ld_unit_zero z2, View.ld_unit_zero z2, View.ld_unit_zero z2, View.ld_unit_zero z2, View.ld_unit_zero z2,
    View.ld_unit_zero z2, pay6_eq, pay1_apply]
  unfold lastRow
  have e1 : (fun e => k0_pay2 x0 (View.ld x12 r0_1) (View.ld x12 r0_2) (View.ld x12 r0_3) (View.ld x12 r0_4) x1 (ix2 a e))
      = mlaRow (fun i => x0 (ix2 a i)) (fun r h d => x12 (ix3 h r d)) (fun e => x1 (ix2 a e)) := funext fun e =>
    pay2_apply x0 _ _ _ _ x1 (fun r h d => x12 (ix3 h r d)) (load0 x12) (load1 x12) (load2 x12) (load3 x12) a e
  have e2 : (fun e => recRows x2 x10 x11 x3 x4 (ix2 a e)) = recRow (fun e => x2 (ix2 a e)) (fun e => x10 (ix2 (0 : Fin 1) e))
      (fun e => x11 (ix2 (0 : Fin 1) e)) (fun e => x3 (ix2 a e)) (fun e => x4 (ix2 a e)) := funext fun e =>
    recRows_apply x2 x10 x11 x3 x4 a ho e
  rw [e1]
  exact congrArg (fun z => outRow _ z _ _ _ _ _ d) e2

end Cert.LastKernelIdeal.Cell

end
-- ==== Proof.LastKer.lean ====
/-
  The samples' output projection: its one block is the result array, each row the layer's row.
-/
module

public import proofs.«01_k».proof.Proof.LastCell
public import Idealize.ShloMosaic.Lib.Claim

@[expose] public section

set_option maxRecDepth 16384

noncomputable section

namespace Cert.LastKernelIdeal.Final

open Cert.LastKernelIdeal Cert.LastKernelIdeal.Gen Cert.LastKernelIdeal.Cell Idealize.ShloMosaic Idealize.ShloMosaic.TcCoe Idealize.SL.Sem
open Cert.OutMath Cert.LastMath

variable (m : (ℓ : Loc nD τ sig) → Buf (Elt Ideal) ℓ) (ρ : Dev nD → PrngReg) (c : Dev nD)

/-- The array of the layer's rows. -/
def result (lat : S128x1024.Idx → EReal) (mg : S128x512.Idx → EReal) (o bonus gate gm : S128x256.Idx → EReal)
    (x : S128x1x1024.Idx → EReal) (md : S128x3072.Idx → EReal) (w : S1024x1024.Idx → EReal) (gain : S1024.Idx → EReal)
    (g b : S256.Idx → EReal) (uv : S256x4x128.Idx → EReal) : S128x1024.Idx → EReal := fun y =>
  lastRow (fun i => lat (ix2 (y 0 : Fin 128) i)) (fun r h d => uv (ix3 r h d)) (fun e => mg (ix2 (y 0 : Fin 128) e)) (fun e => o (ix2 (y 0 : Fin 128) e))
    (fun e => g (ix1 e)) (fun e => b (ix1 e)) (fun e => bonus (ix2 (y 0 : Fin 128) e)) (fun e => gate (ix2 (y 0 : Fin 128) e))
    (fun e => gm (ix2 (y 0 : Fin 128) e)) (fun e => x (ix3 (y 0 : Fin 128) (0 : Fin 1) e))
    (fun e => md (ix2 (y 0 : Fin 128) (⟨2048 + e.val, by omega⟩ : Fin 3072))) (fun e => gain (ix1 e)) (fun e d => w (ix2 e d)) (y 1 : Fin 1024)

/-! Where the windows' blocks lie. -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0, 0] := by decide +kernel
theorem idx13 : ∀ t : Fin grid0.N, win0_13.index t = ![0, 0] := by decide +kernel

theorem block0 (t : Fin grid0.N) (n : Fin 128) (i : Fin 1024) :
    iblk m c 0 t (ix2 n i) = m ((c.tc : Thread nD τ).loc main_arg0) (ix2 n i) := by
  rw [← V_main_arg0 m c]
  blk_ext [iblk, idx0 t]

theorem block1 (t : Fin grid0.N) (n : Fin 128) (i : Fin 512) :
    iblk m c 1 t (ix2 n i) = m ((c.tc : Thread nD τ).loc main_arg1) (ix2 n i) := by
  rw [← V_main_arg1 m c]
  blk_ext [iblk, idx1 t]

theorem block2 (t : Fin grid0.N) (n : Fin 128) (i : Fin 256) :
    iblk m c 2 t (ix2 n i) = m ((c.tc : Thread nD τ).loc main_arg2) (ix2 n i) := by
  rw [← V_main_arg2 m c]
  blk_ext [iblk, idx2 t]

theorem block3 (t : Fin grid0.N) (n : Fin 128) (i : Fin 256) :
    iblk m c 3 t (ix2 n i) = m ((c.tc : Thread nD τ).loc main_arg3) (ix2 n i) := by
  rw [← V_main_arg3 m c]
  blk_ext [iblk, idx3 t]

theorem block4 (t : Fin grid0.N) (n : Fin 128) (i : Fin 256) :
    iblk m c 4 t (ix2 n i) = m ((c.tc : Thread nD τ).loc main_arg4) (ix2 n i) := by
  rw [← V_main_arg4 m c]
  blk_ext [iblk, idx4 t]

theorem block5 (t : Fin grid0.N) (n : Fin 128) (i : Fin 256) :
    iblk m c 5 t (ix2 n i) = m ((c.tc : Thread nD τ).loc main_arg5) (ix2 n i) := by
  rw [← V_main_arg5 m c]
  blk_ext [iblk, idx5 t]

theorem block6 (t : Fin grid0.N) (n : Fin 128) (i : Fin 1024) :
    iblk m c 6 t (ix2 n i) = m ((c.tc : Thread nD τ).loc main_arg6) (ix3 n (0 : Fin 1) i) := by
  have : iblk m c 6 t (ix2 n i) = V m c main_v6 (ix2 n i) := by
    blk_ext [iblk, idx6 t]
  rw [this]
  entry_read
  pointwise

theorem block7 (t : Fin grid0.N) (n : Fin 128) (i : Fin 3072) :
    iblk m c 7 t (ix2 n i) = m ((c.tc : Thread nD τ).loc main_arg7) (ix2 n i) := by
  rw [← V_main_arg7 m c]
  blk_ext [iblk, idx7 t]

theorem block8 (t : Fin grid0.N) (j i : Fin 1024) :
    iblk m c 8 t (ix2 j i) = m ((c.tc : Thread nD τ).loc main_arg8) (ix2 j i) := by
  have : iblk m c 8 t (ix2 j i) = V m c main_v0 (ix2 j i) := by
    blk_ext [iblk, idx8 t]
  rw [this]
  entry_read
  pointwise

theorem block9 (t : Fin grid0.N) (i : Fin 1024) :
    iblk m c 9 t (ix2 (0 : Fin 1) i) = m ((c.tc : Thread nD τ).loc main_arg9) (ix1 i) := by
  have : iblk m c 9 t (ix2 (0 : Fin 1) i) = V m c main_v1 (ix2 (0 : Fin 1) i) := by
    blk_ext [iblk, idx9 t]
  rw [this]
  entry_read
  pointwise

theorem block10 (t : Fin grid0.N) (i : Fin 256) :
    iblk m c 10 t (ix2 (0 : Fin 1) i) = m ((c.tc : Thread nD τ).loc main_arg10) (ix1 i) := by
  have : iblk m c 10 t (ix2 (0 : Fin 1) i) = V m c main_v2 (ix2 (0 : Fin 1) i) := by
    blk_ext [iblk, idx10 t]
  rw [this]
  entry_read
  pointwise

theorem block11 (t : Fin grid0.N) (i : Fin 256) :
    iblk m c 11 t (ix2 (0 : Fin 1) i) = m ((c.tc : Thread nD τ).loc main_arg11) (ix1 i) := by
  have : iblk m c 11 t (ix2 (0 : Fin 1) i) = V m c main_v3 (ix2 (0 : Fin 1) i) := by
    blk_ext [iblk, idx11 t]
  rw [this]
  entry_read
  pointwise

theorem block12 (t : Fin grid0.N) (h : Fin 4) (r : Fin 256) (d : Fin 128) :
    iblk m c 12 t (ix3 h r d) = m ((c.tc : Thread nD τ).loc main_arg12) (ix3 r h d) := by
  have : iblk m c 12 t (ix3 h r d) = V m c main_v5 (ix3 h r d) := by
    blk_ext [iblk, idx12 t]
  rw [this]
  entry_read
  pointwise

/-- The recurrent rows are finite. -/
def FiniteRows : Prop := ∀ n : Fin 128, RealRow fun e => m ((c.tc : Thread nD τ).loc main_arg2) (ix2 n e)

/-- One element of the block. -/
theorem block_result (hr : FiniteRows m c) (t : Fin grid0.N) (n : Fin 128) (d : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 n d)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 n d) := by
  rw [out_apply _ _ _ _ _ _ _ _ _ _ _ _ _ _ (by simp only [block2]; exact hr n)]
  simp only [block0, block1, block2, block3, block4, block5, block6, block7, block8, block9, block10, block11, block12]
  rfl

/-- The kernel's result array. -/
theorem final (hr : FiniteRows m c) : (dats m 0 c).arrAt 13 cfg0.N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 13 _ (by decide +kernel) fun t hf y => ?_
  blk_simp
  rw [after0_13]
  have hy : y = ix2 (y 0 : Fin 128) (y 1 : Fin 1024) := by
    funext a
    fin_cases a <;> rfl
  have he : (win0_13.blk t).view.emb y = ix2 (y 0 : Fin 128) (y 1 : Fin 1024) := by
    blk_ext [idx13 t]
  rw [he]
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) hy).trans ?_
  exact block_result m c hr t (y 0 : Fin 128) (y 1 : Fin 1024)

/-- The run: the result array holds the layer's rows of the arguments, which end unchanged. -/
theorem run (hr : ∀ c, FiniteRows m c) : θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (final m c (hr c)), (h c).2⟩) (Cert.LastKernelIdeal.Value.run_blocks m ρ)

end Cert.LastKernelIdeal.Final

end
-- ==== Proof.LastRef.lean ====
/-
  The reference of the samples' output projection, read element by element.
-/
module

public import proofs.«01_k».proof.Proof.Gen.LastReferenceIdeal.Run
public import proofs.«01_k».proof.Proof.LastMath

@[expose] public section

set_option maxRecDepth 16384

noncomputable section

namespace Cert.LastReferenceIdeal.RefRow

open Cert.LastReferenceIdeal Cert.LastReferenceIdeal.Gen Idealize.ShloMosaic Idealize.ShloMosaic.TcCoe Idealize.SL.Sem
open Cert.OutMath Cert.StepMath Cert.LastMath

/-- The gated attention rows. -/
def mla (lat : FVec Ideal S128x1024 .f32) (mg : FVec Ideal S128x512 .bf16) (w : FVec Ideal S256x4x128 .f32) : FVec Ideal S128x1x512 .f32 :=
  mulf (shapeCast _ (extf .f32 mg bitsLt_bf16_f32) shapeCasts_S128x512_S128x1x512)
    (shapeCast _ (transpose S128x1x4x128 [2, 3, 0, 1] (Host.dotGeneral dot_S256x4x128_S128x1x4x256_S4x128x128x1_0_3_2_01_1_2 none w
      (shapeCast _ lat shapeCasts_S128x1024_S128x1x4x256)) transposes_S4x128x128x1_S128x1x4x128_2_3_0_1) shapeCasts_S128x1x4x128_S128x1x512)

/-- The heads' means. -/
def means (x : FVec Ideal S128x1x4x64 .f32) : FVec Ideal S128x1x4x1 .f32 :=
  Host.divf (broadcastInDim S128x1x4x1 ![0, 1, 2] bcast_S128x1x4_S128x1x4x1_0_1_2
    (Host.reduceAdd x (constant S_ .f32 0x00000000#32) reducesTo_S128x1x4x64_S128x1x4_d3 h_S_))
    (broadcastInDim S128x1x4x1 ![] bcast_S_S128x1x4x1 (constant S_ .f32 0x42800000#32))

/-- One number per head, along the head. -/
def spread (x : FVec Ideal S128x1x4x1 .f32) : FVec Ideal S128x1x4x64 .f32 :=
  broadcastInDim S128x1x4x64 ![0, 1, 2, 3] bcast_S128x1x4x1_S128x1x4x64_0_1_2_3 x

/-- The recurrent rows, by heads. -/
def heads (o : FVec Ideal S128x256 .f32) : FVec Ideal S128x1x4x64 .f32 := shapeCast _ o shapeCasts_S128x256_S128x1x4x64

/-- The recurrent rows less their heads' means. -/
def centre (o : FVec Ideal S128x256 .f32) : FVec Ideal S128x1x4x64 .f32 := subf (heads o) (spread (means (heads o)))

/-- The scale of every head. -/
def scales (o : FVec Ideal S128x256 .f32) : FVec Ideal S128x1x4x1 .f32 :=
  Host.rsqrt (addf (means (mulf (centre o) (centre o))) (broadcastInDim S128x1x4x1 ![] bcast_S_S128x1x4x1 (constant S_ .f32 0x3A27C5AC#32)))

/-- A row laid along the samples. -/
def along (g : FVec Ideal S256 .f32) : FVec Ideal S128x1x256 .f32 :=
  broadcastInDim S128x1x256 ![0, 1, 2] bcast_S1x1x256_S128x1x256_0_1_2 (broadcastInDim S1x1x256 ![2] bcast_S256_S1x1x256_2 g)

/-- The recurrent branch's rows. -/
def recs (o bonus gate : FVec Ideal S128x256 .f32) (g b : FVec Ideal S256 .f32) : FVec Ideal S128x1x256 .f32 :=
  mulf (shapeCast _ gate shapeCasts_S128x256_S128x1x256)
    (addf (addf (mulf (shapeCast _ (mulf (centre o) (spread (scales o))) shapeCasts_S128x1x4x64_S128x1x256) (along g)) (along b))
      (shapeCast _ bonus shapeCasts_S128x256_S128x1x256))

/-- The mixed rows' products with the weights. -/
def dots (x0 : FVec Ideal S128x1x512 .f32) (x1 : FVec Ideal S128x1x256 .f32) (gm : FVec Ideal S128x256 .bf16) (w : FVec Ideal S1024x1024 .f32) :
    FVec Ideal S128x1x1024 .f32 :=
  Host.dotGeneral dot_S128x1x1024_S1024x1024_S128x1x1024_2_0_01_1_n_n none
    (concatenate S128x1x1024 2 [⟨S128x1x512, x0⟩, ⟨S128x1x256, x1⟩,
      ⟨S128x1x256, shapeCast _ (extf .f32 gm bitsLt_bf16_f32) shapeCasts_S128x256_S128x1x256⟩] concatenates_S128x1x512_S128x1x256_S128x1x256_S128x1x1024_d2) w

/-- The norm's scale of every row. -/
def scale (y : FVec Ideal S128x1x1024 .f32) : FVec Ideal S128x1x1 .f32 :=
  Host.rsqrt (addf (Host.divf (broadcastInDim S128x1x1 ![0, 1] bcast_S128x1_S128x1x1_0_1
    (Host.reduceAdd (mulf y y) (constant S_ .f32 0x00000000#32) reducesTo_S128x1x1024_S128x1_d2 h_S_))
      (broadcastInDim S128x1x1 ![] bcast_S_S128x1x1 (constant S_ .f32 0x44800000#32)))
    (broadcastInDim S128x1x1 ![] bcast_S_S128x1x1 (constant S_ .f32 0x358637BD#32)))

/-- The whole term over the products. -/
def whole (y : FVec Ideal S128x1x1024 .f32) (x : FVec Ideal S128x1x1024 .f32) (md : FVec Ideal S128x3072 .f32) (g : FVec Ideal S1024 .f32) :
    FVec Ideal S128x1024 .f32 :=
  shapeCast _ (addf x
    (mulf (broadcastInDim S128x1x1024 ![0, 2] bcast_S128x1024_S128x1x1024_0_2 (extractStridedSlice S128x1024 ![0, 2048] md slices_S128x3072_S128x1024_0_2048))
      (mulf (mulf y (broadcastInDim S128x1x1024 ![0, 1, 2] bcast_S128x1x1_S128x1x1024_0_1_2 (scale y)))
        (broadcastInDim S128x1x1024 ![0, 1, 2] bcast_S1x1x1024_S128x1x1024_0_1_2
          (broadcastInDim S1x1x1024 ![2] bcast_S1024_S1x1x1024_2 g))))) shapeCasts_S128x1x1024_S128x1024

theorem mla_apply (lat : FVec Ideal S128x1024 .f32) (mg : FVec Ideal S128x512 .bf16) (w : FVec Ideal S256x4x128 .f32) (n : Fin 128) (e : Fin 512) :
    mla lat mg w (ix3 n (0 : Fin 1) e) = mlaRow (fun i => lat (ix2 n i)) (fun r h d => w (ix3 r h d)) (fun e => mg (ix2 n e)) e := by
  pointwise [mla]
  rfl

theorem means_apply (x : FVec Ideal S128x1x4x64 .f32) (n : Fin 128) (h : Fin 4) :
    means x (ix4 n (0 : Fin 1) h (0 : Fin 1)) = Ideal.div (∑ j, x (ix4 n (0 : Fin 1) h j)) (Ideal.ofBits .f32 0x42800000#32) := by
  pointwise [means]

theorem spread_apply (x : FVec Ideal S128x1x4x1 .f32) (n : Fin 128) (h : Fin 4) (j : Fin 64) :
    spread x (ix4 n (0 : Fin 1) h j) = x (ix4 n (0 : Fin 1) h (0 : Fin 1)) := by
  pointwise [spread]

theorem heads_apply (o : FVec Ideal S128x256 .f32) (n : Fin 128) (h : Fin 4) (j : Fin 64) :
    heads o (ix4 n (0 : Fin 1) h j) = o (ix2 n (chan h j)) := by
  pointwise [heads]
  rfl

theorem headOf_chan (h : Fin 4) (j : Fin 64) : headOf (chan h j) = h :=
  Fin.ext (by show (h.val * 64 + j.val) / 64 = h.val; omega)

theorem centre_apply (o : FVec Ideal S128x256 .f32) (n : Fin 128) (h : Fin 4) (j : Fin 64) :
    centre o (ix4 n (0 : Fin 1) h j) = centred (fun e => o (ix2 n e)) (chan h j) := by
  show heads o (ix4 n (0 : Fin 1) h j) - spread (means (heads o)) (ix4 n (0 : Fin 1) h j) = _
  rw [spread_apply, means_apply, centred, headOf_chan]
  simp only [heads_apply]
  rfl

theorem scales_apply (o : FVec Ideal S128x256 .f32) (n : Fin 128) (h : Fin 4) :
    scales o (ix4 n (0 : Fin 1) h (0 : Fin 1)) = Ideal.rsqrt (mean (squares (centred fun e => o (ix2 n e))) h + Ideal.ofBits .f32 0x3A27C5AC#32) := by
  have e : ∀ j, (mulf (centre o) (centre o) : FVec Ideal S128x1x4x64 .f32) (ix4 n (0 : Fin 1) h j) = squares (centred fun e => o (ix2 n e)) (chan h j) :=
    fun j => by
      show centre o (ix4 n (0 : Fin 1) h j) * centre o (ix4 n (0 : Fin 1) h j) = _
      rw [centre_apply]
      rfl
  have e' : scales o (ix4 n (0 : Fin 1) h (0 : Fin 1))
      = Ideal.rsqrt (means (mulf (centre o) (centre o)) (ix4 n (0 : Fin 1) h (0 : Fin 1)) + Ideal.ofBits .f32 0x3A27C5AC#32) := rfl
  rw [e', means_apply]
  simp only [e]
  rfl

theorem along_apply (g : FVec Ideal S256 .f32) (n : Fin 128) (e : Fin 256) : along g (ix3 n (0 : Fin 1) e) = g (ix1 e) := by
  pointwise [along]

theorem recs_apply (o bonus gate : FVec Ideal S128x256 .f32) (g b : FVec Ideal S256 .f32) (n : Fin 128) (e : Fin 256) :
    recs o bonus gate g b (ix3 n (0 : Fin 1) e) = recRow (fun e => o (ix2 n e)) (fun e => g (ix1 e)) (fun e => b (ix1 e))
      (fun e => bonus (ix2 n e)) (fun e => gate (ix2 n e)) e := by
  have h : recs o bonus gate g b (ix3 n (0 : Fin 1) e) = gate (ix2 n e)
      * (centre o (ix4 n (0 : Fin 1) (headOf e) (⟨e.val % 64, by omega⟩ : Fin 64))
        * spread (scales o) (ix4 n (0 : Fin 1) (headOf e) (⟨e.val % 64, by omega⟩ : Fin 64)) * along g (ix3 n (0 : Fin 1) e) + along b (ix3 n (0 : Fin 1) e)
        + bonus (ix2 n e)) := by
    pointwise [recs]
    rfl
  have he : chan (headOf e) ⟨e.val % 64, by omega⟩ = e := Fin.ext (by show e.val / 64 * 64 + e.val % 64 = e.val; omega)
  rw [h, spread_apply, scales_apply, centre_apply, along_apply, along_apply, he]
  rfl

theorem dots_apply (x0 : FVec Ideal S128x1x512 .f32) (x1 : FVec Ideal S128x1x256 .f32) (gm : FVec Ideal S128x256 .bf16) (w : FVec Ideal S1024x1024 .f32)
    (n : Fin 128) (d : Fin 1024) :
    dots x0 x1 gm w (ix3 n (0 : Fin 1) d) = projected (fun e => x0 (ix3 n (0 : Fin 1) e)) (fun e => x1 (ix3 n (0 : Fin 1) e)) (fun e => gm (ix2 n e))
      (fun e d => w (ix2 e d)) d := by
  pointwise [dots]
  rfl

theorem scale_apply (y : FVec Ideal S128x1x1024 .f32) (n : Fin 128) :
    scale y (ix3 n (0 : Fin 1) (0 : Fin 1)) = Ideal.rsqrt (Ideal.div (∑ e, y (ix3 n (0 : Fin 1) e) * y (ix3 n (0 : Fin 1) e)) (Ideal.ofBits .f32 0x44800000#32)
      + Ideal.ofBits .f32 0x358637BD#32) := by
  pointwise [scale]

theorem whole_apply (y : FVec Ideal S128x1x1024 .f32) (x : FVec Ideal S128x1x1024 .f32) (md : FVec Ideal S128x3072 .f32) (g : FVec Ideal S1024 .f32)
    (n : Fin 128) (d : Fin 1024) :
    whole y x md g (ix2 n d) = x (ix3 n (0 : Fin 1) d) + md (ix2 n (⟨2048 + d.val, by omega⟩ : Fin 3072))
      * normed 0x44800000#32 (fun e => y (ix3 n (0 : Fin 1) e)) (fun e => g (ix1 e)) d := by
  pointwise [whole]
  rw [scale_apply]
  rfl

/-- The reference's result is the layer's row. -/
theorem res_apply (lat : FVec Ideal S128x1024 .f32) (mg : FVec Ideal S128x512 .bf16) (o bonus gate : FVec Ideal S128x256 .f32) (gm : FVec Ideal S128x256 .bf16)
    (x : FVec Ideal S128x1x1024 .f32) (md : FVec Ideal S128x3072 .f32) (w : FVec Ideal S1024x1024 .f32) (gain : FVec Ideal S1024 .f32)
    (g b : FVec Ideal S256 .f32) (uv : FVec Ideal S256x4x128 .f32) (n : Fin 128) (d : Fin 1024) :
    whole (dots (mla lat mg uv) (recs o bonus gate g b) gm w) x md gain (ix2 n d)
      = lastRow (fun i => lat (ix2 n i)) (fun r h d => uv (ix3 r h d)) (fun e => mg (ix2 n e)) (fun e => o (ix2 n e)) (fun e => g (ix1 e)) (fun e => b (ix1 e))
          (fun e => bonus (ix2 n e)) (fun e => gate (ix2 n e)) (fun e => gm (ix2 n e)) (fun e => x (ix3 n (0 : Fin 1) e))
          (fun e => md (ix2 n (⟨2048 + e.val, by omega⟩ : Fin 3072))) (fun e => gain (ix1 e)) (fun e d => w (ix2 e d)) d := by
  rw [whole_apply]
  simp only [dots_apply, mla_apply, recs_apply]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
        = whole (dots (mla (m ((c.tc : Thread nD τ).loc main_arg0)) (m ((c.tc : Thread nD τ).loc main_arg1)) (m ((c.tc : Thread nD τ).loc main_arg12)))
            (recs (m ((c.tc : Thread nD τ).loc main_arg2)) (m ((c.tc : Thread nD τ).loc main_arg3)) (m ((c.tc : Thread nD τ).loc main_arg4))
              (m ((c.tc : Thread nD τ).loc main_arg10)) (m ((c.tc : Thread nD τ).loc main_arg11)))
            (m ((c.tc : Thread nD τ).loc main_arg5)) (m ((c.tc : Thread nD τ).loc main_arg8)))
          (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (by unfold Cert.LastReferenceIdeal.Value.res_main_v60 whole scale dots recs along scales centre heads spread means mla; rfl),
    (h c).2⟩) (Cert.LastReferenceIdeal.Value.run (F := Ideal) m ρ)

end Cert.LastReferenceIdeal.RefRow

end
-- ==== Proof.LastClaims.lean ====
/-
  The claims of the samples' output projection: the frame of the reference, and the equality of the two results where the recurrent
  rows are finite.
-/
module

public import proofs.«01_k».proof.Defs
public import proofs.«01_k».proof.Proof.Gen.LastKernel.Frame
public import proofs.«01_k».proof.Proof.LastKer
public import proofs.«01_k».proof.Proof.LastRef
public import Idealize.ShloMosaic.Lib.Quiescent

@[expose] public section

set_option maxRecDepth 16384

noncomputable section

namespace Cert.LastClaims

open Idealize.ShloMosaic Idealize.ShloMosaic.TcCoe Idealize.SL.Sem
open Cert.LastMath

/-- The precondition's stated side conditions. -/
instance finiteFacts : Cert.Pre_finite_rows.Facts where
  bcast_S_S128x256 := by decide

theorem top_f32 : Ideal.ofBits .f32 0x7F800000#32 = ⊤ := by simp [Ideal.ofBits, Ideal.ieee]

/-- What the precondition says: no entry of the recurrent rows is infinite. -/
theorem real_of_pre (a0 : FVec Ideal Cert.Pre_finite_rows.S128x1024 .f32) (a1 : FVec Ideal Cert.Pre_finite_rows.S128x512 .bf16)
    (a2 a3 a4 : FVec Ideal Cert.Pre_finite_rows.S128x256 .f32) (a5 : FVec Ideal Cert.Pre_finite_rows.S128x256 .bf16)
    (a6 : FVec Ideal Cert.Pre_finite_rows.S128x1x1024 .f32) (a7 : FVec Ideal Cert.Pre_finite_rows.S128x3072 .f32)
    (a8 : FVec Ideal Cert.Pre_finite_rows.S1024x1024 .f32) (a9 : FVec Ideal Cert.Pre_finite_rows.S1024 .f32)
    (a10 a11 : FVec Ideal Cert.Pre_finite_rows.S256 .f32) (a12 : FVec Ideal Cert.Pre_finite_rows.S256x4x128 .f32)
    (h : Cert.Pre_finite_rows.fn a0 a1 a2 a3 a4 a5 a6 a7 a8 a9 a10 a11 a12 = fun _ => 1#1) (n : Fin 128) :
    RealRow fun e => a2 (ix2 n e) := by
  intro e
  have h1 : Cert.Pre_finite_rows.fn a0 a1 a2 a3 a4 a5 a6 a7 a8 a9 a10 a11 a12 (ix2 n e)
      = BitVec.ofBool (decide (max (a2 (ix2 n e) : EReal) (-a2 (ix2 n e)) < ⊤)) := by
    pointwise [Cert.Pre_finite_rows.fn]
    rw [top_f32]
    rfl
  have h2 := h1.symm.trans (congrFun h (ix2 n e))
  by_cases h0 : max (a2 (ix2 n e) : EReal) (-a2 (ix2 n e)) < ⊤
  · refine real_of_ne ⟨fun hb => ?_, fun ht => ?_⟩
    · change a2 (ix2 n e) = ⊥ at hb
      rw [hb] at h0
      simp at h0
    · change a2 (ix2 n e) = ⊤ at ht
      rw [ht] at h0
      simp at h0
  · simp only [h0, decide_false] at h2
    exact absurd h2 (by decide)

theorem frame_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.RefRow.run m ρ)

/-- Where the recurrent rows are finite the two results are equal. -/
theorem algebraic : Cert.algebraic_LastKernelIdeal_LastReferenceIdeal_pre_finite_rows := by
  intro m ρ m' ρ' hpre hagree
  refine ⟨_, Cert.LastKernelIdeal.Final.run m ρ fun c n => real_of_pre _ _ _ _ _ _ _ _ _ _ _ _ _ (hpre c) n, ?_⟩
  refine (θ_run Cert.LastReferenceIdeal.defs _ _).mono (fun _ h c => ⟨(h c).1.trans ?_, (h c).2⟩)
    (Cert.LastReferenceIdeal.RefRow.run m' ρ')
  obtain ⟨h0, h1, h2, h3, h4, h5, h6, h7, h8, h9, h10, h11, h12⟩ := hagree c
  rw [h0, h1, h2, h3, h4, h5, h6, h7, h8, h9, h10, h11, h12]
  funext i
  have hi : i = ix2 (i 0 : Fin 128) (i 1 : Fin 1024) := by funext a; fin_cases a <;> rfl
  rw [hi]
  exact Cert.LastReferenceIdeal.RefRow.res_apply _ _ _ _ _ _ _ _ _ _ _ _ _ _ _

end Cert.LastClaims

end
-- ==== Proof.AdaMath.lean ====
/-
  The modulation rows in plain formulas: each conditioning row, gated by its own logistic, times the weights, plus the bias.
-/
module

public import Idealize.ShloMosaic.Lib.Pointwise

@[expose] public section

noncomputable section

namespace Cert.AdaMath

open Idealize.ShloMosaic

/-- One entry of a modulation row. -/
def modAt (c : Fin 1024 → EReal) (w : Fin 1024 → EReal) (b : EReal) : EReal :=
  ∑ d, w d * (c d * Ideal.logistic (c d)) + b

/-- The prompts' rows, then the samples'. -/
def stacked (cp : Fin 16 → Fin 1024 → EReal) (cs : Fin 128 → Fin 1024 → EReal) (n : Fin 144) : Fin 1024 → EReal :=
  if h : n.val < 16 then cp ⟨n.val, h⟩ else cs ⟨n.val - 16, by have := n.isLt; omega⟩

end Cert.AdaMath

end
-- ==== Proof.AdaKer.lean ====
/-
  The modulation's result array: every block is written once, each entry the formula's.
-/
module

public import proofs.«01_k».proof.Proof.Gen.AdaKernelIdeal.Value
public import proofs.«01_k».proof.Proof.AdaMath
public import Idealize.ShloMosaic.Lib.Pipeline.ValueKit
public import Idealize.ShloMosaic.Lib.Claim
public import Idealize.ShloMosaic.Lib.StableHlo.RunRead

@[expose] public section

set_option maxRecDepth 16384

noncomputable section

namespace Cert.AdaKernelIdeal.Final

open Cert.AdaKernelIdeal Cert.AdaKernelIdeal.Gen Idealize.ShloMosaic Idealize.ShloMosaic.TcCoe Idealize.SL.Sem
open Cert.AdaMath

variable (m : (ℓ : Loc nD τ sig) → Buf (Elt Ideal) ℓ) (ρ : Dev nD → PrngReg) (c : Dev nD)

/-- One element of what the body stores. -/
theorem pay_apply (x0 : Vec Ideal S144x1024 .f32) (x1 : Vec Ideal S1x1024x1024 .f32) (x2 : Vec Ideal S1x1x1024 .f32) (n : Fin 144) (e : Fin 1024) :
    k0_pay1 x0 x1 x2 (ix3 (0 : Fin 1) n e)
      = modAt (fun d => x0 (ix2 n d)) (fun d => x1 (ix3 (0 : Fin 1) d e)) (x2 (ix3 (0 : Fin 1) (0 : Fin 1) e)) := by
  have h : k0_pay1 x0 x1 x2 (ix3 (0 : Fin 1) n e)
      = ∑ d, (x0 (ix2 n d) * Ideal.logistic (x0 (ix2 n d))) * x1 (ix3 (0 : Fin 1) d e) + x2 (ix3 (0 : Fin 1) (0 : Fin 1) e) := by
    pointwise [k0_pay1]
  rw [h]
  unfold modAt
  simp only [mul_comm (x1 _)]

/-- One element of the output's block. -/
theorem out_apply (x0 : Vec Ideal S144x1024 .f32) (x1 : Vec Ideal S1x1024x1024 .f32) (x2 : Vec Ideal S1x1x1024 .f32) (n : Fin 144) (e : Fin 1024) :
    out0_3 x0 x1 x2 (ix3 (0 : Fin 1) n e)
      = modAt (fun d => x0 (ix2 n d)) (fun d => x1 (ix3 (0 : Fin 1) d e)) (x2 (ix3 (0 : Fin 1) (0 : Fin 1) e)) := by
  rw [← pay_apply]
  unfold out0_3
  have z2 : (![0, 0] : Fin 2 → ℕ) = fun _ => 0 := by decide
  have z3 : (![0, 0, 0] : Fin 3 → ℕ) = fun _ => 0 := by decide
  rw [View.canon_unit_zero z3, View.ld_unit_zero z2, View.ld_unit_zero z3, View.ld_unit_zero z3]

/-- The array of modulation rows. -/
def result (cp : S16x1024.Idx → EReal) (cs : S128x1024.Idx → EReal) (w : S2x1024x3072.Idx → EReal) (b : S2x3072.Idx → EReal) :
    S2x144x3072.Idx → EReal := fun i =>
  modAt (stacked (fun n d => cp (ix2 n d)) (fun n d => cs (ix2 n d)) (i 1 : Fin 144)) (fun d => w (ix3 (i 0 : Fin 2) d (i 2 : Fin 3072)))
    (b (ix2 (i 0 : Fin 2) (i 2 : Fin 3072)))

/-- Where the windows' blocks lie. -/
theorem idx : ∀ t : Fin grid0.N, (win0_0.index t = ![0, 0] ∧ win0_1.index t = ![t.val / 3, 0, t.val % 3])
    ∧ (win0_2.index t = ![t.val / 3, 0, t.val % 3] ∧ win0_3.index t = ![t.val / 3, 0, t.val % 3]) := by decide +kernel

theorem entry0 (n : Fin 144) (d : Fin 1024) : V m c main_v0 (ix2 n d)
    = stacked (fun n d => m ((c.tc : Thread nD τ).loc main_arg0) (ix2 n d)) (fun n d => m ((c.tc : Thread nD τ).loc main_arg1) (ix2 n d)) n d := by
  show StableHlo.after hostOps0 (fun b => m (c, b)) (Proc.devRef .tc main_v0) (ix2 n d) = _
  after_reads_simp
  pointwise
  unfold stacked
  split <;> rfl

theorem block0 (t : Fin grid0.N) (n : Fin 144) (d : Fin 1024) : iblk m c 0 t (ix2 n d)
    = stacked (fun n d => m ((c.tc : Thread nD τ).loc main_arg0) (ix2 n d)) (fun n d => m ((c.tc : Thread nD τ).loc main_arg1) (ix2 n d)) n d := by
  have : iblk m c 0 t (ix2 n d) = V m c main_v0 (ix2 n d) := by
    blk_ext [iblk, (idx t).1.1]
  exact this.trans (entry0 m c n d)

/-- A grid point's layer. -/
def layer (t : Fin grid0.N) : Fin 2 := ⟨t.val / 3, by have : t.val < 6 := t.isLt; omega⟩

/-- A grid point's columns. -/
def col (t : Fin grid0.N) (e : Fin 1024) : Fin 3072 := ⟨t.val % 3 * 1024 + e.val, by omega⟩

theorem block1 (t : Fin grid0.N) (d e : Fin 1024) :
    iblk m c 1 t (ix3 (0 : Fin 1) d e) = m ((c.tc : Thread nD τ).loc main_arg2) (ix3 (layer t) d (col t e)) := by
  have hN : t.val < 6 := t.isLt
  rw [← V_main_arg2 m c]
  blk_ext [iblk, (idx t).1.2, layer, col]

theorem block2 (t : Fin grid0.N) (e : Fin 1024) :
    iblk m c 2 t (ix3 (0 : Fin 1) (0 : Fin 1) e) = m ((c.tc : Thread nD τ).loc main_arg3) (ix2 (layer t) (col t e)) := by
  have hN : t.val < 6 := t.isLt
  have : iblk m c 2 t (ix3 (0 : Fin 1) (0 : Fin 1) e) = V m c main_v1 (ix3 (layer t) (0 : Fin 1) (col t e)) := by
    blk_ext [iblk, (idx t).2.1, layer, col]
  rw [this]
  entry_read
  pointwise

/-- One element of the block a grid point leaves. -/
theorem block_result (t : Fin grid0.N) (n : Fin 144) (e : Fin 1024) :
    out0_3 (iblk m c 0 t) (iblk m c 1 t) (iblk m c 2 t) (ix3 (0 : Fin 1) n e)
      = result (m ((c.tc : Thread nD τ).loc main_arg0)) (m ((c.tc : Thread nD τ).loc main_arg1))
          (m ((c.tc : Thread nD τ).loc main_arg2)) (m ((c.tc : Thread nD τ).loc main_arg3)) (ix3 (layer t) n (col t e)) := by
  rw [out_apply]
  simp only [block0, block1, block2]
  rfl

/-- The kernel's result array. -/
theorem final : (dats m 0 c).arrAt 3 cfg0.N = result (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 3 _ (by decide +kernel) fun t hf y => ?_
  blk_simp
  rw [after0_3]
  have hN : t.val < 6 := t.isLt
  have b0 : (y 0).val < 1 := (y 0).isLt
  have hy : y = ix3 (0 : Fin 1) (y 1 : Fin 144) (y 2 : Fin 1024) := by
    funext a
    fin_cases a <;> refine Fin.ext ?_
    · show (y 0).val = 0; omega
    · rfl
    · rfl
  have he : (win0_3.blk t).view.emb y = ix3 (layer t) (y 1 : Fin 144) (col t (y 2 : Fin 1024)) := by
    rw [hy]
    blk_ext [(idx t).2.2, layer, col]
  rw [he]
  refine (congrArg (out0_3 (iblk m c 0 t) (iblk m c 1 t) (iblk m c 2 t)) hy).trans ?_
  exact block_result m c t (y 1 : Fin 144) (y 2 : Fin 1024)

/-- The run: the result array holds the modulation rows of the arguments, which end unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Cert.AdaKernelIdeal.Value.run_blocks m ρ)

end Cert.AdaKernelIdeal.Final

end
-- ==== Proof.AdaRef.lean ====
/-
  The reference of the modulation rows, read element by element.
-/
module

public import proofs.«01_k».proof.Proof.Gen.AdaReferenceIdeal.Run
public import proofs.«01_k».proof.Proof.AdaMath

@[expose] public section

set_option maxRecDepth 16384

noncomputable section

namespace Cert.AdaReferenceIdeal.RefRow

open Cert.AdaReferenceIdeal Cert.AdaReferenceIdeal.Gen Idealize.ShloMosaic Idealize.ShloMosaic.TcCoe Idealize.SL.Sem
open Cert.AdaMath

variable (cp : FVec Ideal S16x1024 .f32) (cs : FVec Ideal S128x1024 .f32) (w : FVec Ideal S2x1024x3072 .f32) (b : FVec Ideal S2x3072 .f32)

/-- The gated rows of the prompts. -/
def gateP : FVec Ideal S16x1024 .f32 :=
  mulf cp (Host.divf (broadcastInDim S16x1024 ![] bcast_S_S16x1024 (constant S_ .f32 0x3F800000#32)) (addf (broadcastInDim S16x1024 ![] bcast_S_S16x1024 (constant S_ .f32 0x3F800000#32)) (Host.exp (Host.negf cp))))

/-- The gated rows of the samples. -/
def gateS : FVec Ideal S128x1024 .f32 :=
  mulf cs (Host.divf (broadcastInDim S128x1024 ![] bcast_S_S128x1024 (constant S_ .f32 0x3F800000#32)) (addf (broadcastInDim S128x1024 ![] bcast_S_S128x1024 (constant S_ .f32 0x3F800000#32)) (Host.exp (Host.negf cs))))

/-- The prompts' modulation rows. -/
def modP : FVec Ideal S2x16x3072 .f32 :=
  addf (transpose S2x16x3072 [0, 2, 1] (Host.dotGeneral dot_S2x1024x3072_S16x1024_S2x3072x16_1_1_02_0_n_n none w (gateP cp)) transposes_S2x3072x16_S2x16x3072_0_2_1) (broadcastInDim S2x16x3072 ![0, 1, 2] bcast_S2x1x3072_S2x16x3072_0_1_2 (broadcastInDim S2x1x3072 ![0, 2] bcast_S2x3072_S2x1x3072_0_2 b))

/-- The samples' modulation rows. -/
def modS : FVec Ideal S2x128x3072 .f32 :=
  addf (transpose S2x128x3072 [0, 2, 1] (Host.dotGeneral dot_S2x1024x3072_S128x1024_S2x3072x128_1_1_02_0_n_n none w (gateS cs)) transposes_S2x3072x128_S2x128x3072_0_2_1) (broadcastInDim S2x128x3072 ![0, 1, 2] bcast_S2x1x3072_S2x128x3072_0_1_2 (broadcastInDim S2x1x3072 ![0, 2] bcast_S2x3072_S2x1x3072_0_2 b))

/-- The result. -/
def whole : FVec Ideal S2x144x3072 .f32 :=
  concatenate S2x144x3072 1 [⟨S2x16x3072, modP cp w b⟩, ⟨S2x128x3072, modS cs w b⟩] concatenates_S2x16x3072_S2x128x3072_S2x144x3072_d1

theorem gateP_apply (n : Fin 16) (d : Fin 1024) : gateP cp (ix2 n d) = cp (ix2 n d) * Ideal.logistic (cp (ix2 n d)) := by
  pointwise [gateP]
  rfl

theorem gateS_apply (n : Fin 128) (d : Fin 1024) : gateS cs (ix2 n d) = cs (ix2 n d) * Ideal.logistic (cs (ix2 n d)) := by
  pointwise [gateS]
  rfl

theorem modP_apply (l : Fin 2) (n : Fin 16) (e : Fin 3072) :
    modP cp w b (ix3 l n e) = modAt (fun d => cp (ix2 n d)) (fun d => w (ix3 l d e)) (b (ix2 l e)) := by
  unfold modAt
  simp only [← gateP_apply]
  pointwise [modP]

theorem modS_apply (l : Fin 2) (n : Fin 128) (e : Fin 3072) :
    modS cs w b (ix3 l n e) = modAt (fun d => cs (ix2 n d)) (fun d => w (ix3 l d e)) (b (ix2 l e)) := by
  unfold modAt
  simp only [← gateS_apply]
  pointwise [modS]

/-- The reference's result, entry by entry. -/
theorem whole_apply (l : Fin 2) (n : Fin 144) (e : Fin 3072) :
    whole cp cs w b (ix3 l n e) = modAt (stacked (fun n d => cp (ix2 n d)) (fun n d => cs (ix2 n d)) n) (fun d => w (ix3 l d e)) (b (ix2 l e)) := by
  pointwise [whole]
  unfold stacked
  split
  · exact modP_apply cp w b l _ e
  · exact modS_apply cs w b l _ e

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
        = whole (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold whole modP modS gateP gateS; rfl), (h c).2⟩) (Cert.AdaReferenceIdeal.Value.run (F := Ideal) m ρ)

end Cert.AdaReferenceIdeal.RefRow

end
-- ==== Proof.AdaClaims.lean ====
/-
  The modulation's claims: the frame of the reference, and the equality of the two results.
-/
module

public import proofs.«01_k».proof.Defs
public import proofs.«01_k».proof.Proof.Gen.AdaKernel.Frame
public import proofs.«01_k».proof.Proof.AdaKer
public import proofs.«01_k».proof.Proof.AdaRef
public import Idealize.ShloMosaic.Lib.Quiescent

@[expose] public section

set_option maxRecDepth 16384

noncomputable section

namespace Cert.AdaClaims

open Idealize.ShloMosaic Idealize.ShloMosaic.TcCoe Idealize.SL.Sem

theorem frame_reference : Cert.quiescent_AdaReferenceIdeal := fun m ρ _ =>
  (θ_run Cert.AdaReferenceIdeal.defs _ _).mono (fun r h => ⟨fun c => (h c).2, sem_eq_zero_of_no_sems (by decide) r.2⟩)
    (Cert.AdaReferenceIdeal.RefRow.run m ρ)

/-- The two results are equal, whatever the arguments hold. -/
theorem algebraic : Cert.algebraic_AdaKernelIdeal_AdaReferenceIdeal := by
  intro m ρ m' ρ' _ hagree
  refine ⟨_, Cert.AdaKernelIdeal.Final.run m ρ, ?_⟩
  refine (θ_run Cert.AdaReferenceIdeal.defs _ _).mono (fun _ h c => ⟨(h c).1.trans ?_, (h c).2⟩)
    (Cert.AdaReferenceIdeal.RefRow.run m' ρ')
  obtain ⟨h0, h1, h2, h3⟩ := hagree c
  rw [h0, h1, h2, h3]
  funext i
  have hi : i = ix3 (i 0 : Fin 2) (i 1 : Fin 144) (i 2 : Fin 3072) := by funext a; fin_cases a <;> rfl
  rw [hi]
  exact Cert.AdaReferenceIdeal.RefRow.whole_apply _ _ _ _ _ _ _

end Cert.AdaClaims

end
-- ==== Proof.PrepMath.lean ====
/-
  The preparation of the samples' recurrent step, in plain formulas: the row mixed with the last one, the decay and the in-context rate
  from their two low-rank products, the normalised key, the step's key and the bonus.
-/
module

public import proofs.«01_k».proof.Proof.LastMath

@[expose] public section

noncomputable section

namespace Cert.PrepMath

open Idealize.ShloMosaic Cert.StepMath Cert.LastMath

/-- The row mixed with the last one. -/
def mixRow (p prev mu : Fin 896 → EReal) (i : Fin 896) : EReal := p i + (prev i - p i) * mu i

/-- The receptance. -/
def recept (x : Fin 896 → EReal) (e : Fin 256) : EReal := x ⟨e.val, by omega⟩

/-- The key. -/
def keyRow (x : Fin 896 → EReal) (e : Fin 256) : EReal := x ⟨256 + e.val, by omega⟩

/-- The value. -/
def valRow (x : Fin 896 → EReal) (e : Fin 256) : EReal := x ⟨512 + e.val, by omega⟩

/-- The decay's low-rank product. -/
def decayDot (x : Fin 896 → EReal) (w : Fin 64 → Fin 256 → EReal) (e : Fin 256) : EReal :=
  ∑ j : Fin 64, Ideal.tanh (x ⟨768 + j.val, by omega⟩) * w j e

/-- The rate's low-rank product. -/
def rateDot (x : Fin 896 → EReal) (w : Fin 64 → Fin 256 → EReal) (e : Fin 256) : EReal :=
  ∑ j : Fin 64, x ⟨832 + j.val, by omega⟩ * w j e

/-- The logarithm of one plus the exponential. -/
def soft (z : EReal) : EReal := max z 0 + Ideal.log (1 + Ideal.exp (-max z (-z)))

/-- The decay of one channel. -/
def decayAt (y : EReal) : EReal := Ideal.exp (-Ideal.exp (-soft (-y) - Ideal.ofBits .f32 0x3F000000#32))

/-- A key divided by its head's length. -/
def unitKey (y : Fin 256 → EReal) (e : Fin 256) : EReal :=
  Ideal.div (y e) (max (Ideal.sqrt (∑ j, squares y (chan (headOf e) j))) (Ideal.ofBits .f32 0x2B8CBCCC#32))

/-- The step's key. -/
def stepKey (k a ka : Fin 256 → EReal) (e : Fin 256) : EReal := k e * (1 + (a e - 1) * ka e)

/-- Three rows' products. -/
def triple (r k w : Fin 256 → EReal) (e : Fin 256) : EReal := r e * k e * w e

/-- The bonus. -/
def bonusAt (t v : Fin 256 → EReal) (e : Fin 256) : EReal := (∑ j, t (chan (headOf e) j)) * v e

/-- The rate of every channel. -/
def rate (x : Fin 896 → EReal) (a0 : Fin 256 → EReal) (w : Fin 64 → Fin 256 → EReal) (e : Fin 256) : EReal :=
  Ideal.logistic (a0 e + rateDot x w e)

/-- The step's key from the mixed row. -/
def stepOf (x : Fin 896 → EReal) (a0 : Fin 256 → EReal) (w : Fin 64 → Fin 256 → EReal) (ka : Fin 256 → EReal) : Fin 256 → EReal :=
  stepKey (keyRow x) (rate x a0 w) ka

/-- The normalised key from the mixed row. -/
def unitOf (x : Fin 896 → EReal) (kk : Fin 256 → EReal) : Fin 256 → EReal := unitKey fun e => keyRow x e * kk e

/-- The normalised key times the rate. -/
def turnOf (x : Fin 896 → EReal) (a0 : Fin 256 → EReal) (w : Fin 64 → Fin 256 → EReal) (kk : Fin 256 → EReal) (e : Fin 256) : EReal :=
  unitOf x kk e * rate x a0 w e

/-- The decay from the mixed row. -/
def decayOf (x : Fin 896 → EReal) (w0 : Fin 256 → EReal) (w : Fin 64 → Fin 256 → EReal) (e : Fin 256) : EReal := decayAt (w0 e + decayDot x w e)

/-- The bonus from the mixed row. -/
def bonusOf (x : Fin 896 → EReal) (a0 : Fin 256 → EReal) (w : Fin 64 → Fin 256 → EReal) (ka rk : Fin 256 → EReal) : Fin 256 → EReal :=
  bonusAt (triple (recept x) (stepOf x a0 w ka) rk) (valRow x)

/-- The input of the two low-rank products, side by side. -/
def loraIn (x : Fin 896 → EReal) (l : Fin 128) : EReal :=
  if l.val < 64 then Ideal.tanh (x ⟨768 + l.val, by omega⟩) else x ⟨768 + l.val, by omega⟩

/-- Weights followed by zeros take the first half. -/
theorem sum_low (x : Fin 896 → EReal) (w : Fin 64 → Fin 256 → EReal) (u : Fin 128 → Fin 256 → EReal)
    (h : ∀ l e, u l e = if h : l.val < 64 then w ⟨l.val, h⟩ e else 0) (e : Fin 256) : ∑ l, loraIn x l * u l e = decayDot x w e := by
  have hs := Fin.sum_univ_add (a := 64) (b := 64) fun l : Fin 128 => loraIn x l * u l e
  refine hs.trans ?_
  have h2 : ∑ j : Fin 64, loraIn x (Fin.natAdd 64 j) * u (Fin.natAdd 64 j) e = 0 :=
    Finset.sum_eq_zero fun j _ => by
      rw [h]
      exact (congrArg (loraIn x (Fin.natAdd 64 j) * ·) (dif_neg (show ¬ (64 + j.val < 64) by omega))).trans (mul_zero _)
  rw [h2, add_zero]
  refine Finset.sum_congr rfl fun j _ => ?_
  rw [h]
  exact congrArg₂ (· * ·) (if_pos (show j.val < 64 from j.isLt)) (dif_pos (show j.val < 64 from j.isLt))

/-- Weights after zeros take the second half. -/
theorem sum_high (x : Fin 896 → EReal) (w : Fin 64 → Fin 256 → EReal) (u : Fin 128 → Fin 256 → EReal)
    (h : ∀ l e, u l e = if h : l.val < 64 then 0 else w ⟨l.val - 64, by omega⟩ e) (e : Fin 256) : ∑ l, loraIn x l * u l e = rateDot x w e := by
  have hs := Fin.sum_univ_add (a := 64) (b := 64) fun l : Fin 128 => loraIn x l * u l e
  refine hs.trans ?_
  have h1 : ∑ j : Fin 64, loraIn x (Fin.castAdd 64 j) * u (Fin.castAdd 64 j) e = 0 :=
    Finset.sum_eq_zero fun j _ => by
      rw [h]
      exact (congrArg (loraIn x (Fin.castAdd 64 j) * ·) (dif_pos (show j.val < 64 from j.isLt))).trans (mul_zero _)
  rw [h1, zero_add]
  refine Finset.sum_congr rfl fun j _ => ?_
  rw [h]
  refine (congrArg₂ (· * ·) (if_neg (show ¬ (64 + j.val < 64) by omega)) (dif_neg (show ¬ (64 + j.val < 64) by omega))).trans ?_
  refine congrArg₂ (· * ·) (congrArg x (Fin.ext ?_)) (congrArg (fun i => w i e) (Fin.ext ?_))
  · show 768 + (64 + j.val) = 832 + j.val
    omega
  · show 64 + j.val - 64 = j.val
    omega

theorem logistic_real (x : EReal) : ∃ r : ℝ, Ideal.logistic x = r := by
  induction x with
  | bot => exact ⟨0, by simp⟩
  | coe r => exact ⟨_, Ideal.logistic_coe r⟩
  | top => exact ⟨1, by simp⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem sub_real {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem stepKey_real {k a ka : Fin 256 → EReal} (hk : RealRow k) (ha : RealRow a) (hw : RealRow ka) : RealRow (stepKey k a ka) := fun e =>
  mul_real (hk e) (add_real ⟨1, EReal.coe_one.symm⟩ (mul_real (sub_real (ha e) ⟨1, EReal.coe_one.symm⟩) (hw e)))

theorem triple_real {r k w : Fin 256 → EReal} (hr : RealRow r) (hk : RealRow k) (hw : RealRow w) : RealRow (triple r k w) := fun e =>
  mul_real (mul_real (hr e) (hk e)) (hw e)

end Cert.PrepMath

end
-- ==== Proof.PrepCell.lean ====
/-
  One element of what the preparation of the samples' recurrent step stores.
-/
module

public import proofs.«01_k».proof.Proof.Gen.PrepKernelIdeal.Value
public import proofs.«01_k».proof.Proof.PrepMath
public import Idealize.ShloMosaic.Lib.Pipeline.ValueKit

@[expose] public section

set_option maxRecDepth 16384

noncomputable section

namespace Cert.PrepKernelIdeal.Cell

open Cert.PrepKernelIdeal Cert.PrepKernelIdeal.Gen Idealize.ShloMosaic Idealize.ShloMosaic.TcCoe Idealize.SL.Sem
open Cert.StepMath Cert.LastMath Cert.PrepMath

theorem ones_apply (a b : Fin 256) : (k0_pay14 (F := Ideal)) (ix2 a b) = (if a.val / 64 = b.val / 64 then 1 else 0 : EReal) := by
  have e2 : ∀ d : Fin 256, IntOp.shrui .vector (BitVec.ofNat 32 d.val) 6#32 = BitVec.ofNat 32 (d.val / 64) := by decide +kernel
  have e3 : ∀ x y : Fin 4, IntOp.cmpi .eq (BitVec.ofNat 32 x.val) (BitVec.ofNat 32 y.val) = if x.val = y.val then 1#1 else 0#1 := by
    decide +kernel
  have h : (k0_pay14 (F := Ideal)) (ix2 a b) = Scalar.select (IntOp.cmpi .eq (IntOp.shrui .vector (BitVec.ofNat 32 a.val) 6#32)
      (IntOp.shrui .vector (BitVec.ofNat 32 b.val) 6#32)) (1 : EReal) 0 := by
    pointwise [k0_pay14]
  have e : IntOp.cmpi .eq (BitVec.ofNat 32 (a.val / 64)) (BitVec.ofNat 32 (b.val / 64)) = if a.val / 64 = b.val / 64 then 1#1 else 0#1 :=
    e3 ⟨a.val / 64, by omega⟩ ⟨b.val / 64, by omega⟩
  rw [h, e2, e2, e]
  unfold Scalar.select
  split <;> rfl

/-- A row's sums over heads, the row split into its rounded part and the rest. -/
def headSum (x : FVec Ideal S128x256 .f32) : FVec Ideal S128x256 .f32 :=
  addf (matmul dot_S128x256_S256x256_S128x256_1_0_0_1_n_n none (truncf .bf16 x bitsLt_bf16_f32) (k0_pay14 (F := Ideal)) (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32) (k0_pay14 (F := Ideal))
      (constant S128x256 .f32 0x00000000#32))

theorem headSum_apply (x : FVec Ideal S128x256 .f32) (n : Fin 128) (y : Fin 256 → EReal) (hxy : ∀ e, x (ix2 n e) = y e) (hy : RealRow y) (e : Fin 256) :
    headSum x (ix2 n e) = ∑ j, y (chan (headOf e) j) := by
  have h : headSum x (ix2 n e) = ∑ e', x (ix2 n e') * (k0_pay14 (F := Ideal)) (ix2 e' e)
      + ∑ e', (x (ix2 n e') - x (ix2 n e')) * (k0_pay14 (F := Ideal)) (ix2 e' e) := by
    pointwise [headSum]
  rw [h]
  simp only [hxy, sub_self_of_real (hy _), zero_mul, Finset.sum_const_zero, add_zero, ones_apply]
  exact sum_block y e

theorem pay5_apply (v0 v1 : Vec Ideal S128x896 .f32) (v3 : Vec Ideal S1x896 .f32) (n : Fin 128) (i : Fin 896) :
    k0_pay5 v0 v1 v3 (ix2 n i) = mixRow (fun i => v0 (ix2 n i)) (fun i => v1 (ix2 n i)) (fun i => v3 (ix2 (0 : Fin 1) i)) i := by
  pointwise [k0_pay5]
  rfl

/-- The mixed row. -/
def mixedRow (v0 v1 : Vec Ideal S128x896 .f32) (v3 : Vec Ideal S1x896 .f32) (n : Fin 128) : Fin 896 → EReal :=
  mixRow (fun i => v0 (ix2 n i)) (fun i => v1 (ix2 n i)) (fun i => v3 (ix2 (0 : Fin 1) i))

theorem pay6_apply (v0 v1 : Vec Ideal S128x896 .f32) (v3 : Vec Ideal S1x896 .f32) (n : Fin 128) (e : Fin 256) :
    k0_pay6 v0 v1 v3 (ix2 n e) = recept (mixedRow v0 v1 v3 n) e := by
  pointwise [k0_pay6]
  exact pay5_apply v0 v1 v3 n _

theorem pay7_apply (v0 v1 : Vec Ideal S128x896 .f32) (v3 : Vec Ideal S1x896 .f32) (n : Fin 128) (e : Fin 256) :
    k0_pay7 v0 v1 v3 (ix2 n e) = keyRow (mixedRow v0 v1 v3 n) e := by
  pointwise [k0_pay7]
  exact pay5_apply v0 v1 v3 n _

theorem pay8_apply (v0 v1 : Vec Ideal S128x896 .f32) (v3 : Vec Ideal S1x896 .f32) (n : Fin 128) (e : Fin 256) :
    k0_pay8 v0 v1 v3 (ix2 n e) = valRow (mixedRow v0 v1 v3 n) e := by
  pointwise [k0_pay8]
  exact pay5_apply v0 v1 v3 n _

theorem pay9_apply (v0 v1 : Vec Ideal S128x896 .f32) (v3 : Vec Ideal S1x896 .f32) (n : Fin 128) (l : Fin 128) :
    k0_pay9 v0 v1 v3 (ix2 n l) = loraIn (mixedRow v0 v1 v3 n) l := by
  have e1 : ∀ l : Fin 128, IntOp.cmpi .slt (BitVec.ofNat 32 l.val) 64#32 = if l.val < 64 then 1#1 else 0#1 := by decide +kernel
  have h : k0_pay9 v0 v1 v3 (ix2 n l) = Scalar.select (IntOp.cmpi .slt (BitVec.ofNat 32 l.val) 64#32)
      (Ideal.tanh (k0_pay5 v0 v1 v3 (ix2 n (⟨768 + l.val, by omega⟩ : Fin 896)))) (k0_pay5 v0 v1 v3 (ix2 n (⟨768 + l.val, by omega⟩ : Fin 896))) := by
    pointwise [k0_pay9]
  rw [h, e1, pay5_apply]
  unfold Scalar.select loraIn
  split
  · simp
    rfl
  · simp
    rfl

theorem pay10_apply (v0 v1 : Vec Ideal S128x896 .f32) (v3 : Vec Ideal S1x896 .f32) (v21 : Vec Ideal S128x256 .bf16) (n : Fin 128) (e : Fin 256) :
    k0_pay10 v0 v1 v3 v21 (ix2 n e) = ∑ l, loraIn (mixedRow v0 v1 v3 n) l * v21 (ix2 l e) := by
  simp only [← pay9_apply]
  pointwise [k0_pay10]

theorem pay11_apply (v0 v1 : Vec Ideal S128x896 .f32) (v3 : Vec Ideal S1x896 .f32) (v18 : Vec Ideal S128x256 .bf16) (v24 : Vec Ideal S1x256 .f32)
    (n : Fin 128) (e : Fin 256) :
    k0_pay11 v0 v1 v3 v18 v24 (ix2 n e) = soft (-(v24 (ix2 (0 : Fin 1) e) + ∑ l, loraIn (mixedRow v0 v1 v3 n) l * v18 (ix2 l e))) := by
  simp only [← pay9_apply]
  pointwise [k0_pay11]
  simp only [soft, zero_sub]
  rfl

theorem decay_apply (v39 : FVec Ideal S128x256 .f32) (n : Fin 128) (e : Fin 256) (y : EReal) (h : v39 (ix2 n e) = soft (-y)) :
    k0_pay4 (k0_pay12 v39) (ix2 n e) = decayAt y := by
  have e' : k0_pay4 (k0_pay12 v39) (ix2 n e) = Ideal.exp (0 - Ideal.exp (0 - v39 (ix2 n e) - Ideal.ofBits .f32 0x3F000000#32)) := by
    pointwise [k0_pay4, k0_pay12]
  rw [e', h, zero_sub, zero_sub]
  rfl

theorem pay13_apply (v23 : FVec Ideal S128x256 .f32) (v47 : Vec Ideal S1x256 .f32) (n : Fin 128) (e : Fin 256) :
    k0_pay13 v23 v47 (ix2 n e) = Ideal.logistic (v47 (ix2 (0 : Fin 1) e) + v23 (ix2 n e)) := by
  pointwise [k0_pay13]

theorem pay15_apply (v9 : FVec Ideal S128x256 .f32) (v63 : Vec Ideal S1x256 .f32) (n : Fin 128)
    (hy : RealRow fun e => v9 (ix2 n e) * v63 (ix2 (0 : Fin 1) e)) (e : Fin 256) :
    k0_pay15 v9 v63 (ix2 n e) = unitKey (fun e => v9 (ix2 n e) * v63 (ix2 (0 : Fin 1) e)) e := by
  have e1 : ∀ e, (mulf v9 (broadcastTo S128x256 (shapeCast S1x256 v63 shapeCasts_S1x256_S1x256) broadcasts_S1x256_S128x256) : FVec Ideal S128x256 .f32) (ix2 n e)
      = v9 (ix2 n e) * v63 (ix2 (0 : Fin 1) e) := fun e => by pointwise
  generalize hk : (mulf v9 (broadcastTo S128x256 (shapeCast S1x256 v63 shapeCasts_S1x256_S1x256) broadcasts_S1x256_S128x256) : FVec Ideal S128x256 .f32) = k at e1
  have h : k0_pay15 v9 v63 (ix2 n e)
      = Ideal.div (k (ix2 n e)) (max (Ideal.sqrt (headSum (mulf k k) (ix2 n e))) (Ideal.ofBits .f32 0x2B8CBCCC#32)) := by
    rw [← hk]
    rfl
  rw [h, headSum_apply (mulf k k) n (squares fun e => v9 (ix2 n e) * v63 (ix2 (0 : Fin 1) e))
    (fun e => by show k (ix2 n e) * k (ix2 n e) = _; rw [e1]; rfl) (squares_real hy), e1]
  rfl

theorem pay1_apply (v9 : FVec Ideal S128x256 .f32) (v23 : FVec Ideal S128x256 .f32) (v47 v81 : Vec Ideal S1x256 .f32) (n : Fin 128) (e : Fin 256) :
    k0_pay1 v9 (k0_pay16 v23 v47) (k0_pay17 v81) (ix2 n e) = stepKey (fun e => v9 (ix2 n e)) (fun e => k0_pay13 v23 v47 (ix2 n e))
      (fun e => v81 (ix2 (0 : Fin 1) e)) e := by
  pointwise [k0_pay1, k0_pay16, k0_pay17]
  rfl

theorem pay2_apply (v8 v9 v10 : FVec Ideal S128x256 .f32) (v80 : FVec Ideal S128x256 .f32) (v82 : FVec Ideal S1x256 .f32) (v89 : Vec Ideal S1x256 .f32)
    (n : Fin 128) (ht : RealRow (triple (fun e => v8 (ix2 n e)) (fun e => k0_pay1 v9 v80 v82 (ix2 n e)) (fun e => v89 (ix2 (0 : Fin 1) e)))) (e : Fin 256) :
    k0_pay2 v8 v9 v10 (k0_pay14 (F := Ideal)) v80 v82 v89 (ix2 n e)
      = bonusAt (triple (fun e => v8 (ix2 n e)) (fun e => k0_pay1 v9 v80 v82 (ix2 n e)) (fun e => v89 (ix2 (0 : Fin 1) e))) (fun e => v10 (ix2 n e)) e := by
  have e1 : ∀ e, (mulf (mulf v8 (k0_pay1 v9 v80 v82)) (broadcastTo S128x256 (shapeCast S1x256 v89 shapeCasts_S1x256_S1x256) broadcasts_S1x256_S128x256)
      : FVec Ideal S128x256 .f32) (ix2 n e) = triple (fun e => v8 (ix2 n e)) (fun e => k0_pay1 v9 v80 v82 (ix2 n e)) (fun e => v89 (ix2 (0 : Fin 1) e)) e :=
    fun e => by
      pointwise
      rfl
  have h : k0_pay2 v8 v9 v10 (k0_pay14 (F := Ideal)) v80 v82 v89 (ix2 n e)
      = headSum (mulf (mulf v8 (k0_pay1 v9 v80 v82)) (broadcastTo S128x256 (shapeCast S1x256 v89 shapeCasts_S1x256_S1x256) broadcasts_S1x256_S128x256)) (ix2 n e)
        * v10 (ix2 n e) := rfl
  rw [h, headSum_apply _ n _ e1 ht]
  rfl

theorem z2 : (![0, 0] : Fin 2 → ℕ) = fun _ => 0 := by decide

section Blocks

variable (x0 x1 : Vec Ideal S128x896 .f32) (x2 : Vec Ideal S1x896 .f32) (x3 : Vec Ideal S1x256 .f32) (x4 : Vec Ideal S128x256 .bf16)
  (x5 : Vec Ideal S1x256 .f32) (x6 : Vec Ideal S128x256 .bf16) (x7 x8 x9 : Vec Ideal S1x256 .f32) (n : Fin 128) (e : Fin 256)

/-- The first block of rows. -/
theorem out10_apply : out0_10 x0 x1 x2 x3 x4 x5 x6 x7 x8 x9 (ix2 n e) = recept (mixedRow x0 x1 x2 n) e := by
  unfold out0_10 k0_pay18
  rw [View.canon_unit_zero z2]
  repeat rw [View.ld_unit_zero z2]
  exact pay6_apply x0 x1 x2 n e

theorem out12_apply : out0_12 x0 x1 x2 x3 x4 x5 x6 x7 x8 x9 (ix2 n e) = valRow (mixedRow x0 x1 x2 n) e := by
  unfold out0_12 k0_pay20
  rw [View.canon_unit_zero z2]
  repeat rw [View.ld_unit_zero z2]
  exact pay8_apply x0 x1 x2 n e

theorem rate_apply (wa : Fin 64 → Fin 256 → EReal) (hu : ∀ l e, x6 (ix2 l e) = if h : l.val < 64 then 0 else wa ⟨l.val - 64, by omega⟩ e) :
    k0_pay13 (k0_pay10 x0 x1 x2 x6) x5 (ix2 n e) = rate (mixedRow x0 x1 x2 n) (fun e => x5 (ix2 (0 : Fin 1) e)) wa e := by
  rw [pay13_apply, pay10_apply, sum_high _ wa (fun l e => x6 (ix2 l e)) hu]
  rfl

theorem step_apply (wa : Fin 64 → Fin 256 → EReal) (hu : ∀ l e, x6 (ix2 l e) = if h : l.val < 64 then 0 else wa ⟨l.val - 64, by omega⟩ e) :
    k0_pay1 (k0_pay7 x0 x1 x2) (k0_pay16 (k0_pay10 x0 x1 x2 x6) x5) (k0_pay17 x8) (ix2 n e)
      = stepOf (mixedRow x0 x1 x2 n) (fun e => x5 (ix2 (0 : Fin 1) e)) wa (fun e => x8 (ix2 (0 : Fin 1) e)) e := by
  rw [pay1_apply]
  simp only [pay7_apply, rate_apply x0 x1 x2 x5 x6 n _ wa hu]
  rfl

theorem unit_apply (hy : RealRow fun e => keyRow (mixedRow x0 x1 x2 n) e * x7 (ix2 (0 : Fin 1) e)) :
    k0_pay15 (k0_pay7 x0 x1 x2) x7 (ix2 n e) = unitOf (mixedRow x0 x1 x2 n) (fun e => x7 (ix2 (0 : Fin 1) e)) e := by
  rw [pay15_apply _ _ n (by simp only [pay7_apply]; exact hy)]
  simp only [pay7_apply]
  rfl

theorem out11_apply (wa : Fin 64 → Fin 256 → EReal) (hu : ∀ l e, x6 (ix2 l e) = if h : l.val < 64 then 0 else wa ⟨l.val - 64, by omega⟩ e) :
    out0_11 x0 x1 x2 x3 x4 x5 x6 x7 x8 x9 (ix2 n e)
      = stepOf (mixedRow x0 x1 x2 n) (fun e => x5 (ix2 (0 : Fin 1) e)) wa (fun e => x8 (ix2 (0 : Fin 1) e)) e := by
  unfold out0_11 k0_pay19 k0_pay23 k0_pay21 k0_pay24
  rw [View.canon_unit_zero z2]
  repeat rw [View.ld_unit_zero z2]
  exact step_apply x0 x1 x2 x5 x6 x8 n e wa hu

theorem out13_apply (hy : RealRow fun e => keyRow (mixedRow x0 x1 x2 n) e * x7 (ix2 (0 : Fin 1) e)) :
    out0_13 x0 x1 x2 x3 x4 x5 x6 x7 x8 x9 (ix2 n e) = unitOf (mixedRow x0 x1 x2 n) (fun e => x7 (ix2 (0 : Fin 1) e)) e := by
  unfold out0_13 k0_pay22 k0_pay19
  rw [View.canon_unit_zero z2]
  repeat rw [View.ld_unit_zero z2]
  exact unit_apply x0 x1 x2 x7 n e hy

theorem out14_apply (wa : Fin 64 → Fin 256 → EReal) (hu : ∀ l e, x6 (ix2 l e) = if h : l.val < 64 then 0 else wa ⟨l.val - 64, by omega⟩ e)
    (hy : RealRow fun e => keyRow (mixedRow x0 x1 x2 n) e * x7 (ix2 (0 : Fin 1) e)) :
    out0_14 x0 x1 x2 x3 x4 x5 x6 x7 x8 x9 (ix2 n e)
      = turnOf (mixedRow x0 x1 x2 n) (fun e => x5 (ix2 (0 : Fin 1) e)) wa (fun e => x7 (ix2 (0 : Fin 1) e)) e := by
  unfold out0_14 k0_pay21 k0_pay22 k0_pay19
  rw [View.canon_unit_zero z2]
  repeat rw [View.ld_unit_zero z2]
  show k0_pay15 (k0_pay7 x0 x1 x2) x7 (ix2 n e) * k0_pay13 (k0_pay10 x0 x1 x2 x6) x5 (ix2 n e) = _
  rw [unit_apply x0 x1 x2 x7 n e hy, rate_apply x0 x1 x2 x5 x6 n e wa hu]
  rfl

theorem out15_apply (wd : Fin 64 → Fin 256 → EReal) (hd : ∀ l e, x4 (ix2 l e) = if h : l.val < 64 then wd ⟨l.val, h⟩ e else 0) :
    out0_15 x0 x1 x2 x3 x4 x5 x6 x7 x8 x9 (ix2 n e) = decayOf (mixedRow x0 x1 x2 n) (fun e => x3 (ix2 (0 : Fin 1) e)) wd e := by
  unfold out0_15
  rw [View.canon_unit_zero z2]
  repeat rw [View.ld_unit_zero z2]
  refine decay_apply _ n e _ ?_
  rw [pay11_apply, sum_low _ wd (fun l e => x4 (ix2 l e)) hd]

theorem out16_apply (wa : Fin 64 → Fin 256 → EReal) (hu : ∀ l e, x6 (ix2 l e) = if h : l.val < 64 then 0 else wa ⟨l.val - 64, by omega⟩ e)
    (ht : RealRow (triple (recept (mixedRow x0 x1 x2 n))
      (stepOf (mixedRow x0 x1 x2 n) (fun e => x5 (ix2 (0 : Fin 1) e)) wa (fun e => x8 (ix2 (0 : Fin 1) e))) fun e => x9 (ix2 (0 : Fin 1) e))) :
    out0_16 x0 x1 x2 x3 x4 x5 x6 x7 x8 x9 (ix2 n e)
      = bonusOf (mixedRow x0 x1 x2 n) (fun e => x5 (ix2 (0 : Fin 1) e)) wa (fun e => x8 (ix2 (0 : Fin 1) e)) (fun e => x9 (ix2 (0 : Fin 1) e)) e := by
  unfold out0_16 k0_pay18 k0_pay19 k0_pay20 k0_pay23 k0_pay21 k0_pay24
  rw [View.canon_unit_zero z2]
  repeat rw [View.ld_unit_zero z2]
  refine (pay2_apply (k0_pay6 x0 x1 x2) (k0_pay7 x0 x1 x2) (k0_pay8 x0 x1 x2) (k0_pay16 (k0_pay10 x0 x1 x2 x6) x5) (k0_pay17 x8) x9 n ?_ e).trans ?_
  · simp only [pay6_apply, step_apply x0 x1 x2 x5 x6 x8 n _ wa hu]
    exact ht
  · simp only [pay6_apply, pay8_apply, step_apply x0 x1 x2 x5 x6 x8 n _ wa hu]
    rfl

end Blocks

end Cert.PrepKernelIdeal.Cell

end
-- ==== Proof.PrepKer.lean ====
/-
  The preparation of the samples' recurrent step: each of its seven blocks is the whole result array.
-/
module

public import proofs.«01_k».proof.Proof.PrepCell
public import Idealize.ShloMosaic.Lib.Claim

@[expose] public section

set_option maxRecDepth 16384

noncomputable section

namespace Cert.PrepKernelIdeal.Final

open Cert.PrepKernelIdeal Cert.PrepKernelIdeal.Gen Cert.PrepKernelIdeal.Cell Idealize.ShloMosaic Idealize.ShloMosaic.TcCoe Idealize.SL.Sem
open Cert.StepMath Cert.LastMath Cert.PrepMath

variable (m : (ℓ : Loc nD τ sig) → Buf (Elt Ideal) ℓ) (ρ : Dev nD → PrngReg) (c : Dev nD)

section Results

variable (p prev : S128x896.Idx → EReal) (mu : S896.Idx → EReal) (w0 a0 kk ka : S256.Idx → EReal) (wd wa : S64x256.Idx → EReal) (rk : S4x64.Idx → EReal)

/-- The mixed row of one sample. -/
def rowOf (n : Fin 128) : Fin 896 → EReal := mixRow (fun i => p (ix2 n i)) (fun i => prev (ix2 n i)) (fun i => mu (ix1 i))

/-- The bonus weights side by side. -/
def sideBySide (e : Fin 256) : EReal := rk (ix2 (headOf e) (⟨e.val % 64, by omega⟩ : Fin 64))

/-- Weights followed by zeros. -/
def zerosAfter (l : Fin 128) (e : Fin 256) : EReal := if h : l.val < 64 then wd (ix2 (⟨l.val, h⟩ : Fin 64) e) else 0

/-- Weights after zeros. -/
def zerosBefore (l : Fin 128) (e : Fin 256) : EReal := if h : l.val < 64 then 0 else wa (ix2 (⟨l.val - 64, by omega⟩ : Fin 64) e)

/-- The receptances. -/
def resR : S128x256.Idx → EReal := fun y => recept (rowOf p prev mu (y 0 : Fin 128)) (y 1 : Fin 256)

/-- The step's keys. -/
def resK : S128x256.Idx → EReal := fun y =>
  stepOf (rowOf p prev mu (y 0 : Fin 128)) (fun e => a0 (ix1 e)) (fun j e => wa (ix2 j e)) (fun e => ka (ix1 e)) (y 1 : Fin 256)

/-- The values. -/
def resV : S128x256.Idx → EReal := fun y => valRow (rowOf p prev mu (y 0 : Fin 128)) (y 1 : Fin 256)

/-- The normalised keys. -/
def resU : S128x256.Idx → EReal := fun y => unitOf (rowOf p prev mu (y 0 : Fin 128)) (fun e => kk (ix1 e)) (y 1 : Fin 256)

/-- The normalised keys times the rates. -/
def resB : S128x256.Idx → EReal := fun y =>
  turnOf (rowOf p prev mu (y 0 : Fin 128)) (fun e => a0 (ix1 e)) (fun j e => wa (ix2 j e)) (fun e => kk (ix1 e)) (y 1 : Fin 256)

/-- The decays. -/
def resD : S128x256.Idx → EReal := fun y =>
  decayOf (rowOf p prev mu (y 0 : Fin 128)) (fun e => w0 (ix1 e)) (fun j e => wd (ix2 j e)) (y 1 : Fin 256)

/-- The bonuses. -/
def resO : S128x256.Idx → EReal := fun y =>
  bonusOf (rowOf p prev mu (y 0 : Fin 128)) (fun e => a0 (ix1 e)) (fun j e => wa (ix2 j e)) (fun e => ka (ix1 e)) (sideBySide rk) (y 1 : Fin 256)

end Results

/-! Where the windows' blocks lie. -/

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![0, 0] := by decide +kernel

theorem block0 (t : Fin grid0.N) (n : Fin 128) (i : Fin 896) : iblk m c 0 t (ix2 n i) = m ((c.tc : Thread nD τ).loc main_arg0) (ix2 n i) := by
  rw [← V_main_arg0 m c]
  blk_ext [iblk, idx0 t]

theorem block1 (t : Fin grid0.N) (n : Fin 128) (i : Fin 896) : iblk m c 1 t (ix2 n i) = m ((c.tc : Thread nD τ).loc main_arg1) (ix2 n i) := by
  rw [← V_main_arg1 m c]
  blk_ext [iblk, idx1 t]

theorem block2 (t : Fin grid0.N) (i : Fin 896) : iblk m c 2 t (ix2 (0 : Fin 1) i) = m ((c.tc : Thread nD τ).loc main_arg2) (ix1 i) := by
  have : iblk m c 2 t (ix2 (0 : Fin 1) i) = V m c main_v1 (ix2 (0 : Fin 1) i) := by
    blk_ext [iblk, idx2 t]
  rw [this]
  entry_read
  pointwise

theorem block3 (t : Fin grid0.N) (i : Fin 256) : iblk m c 3 t (ix2 (0 : Fin 1) i) = m ((c.tc : Thread nD τ).loc main_arg3) (ix1 i) := by
  have : iblk m c 3 t (ix2 (0 : Fin 1) i) = V m c main_v2 (ix2 (0 : Fin 1) i) := by
    blk_ext [iblk, idx3 t]
  rw [this]
  entry_read
  pointwise

theorem block5 (t : Fin grid0.N) (i : Fin 256) : iblk m c 5 t (ix2 (0 : Fin 1) i) = m ((c.tc : Thread nD τ).loc main_arg5) (ix1 i) := by
  have : iblk m c 5 t (ix2 (0 : Fin 1) i) = V m c main_v3 (ix2 (0 : Fin 1) i) := by
    blk_ext [iblk, idx5 t]
  rw [this]
  entry_read
  pointwise

theorem block7 (t : Fin grid0.N) (i : Fin 256) : iblk m c 7 t (ix2 (0 : Fin 1) i) = m ((c.tc : Thread nD τ).loc main_arg7) (ix1 i) := by
  have : iblk m c 7 t (ix2 (0 : Fin 1) i) = V m c main_v8 (ix2 (0 : Fin 1) i) := by
    blk_ext [iblk, idx7 t]
  rw [this]
  entry_read
  pointwise

theorem block8 (t : Fin grid0.N) (i : Fin 256) : iblk m c 8 t (ix2 (0 : Fin 1) i) = m ((c.tc : Thread nD τ).loc main_arg8) (ix1 i) := by
  have : iblk m c 8 t (ix2 (0 : Fin 1) i) = V m c main_v9 (ix2 (0 : Fin 1) i) := by
    blk_ext [iblk, idx8 t]
  rw [this]
  entry_read
  pointwise

theorem block9 (t : Fin grid0.N) (e : Fin 256) : iblk m c 9 t (ix2 (0 : Fin 1) e) = sideBySide (m ((c.tc : Thread nD τ).loc main_arg9)) e := by
  have : iblk m c 9 t (ix2 (0 : Fin 1) e) = V m c main_v10 (ix2 (0 : Fin 1) e) := by
    blk_ext [iblk, idx9 t]
  rw [this, sideBySide]
  entry_read
  pointwise
  rfl

/-- The decay's weights are followed by zeros. -/
theorem block4 (t : Fin grid0.N) (l : Fin 128) (e : Fin 256) :
    iblk m c 4 t (ix2 l e) = zerosAfter (m ((c.tc : Thread nD τ).loc main_arg4)) l e := by
  have : iblk m c 4 t (ix2 l e) = V m c main_v5 (ix2 l e) := by
    blk_ext [iblk, idx4 t]
  rw [this, zerosAfter]
  entry_read
  pointwise

/-- The rate's weights come after zeros. -/
theorem block6 (t : Fin grid0.N) (l : Fin 128) (e : Fin 256) :
    iblk m c 6 t (ix2 l e) = zerosBefore (m ((c.tc : Thread nD τ).loc main_arg6)) l e := by
  have : iblk m c 6 t (ix2 l e) = V m c main_v7 (ix2 l e) := by
    blk_ext [iblk, idx6 t]
  rw [this, zerosBefore]
  entry_read
  pointwise

/-- The rows and the weights that the head sums meet are finite. -/
structure FiniteArrays (p prev : S128x896.Idx → EReal) (mu : S896.Idx → EReal) (kk ka : S256.Idx → EReal) (rk : S4x64.Idx → EReal) : Prop where
  p : ∀ (n : Fin 128) (i : Fin 512), ∃ r : ℝ, p (ix2 n (⟨i.val, by omega⟩ : Fin 896)) = r
  prev : ∀ (n : Fin 128) (i : Fin 512), ∃ r : ℝ, prev (ix2 n (⟨i.val, by omega⟩ : Fin 896)) = r
  mu : ∀ i : Fin 512, ∃ r : ℝ, mu (ix1 (⟨i.val, by omega⟩ : Fin 896)) = r
  kk : ∀ e : Fin 256, ∃ r : ℝ, kk (ix1 e) = r
  ka : ∀ e : Fin 256, ∃ r : ℝ, ka (ix1 e) = r
  rk : ∀ e : Fin 256, ∃ r : ℝ, sideBySide rk e = r

/-- The arguments are. -/
def Finite : Prop := FiniteArrays (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))

theorem row_eq (t : Fin grid0.N) (n : Fin 128) :
    mixedRow (iblk m c 0 t) (iblk m c 1 t) (iblk m c 2 t) n = rowOf (m ((c.tc : Thread nD τ).loc main_arg0)) (m ((c.tc : Thread nD τ).loc main_arg1)) (m ((c.tc : Thread nD τ).loc main_arg2)) n := by
  unfold mixedRow
  simp only [block0, block1, block2]
  rfl

/-- The mixed row's receptance and key are real numbers. -/
theorem row_real (hf : Finite m c) (n : Fin 128) (i : Fin 512) : ∃ r : ℝ, rowOf (m ((c.tc : Thread nD τ).loc main_arg0)) (m ((c.tc : Thread nD τ).loc main_arg1)) (m ((c.tc : Thread nD τ).loc main_arg2)) n (⟨i.val, by omega⟩ : Fin 896) = r :=
  add_real (hf.p n i) (mul_real (sub_real (hf.prev n i) (hf.p n i)) (hf.mu i))

theorem recept_real (hf : Finite m c) (n : Fin 128) : RealRow (recept (rowOf (m ((c.tc : Thread nD τ).loc main_arg0)) (m ((c.tc : Thread nD τ).loc main_arg1)) (m ((c.tc : Thread nD τ).loc main_arg2)) n)) := fun e =>
  row_real m c hf n (⟨e.val, by omega⟩ : Fin 512)

theorem key_real (hf : Finite m c) (n : Fin 128) : RealRow (keyRow (rowOf (m ((c.tc : Thread nD τ).loc main_arg0)) (m ((c.tc : Thread nD τ).loc main_arg1)) (m ((c.tc : Thread nD τ).loc main_arg2)) n)) := fun e =>
  row_real m c hf n (⟨256 + e.val, by omega⟩ : Fin 512)

theorem unit_real (hf : Finite m c) (n : Fin 128) :
    RealRow fun e => keyRow (rowOf (m ((c.tc : Thread nD τ).loc main_arg0)) (m ((c.tc : Thread nD τ).loc main_arg1)) (m ((c.tc : Thread nD τ).loc main_arg2)) n) e * m ((c.tc : Thread nD τ).loc main_arg7) (ix1 e) := fun e =>
  mul_real (key_real m c hf n e) (hf.kk e)

theorem bonus_real (hf : Finite m c) (n : Fin 128) (a0 : Fin 256 → EReal) (wa : Fin 64 → Fin 256 → EReal) :
    RealRow (triple (recept (rowOf (m ((c.tc : Thread nD τ).loc main_arg0)) (m ((c.tc : Thread nD τ).loc main_arg1)) (m ((c.tc : Thread nD τ).loc main_arg2)) n))
      (stepOf (rowOf (m ((c.tc : Thread nD τ).loc main_arg0)) (m ((c.tc : Thread nD τ).loc main_arg1)) (m ((c.tc : Thread nD τ).loc main_arg2)) n) a0 wa fun e => m ((c.tc : Thread nD τ).loc main_arg8) (ix1 e)) (sideBySide (m ((c.tc : Thread nD τ).loc main_arg9)))) :=
  triple_real (recept_real m c hf n) (stepKey_real (key_real m c hf n) (fun _ => logistic_real _) hf.ka) hf.rk

theorem block_resR (t : Fin grid0.N) (n : Fin 128) (e : Fin 256) :
    out0_10 (iblk m c 0 t) (iblk m c 1 t) (iblk m c 2 t) (iblk m c 3 t) (iblk m c 4 t) (iblk m c 5 t) (iblk m c 6 t) (iblk m c 7 t) (iblk m c 8 t) (iblk m c 9 t) (ix2 n e) = resR (m ((c.tc : Thread nD τ).loc main_arg0)) (m ((c.tc : Thread nD τ).loc main_arg1)) (m ((c.tc : Thread nD τ).loc main_arg2)) (ix2 n e) := by
  rw [out10_apply _ _ _ _ _ _ _ _ _ _ n e, row_eq]
  rfl

theorem final_resR : (dats m 0 c).arrAt 10 cfg0.N = resR (m ((c.tc : Thread nD τ).loc main_arg0)) (m ((c.tc : Thread nD τ).loc main_arg1)) (m ((c.tc : Thread nD τ).loc main_arg2)) := by
  refine (dats m 0 c).arrAt_eq_of_covers 10 _ (by decide +kernel) fun t hf' y => ?_
  blk_simp
  rw [after0_10]
  have hy : y = ix2 (y 0 : Fin 128) (y 1 : Fin 256) := by
    funext a
    fin_cases a <;> rfl
  have he : (win0_10.blk t).view.emb y = ix2 (y 0 : Fin 128) (y 1 : Fin 256) := by
    blk_ext [idx10 t]
  rw [he]
  refine (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resR m c t (y 0 : Fin 128) (y 1 : Fin 256)

theorem block_resK (t : Fin grid0.N) (n : Fin 128) (e : Fin 256) :
    out0_11 (iblk m c 0 t) (iblk m c 1 t) (iblk m c 2 t) (iblk m c 3 t) (iblk m c 4 t) (iblk m c 5 t) (iblk m c 6 t) (iblk m c 7 t) (iblk m c 8 t) (iblk m c 9 t) (ix2 n e) = resK (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6)) (ix2 n e) := by
  rw [out11_apply _ _ _ _ _ _ _ _ _ _ n e (fun j e => m ((c.tc : Thread nD τ).loc main_arg6) (ix2 j e)) (block6 m c t), row_eq]
  simp only [block5, block8]
  rfl

theorem final_resK : (dats m 0 c).arrAt 11 cfg0.N = resK (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6)) := by
  refine (dats m 0 c).arrAt_eq_of_covers 11 _ (by decide +kernel) fun t hf' y => ?_
  blk_simp
  rw [after0_11]
  have hy : y = ix2 (y 0 : Fin 128) (y 1 : Fin 256) := by
    funext a
    fin_cases a <;> rfl
  have he : (win0_11.blk t).view.emb y = ix2 (y 0 : Fin 128) (y 1 : Fin 256) := by
    blk_ext [idx11 t]
  rw [he]
  refine (congrArg (out0_11 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resK m c t (y 0 : Fin 128) (y 1 : Fin 256)

theorem block_resV (t : Fin grid0.N) (n : Fin 128) (e : Fin 256) :
    out0_12 (iblk m c 0 t) (iblk m c 1 t) (iblk m c 2 t) (iblk m c 3 t) (iblk m c 4 t) (iblk m c 5 t) (iblk m c 6 t) (iblk m c 7 t) (iblk m c 8 t) (iblk m c 9 t) (ix2 n e) = resV (m ((c.tc : Thread nD τ).loc main_arg0)) (m ((c.tc : Thread nD τ).loc main_arg1)) (m ((c.tc : Thread nD τ).loc main_arg2)) (ix2 n e) := by
  rw [out12_apply _ _ _ _ _ _ _ _ _ _ n e, row_eq]
  rfl

theorem final_resV : (dats m 0 c).arrAt 12 cfg0.N = resV (m ((c.tc : Thread nD τ).loc main_arg0)) (m ((c.tc : Thread nD τ).loc main_arg1)) (m ((c.tc : Thread nD τ).loc main_arg2)) := by
  refine (dats m 0 c).arrAt_eq_of_covers 12 _ (by decide +kernel) fun t hf' y => ?_
  blk_simp
  rw [after0_12]
  have hy : y = ix2 (y 0 : Fin 128) (y 1 : Fin 256) := by
    funext a
    fin_cases a <;> rfl
  have he : (win0_12.blk t).view.emb y = ix2 (y 0 : Fin 128) (y 1 : Fin 256) := by
    blk_ext [idx12 t]
  rw [he]
  refine (congrArg (out0_12 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resV m c t (y 0 : Fin 128) (y 1 : Fin 256)

theorem block_resU (hf : Finite m c) (t : Fin grid0.N) (n : Fin 128) (e : Fin 256) :
    out0_13 (iblk m c 0 t) (iblk m c 1 t) (iblk m c 2 t) (iblk m c 3 t) (iblk m c 4 t) (iblk m c 5 t) (iblk m c 6 t) (iblk m c 7 t) (iblk m c 8 t) (iblk m c 9 t) (ix2 n e) = resU (m ((c.tc : Thread nD τ).loc main_arg0)) (m ((c.tc : Thread nD τ).loc main_arg1)) (m ((c.tc : Thread nD τ).loc main_arg2)) (m ((c.tc : Thread nD τ).loc main_arg7)) (ix2 n e) := by
  rw [out13_apply _ _ _ _ _ _ _ _ _ _ n e (by rw [row_eq]; simp only [block7]; exact unit_real m c hf n), row_eq]
  simp only [block7]
  rfl

theorem final_resU (hf : Finite m c) : (dats m 0 c).arrAt 13 cfg0.N = resU (m ((c.tc : Thread nD τ).loc main_arg0)) (m ((c.tc : Thread nD τ).loc main_arg1)) (m ((c.tc : Thread nD τ).loc main_arg2)) (m ((c.tc : Thread nD τ).loc main_arg7)) := by
  refine (dats m 0 c).arrAt_eq_of_covers 13 _ (by decide +kernel) fun t hf' y => ?_
  blk_simp
  rw [after0_13]
  have hy : y = ix2 (y 0 : Fin 128) (y 1 : Fin 256) := by
    funext a
    fin_cases a <;> rfl
  have he : (win0_13.blk t).view.emb y = ix2 (y 0 : Fin 128) (y 1 : Fin 256) := by
    blk_ext [idx13 t]
  rw [he]
  refine (congrArg (out0_13 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resU m c hf t (y 0 : Fin 128) (y 1 : Fin 256)

theorem block_resB (hf : Finite m c) (t : Fin grid0.N) (n : Fin 128) (e : Fin 256) :
    out0_14 (iblk m c 0 t) (iblk m c 1 t) (iblk m c 2 t) (iblk m c 3 t) (iblk m c 4 t) (iblk m c 5 t) (iblk m c 6 t) (iblk m c 7 t) (iblk m c 8 t) (iblk m c 9 t) (ix2 n e) = resB (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) (m ((c.tc : Thread nD τ).loc main_arg6)) (ix2 n e) := by
  rw [out14_apply _ _ _ _ _ _ _ _ _ _ n e (fun j e => m ((c.tc : Thread nD τ).loc main_arg6) (ix2 j e)) (block6 m c t) (by rw [row_eq]; simp only [block7]; exact unit_real m c hf n), row_eq]
  simp only [block5, block7]
  rfl

theorem final_resB (hf : Finite m c) : (dats m 0 c).arrAt 14 cfg0.N = resB (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) (m ((c.tc : Thread nD τ).loc main_arg6)) := by
  refine (dats m 0 c).arrAt_eq_of_covers 14 _ (by decide +kernel) fun t hf' y => ?_
  blk_simp
  rw [after0_14]
  have hy : y = ix2 (y 0 : Fin 128) (y 1 : Fin 256) := by
    funext a
    fin_cases a <;> rfl
  have he : (win0_14.blk t).view.emb y = ix2 (y 0 : Fin 128) (y 1 : Fin 256) := by
    blk_ext [idx14 t]
  rw [he]
  refine (congrArg (out0_14 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resB m c hf t (y 0 : Fin 128) (y 1 : Fin 256)

theorem block_resD (t : Fin grid0.N) (n : Fin 128) (e : Fin 256) :
    out0_15 (iblk m c 0 t) (iblk m c 1 t) (iblk m c 2 t) (iblk m c 3 t) (iblk m c 4 t) (iblk m c 5 t) (iblk m c 6 t) (iblk m c 7 t) (iblk m c 8 t) (iblk m c 9 t) (ix2 n e) = resD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n e) := by
  rw [out15_apply _ _ _ _ _ _ _ _ _ _ n e (fun j e => m ((c.tc : Thread nD τ).loc main_arg4) (ix2 j e)) (block4 m c t), row_eq]
  simp only [block3]
  rfl

theorem final_resD : (dats m 0 c).arrAt 15 cfg0.N = resD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 15 _ (by decide +kernel) fun t hf' y => ?_
  blk_simp
  rw [after0_15]
  have hy : y = ix2 (y 0 : Fin 128) (y 1 : Fin 256) := by
    funext a
    fin_cases a <;> rfl
  have he : (win0_15.blk t).view.emb y = ix2 (y 0 : Fin 128) (y 1 : Fin 256) := by
    blk_ext [idx15 t]
  rw [he]
  refine (congrArg (out0_15 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resD m c t (y 0 : Fin 128) (y 1 : Fin 256)

theorem block_resO (hf : Finite m c) (t : Fin grid0.N) (n : Fin 128) (e : Fin 256) :
    out0_16 (iblk m c 0 t) (iblk m c 1 t) (iblk m c 2 t) (iblk m c 3 t) (iblk m c 4 t) (iblk m c 5 t) (iblk m c 6 t) (iblk m c 7 t) (iblk m c 8 t) (iblk m c 9 t) (ix2 n e) = resO (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6)) (m ((c.tc : Thread nD τ).loc main_arg9)) (ix2 n e) := by
  rw [out16_apply _ _ _ _ _ _ _ _ _ _ n e (fun j e => m ((c.tc : Thread nD τ).loc main_arg6) (ix2 j e)) (block6 m c t) (by rw [row_eq]; simp only [block5, block8, block9]; exact bonus_real m c hf n _ _), row_eq]
  simp only [block5, block8, block9]
  rfl

theorem final_resO (hf : Finite m c) : (dats m 0 c).arrAt 16 cfg0.N = resO (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6)) (m ((c.tc : Thread nD τ).loc main_arg9)) := by
  refine (dats m 0 c).arrAt_eq_of_covers 16 _ (by decide +kernel) fun t hf' y => ?_
  blk_simp
  rw [after0_16]
  have hy : y = ix2 (y 0 : Fin 128) (y 1 : Fin 256) := by
    funext a
    fin_cases a <;> rfl
  have he : (win0_16.blk t).view.emb y = ix2 (y 0 : Fin 128) (y 1 : Fin 256) := by
    blk_ext [idx16 t]
  rw [he]
  refine (congrArg (out0_16 (iblk m c 0 t) (iblk m c 1 t) (iblk m c 2 t) (iblk m c 3 t) (iblk m c 4 t) (iblk m c 5 t) (iblk m c 6 t) (iblk m c 7 t) (iblk m c 8 t) (iblk m c 9 t)) hy).trans ?_
  exact block_resO m c hf t (y 0 : Fin 128) (y 1 : Fin 256)

/-- The run: the seven result arrays hold the step's rows of the arguments, which end unchanged. -/
theorem run (hf : ∀ c, Finite m c) : θ_run defs (onTc (τ := τ) (main (F := Ideal))) ⟨m, fun _ => 0, ρ⟩ fun r => ∀ c : Dev nD,
      r.2.mem ((c.tc : Thread nD τ).loc main_v11_0) = resR (m ((c.tc : Thread nD τ).loc main_arg0)) (m ((c.tc : Thread nD τ).loc main_arg1)) (m ((c.tc : Thread nD τ).loc main_arg2))
      ∧ r.2.mem ((c.tc : Thread nD τ).loc main_v11_1) = resK (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6))
      ∧ r.2.mem ((c.tc : Thread nD τ).loc main_v11_2) = resV (m ((c.tc : Thread nD τ).loc main_arg0)) (m ((c.tc : Thread nD τ).loc main_arg1)) (m ((c.tc : Thread nD τ).loc main_arg2))
      ∧ r.2.mem ((c.tc : Thread nD τ).loc main_v11_3) = resU (m ((c.tc : Thread nD τ).loc main_arg0)) (m ((c.tc : Thread nD τ).loc main_arg1)) (m ((c.tc : Thread nD τ).loc main_arg2)) (m ((c.tc : Thread nD τ).loc main_arg7))
      ∧ r.2.mem ((c.tc : Thread nD τ).loc main_v11_4) = resB (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg7)) (m ((c.tc : Thread nD τ).loc main_arg6))
      ∧ r.2.mem ((c.tc : Thread nD τ).loc main_v11_5) = resD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11_6) = resO (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg8)) (m ((c.tc : Thread nD τ).loc main_arg6)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, h4, h5, h6, h7⟩ := h c
    exact ⟨h0.trans (final_resR m c), h1.trans (final_resK m c), h2.trans (final_resV m c), h3.trans (final_resU m c (hf c)),
      h4.trans (final_resB m c (hf c)), h5.trans (final_resD m c), h6.trans (final_resO m c (hf c)), h7⟩) (Cert.PrepKernelIdeal.Value.run_blocks m ρ)

end Cert.PrepKernelIdeal.Final

end
-- ==== Proof.PrepRef.lean ====
/-
  The reference of the preparation of the samples' recurrent step, read element by element.
-/
module

public import proofs.«01_k».proof.Proof.Gen.PrepReferenceIdeal.Run
public import proofs.«01_k».proof.Proof.PrepMath

@[expose] public section

set_option maxRecDepth 16384

noncomputable section

namespace Cert.PrepReferenceIdeal.RefRow

open Cert.PrepReferenceIdeal Cert.PrepReferenceIdeal.Gen Idealize.ShloMosaic Idealize.ShloMosaic.TcCoe Idealize.SL.Sem
open Cert.StepMath Cert.LastMath Cert.PrepMath

/-- The mixed rows. -/
def mixed (p prev : FVec Ideal S128x896 .f32) (mu : FVec Ideal S896 .f32) : FVec Ideal S128x896 .f32 :=
  addf p (mulf (subf prev p) (broadcastInDim S128x896 ![0, 1] bcast_S1x896_S128x896_0_1 (broadcastInDim S1x896 ![1] bcast_S896_S1x896_1 mu)))

/-- The receptances. -/
def rs (x : FVec Ideal S128x896 .f32) : FVec Ideal S128x256 .f32 := extractStridedSlice S128x256 ![0, 0] x slices_S128x896_S128x256_0_0

/-- The keys. -/
def ks (x : FVec Ideal S128x896 .f32) : FVec Ideal S128x256 .f32 := extractStridedSlice S128x256 ![0, 256] x slices_S128x896_S128x256_0_256

/-- The values. -/
def vs (x : FVec Ideal S128x896 .f32) : FVec Ideal S128x256 .f32 := extractStridedSlice S128x256 ![0, 512] x slices_S128x896_S128x256_0_512

/-- A row laid along the samples. -/
def along (g : FVec Ideal S256 .f32) : FVec Ideal S128x256 .f32 :=
  broadcastInDim S128x256 ![0, 1] bcast_S1x256_S128x256_0_1 (broadcastInDim S1x256 ![1] bcast_S256_S1x256_1 g)

/-- One number everywhere. -/
def every (b : BitVec 32) : FVec Ideal S128x256 .f32 := broadcastInDim S128x256 ![] bcast_S_S128x256 (constant S_ .f32 b)

/-- The rates. -/
def rates (x : FVec Ideal S128x896 .f32) (a0 : FVec Ideal S256 .f32) (w : FVec Ideal S64x256 .f32) : FVec Ideal S128x256 .f32 :=
  Host.divf (every 0x3F800000#32) (addf (every 0x3F800000#32) (Host.exp (Host.negf (addf (along a0)
    (Host.dotGeneral dot_S128x64_S64x256_S128x256_1_0_0_1_n_n none (extractStridedSlice S128x64 ![0, 832] x slices_S128x896_S128x64_0_832) w)))))

/-- The decays' arguments. -/
def lows (x : FVec Ideal S128x896 .f32) (w0 : FVec Ideal S256 .f32) (w : FVec Ideal S64x256 .f32) : FVec Ideal S128x256 .f32 :=
  Host.negf (addf (along w0) (Host.dotGeneral dot_S128x64_S64x256_S128x256_1_0_0_1_n_n none
    (Host.tanh (extractStridedSlice S128x64 ![0, 768] x slices_S128x896_S128x64_0_768)) w))

/-- The logarithm of one plus the exponential. -/
def softs (z : FVec Ideal S128x256 .f32) : FVec Ideal S128x256 .f32 :=
  select (cmpf .une (subf z (every 0x00000000#32)) (subf z (every 0x00000000#32))) (addf z (every 0x00000000#32))
    (addf (maximumf z (every 0x00000000#32)) (Host.log1p (Host.exp (Host.negf (Host.absf (subf z (every 0x00000000#32)))))))

/-- The decays. -/
def decays (z : FVec Ideal S128x256 .f32) : FVec Ideal S128x256 .f32 :=
  Host.exp (Host.negf (Host.exp (subf (Host.negf (softs z)) (every 0x3F000000#32))))

/-- Rows by heads. -/
def heads (y : FVec Ideal S128x256 .f32) : FVec Ideal S128x4x64 .f32 := shapeCast _ y shapeCasts_S128x256_S128x4x64

/-- The keys divided by their heads' lengths. -/
def units (y : FVec Ideal S128x4x64 .f32) : FVec Ideal S128x4x64 .f32 :=
  Host.divf y (broadcastInDim S128x4x64 ![0, 1, 2] bcast_S128x4x1_S128x4x64_0_1_2 (maximumf (Host.sqrt
    (broadcastInDim S128x4x1 ![0, 1] bcast_S128x4_S128x4x1_0_1 (Host.reduceAdd (mulf y y) (constant S_ .f32 0x00000000#32) reducesTo_S128x4x64_S128x4_d2 h_S_)))
    (broadcastInDim S128x4x1 ![] bcast_S_S128x4x1 (constant S_ .f32 0x2B8CBCCC#32))))

/-- The step's keys. -/
def stepKeys (k a : FVec Ideal S128x256 .f32) (ka : FVec Ideal S256 .f32) : FVec Ideal S128x256 .f32 :=
  mulf k (addf (every 0x3F800000#32) (mulf (subf a (every 0x3F800000#32)) (along ka)))

/-- The bonus, by heads. -/
def bonus (r k v : FVec Ideal S128x4x64 .f32) (rk : FVec Ideal S4x64 .f32) : FVec Ideal S128x4x64 .f32 :=
  mulf (broadcastInDim S128x4x64 ![0, 1, 2] bcast_S128x4x1_S128x4x64_0_1_2 (broadcastInDim S128x4x1 ![0, 1] bcast_S128x4_S128x4x1_0_1
    (Host.reduceAdd (mulf (mulf r k) (broadcastInDim S128x4x64 ![0, 1, 2] bcast_S1x4x64_S128x4x64_0_1_2
      (broadcastInDim S1x4x64 ![1, 2] bcast_S4x64_S1x4x64_1_2 rk))) (constant S_ .f32 0x00000000#32) reducesTo_S128x4x64_S128x4_d2 h_S_))) v

/-- Rows side by side again. -/
def flat (y : FVec Ideal S128x4x64 .f32) : FVec Ideal S128x256 .f32 := shapeCast _ y shapeCasts_S128x4x64_S128x256

theorem mixed_apply (p prev : FVec Ideal S128x896 .f32) (mu : FVec Ideal S896 .f32) (n : Fin 128) (i : Fin 896) :
    mixed p prev mu (ix2 n i) = mixRow (fun i => p (ix2 n i)) (fun i => prev (ix2 n i)) (fun i => mu (ix1 i)) i := by
  pointwise [mixed]
  rfl

theorem rs_apply (x : FVec Ideal S128x896 .f32) (n : Fin 128) (e : Fin 256) : rs x (ix2 n e) = recept (fun i => x (ix2 n i)) e := by
  pointwise [rs]
  rfl

theorem ks_apply (x : FVec Ideal S128x896 .f32) (n : Fin 128) (e : Fin 256) : ks x (ix2 n e) = keyRow (fun i => x (ix2 n i)) e := by
  pointwise [ks]
  rfl

theorem vs_apply (x : FVec Ideal S128x896 .f32) (n : Fin 128) (e : Fin 256) : vs x (ix2 n e) = valRow (fun i => x (ix2 n i)) e := by
  pointwise [vs]
  rfl

theorem rates_apply (x : FVec Ideal S128x896 .f32) (a0 : FVec Ideal S256 .f32) (w : FVec Ideal S64x256 .f32) (n : Fin 128) (e : Fin 256) :
    rates x a0 w (ix2 n e) = rate (fun i => x (ix2 n i)) (fun e => a0 (ix1 e)) (fun j e => w (ix2 j e)) e := by
  pointwise [rates, every, along]
  rfl

theorem lows_apply (x : FVec Ideal S128x896 .f32) (w0 : FVec Ideal S256 .f32) (w : FVec Ideal S64x256 .f32) (n : Fin 128) (e : Fin 256) :
    lows x w0 w (ix2 n e) = -(w0 (ix1 e) + decayDot (fun i => x (ix2 n i)) (fun j e => w (ix2 j e)) e) := by
  pointwise [lows, along]
  rfl

theorem softs_apply (z : FVec Ideal S128x256 .f32) (n : Fin 128) (e : Fin 256) : softs z (ix2 n e) = soft (z (ix2 n e)) := by
  pointwise [softs, every]
  simp [soft, Ideal.log1p]
  rfl

theorem decays_apply (z : FVec Ideal S128x256 .f32) (n : Fin 128) (e : Fin 256) (y : EReal) (h : z (ix2 n e) = -y) :
    decays z (ix2 n e) = decayAt y := by
  have e' : decays z (ix2 n e) = Ideal.exp (-Ideal.exp (-softs z (ix2 n e) - Ideal.ofBits .f32 0x3F000000#32)) := by
    pointwise [decays, every]
  rw [e', softs_apply, h]
  rfl

theorem heads_apply (y : FVec Ideal S128x256 .f32) (n : Fin 128) (h : Fin 4) (j : Fin 64) : heads y (ix3 n h j) = y (ix2 n (chan h j)) := by
  pointwise [heads]
  rfl

theorem headOf_chan (h : Fin 4) (j : Fin 64) : headOf (chan h j) = h :=
  Fin.ext (by show (h.val * 64 + j.val) / 64 = h.val; omega)

theorem units_apply (y : FVec Ideal S128x256 .f32) (n : Fin 128) (h : Fin 4) (j : Fin 64) :
    units (heads y) (ix3 n h j) = unitKey (fun e => y (ix2 n e)) (chan h j) := by
  have e : units (heads y) (ix3 n h j) = Ideal.div (heads y (ix3 n h j))
      (max (Ideal.sqrt (∑ i, heads y (ix3 n h i) * heads y (ix3 n h i))) (Ideal.ofBits .f32 0x2B8CBCCC#32)) := by
    pointwise [units]
  rw [e, unitKey, headOf_chan]
  simp only [heads_apply]
  rfl

theorem stepKeys_apply (k a : FVec Ideal S128x256 .f32) (ka : FVec Ideal S256 .f32) (n : Fin 128) (e : Fin 256) :
    stepKeys k a ka (ix2 n e) = stepKey (fun e => k (ix2 n e)) (fun e => a (ix2 n e)) (fun e => ka (ix1 e)) e := by
  pointwise [stepKeys, every, along]
  rfl

theorem bonus_apply (r k v : FVec Ideal S128x256 .f32) (rk : FVec Ideal S4x64 .f32) (w : Fin 256 → EReal) (hw : ∀ h j, rk (ix2 h j) = w (chan h j))
    (n : Fin 128) (h : Fin 4) (j : Fin 64) :
    bonus (heads r) (heads k) (heads v) rk (ix3 n h j)
      = bonusAt (triple (fun e => r (ix2 n e)) (fun e => k (ix2 n e)) w) (fun e => v (ix2 n e)) (chan h j) := by
  have e : bonus (heads r) (heads k) (heads v) rk (ix3 n h j)
      = (∑ i, heads r (ix3 n h i) * heads k (ix3 n h i) * rk (ix2 h i)) * heads v (ix3 n h j) := by
    pointwise [bonus]
  rw [e, bonusAt, headOf_chan]
  simp only [heads_apply, hw]
  rfl

theorem flat_apply (y : FVec Ideal S128x4x64 .f32) (n : Fin 128) (e : Fin 256) :
    flat y (ix2 n e) = y (ix3 n (headOf e) (⟨e.val % 64, by omega⟩ : Fin 64)) := by
  pointwise [flat]
  rfl

theorem chan_back (e : Fin 256) : chan (headOf e) ⟨e.val % 64, by omega⟩ = e :=
  Fin.ext (by show e.val / 64 * 64 + e.val % 64 = e.val; omega)

theorem flat_units (y : FVec Ideal S128x256 .f32) (n : Fin 128) (e : Fin 256) :
    flat (units (heads y)) (ix2 n e) = unitKey (fun e => y (ix2 n e)) e := by
  rw [flat_apply, units_apply, chan_back]

theorem flat_turned (y a : FVec Ideal S128x256 .f32) (n : Fin 128) (e : Fin 256) :
    flat (mulf (units (heads y)) (heads a)) (ix2 n e) = unitKey (fun e => y (ix2 n e)) e * a (ix2 n e) := by
  rw [flat_apply]
  show units (heads y) (ix3 n _ _) * heads a (ix3 n _ _) = _
  rw [units_apply, heads_apply, chan_back]

theorem flat_bonus (r k v : FVec Ideal S128x256 .f32) (rk : FVec Ideal S4x64 .f32) (w : Fin 256 → EReal) (hw : ∀ h j, rk (ix2 h j) = w (chan h j))
    (n : Fin 128) (e : Fin 256) :
    flat (bonus (heads r) (heads k) (heads v) rk) (ix2 n e)
      = bonusAt (triple (fun e => r (ix2 n e)) (fun e => k (ix2 n e)) w) (fun e => v (ix2 n e)) e := by
  rw [flat_apply, bonus_apply r k v rk w hw, chan_back]

/-! The seven results. -/

/-- The receptances of the arguments. -/
def resR (p prev : FVec Ideal S128x896 .f32) (mu : FVec Ideal S896 .f32) : FVec Ideal S128x256 .f32 := rs (mixed p prev mu)

/-- The step's keys of the arguments. -/
def resK (p prev : FVec Ideal S128x896 .f32) (mu : FVec Ideal S896 .f32) (a0 : FVec Ideal S256 .f32) (w : FVec Ideal S64x256 .f32) (ka : FVec Ideal S256 .f32) : FVec Ideal S128x256 .f32 := stepKeys (ks (mixed p prev mu)) (rates (mixed p prev mu) a0 w) ka

/-- The values of the arguments. -/
def resV (p prev : FVec Ideal S128x896 .f32) (mu : FVec Ideal S896 .f32) : FVec Ideal S128x256 .f32 := vs (mixed p prev mu)

/-- The normalised keys of the arguments. -/
def resU (p prev : FVec Ideal S128x896 .f32) (mu : FVec Ideal S896 .f32) (kk : FVec Ideal S256 .f32) : FVec Ideal S128x256 .f32 := flat (units (heads (mulf (ks (mixed p prev mu)) (along kk))))

/-- The normalised keys times the rates. -/
def resB (p prev : FVec Ideal S128x896 .f32) (mu : FVec Ideal S896 .f32) (a0 : FVec Ideal S256 .f32) (w : FVec Ideal S64x256 .f32) (kk : FVec Ideal S256 .f32) : FVec Ideal S128x256 .f32 :=
  flat (mulf (units (heads (mulf (ks (mixed p prev mu)) (along kk)))) (heads (rates (mixed p prev mu) a0 w)))

/-- The decays of the arguments. -/
def resD (p prev : FVec Ideal S128x896 .f32) (mu : FVec Ideal S896 .f32) (w0 : FVec Ideal S256 .f32) (w : FVec Ideal S64x256 .f32) : FVec Ideal S128x256 .f32 := decays (lows (mixed p prev mu) w0 w)

/-- The bonuses of the arguments. -/
def resO (p prev : FVec Ideal S128x896 .f32) (mu : FVec Ideal S896 .f32) (a0 : FVec Ideal S256 .f32) (w : FVec Ideal S64x256 .f32) (ka : FVec Ideal S256 .f32) (rk : FVec Ideal S4x64 .f32) : FVec Ideal S128x256 .f32 :=
  flat (bonus (heads (rs (mixed p prev mu))) (heads (stepKeys (ks (mixed p prev mu)) (rates (mixed p prev mu) a0 w) ka)) (heads (vs (mixed p prev mu))) rk)

section Rows

variable (p prev : FVec Ideal S128x896 .f32) (mu : FVec Ideal S896 .f32) (a0 w0 kk ka : FVec Ideal S256 .f32) (w : FVec Ideal S64x256 .f32) (rk : FVec Ideal S4x64 .f32) (n : Fin 128) (e : Fin 256)

/-- The mixed row. -/
def rowOf : Fin 896 → EReal := mixRow (fun i => p (ix2 n i)) (fun i => prev (ix2 n i)) (fun i => mu (ix1 i))

theorem keys_apply : mulf (ks (mixed p prev mu)) (along kk) (ix2 n e) = keyRow (rowOf p prev mu n) e * kk (ix1 e) := by
  have h : mulf (ks (mixed p prev mu)) (along kk) (ix2 n e) = ks (mixed p prev mu) (ix2 n e) * kk (ix1 e) := by
    pointwise [along]
  rw [h, ks_apply]
  simp only [mixed_apply]
  rfl

theorem resR_apply : resR p prev mu (ix2 n e) = recept (rowOf p prev mu n) e := by
  rw [resR, rs_apply]
  simp only [mixed_apply]
  rfl

theorem resK_apply : resK p prev mu a0 w ka (ix2 n e)
    = stepOf (rowOf p prev mu n) (fun e => a0 (ix1 e)) (fun j e => w (ix2 j e)) (fun e => ka (ix1 e)) e := by
  rw [resK, stepKeys_apply]
  simp only [ks_apply, rates_apply, mixed_apply]
  rfl

theorem resV_apply : resV p prev mu (ix2 n e) = valRow (rowOf p prev mu n) e := by
  rw [resV, vs_apply]
  simp only [mixed_apply]
  rfl

theorem resU_apply : resU p prev mu kk (ix2 n e) = unitOf (rowOf p prev mu n) (fun e => kk (ix1 e)) e := by
  rw [resU, flat_units]
  simp only [keys_apply]
  rfl

theorem resB_apply : resB p prev mu a0 w kk (ix2 n e)
    = turnOf (rowOf p prev mu n) (fun e => a0 (ix1 e)) (fun j e => w (ix2 j e)) (fun e => kk (ix1 e)) e := by
  rw [resB, flat_turned]
  simp only [keys_apply, rates_apply, mixed_apply]
  rfl

theorem resD_apply : resD p prev mu w0 w (ix2 n e) = decayOf (rowOf p prev mu n) (fun e => w0 (ix1 e)) (fun j e => w (ix2 j e)) e := by
  rw [resD, decays_apply _ n e _ (lows_apply _ _ _ n e)]
  simp only [mixed_apply]
  rfl

theorem resO_apply : resO p prev mu a0 w ka rk (ix2 n e)
    = bonusOf (rowOf p prev mu n) (fun e => a0 (ix1 e)) (fun j e => w (ix2 j e)) (fun e => ka (ix1 e))
      (fun e => rk (ix2 (headOf e) (⟨e.val % 64, by omega⟩ : Fin 64))) e := by
  rw [resO, flat_bonus _ _ _ rk (fun e => rk (ix2 (headOf e) (⟨e.val % 64, by omega⟩ : Fin 64))) (fun h j => ?_)]
  · simp only [rs_apply, vs_apply, stepKeys_apply, ks_apply, rates_apply, mixed_apply]
    rfl
  · refine congrArg₂ (fun a b => rk (ix2 a b)) (headOf_chan h j).symm (Fin.ext ?_)
    show j.val = (h.val * 64 + j.val) % 64
    omega

end Rows

/-- The run: the seven results hold the step's rows, the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = resR (m ((c.tc : Thread nD τ).loc main_arg0)) (m ((c.tc : Thread nD τ).loc main_arg1)) (m ((c.tc : Thread nD τ).loc main_arg2))
      ∧ r.2.mem ((c.tc : Thread nD τ).loc main_v52) = resK (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg8))
      ∧ r.2.mem ((c.tc : Thread nD τ).loc main_v7) = resV (m ((c.tc : Thread nD τ).loc main_arg0)) (m ((c.tc : Thread nD τ).loc main_arg1)) (m ((c.tc : Thread nD τ).loc main_arg2))
      ∧ r.2.mem ((c.tc : Thread nD τ).loc main_v64) = resU (m ((c.tc : Thread nD τ).loc main_arg0)) (m ((c.tc : Thread nD τ).loc main_arg1)) (m ((c.tc : Thread nD τ).loc main_arg2)) (m ((c.tc : Thread nD τ).loc main_arg7))
      ∧ r.2.mem ((c.tc : Thread nD τ).loc main_v67) = resB (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_v22) = resD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v68) = resO (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.PrepReferenceIdeal.Value.run (F := Ideal) m ρ

end Cert.PrepReferenceIdeal.RefRow

end
-- ==== Proof.PrepClaims.lean ====
/-
  The claims of the preparation of the samples' recurrent step: the frame of the reference, and the equality of the seven results where
  the rows and weights that meet a head's sum are finite.
-/
module

public import proofs.«01_k».proof.Defs
public import proofs.«01_k».proof.Proof.Gen.PrepKernel.Frame
public import proofs.«01_k».proof.Proof.PrepKer
public import proofs.«01_k».proof.Proof.PrepRef
public import Idealize.ShloMosaic.Lib.Quiescent

@[expose] public section

set_option maxRecDepth 16384

noncomputable section

namespace Cert.PrepClaims

open Idealize.ShloMosaic Idealize.ShloMosaic.TcCoe Idealize.SL.Sem
open Cert.StepMath Cert.LastMath

/-- The precondition's stated side conditions. -/
instance finiteFacts : Cert.Pre_finite_prep.Facts where
  slices_S128x896_S128x512_0_0 := by decide
  slices_S896_S512_0 := by decide
  shapeCasts_S512_S1x512 := by decide
  bcast_S1x512_S128x512_0_1 := by decide
  shapeCasts_S256_S1x256 := by decide
  bcast_S1x256_S128x256_0_1 := by decide
  shapeCasts_S4x64_S1x256 := by decide
  concatenates_S128x512_S128x512_S128x512_S128x256_S128x256_S128x256_S128x2304_d1 := by decide
  bcast_S_S128x2304 := by decide

theorem top_f32 : Ideal.ofBits .f32 0x7F800000#32 = ⊤ := by simp [Ideal.ofBits, Ideal.ieee]

/-- A number below infinity in size is a real number. -/
theorem real_of_less (x : EReal) (h : BitVec.ofBool (decide (max x (-x) < ⊤)) = 1#1) : ∃ r : ℝ, x = r := by
  by_cases h0 : max x (-x) < ⊤
  · refine real_of_ne ⟨fun hb => ?_, fun ht => ?_⟩
    · rw [hb] at h0
      simp at h0
    · rw [ht] at h0
      simp at h0
  · simp only [h0, decide_false] at h
    exact absurd h (by decide)

section Pre

variable (a0 a1 : FVec Ideal Cert.Pre_finite_prep.S128x896 .f32) (a2 : FVec Ideal Cert.Pre_finite_prep.S896 .f32)
  (a3 : FVec Ideal Cert.Pre_finite_prep.S256 .f32) (a4 : FVec Ideal Cert.Pre_finite_prep.S64x256 .f32)
  (a5 : FVec Ideal Cert.Pre_finite_prep.S256 .f32) (a6 : FVec Ideal Cert.Pre_finite_prep.S64x256 .f32)
  (a7 a8 : FVec Ideal Cert.Pre_finite_prep.S256 .f32) (a9 : FVec Ideal Cert.Pre_finite_prep.S4x64 .f32)

/-- All that is asked to be finite, side by side. -/
def all : FVec Ideal Cert.Pre_finite_prep.S128x2304 .f32 :=
  concatenate Cert.Pre_finite_prep.S128x2304 1 [⟨Cert.Pre_finite_prep.S128x512, extractStridedSlice Cert.Pre_finite_prep.S128x512 ![0, 0] a0 Cert.Pre_finite_prep.Facts.slices_S128x896_S128x512_0_0⟩,
    ⟨Cert.Pre_finite_prep.S128x512, extractStridedSlice Cert.Pre_finite_prep.S128x512 ![0, 0] a1 Cert.Pre_finite_prep.Facts.slices_S128x896_S128x512_0_0⟩,
    ⟨Cert.Pre_finite_prep.S128x512, broadcastInDim Cert.Pre_finite_prep.S128x512 ![0, 1] Cert.Pre_finite_prep.Facts.bcast_S1x512_S128x512_0_1
      (shapeCast Cert.Pre_finite_prep.S1x512 (extractStridedSlice Cert.Pre_finite_prep.S512 ![0] a2 Cert.Pre_finite_prep.Facts.slices_S896_S512_0) Cert.Pre_finite_prep.Facts.shapeCasts_S512_S1x512)⟩,
    ⟨Cert.Pre_finite_prep.S128x256, broadcastInDim Cert.Pre_finite_prep.S128x256 ![0, 1] Cert.Pre_finite_prep.Facts.bcast_S1x256_S128x256_0_1
      (shapeCast Cert.Pre_finite_prep.S1x256 a7 Cert.Pre_finite_prep.Facts.shapeCasts_S256_S1x256)⟩,
    ⟨Cert.Pre_finite_prep.S128x256, broadcastInDim Cert.Pre_finite_prep.S128x256 ![0, 1] Cert.Pre_finite_prep.Facts.bcast_S1x256_S128x256_0_1
      (shapeCast Cert.Pre_finite_prep.S1x256 a8 Cert.Pre_finite_prep.Facts.shapeCasts_S256_S1x256)⟩,
    ⟨Cert.Pre_finite_prep.S128x256, broadcastInDim Cert.Pre_finite_prep.S128x256 ![0, 1] Cert.Pre_finite_prep.Facts.bcast_S1x256_S128x256_0_1
      (shapeCast Cert.Pre_finite_prep.S1x256 a9 Cert.Pre_finite_prep.Facts.shapeCasts_S4x64_S1x256)⟩]
    Cert.Pre_finite_prep.Facts.concatenates_S128x512_S128x512_S128x512_S128x256_S128x256_S128x256_S128x2304_d1

variable {a0 a1 a2 a3 a4 a5 a6 a7 a8 a9} (h : Cert.Pre_finite_prep.fn a0 a1 a2 a3 a4 a5 a6 a7 a8 a9 = fun _ => 1#1)

include h in
theorem all_real (n : Fin 128) (q : Fin 2304) : ∃ r : ℝ, all a0 a1 a2 a7 a8 a9 (ix2 n q) = r := by
  have h1 : Cert.Pre_finite_prep.fn a0 a1 a2 a3 a4 a5 a6 a7 a8 a9 (ix2 n q)
      = BitVec.ofBool (decide (max (all a0 a1 a2 a7 a8 a9 (ix2 n q) : EReal) (-all a0 a1 a2 a7 a8 a9 (ix2 n q)) < Ideal.ofBits .f32 0x7F800000#32)) := rfl
  rw [top_f32] at h1
  exact real_of_less _ (h1.symm.trans (congrFun h (ix2 n q)))

theorem all0 (n : Fin 128) (i : Fin 512) : all a0 a1 a2 a7 a8 a9 (ix2 n (⟨0 + i.val, by omega⟩ : Fin 2304)) = a0 (ix2 n (⟨i.val, by omega⟩ : Fin 896)) := by
  pointwise [all]

theorem all1 (n : Fin 128) (i : Fin 512) : all a0 a1 a2 a7 a8 a9 (ix2 n (⟨512 + i.val, by omega⟩ : Fin 2304)) = a1 (ix2 n (⟨i.val, by omega⟩ : Fin 896)) := by
  pointwise [all]

theorem all2 (n : Fin 128) (i : Fin 512) : all a0 a1 a2 a7 a8 a9 (ix2 n (⟨1024 + i.val, by omega⟩ : Fin 2304)) = a2 (ix1 (⟨i.val, by omega⟩ : Fin 896)) := by
  pointwise [all]
  rw [dif_neg (by omega), dif_neg (by omega), dif_pos (by omega)]
  exact congrArg (fun q => a2 (ix1 q)) (Fin.ext (by show 1024 + i.val - 512 - 512 = i.val; omega))

theorem all3 (n : Fin 128) (e : Fin 256) : all a0 a1 a2 a7 a8 a9 (ix2 n (⟨1536 + e.val, by omega⟩ : Fin 2304)) = a7 (ix1 e) := by
  pointwise [all]
  rw [dif_neg (by omega), dif_neg (by omega), dif_neg (by omega), dif_pos (by omega)]
  exact congrArg (fun q => a7 (ix1 q)) (Fin.ext (by show 1536 + e.val - 512 - 512 - 512 = e.val; omega))

theorem all4 (n : Fin 128) (e : Fin 256) : all a0 a1 a2 a7 a8 a9 (ix2 n (⟨1792 + e.val, by omega⟩ : Fin 2304)) = a8 (ix1 e) := by
  pointwise [all]
  rw [dif_neg (by omega), dif_neg (by omega), dif_neg (by omega), dif_neg (by omega), dif_pos (by omega)]
  exact congrArg (fun q => a8 (ix1 q)) (Fin.ext (by show 1792 + e.val - 512 - 512 - 512 - 256 = e.val; omega))

theorem all5 (n : Fin 128) (e : Fin 256) : all a0 a1 a2 a7 a8 a9 (ix2 n (⟨2048 + e.val, by omega⟩ : Fin 2304)) = a9 (ix2 (headOf e) (⟨e.val % 64, by omega⟩ : Fin 64)) := by
  pointwise [all]
  rw [dif_neg (by omega), dif_neg (by omega), dif_neg (by omega), dif_neg (by omega), dif_neg (by omega)]
  exact congrArg₂ (fun a b => a9 (ix2 a b)) (Fin.ext (by show (2048 + e.val - 512 - 512 - 512 - 256 - 256) / 64 = e.val / 64; omega))
    (Fin.ext (by show (2048 + e.val - 512 - 512 - 512 - 256 - 256) % 64 = e.val % 64; omega))

include h in
/-- What the precondition says. -/
theorem finite_of_pre : Cert.PrepKernelIdeal.Final.FiniteArrays a0 a1 a2 a7 a8 a9 where
  p n i := by
    have g := all_real h n (⟨0 + i.val, by omega⟩ : Fin 2304)
    rwa [all0] at g
  prev n i := by
    have g := all_real h n (⟨512 + i.val, by omega⟩ : Fin 2304)
    rwa [all1] at g
  mu i := by
    have g := all_real h (0 : Fin 128) (⟨1024 + i.val, by omega⟩ : Fin 2304)
    rwa [all2] at g
  kk e := by
    have g := all_real h (0 : Fin 128) (⟨1536 + e.val, by omega⟩ : Fin 2304)
    rwa [all3] at g
  ka e := by
    have g := all_real h (0 : Fin 128) (⟨1792 + e.val, by omega⟩ : Fin 2304)
    rwa [all4] at g
  rk e := by
    have g := all_real h (0 : Fin 128) (⟨2048 + e.val, by omega⟩ : Fin 2304)
    rwa [all5] at g

end Pre

theorem frame_reference : Cert.quiescent_PrepReferenceIdeal := fun m ρ _ =>
  (θ_run Cert.PrepReferenceIdeal.defs _ _).mono (fun r h => ⟨fun c => (h c).2.2.2.2.2.2.2, sem_eq_zero_of_no_sems (by decide) r.2⟩)
    (Cert.PrepReferenceIdeal.RefRow.run m ρ)

/-- An index of a result is its two coordinates. -/
theorem idx_eq (i : Cert.PrepKernelIdeal.S128x256.Idx) : i = ix2 (i 0 : Fin 128) (i 1 : Fin 256) := by
  funext a
  fin_cases a <;> rfl

section Equal

variable (p prev : FVec Ideal Cert.PrepReferenceIdeal.S128x896 .f32) (mu : FVec Ideal Cert.PrepReferenceIdeal.S896 .f32)
  (w0 a0 kk ka : FVec Ideal Cert.PrepReferenceIdeal.S256 .f32) (wd wa : FVec Ideal Cert.PrepReferenceIdeal.S64x256 .f32)
  (rk : FVec Ideal Cert.PrepReferenceIdeal.S4x64 .f32)

theorem resR_eq : Cert.PrepReferenceIdeal.RefRow.resR p prev mu = Cert.PrepKernelIdeal.Final.resR p prev mu := by
  funext i
  rw [idx_eq i]
  exact Cert.PrepReferenceIdeal.RefRow.resR_apply p prev mu _ _

theorem resK_eq : Cert.PrepReferenceIdeal.RefRow.resK p prev mu a0 wa ka = Cert.PrepKernelIdeal.Final.resK p prev mu a0 ka wa := by
  funext i
  rw [idx_eq i]
  exact Cert.PrepReferenceIdeal.RefRow.resK_apply p prev mu a0 ka wa _ _

theorem resV_eq : Cert.PrepReferenceIdeal.RefRow.resV p prev mu = Cert.PrepKernelIdeal.Final.resV p prev mu := by
  funext i
  rw [idx_eq i]
  exact Cert.PrepReferenceIdeal.RefRow.resV_apply p prev mu _ _

theorem resU_eq : Cert.PrepReferenceIdeal.RefRow.resU p prev mu kk = Cert.PrepKernelIdeal.Final.resU p prev mu kk := by
  funext i
  rw [idx_eq i]
  exact Cert.PrepReferenceIdeal.RefRow.resU_apply p prev mu kk _ _

theorem resB_eq : Cert.PrepReferenceIdeal.RefRow.resB p prev mu a0 wa kk = Cert.PrepKernelIdeal.Final.resB p prev mu a0 kk wa := by
  funext i
  rw [idx_eq i]
  exact Cert.PrepReferenceIdeal.RefRow.resB_apply p prev mu a0 kk wa _ _

theorem resD_eq : Cert.PrepReferenceIdeal.RefRow.resD p prev mu w0 wd = Cert.PrepKernelIdeal.Final.resD p prev mu w0 wd := by
  funext i
  rw [idx_eq i]
  exact Cert.PrepReferenceIdeal.RefRow.resD_apply p prev mu w0 wd _ _

theorem resO_eq : Cert.PrepReferenceIdeal.RefRow.resO p prev mu a0 wa ka rk = Cert.PrepKernelIdeal.Final.resO p prev mu a0 ka wa rk := by
  funext i
  rw [idx_eq i]
  exact Cert.PrepReferenceIdeal.RefRow.resO_apply p prev mu a0 ka wa rk _ _

end Equal

/-- Where the precondition holds the seven results are equal. -/
theorem algebraic : Cert.algebraic_PrepKernelIdeal_PrepReferenceIdeal_pre_finite_prep := by
  intro m ρ m' ρ' hpre hagree
  refine ⟨_, _, _, _, _, _, _, Cert.PrepKernelIdeal.Final.run m ρ fun c => finite_of_pre (hpre c), ?_⟩
  refine (θ_run Cert.PrepReferenceIdeal.defs _ _).mono (fun _ h c => ?_) (Cert.PrepReferenceIdeal.RefRow.run m' ρ')
  obtain ⟨g0, g1, g2, g3, g4, g5, g6, g7⟩ := h c
  refine ⟨g0.trans ?_, g1.trans ?_, g2.trans ?_, g3.trans ?_, g4.trans ?_, g5.trans ?_, g6.trans ?_, g7⟩
  all_goals
    obtain ⟨h0, h1, h2, h3, h4, h5, h6, h7, h8, h9⟩ := hagree c
  · rw [h0, h1, h2]
    exact resR_eq _ _ _
  · rw [h0, h1, h2, h5, h6, h8]
    exact resK_eq _ _ _ _ _ _
  · rw [h0, h1, h2]
    exact resV_eq _ _ _
  · rw [h0, h1, h2, h7]
    exact resU_eq _ _ _ _
  · rw [h0, h1, h2, h5, h6, h7]
    exact resB_eq _ _ _ _ _ _
  · rw [h0, h1, h2, h3, h4]
    exact resD_eq _ _ _ _ _
  · rw [h0, h1, h2, h5, h6, h8, h9]
    exact resO_eq _ _ _ _ _ _ _

end Cert.PrepClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame.Runs
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame.Runs
public import proofs.«01_k».proof.Proof.Gen.OutReferenceIdeal
public import proofs.«01_k».proof.Proof.Gen.OutReferenceIdeal.Run
public import proofs.«01_k».proof.Proof.Gen.ProjReferenceIdeal
public import proofs.«01_k».proof.Proof.Gen.ProjReferenceIdeal.Run
public import proofs.«01_k».proof.Proof.Gen.StepKernel
public import proofs.«01_k».proof.Proof.Gen.StepKernel.Skeleton
public import proofs.«01_k».proof.Proof.Gen.StepKernel.Launch
public import proofs.«01_k».proof.Proof.Gen.StepKernel.Points
public import proofs.«01_k».proof.Proof.Gen.StepKernel.Frame
public import proofs.«01_k».proof.Proof.Gen.StepKernelIdeal
public import proofs.«01_k».proof.Proof.Gen.StepKernelIdeal.Skeleton
public import proofs.«01_k».proof.Proof.Gen.StepKernelIdeal.Launch
public import proofs.«01_k».proof.Proof.Gen.StepKernelIdeal.Points
public import proofs.«01_k».proof.Proof.Gen.StepKernelIdeal.Frame
public import proofs.«01_k».proof.Proof.Gen.StepReferenceIdeal
public import proofs.«01_k».proof.Proof.Gen.StepReferenceIdeal.Run
public import proofs.«01_k».proof.Proof.Gen.LastKernel
public import proofs.«01_k».proof.Proof.Gen.LastKernel.Skeleton
public import proofs.«01_k».proof.Proof.Gen.LastKernel.Launch
public import proofs.«01_k».proof.Proof.Gen.LastKernel.Points
public import proofs.«01_k».proof.Proof.Gen.LastKernel.Frame
public import proofs.«01_k».proof.Proof.Gen.LastKernelIdeal
public import proofs.«01_k».proof.Proof.Gen.LastKernelIdeal.Skeleton
public import proofs.«01_k».proof.Proof.Gen.LastKernelIdeal.Launch
public import proofs.«01_k».proof.Proof.Gen.LastKernelIdeal.Points
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepKernelIdeal.Value
public import proofs.«01_k».proof.Proof.Gen.PrepReferenceIdeal
public import proofs.«01_k».proof.Proof.Gen.PrepReferenceIdeal.Run
public import proofs.«01_k».proof.Proof.Attention
public import proofs.«01_k».proof.Proof.OutClaims
public import proofs.«01_k».proof.Proof.ProjClaims
public import proofs.«01_k».proof.Proof.SampleClaims
public import proofs.«01_k».proof.Proof.StepClaims
public import proofs.«01_k».proof.Proof.LastClaims
public import proofs.«01_k».proof.Proof.AdaClaims
public import proofs.«01_k».proof.Proof.PrepClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.OutKernel.Gen.facts,
    Cert.OutKernelIdeal.Gen.facts, Cert.OutReferenceIdeal.Gen.facts, Cert.ProjKernel.Gen.facts, Cert.ProjKernelIdeal.Gen.facts,
    Cert.ProjReferenceIdeal.Gen.facts, Cert.SampleKernel.Gen.facts, Cert.SampleKernelIdeal.Gen.facts,
    Cert.SampleReferenceIdeal.Gen.facts, Cert.StepKernel.Gen.facts, Cert.StepKernelIdeal.Gen.facts, Cert.StepReferenceIdeal.Gen.facts,
    Cert.LastKernel.Gen.facts, Cert.LastKernelIdeal.Gen.facts, Cert.LastReferenceIdeal.Gen.facts,
    Cert.AdaKernel.Gen.facts, Cert.AdaKernelIdeal.Gen.facts, Cert.AdaReferenceIdeal.Gen.facts,
    Cert.PrepKernel.Gen.facts, Cert.PrepKernelIdeal.Gen.facts, Cert.PrepReferenceIdeal.Gen.facts,
    Cert.Attention.finiteFacts, Cert.LastClaims.finiteFacts, Cert.PrepClaims.finiteFacts,
    fun m ρ _ => Cert.Kernel.Gen.frame m ρ, fun m ρ _ => Cert.KernelIdeal.Gen.frame m ρ, fun m ρ _ => Cert.KernelIdeal.Gen.frame m ρ,
    Cert.Attention.frame_reference, fun m ρ _ => Cert.Attention.frame_reference m ρ trivial,
    fun m ρ _ => Cert.OutKernel.Gen.frame m ρ, fun m ρ _ => Cert.OutKernelIdeal.Gen.frame m ρ, Cert.OutClaims.frame_reference,
    Cert.ProjClaims.frame_kernel, Cert.ProjClaims.frame_ideal, Cert.ProjClaims.frame_reference,
    Cert.SampleClaims.frame_kernel, Cert.SampleClaims.frame_ideal, Cert.SampleClaims.frame_reference,
    fun m ρ _ => Cert.StepKernel.Gen.frame m ρ, fun m ρ _ => Cert.StepKernelIdeal.Gen.frame m ρ, Cert.StepClaims.frame_reference,
    fun m ρ _ => Cert.LastKernel.Gen.frame m ρ, fun m ρ _ => Cert.LastKernelIdeal.Gen.frame m ρ,
    fun m ρ _ => Cert.LastKernelIdeal.Gen.frame m ρ, Cert.LastClaims.frame_reference,
    fun m ρ _ => Cert.LastClaims.frame_reference m ρ trivial,
    fun m ρ _ => Cert.AdaKernel.Gen.frame m ρ, fun m ρ _ => Cert.AdaKernelIdeal.Gen.frame m ρ, Cert.AdaClaims.frame_reference,
    fun m ρ _ => Cert.PrepKernel.Gen.frame m ρ, fun m ρ _ => Cert.PrepKernelIdeal.Gen.frame m ρ,
    fun m ρ _ => Cert.PrepKernelIdeal.Gen.frame m ρ, Cert.PrepClaims.frame_reference,
    fun m ρ _ => Cert.PrepClaims.frame_reference m ρ trivial,
    Cert.Attention.preserves, Cert.Attention.algebraic, trivial, Cert.OutClaims.algebraic, trivial, Cert.ProjClaims.algebraic,
    trivial, Cert.SampleClaims.algebraic, trivial, Cert.StepClaims.algebraic, trivial, Cert.LastClaims.algebraic, trivial,
    Cert.AdaClaims.algebraic, trivial, Cert.PrepClaims.algebraic⟩

end Cert.Proof

end
